-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_v70) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_2)) (v2 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_2) = v1 c
          ∧ r.2.mem ((c.tc : Thread Cert.Kernel3Ideal.nD Cert.Kernel3Ideal.τ).loc Cert.Kernel3Ideal.main_v3_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v98) = v0 c
          ∧ r.2.mem ((c.tc : Thread Cert.Reference3Ideal.nD Cert.Reference3Ideal.τ).loc Cert.Reference3Ideal.main_v100) = v1 c
          ∧ r.2.mem ((c.tc : Thread Cert.Reference3Ideal.nD Cert.Reference3Ideal.τ).loc Cert.Reference3Ideal.main_v102) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)) (v5 : (c : Dev Cert.Kernel4Ideal.nD) → Buf (Elt Ideal) ((c.tc : Thread Cert.Kernel4Ideal.nD Cert.Kernel4Ideal.τ).loc Cert.Kernel4Ideal.main_v10_5)) (v6 : (c : Dev Cert.Kernel4Ideal.nD) → Buf (Elt Ideal) ((c.tc : Thread Cert.Kernel4Ideal.nD Cert.Kernel4Ideal.τ).loc Cert.Kernel4Ideal.main_v10_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_v10_5) = v5 c
          ∧ r.2.mem ((c.tc : Thread Cert.Kernel4Ideal.nD Cert.Kernel4Ideal.τ).loc Cert.Kernel4Ideal.main_v10_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_v14) = v2 c
          ∧ r.2.mem ((c.tc : Thread Cert.Reference4Ideal.nD Cert.Reference4Ideal.τ).loc Cert.Reference4Ideal.main_v56) = v3 c
          ∧ r.2.mem ((c.tc : Thread Cert.Reference4Ideal.nD Cert.Reference4Ideal.τ).loc Cert.Reference4Ideal.main_v59) = v4 c
          ∧ r.2.mem ((c.tc : Thread Cert.Reference4Ideal.nD Cert.Reference4Ideal.τ).loc Cert.Reference4Ideal.main_v62) = v5 c
          ∧ r.2.mem ((c.tc : Thread Cert.Reference4Ideal.nD Cert.Reference4Ideal.τ).loc Cert.Reference4Ideal.main_v16) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v56_0)) (v1 : (c : Dev Cert.Kernel5Ideal.nD) → Buf (Elt Ideal) ((c.tc : Thread Cert.Kernel5Ideal.nD Cert.Kernel5Ideal.τ).loc Cert.Kernel5Ideal.main_v56_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v56_0) = v0 c
          ∧ r.2.mem ((c.tc : Thread Cert.Kernel5Ideal.nD Cert.Kernel5Ideal.τ).loc Cert.Kernel5Ideal.main_v56_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v155) = v0 c
          ∧ r.2.mem ((c.tc : Thread Cert.Reference5Ideal.nD Cert.Reference5Ideal.τ).loc Cert.Reference5Ideal.main_v160) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S16384x1024 : Shape := ⟨2, ![16384, 1024]⟩
abbrev S16384x1280 : Shape := ⟨2, ![16384, 1280]⟩
abbrev S16384x32 : Shape := ⟨2, ![16384, 32]⟩
abbrev S2x16 : Shape := ⟨2, ![2, 16]⟩
abbrev S16 : Shape := ⟨1, ![16]⟩
abbrev S16x64x128 : Shape := ⟨3, ![16, 64, 128]⟩
abbrev S128x1024x128 : Shape := ⟨3, ![128, 1024, 128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x1280 : S_.BroadcastsInDim S16384x1280 (![] : Fin 0 → Fin S16384x1280.rank)
  reducesTo_S16384x1280_S_d0_1 : S16384x1280.ReducesTo [0, 1] S_
  bcast_S_S16384x32 : S_.BroadcastsInDim S16384x32 (![] : Fin 0 → Fin S16384x32.rank)
  reducesTo_S16384x32_S_d0_1 : S16384x32.ReducesTo [0, 1] S_
  bcast_S_S2x16 : S_.BroadcastsInDim S2x16 (![] : Fin 0 → Fin S2x16.rank)
  reducesTo_S2x16_S_d0_1 : S2x16.ReducesTo [0, 1] S_
  bcast_S_S16x64x128 : S_.BroadcastsInDim S16x64x128 (![] : Fin 0 → Fin S16x64x128.rank)
  reducesTo_S16x64x128_S_d0_1_2 : S16x64x128.ReducesTo [0, 1, 2] S_

variable [Facts]

def fn_part1 {F : FTy → Type} [FloatOps F] (main_arg4 : FVec F S2x16 .f32) (main_arg10 : FVec F S16x64x128 .f32) (main_arg11 : FVec F S16x64x128 .f32) (main_v13 : IVec S_ 1) (main_v16 : IVec S2x16 1) : IVec S_ 1 :=
  let main_c_5 : IVec S_ 1 := constantI S_ 1 1#1
  let main_v17 : IVec S_ 1 := (fun x v => Host.reduce IntOp.andi x v reducesTo_S2x16_S_d0_1 h_S_) main_v16 main_c_5
  let main_v18 : IVec S_ 1 := andi main_v13 main_v17
  let main_v19 : FVec F S2x16 .f32 := Host.absf main_arg4
  let main_cst_6 : FVec F S_ .f32 := constant S_ .f32 0x7F800000#32
  let main_v20 : FVec F S2x16 .f32 := broadcastInDim S2x16 ![] bcast_S_S2x16 main_cst_6
  let main_v21 : IVec S2x16 1 := cmpf .olt main_v19 main_v20
  let main_c_7 : IVec S_ 1 := constantI S_ 1 1#1
  let main_v22 : IVec S_ 1 := (fun x v => Host.reduce IntOp.andi x v reducesTo_S2x16_S_d0_1 h_S_) main_v21 main_c_7
  let main_v23 : IVec S_ 1 := andi main_v18 main_v22
  let main_v24 : FVec F S16x64x128 .f32 := Host.absf main_arg10
  let main_cst_8 : FVec F S_ .f32 := constant S_ .f32 0x7F800000#32
  let main_v25 : FVec F S16x64x128 .f32 := broadcastInDim S16x64x128 ![] bcast_S_S16x64x128 main_cst_8
  let main_v26 : IVec S16x64x128 1 := cmpf .olt main_v24 main_v25
  let main_c_9 : IVec S_ 1 := constantI S_ 1 1#1
  let main_v27 : IVec S_ 1 := (fun x v => Host.reduce IntOp.andi x v reducesTo_S16x64x128_S_d0_1_2 h_S_) main_v26 main_c_9
  let main_v28 : IVec S_ 1 := andi main_v23 main_v27
  let main_v29 : FVec F S16x64x128 .f32 := Host.absf main_arg11
  let main_cst_10 : FVec F S_ .f32 := constant S_ .f32 0x7F800000#32
  let main_v30 : FVec F S16x64x128 .f32 := broadcastInDim S16x64x128 ![] bcast_S_S16x64x128 main_cst_10
  let main_v31 : IVec S16x64x128 1 := cmpf .olt main_v29 main_v30
  let main_c_11 : IVec S_ 1 := constantI S_ 1 1#1
  let main_v32 : IVec S_ 1 := (fun x v => Host.reduce IntOp.andi x v reducesTo_S16x64x128_S_d0_1_2 h_S_) main_v31 main_c_11
  let main_v33 : IVec S_ 1 := andi main_v28 main_v32
  main_v33

def fn {F : FTy → Type} [FloatOps F] (main_arg0 : FVec F S16384x1024 .f32) (main_arg1 : FVec F S16384x1280 .f32) (main_arg2 : FVec F S16384x32 .f32) (main_arg3 : FVec F S2x16 .f32) (main_arg4 : FVec F S2x16 .f32) (main_arg5 : FVec F S16 .f32) (main_arg6 : FVec F S16x64x128 .f32) (main_arg7 : FVec F S16x64x128 .f32) (main_arg8 : FVec F S128x1024x128 .f32) (main_arg9 : FVec F S128x1024x128 .f32) (main_arg10 : FVec F S16x64x128 .f32) (main_arg11 : FVec F S16x64x128 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1280 .f32 := Host.absf main_arg1
  let main_cst_0 : FVec F S_ .f32 := constant S_ .f32 0x7F800000#32
  let main_v5 : FVec F S16384x1280 .f32 := broadcastInDim S16384x1280 ![] bcast_S_S16384x1280 main_cst_0
  let main_v6 : IVec S16384x1280 1 := cmpf .olt main_v4 main_v5
  let main_c_1 : IVec S_ 1 := constantI S_ 1 1#1
  let main_v7 : IVec S_ 1 := (fun x v => Host.reduce IntOp.andi x v reducesTo_S16384x1280_S_d0_1 h_S_) main_v6 main_c_1
  let main_v8 : IVec S_ 1 := andi main_v3 main_v7
  let main_v9 : FVec F S16384x32 .f32 := Host.absf main_arg2
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_c_3 : IVec S_ 1 := constantI S_ 1 1#1
  let main_v12 : IVec S_ 1 := (fun x v => Host.reduce IntOp.andi x v reducesTo_S16384x32_S_d0_1 h_S_) main_v11 main_c_3
  let main_v13 : IVec S_ 1 := andi main_v8 main_v12
  let main_v14 : FVec F S2x16 .f32 := Host.absf main_arg3
  let main_cst_4 : FVec F S_ .f32 := constant S_ .f32 0x7F800000#32
  let main_v15 : FVec F S2x16 .f32 := broadcastInDim S2x16 ![] bcast_S_S2x16 main_cst_4
  let main_v16 : IVec S2x16 1 := cmpf .olt main_v14 main_v15
  fn_part1 (F := F) main_arg4 main_arg10 main_arg11 main_v13 main_v16
-- ==== Pre_finite2.lean ====
abbrev S16384x1024 : Shape := ⟨2, ![16384, 1024]⟩
abbrev S16x1024 : Shape := ⟨2, ![16, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S16x1024 .f32) (main_arg3 : FVec F S1024x2816 .f32) (main_arg4 : FVec F S1024x2816 .f32) (main_arg5 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite3.lean ====
abbrev S16384x1024 : Shape := ⟨2, ![16384, 1024]⟩
abbrev S16x1024 : Shape := ⟨2, ![16, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S16x1024 .f32) (main_arg3 : FVec F S1024x2816 .f32) (main_arg4 : FVec F S1024x2816 .f32) (main_arg5 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite5.lean ====
abbrev S16384x1280 : Shape := ⟨2, ![16384, 1280]⟩
abbrev S5x1280 : Shape := ⟨2, ![5, 1280]⟩
abbrev S1280 : Shape := ⟨1, ![1280]⟩
abbrev S16384x1024 : Shape := ⟨2, ![16384, 1024]⟩
abbrev S16384x32 : Shape := ⟨2, ![16384, 32]⟩
abbrev S16x1024 : Shape := ⟨2, ![16, 1024]⟩
abbrev S1024x3360 : Shape := ⟨2, ![1024, 3360]⟩
abbrev S_ : Shape := ⟨0, ![]⟩

class Facts : Prop where
  bcast_S_S16384x1280 : S_.BroadcastsInDim S16384x1280 (![] : Fin 0 → Fin S16384x1280.rank)
  reducesTo_S16384x1280_S_d0_1 : S16384x1280.ReducesTo [0, 1] S_
  h_S_ : 0 < S_.numel
  bcast_S_S5x1280 : S_.BroadcastsInDim S5x1280 (![] : Fin 0 → Fin S5x1280.rank)
  reducesTo_S5x1280_S_d0_1 : S5x1280.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S16384x32 : S_.BroadcastsInDim S16384x32 (![] : Fin 0 → Fin S16384x32.rank)
  reducesTo_S16384x32_S_d0_1 : S16384x32.ReducesTo [0, 1] S_
  bcast_S_S16x1024 : S_.BroadcastsInDim S16x1024 (![] : Fin 0 → Fin S16x1024.rank)
  reducesTo_S16x1024_S_d0_1 : S16x1024.ReducesTo [0, 1] S_
  bcast_S_S1024x3360 : S_.BroadcastsInDim S1024x3360 (![] : Fin 0 → Fin S1024x3360.rank)
  reducesTo_S1024x3360_S_d0_1 : S1024x3360.ReducesTo [0, 1] S_

variable [Facts]

def fn_part2 {F : FTy → Type} [FloatOps F] (main_arg8 : FVec F S16x1024 .f32) (main_arg9 : FVec F S1024x3360 .f32) (main_v33 : IVec S_ 1) : IVec S_ 1 :=
  let main_v34 : FVec F S16x1024 .f32 := Host.absf main_arg8
  let main_cst_12 : FVec F S_ .f32 := constant S_ .f32 0x7F800000#32
  let main_v35 : FVec F S16x1024 .f32 := broadcastInDim S16x1024 ![] bcast_S_S16x1024 main_cst_12
  let main_v36 : IVec S16x1024 1 := cmpf .olt main_v34 main_v35
  let main_c_13 : IVec S_ 1 := constantI S_ 1 1#1
  let main_v37 : IVec S_ 1 := (fun x v => Host.reduce IntOp.andi x v reducesTo_S16x1024_S_d0_1 h_S_) main_v36 main_c_13
  let main_v38 : IVec S_ 1 := andi main_v33 main_v37
  let main_v39 : FVec F S1024x3360 .f32 := Host.absf main_arg9
  let main_cst_14 : FVec F S_ .f32 := constant S_ .f32 0x7F800000#32
  let main_v40 : FVec F S1024x3360 .f32 := broadcastInDim S1024x3360 ![] bcast_S_S1024x3360 main_cst_14
  let main_v41 : IVec S1024x3360 1 := cmpf .olt main_v39 main_v40
  let main_c_15 : IVec S_ 1 := constantI S_ 1 1#1
  let main_v42 : IVec S_ 1 := (fun x v => Host.reduce IntOp.andi x v reducesTo_S1024x3360_S_d0_1 h_S_) main_v41 main_c_15
  let main_v43 : IVec S_ 1 := andi main_v38 main_v42
  main_v43

def fn_part1 {F : FTy → Type} [FloatOps F] (main_arg5 : FVec F S16384x1024 .f32) (main_arg6 : FVec F S16384x1024 .f32) (main_arg7 : FVec F S16384x1024 .f32) (main_arg8 : FVec F S16x1024 .f32) (main_arg9 : FVec F S1024x3360 .f32) (main_v13 : IVec S_ 1) (main_v16 : IVec S16384x32 1) : IVec S_ 1 :=
  let main_c_5 : IVec S_ 1 := constantI S_ 1 1#1
  let main_v17 : IVec S_ 1 := (fun x v => Host.reduce IntOp.andi x v reducesTo_S16384x32_S_d0_1 h_S_) main_v16 main_c_5
  let main_v18 : IVec S_ 1 := andi main_v13 main_v17
  let main_v19 : FVec F S16384x1024 .f32 := Host.absf main_arg5
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S16384x1024 .f32 := Host.absf main_arg6
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  let main_v29 : FVec F S16384x1024 .f32 := Host.absf main_arg7
  let main_cst_10 : FVec F S_ .f32 := constant S_ .f32 0x7F800000#32
  let main_v30 : FVec F S16384x1024 .f32 := broadcastInDim S16384x1024 ![] bcast_S_S16384x1024 main_cst_10
  let main_v31 : IVec S16384x1024 1 := cmpf .olt main_v29 main_v30
  let main_c_11 : IVec S_ 1 := constantI S_ 1 1#1
  let main_v32 : IVec S_ 1 := (fun x v => Host.reduce IntOp.andi x v reducesTo_S16384x1024_S_d0_1 h_S_) main_v31 main_c_11
  let main_v33 : IVec S_ 1 := andi main_v28 main_v32
  fn_part2 (F := F) main_arg8 main_arg9 main_v33

def fn {F : FTy → Type} [FloatOps F] (main_arg0 : FVec F S16384x1280 .f32) (main_arg1 : FVec F S5x1280 .f32) (main_arg2 : FVec F S1280 .f32) (main_arg3 : FVec F S16384x1024 .f32) (main_arg4 : FVec F S16384x32 .f32) (main_arg5 : FVec F S16384x1024 .f32) (main_arg6 : FVec F S16384x1024 .f32) (main_arg7 : FVec F S16384x1024 .f32) (main_arg8 : FVec F S16x1024 .f32) (main_arg9 : FVec F S1024x3360 .f32) : IVec S_ 1 :=
  let main_v0 : FVec F S16384x1280 .f32 := Host.absf main_arg0
  let main_cst : FVec F S_ .f32 := constant S_ .f32 0x7F800000#32
  let main_v1 : FVec F S16384x1280 .f32 := broadcastInDim S16384x1280 ![] bcast_S_S16384x1280 main_cst
  let main_v2 : IVec S16384x1280 1 := cmpf .olt main_v0 main_v1
  let main_c : IVec S_ 1 := constantI S_ 1 1#1
  let main_v3 : IVec S_ 1 := (fun x v => Host.reduce IntOp.andi x v reducesTo_S16384x1280_S_d0_1 h_S_) main_v2 main_c
  let main_v4 : FVec F S5x1280 .f32 := Host.absf main_arg1
  let main_cst_0 : FVec F S_ .f32 := constant S_ .f32 0x7F800000#32
  let main_v5 : FVec F S5x1280 .f32 := broadcastInDim S5x1280 ![] bcast_S_S5x1280 main_cst_0
  let main_v6 : IVec S5x1280 1 := cmpf .olt main_v4 main_v5
  let main_c_1 : IVec S_ 1 := constantI S_ 1 1#1
  let main_v7 : IVec S_ 1 := (fun x v => Host.reduce IntOp.andi x v reducesTo_S5x1280_S_d0_1 h_S_) main_v6 main_c_1
  let main_v8 : IVec S_ 1 := andi main_v3 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x32 .f32 := Host.absf main_arg4
  let main_cst_4 : FVec F S_ .f32 := constant S_ .f32 0x7F800000#32
  let main_v15 : FVec F S16384x32 .f32 := broadcastInDim S16384x32 ![] bcast_S_S16384x32 main_cst_4
  let main_v16 : IVec S16384x32 1 := cmpf .olt main_v14 main_v15
  fn_part1 (F := F) main_arg5 main_arg6 main_arg7 main_arg8 main_arg9 main_v13 main_v16
-- ==== Kernel.lean ====
abbrev S16384x1024 : Shape := ⟨2, ![16384, 1024]⟩
abbrev S16384x1280 : Shape := ⟨2, ![16384, 1280]⟩
abbrev S16384x32 : Shape := ⟨2, ![16384, 32]⟩
abbrev S2x16 : Shape := ⟨2, ![2, 16]⟩
abbrev S16 : Shape := ⟨1, ![16]⟩
abbrev S16x64x128 : Shape := ⟨3, ![16, 64, 128]⟩
abbrev S128x1024x128 : Shape := ⟨3, ![128, 1024, 128]⟩
abbrev S_ : Shape := ⟨0, ![]⟩
abbrev S16384x112 : Shape := ⟨2, ![16384, 112]⟩
abbrev S16384x16 : Shape := ⟨2, ![16384, 16]⟩
abbrev S16384x256 : Shape := ⟨2, ![16384, 256]⟩
abbrev S1x16 : Shape := ⟨2, ![1, 16]⟩
abbrev S1x128 : Shape := ⟨2, ![1, 128]⟩
abbrev S4x128 : Shape := ⟨2, ![4, 128]⟩
abbrev S8x128 : Shape := ⟨2, ![8, 128]⟩
abbrev S1024 : Shape := ⟨1, ![1024]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S256x1024 : Shape := ⟨2, ![256, 1024]⟩
abbrev S1024x128 : Shape := ⟨2, ![1024, 128]⟩
abbrev S1024x256 : Shape := ⟨2, ![1024, 256]⟩
abbrev S16x64 : Shape := ⟨2, ![16, 64]⟩
abbrev S1x1024x128 : Shape := ⟨3, ![1, 1024, 128]⟩
abbrev S2x1024x128 : Shape := ⟨3, ![2, 1024, 128]⟩
abbrev S16384x128 : Shape := ⟨2, ![16384, 128]⟩
abbrev S2x8x128 : Shape := ⟨3, ![2, 8, 128]⟩
abbrev S128x1280 : Shape := ⟨2, ![128, 1280]⟩
abbrev S128x128 : Shape := ⟨2, ![128, 128]⟩
abbrev S2x128x128 : Shape := ⟨3, ![2, 128, 128]⟩
abbrev S128x384 : Shape := ⟨2, ![128, 384]⟩
abbrev S384x128 : Shape := ⟨2, ![384, 128]⟩
abbrev S1x128x128 : Shape := ⟨3, ![1, 128, 128]⟩
abbrev S128x256 : Shape := ⟨2, ![128, 256]⟩
abbrev S1 : Shape := ⟨1, ![1]⟩
abbrev S1x1 : Shape := ⟨2, ![1, 1]⟩
abbrev S64x128 : Shape := ⟨2, ![64, 128]⟩
abbrev S1x1x128 : Shape := ⟨3, ![1, 1, 128]⟩
abbrev S256x128 : Shape := ⟨2, ![256, 128]⟩

abbrev nBuf : Space → Nat
  | .hbm => 88
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S16384x1280, .f32⟩
  | .hbm, ⟨2, _⟩ => ⟨S16384x32, .f32⟩
  | .hbm, ⟨3, _⟩ => ⟨S2x16, .f32⟩
  | .hbm, ⟨4, _⟩ => ⟨S2x16, .f32⟩
  | .hbm, ⟨5, _⟩ => ⟨S16, .f32⟩
  | .hbm, ⟨6, _⟩ => ⟨S16x64x128, .f32⟩
  | .hbm, ⟨7, _⟩ => ⟨S16x64x128, .f32⟩
  | .hbm, ⟨8, _⟩ => ⟨S128x1024x128, .f32⟩
  | .hbm, ⟨9, _⟩ => ⟨S128x1024x128, .f32⟩
  | .hbm, ⟨10, _⟩ => ⟨S16x64x128, .f32⟩
  | .hbm, ⟨11, _⟩ => ⟨S16x64x128, .f32⟩
  | .hbm, ⟨12, _⟩ => ⟨S_, .f32⟩
  | .hbm, ⟨13, _⟩ => ⟨S16384x112, .f32⟩
  | .hbm, ⟨14, _⟩ => ⟨S16384x16, .f32⟩
  | .hbm, ⟨15, _⟩ => ⟨S16384x16, .f32⟩
  | .hbm, ⟨16, _⟩ => ⟨S16384x256, .f32⟩
  | .hbm, ⟨17, _⟩ => ⟨S1x16, .f32⟩
  | .hbm, ⟨18, _⟩ => ⟨S16, .f32⟩
  | .hbm, ⟨19, _⟩ => ⟨S1x16, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S1x16, .f32⟩
  | .hbm, ⟨24, _⟩ => ⟨S16, .f32⟩
  | .hbm, ⟨25, _⟩ => ⟨S1x16, .f32⟩
  | .hbm, ⟨26, _⟩ => ⟨S_, .i32⟩
  | .hbm, ⟨27, _⟩ => ⟨S_, .f32⟩
  | .hbm, ⟨28, _⟩ => ⟨S1x128, .f32⟩
  | .hbm, ⟨29, _⟩ => ⟨S1x16, .f32⟩
  | .hbm, ⟨30, _⟩ => ⟨S16, .f32⟩
  | .hbm, ⟨31, _⟩ => ⟨S1x16, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S1x16, .f32⟩
  | .hbm, ⟨36, _⟩ => ⟨S16, .f32⟩
  | .hbm, ⟨37, _⟩ => ⟨S1x16, .f32⟩
  | .hbm, ⟨38, _⟩ => ⟨S_, .i32⟩
  | .hbm, ⟨39, _⟩ => ⟨S_, .f32⟩
  | .hbm, ⟨40, _⟩ => ⟨S1x128, .f32⟩
  | .hbm, ⟨41, _⟩ => ⟨S_, .f32⟩
  | .hbm, ⟨42, _⟩ => ⟨S4x128, .f32⟩
  | .hbm, ⟨43, _⟩ => ⟨S8x128, .f32⟩
  | .hbm, ⟨44, _⟩ => ⟨S1024, .i32⟩
  | .hbm, ⟨45, _⟩ => ⟨S_, .i32⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S1024, .i32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S1024, .i32⟩
  | .hbm, ⟨54, _⟩ => ⟨S1024, .i32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S128, .i32⟩
  | .hbm, ⟨64, _⟩ => ⟨S128x1, .i32⟩
  | .hbm, ⟨65, _⟩ => ⟨S1x1024, .i32⟩
  | .hbm, ⟨66, _⟩ => ⟨S128x1024, .i32⟩
  | .hbm, ⟨67, _⟩ => ⟨S128x1024, .i32⟩
  | .hbm, ⟨68, _⟩ => ⟨S128x1024, .i1⟩
  | .hbm, ⟨69, _⟩ => ⟨S128x1024, .bf16⟩
  | .hbm, ⟨70, _⟩ => ⟨S256x1024, .bf16⟩
  | .hbm, ⟨71, _⟩ => ⟨S1024x128, .bf16⟩
  | .hbm, ⟨72, _⟩ => ⟨S1024x128, .bf16⟩
  | .hbm, ⟨73, _⟩ => ⟨S1024x256, .bf16⟩
  | .hbm, ⟨74, _⟩ => ⟨S16x64, .f32⟩
  | .hbm, ⟨75, _⟩ => ⟨S1024, .f32⟩
  | .hbm, ⟨76, _⟩ => ⟨S1x1024, .f32⟩
  | .hbm, ⟨77, _⟩ => ⟨S1024x128, .f32⟩
  | .hbm, ⟨78, _⟩ => ⟨S1024x128, .f32⟩
  | .hbm, ⟨79, _⟩ => ⟨S1x1024x128, .f32⟩
  | .hbm, ⟨80, _⟩ => ⟨S1x1024x128, .f32⟩
  | .hbm, ⟨81, _⟩ => ⟨S2x1024x128, .f32⟩
  | .hbm, ⟨82, _⟩ => ⟨S16384x1280, .f32⟩
  | .hbm, ⟨83, _⟩ => ⟨S16384x1280, .f32⟩
  | .hbm, ⟨84, _⟩ => ⟨S16384x128, .f32⟩
  | .hbm, ⟨85, _⟩ => ⟨S16384x128, .f32⟩
  | .hbm, ⟨86, _⟩ => ⟨S2x8x128, .f32⟩
  | .hbm, ⟨87, _⟩ => ⟨S2x1024x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1280, .f32⟩
  | .local _ .vmem, ⟨5, _⟩ => ⟨S128x1280, .f32⟩
  | .local _ .vmem, ⟨6, _⟩ => ⟨S128x1280, .f32⟩
  | .local _ .vmem, ⟨7, _⟩ => ⟨S128x1280, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S2x1024x128, .f32⟩
  | .local _ .vmem, ⟨17, _⟩ => ⟨S8x128, .f32⟩
  | .local _ .vmem, ⟨18, _⟩ => ⟨S256x1024, .bf16⟩
  | .local _ .vmem, ⟨19, _⟩ => ⟨S1024x256, .bf16⟩
  | .local _ .vmem, ⟨20, _⟩ => ⟨S1x1024, .f32⟩
  | .local _ .vmem, ⟨21, _⟩ => ⟨S128x1280, .f32⟩
  | .local _ .vmem, ⟨22, _⟩ => ⟨S128x1280, .f32⟩
  | .local _ .vmem, ⟨23, _⟩ => ⟨S128x1280, .f32⟩
  | .local _ .vmem, ⟨24, _⟩ => ⟨S128x1280, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S2x8x128, .f32⟩
  | .local _ .vmem, ⟨30, _⟩ => ⟨S2x1024x128, .f32⟩
  | .local _ .vmem, ⟨31, _⟩ => ⟨S2x1024x128, .f32⟩
  | .local _ .vmem, ⟨32, _⟩ => ⟨S2x128x128, .f32⟩
  | .local _ .vmem, ⟨33, _⟩ => ⟨S2x128x128, .f32⟩
  | .local _ .vmem, ⟨34, _⟩ => ⟨S2x128x128, .f32⟩
  | .local _ .vmem, ⟨35, _⟩ => ⟨S2x128x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_call2_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_call3_v0 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_v5 : Ref sig .tc := ⟨.hbm, 51, rfl⟩
abbrev main_call4_v6 : Ref sig .tc := ⟨.hbm, 52, rfl⟩
abbrev main_call4_v7 : Ref sig .tc := ⟨.hbm, 53, rfl⟩
abbrev main_call4_v8 : Ref sig .tc := ⟨.hbm, 54, rfl⟩
abbrev main_call4_c : Ref sig .tc := ⟨.hbm, 55, rfl⟩
abbrev main_call4_v9 : Ref sig .tc := ⟨.hbm, 56, rfl⟩
abbrev main_call4_v10 : Ref sig .tc := ⟨.hbm, 57, rfl⟩
abbrev main_call4_v11 : Ref sig .tc := ⟨.hbm, 58, rfl⟩
abbrev main_call4_c_0 : Ref sig .tc := ⟨.hbm, 59, rfl⟩
abbrev main_call4_v12 : Ref sig .tc := ⟨.hbm, 60, rfl⟩
abbrev main_call4_v13 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43_0 : Ref sig .tc := ⟨.hbm, 82, rfl⟩
abbrev main_v43_1 : Ref sig .tc := ⟨.hbm, 83, rfl⟩
abbrev main_v43_2 : Ref sig .tc := ⟨.hbm, 84, rfl⟩
abbrev main_v43_3 : Ref sig .tc := ⟨.hbm, 85, rfl⟩
abbrev main_v43_4 : Ref sig .tc := ⟨.hbm, 86, rfl⟩
abbrev main_v43_5 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1280 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S2x8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x1024x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S16384x1024 : Shape := ⟨2, ![16384, 1024]⟩
abbrev S16384x1280 : Shape := ⟨2, ![16384, 1280]⟩
abbrev S16384x32 : Shape := ⟨2, ![16384, 32]⟩
abbrev S2x16 : Shape := ⟨2, ![2, 16]⟩
abbrev S16 : Shape := ⟨1, ![16]⟩
abbrev S16x64x128 : Shape := ⟨3, ![16, 64, 128]⟩
abbrev S128x1024x128 : Shape := ⟨3, ![128, 1024, 128]⟩
abbrev S16384x2x16 : Shape := ⟨3, ![16384, 2, 16]⟩
abbrev S1x2x16 : Shape := ⟨3, ![1, 2, 16]⟩
abbrev S_ : Shape := ⟨0, ![]⟩
abbrev S16384x16x64 : Shape := ⟨3, ![16384, 16, 64]⟩
abbrev S16384x128 : Shape := ⟨2, ![16384, 128]⟩
abbrev S16384x1x16 : Shape := ⟨3, ![16384, 1, 16]⟩
abbrev S16384x16 : Shape := ⟨2, ![16384, 16]⟩
abbrev S1x16 : Shape := ⟨2, ![1, 16]⟩
abbrev S16x16384 : Shape := ⟨2, ![16, 16384]⟩
abbrev S16x16384x1 : Shape := ⟨3, ![16, 16384, 1]⟩
abbrev S16x1x16384 : Shape := ⟨3, ![16, 1, 16384]⟩
abbrev S16x16384x16384 : Shape := ⟨3, ![16, 16384, 16384]⟩
abbrev S16384x16384 : Shape := ⟨2, ![16384, 16384]⟩
abbrev S1x16384x16384 : Shape := ⟨3, ![1, 16384, 16384]⟩
abbrev S16x64x16384 : Shape := ⟨3, ![16, 64, 16384]⟩
abbrev S16384x16x1 : Shape := ⟨3, ![16384, 16, 1]⟩
abbrev S16x1x1 : Shape := ⟨3, ![16, 1, 1]⟩
abbrev S16x1 : Shape := ⟨2, ![16, 1]⟩
abbrev S1x16x1 : Shape := ⟨3, ![1, 16, 1]⟩
abbrev S1x16x64x128 : Shape := ⟨4, ![1, 16, 64, 128]⟩
abbrev S2x16x64x128 : Shape := ⟨4, ![2, 16, 64, 128]⟩
abbrev S2x1024x128 : Shape := ⟨3, ![2, 1024, 128]⟩

abbrev nBuf : Space → Nat
  | .hbm => 199
  | .vmem => 0
  | .smem => 0
  | _ => 0

abbrev hbmTy0_0 (i : Nat) : BufTy := match i % 128 with
  | 0 => ⟨S16384x1024, .f32⟩
  | 1 => ⟨S16384x1280, .f32⟩
  | 2 => ⟨S16384x32, .f32⟩
  | 3 => ⟨S2x16, .f32⟩
  | 4 => ⟨S2x16, .f32⟩
  | 5 => ⟨S16, .f32⟩
  | 6 => ⟨S16x64x128, .f32⟩
  | 7 => ⟨S16x64x128, .f32⟩
  | 8 => ⟨S128x1024x128, .f32⟩
  | 9 => ⟨S128x1024x128, .f32⟩
  | 10 => ⟨S16x64x128, .f32⟩
  | 11 => ⟨S16x64x128, .f32⟩
  | 12 => ⟨S16384x2x16, .f32⟩
  | 13 => ⟨S1x2x16, .f32⟩
  | 14 => ⟨S16384x2x16, .f32⟩
  | 15 => ⟨S16384x2x16, .f32⟩
  | 16 => ⟨S_, .f32⟩
  | 17 => ⟨S16384x2x16, .f32⟩
  | 18 => ⟨S16384x2x16, .f32⟩
  | 19 => ⟨S16384x2x16, .f32⟩
  | 20 => ⟨S16384x2x16, .f32⟩
  | 21 => ⟨S16384x2x16, .i1⟩
  | 22 => ⟨S16384x2x16, .f32⟩
  | 23 => ⟨S16384x2x16, .f32⟩
  | 24 => ⟨S16384x2x16, .f32⟩
  | 25 => ⟨S16384x2x16, .f32⟩
  | 26 => ⟨S16384x2x16, .f32⟩
  | 27 => ⟨S16384x2x16, .f32⟩
  | 28 => ⟨S16384x2x16, .f32⟩
  | 29 => ⟨S16384x2x16, .f32⟩
  | 30 => ⟨S2x16, .f32⟩
  | 31 => ⟨S2x16, .f32⟩
  | 32 => ⟨S16384x1024, .f32⟩
  | 33 => ⟨S16384x16x64, .f32⟩
  | 34 => ⟨S16384x128, .f32⟩
  | 35 => ⟨S16384x128, .f32⟩
  | 36 => ⟨S16384x1x16, .f32⟩
  | 37 => ⟨S16384x16, .f32⟩
  | 38 => ⟨S1x16, .f32⟩
  | 39 => ⟨S16, .f32⟩
  | 40 => ⟨S1x16, .f32⟩
  | 41 => ⟨S16384x16, .f32⟩
  | 42 => ⟨S16384x16, .f32⟩
  | 43 => ⟨S_, .f32⟩
  | 44 => ⟨S_, .f32⟩
  | 45 => ⟨S16384x16, .f32⟩
  | 46 => ⟨S16x16384, .f32⟩
  | 47 => ⟨S16x16384x1, .f32⟩
  | 48 => ⟨S16x1x16384, .f32⟩
  | 49 => ⟨S16x16384x16384, .f32⟩
  | 50 => ⟨S16x16384x16384, .f32⟩
  | 51 => ⟨S16x16384x16384, .f32⟩
  | 52 => ⟨S_, .i1⟩
  | 53 => ⟨S16384x16384, .i1⟩
  | 54 => ⟨S16384x16384, .i32⟩
  | 55 => ⟨S_, .i32⟩
  | 56 => ⟨S16384x16384, .i32⟩
  | 57 => ⟨S16384x16384, .i32⟩
  | 58 => ⟨S16384x16384, .i32⟩
  | 59 => ⟨S16384x16384, .i1⟩
  | 60 => ⟨S_, .i1⟩
  | 61 => ⟨S16384x16384, .i1⟩
  | 62 => ⟨S16384x16384, .i1⟩
  | 63 => ⟨S_, .f32⟩
  | 64 => ⟨S_, .f32⟩
  | 65 => ⟨S16x16384x16384, .i1⟩
  | 66 => ⟨S16x16384x16384, .f32⟩
  | 67 => ⟨S16x16384x16384, .f32⟩
  | 68 => ⟨S16x16384x16384, .f32⟩
  | 69 => ⟨S16384x16384, .f32⟩
  | 70 => ⟨S1x16384x16384, .f32⟩
  | 71 => ⟨S16x16384x16384, .f32⟩
  | 72 => ⟨S16x16384x16384, .f32⟩
  | 73 => ⟨S16x16384, .f32⟩
  | 74 => ⟨S16x1x16384, .f32⟩
  | 75 => ⟨S16x16384x16384, .f32⟩
  | 76 => ⟨S16x16384x16384, .f32⟩
  | 77 => ⟨S16x64x16384, .f32⟩
  | 78 => ⟨S16384x16x64, .f32⟩
  | 79 => ⟨S1x16, .f32⟩
  | 80 => ⟨S16384x16, .f32⟩
  | 81 => ⟨S16384x16, .f32⟩
  | 82 => ⟨S16384x16, .f32⟩
  | 83 => ⟨S16384x16, .f32⟩
  | 84 => ⟨S16384x16x1, .f32⟩
  | 85 => ⟨S16384x16x64, .f32⟩
  | 86 => ⟨S16384x16x64, .f32⟩
  | 87 => ⟨S16x64x128, .f32⟩
  | 88 => ⟨S1x16, .f32⟩
  | 89 => ⟨S16, .f32⟩
  | 90 => ⟨S16, .f32⟩
  | 91 => ⟨S16x1x1, .f32⟩
  | 92 => ⟨S16x64x128, .f32⟩
  | 93 => ⟨S16x64x128, .f32⟩
  | 94 => ⟨S16x64x128, .f32⟩
  | 95 => ⟨S16384x16x64, .f32⟩
  | 96 => ⟨S16384x16, .f32⟩
  | 97 => ⟨S16384x16x1, .f32⟩
  | 98 => ⟨S16384x16x64, .f32⟩
  | 99 => ⟨S16384x16x64, .f32⟩
  | 100 => ⟨S16384x16x64, .f32⟩
  | 101 => ⟨S16384x1024, .f32⟩
  | 102 => ⟨S16384x16x64, .f32⟩
  | 103 => ⟨S16384x128, .f32⟩
  | 104 => ⟨S16384x128, .f32⟩
  | 105 => ⟨S16384x16x64, .f32⟩
  | 106 => ⟨S16384x1x16, .f32⟩
  | 107 => ⟨S16384x16, .f32⟩
  | 108 => ⟨S16384x16, .f32⟩
  | 109 => ⟨S1x16, .f32⟩
  | 110 => ⟨S16, .f32⟩
  | 111 => ⟨S16384x128, .f32⟩
  | 112 => ⟨S16384x128, .f32⟩
  | 113 => ⟨S1x16, .f32⟩
  | 114 => ⟨S16384x16, .f32⟩
  | 115 => ⟨S16384x16, .f32⟩
  | 116 => ⟨S_, .f32⟩
  | 117 => ⟨S_, .f32⟩
  | 118 => ⟨S16384x16, .f32⟩
  | 119 => ⟨S16x16384, .f32⟩
  | 120 => ⟨S16x16384x1, .f32⟩
  | 121 => ⟨S16x1x16384, .f32⟩
  | 122 => ⟨S16x16384x16384, .f32⟩
  | 123 => ⟨S16x16384x16384, .f32⟩
  | 124 => ⟨S16x16384x16384, .f32⟩
  | 125 => ⟨S_, .i1⟩
  | 126 => ⟨S16384x16384, .i1⟩
  | 127 => ⟨S16384x16384, .i32⟩
  | _ => ⟨S16384x1024, .f32⟩

abbrev hbmTy0_1 (i : Nat) : BufTy := match i % 128 with
  | 0 => ⟨S_, .i32⟩
  | 1 => ⟨S16384x16384, .i32⟩
  | 2 => ⟨S16384x16384, .i32⟩
  | 3 => ⟨S16384x16384, .i32⟩
  | 4 => ⟨S16384x16384, .i1⟩
  | 5 => ⟨S_, .i1⟩
  | 6 => ⟨S16384x16384, .i1⟩
  | 7 => ⟨S16384x16384, .i1⟩
  | 8 => ⟨S_, .f32⟩
  | 9 => ⟨S_, .f32⟩
  | 10 => ⟨S16x16384x16384, .i1⟩
  | 11 => ⟨S16x16384x16384, .f32⟩
  | 12 => ⟨S16x16384x16384, .f32⟩
  | 13 => ⟨S16x16384x16384, .f32⟩
  | 14 => ⟨S16384x16384, .f32⟩
  | 15 => ⟨S1x16384x16384, .f32⟩
  | 16 => ⟨S16x16384x16384, .f32⟩
  | 17 => ⟨S16x16384x16384, .f32⟩
  | 18 => ⟨S16x16384, .f32⟩
  | 19 => ⟨S16x1x16384, .f32⟩
  | 20 => ⟨S16x16384x16384, .f32⟩
  | 21 => ⟨S16x16384x16384, .f32⟩
  | 22 => ⟨S16x64x16384, .f32⟩
  | 23 => ⟨S16384x16x64, .f32⟩
  | 24 => ⟨S1x16, .f32⟩
  | 25 => ⟨S16384x16, .f32⟩
  | 26 => ⟨S16384x16, .f32⟩
  | 27 => ⟨S16384x16, .f32⟩
  | 28 => ⟨S16384x16, .f32⟩
  | 29 => ⟨S16384x16x1, .f32⟩
  | 30 => ⟨S16384x16x64, .f32⟩
  | 31 => ⟨S16384x16x64, .f32⟩
  | 32 => ⟨S16x64x128, .f32⟩
  | 33 => ⟨S1x16, .f32⟩
  | 34 => ⟨S16, .f32⟩
  | 35 => ⟨S16, .f32⟩
  | 36 => ⟨S16x1x1, .f32⟩
  | 37 => ⟨S16x64x128, .f32⟩
  | 38 => ⟨S16x64x128, .f32⟩
  | 39 => ⟨S16x64x128, .f32⟩
  | 40 => ⟨S16384x16x64, .f32⟩
  | 41 => ⟨S16384x16, .f32⟩
  | 42 => ⟨S16384x16x1, .f32⟩
  | 43 => ⟨S16384x16x64, .f32⟩
  | 44 => ⟨S16384x16x64, .f32⟩
  | 45 => ⟨S16384x16x64, .f32⟩
  | 46 => ⟨S16384x16x64, .f32⟩
  | 47 => ⟨S16384x16x64, .f32⟩
  | 48 => ⟨S16x1, .f32⟩
  | 49 => ⟨S1x16x1, .f32⟩
  | 50 => ⟨S16384x16x64, .f32⟩
  | 51 => ⟨S16384x16x64, .f32⟩
  | 52 => ⟨S16384x16x64, .f32⟩
  | 53 => ⟨S16384x16x64, .f32⟩
  | 54 => ⟨S16384x16x64, .f32⟩
  | 55 => ⟨S16384x16x64, .f32⟩
  | 56 => ⟨S16384x16x64, .f32⟩
  | 57 => ⟨S16x64x128, .f32⟩
  | 58 => ⟨S16x64x128, .f32⟩
  | 59 => ⟨S16x64x128, .f32⟩
  | 60 => ⟨S16x64x128, .f32⟩
  | 61 => ⟨S16384x16x64, .f32⟩
  | 62 => ⟨S16384x16x64, .f32⟩
  | 63 => ⟨S16x64x128, .f32⟩
  | 64 => ⟨S16x64x128, .f32⟩
  | 65 => ⟨S16x64x128, .f32⟩
  | 66 => ⟨S16x64x128, .f32⟩
  | 67 => ⟨S1x16x64x128, .f32⟩
  | 68 => ⟨S1x16x64x128, .f32⟩
  | 69 => ⟨S2x16x64x128, .f32⟩
  | 70 => ⟨S2x1024x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_call1_call0_cst : Ref sig .tc := ⟨.hbm, 43, rfl⟩
abbrev main_call1_call0_v0 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c : Ref sig .tc := ⟨.hbm, 52, rfl⟩
abbrev main_v25 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_0 : Ref sig .tc := ⟨.hbm, 60, rfl⟩
abbrev main_call2_v5 : Ref sig .tc := ⟨.hbm, 61, rfl⟩
abbrev main_v26 : Ref sig .tc := ⟨.hbm, 62, rfl⟩
abbrev main_cst : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_call8_call0_cst : Ref sig .tc := ⟨.hbm, 116, rfl⟩
abbrev main_call8_call0_v0 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_0 : Ref sig .tc := ⟨.hbm, 125, rfl⟩
abbrev main_v83 : Ref sig .tc := ⟨.hbm, 126, rfl⟩
abbrev main_call9_v0 : Ref sig .tc := ⟨.hbm, 127, rfl⟩
abbrev main_call9_c : Ref sig .tc := ⟨.hbm, 128, rfl⟩
abbrev main_call9_v1 : Ref sig .tc := ⟨.hbm, 129, rfl⟩
abbrev main_call9_v2 : Ref sig .tc := ⟨.hbm, 130, rfl⟩
abbrev main_call9_v3 : Ref sig .tc := ⟨.hbm, 131, rfl⟩
abbrev main_call9_v4 : Ref sig .tc := ⟨.hbm, 132, rfl⟩
abbrev main_call9_c_0 : Ref sig .tc := ⟨.hbm, 133, rfl⟩
abbrev main_call9_v5 : Ref sig .tc := ⟨.hbm, 134, rfl⟩
abbrev main_v84 : Ref sig .tc := ⟨.hbm, 135, rfl⟩
abbrev main_cst_1 : Ref sig .tc := ⟨.hbm, 136, rfl⟩
abbrev main_call10_v0 : Ref sig .tc := ⟨.hbm, 137, rfl⟩
abbrev main_call10_v1 : Ref sig .tc := ⟨.hbm, 138, rfl⟩
abbrev main_call10_v2 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩

abbrev nD : Nat := 1
abbrev τ : Topo := Topo.v7x

variable {F : FTy → Type} [FloatOps F]
-- ==== Kernel2.lean ====
abbrev S16384x1024 : Shape := ⟨2, ![16384, 1024]⟩
abbrev S16x1024 : Shape := ⟨2, ![16, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S16384x2816 : Shape := ⟨2, ![16384, 2816]⟩
abbrev S2x16384x1024 : Shape := ⟨3, ![2, 16384, 1024]⟩
abbrev S2x1024x1408 : Shape := ⟨3, ![2, 1024, 1408]⟩
abbrev S2x1408x1024 : Shape := ⟨3, ![2, 1408, 1024]⟩
abbrev S256x1024 : Shape := ⟨2, ![256, 1024]⟩
abbrev S256x1408 : Shape := ⟨2, ![256, 1408]⟩
abbrev S1024x1408 : Shape := ⟨2, ![1024, 1408]⟩
abbrev S1408x1024 : Shape := ⟨2, ![1408, 1024]⟩
abbrev S1x256x1024 : Shape := ⟨3, ![1, 256, 1024]⟩
abbrev S1024x512 : Shape := ⟨2, ![1024, 512]⟩
abbrev S256x512 : Shape := ⟨2, ![256, 512]⟩
abbrev S1024x384 : Shape := ⟨2, ![1024, 384]⟩
abbrev S256x384 : Shape := ⟨2, ![256, 384]⟩
abbrev S1408x512 : Shape := ⟨2, ![1408, 512]⟩
abbrev S1x1024x1408 : Shape := ⟨3, ![1, 1024, 1408]⟩
abbrev S1x1408x1024 : Shape := ⟨3, ![1, 1408, 1024]⟩

abbrev nBuf : Space → Nat
  | .hbm => 26
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x2816, .f32⟩
  | .hbm, ⟨16, _⟩ => ⟨S16384x2816, .bf16⟩
  | .hbm, ⟨17, _⟩ => ⟨S16384x2816, .f32⟩
  | .hbm, ⟨18, _⟩ => ⟨S16384x2816, .bf16⟩
  | .hbm, ⟨19, _⟩ => ⟨S1024x2816, .bf16⟩
  | .hbm, ⟨20, _⟩ => ⟨S1024x2816, .bf16⟩
  | .hbm, ⟨21, _⟩ => ⟨S2816x1024, .bf16⟩
  | .hbm, ⟨22, _⟩ => ⟨S2x16384x1024, .f32⟩
  | .hbm, ⟨23, _⟩ => ⟨S2x1024x1408, .f32⟩
  | .hbm, ⟨24, _⟩ => ⟨S2x1024x1408, .f32⟩
  | .hbm, ⟨25, _⟩ => ⟨S2x1408x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S16x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S1x256x1024, .f32⟩
  | .local _ .vmem, ⟨16, _⟩ => ⟨S1x256x1024, .f32⟩
  | .local _ .vmem, ⟨17, _⟩ => ⟨S1024x1408, .f32⟩
  | .local _ .vmem, ⟨18, _⟩ => ⟨S1024x1408, .f32⟩
  | .local _ .vmem, ⟨19, _⟩ => ⟨S1408x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v114 : BitVec 1 := Scalar.cmpi .eq arg1 c63_i32
  let v115 : BitVec 32 := Scalar.extui v114
  let c0_i32_66 : BitVec 32 := 0#32
  let v116 : BitVec 1 := Scalar.cmpi .ne v115 c0_i32_66
  v116

def k0_off1 (i : grid0.Coords) : Fin 3 → Nat :=
  let arg0 : BitVec 32 := BitVec.ofNat 32 (i 0).val
  let c0_i32_67_r0 : BitVec 32 := 0#32
  let c0_i32_68_r0 : BitVec 32 := 0#32
  ![arg0.toNat, 0, 0]
def k0_off2 (i : grid0.Coords) : Fin 3 → Nat :=
  let arg0 : BitVec 32 := BitVec.ofNat 32 (i 0).val
  let c0_i32_67_r2 : BitVec 32 := 0#32
  let c0_i32_68_r2 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S16384x1024 : Shape := ⟨2, ![16384, 1024]⟩
abbrev S16x1024 : Shape := ⟨2, ![16, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S1024x1408 : Shape := ⟨2, ![1024, 1408]⟩
abbrev S1408x1024 : Shape := ⟨2, ![1408, 1024]⟩
abbrev S16384x1408 : Shape := ⟨2, ![16384, 1408]⟩
abbrev S1x16384x1024 : Shape := ⟨3, ![1, 16384, 1024]⟩
abbrev S2x16384x1024 : Shape := ⟨3, ![2, 16384, 1024]⟩
abbrev S1x1024x1408 : Shape := ⟨3, ![1, 1024, 1408]⟩
abbrev S2x1024x1408 : Shape := ⟨3, ![2, 1024, 1408]⟩
abbrev S1x1408x1024 : Shape := ⟨3, ![1, 1408, 1024]⟩
abbrev S2x1408x1024 : Shape := ⟨3, ![2, 1408, 1024]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x1408, .f32⟩
  | .hbm, ⟨25, _⟩ => ⟨S1024x1408, .f32⟩
  | .hbm, ⟨26, _⟩ => ⟨S1408x1024, .f32⟩
  | .hbm, ⟨27, _⟩ => ⟨S16384x1408, .f32⟩
  | .hbm, ⟨28, _⟩ => ⟨S16384x1408, .f32⟩
  | .hbm, ⟨29, _⟩ => ⟨S16384x1408, .f32⟩
  | .hbm, ⟨30, _⟩ => ⟨S_, .f32⟩
  | .hbm, ⟨31, _⟩ => ⟨S16384x1408, .f32⟩
  | .hbm, ⟨32, _⟩ => ⟨S16384x1408, .f32⟩
  | .hbm, ⟨33, _⟩ => ⟨S_, .f32⟩
  | .hbm, ⟨34, _⟩ => ⟨S16384x1408, .f32⟩
  | .hbm, ⟨35, _⟩ => ⟨S16384x1408, .f32⟩
  | .hbm, ⟨36, _⟩ => ⟨S_, .f32⟩
  | .hbm, ⟨37, _⟩ => ⟨S16384x1408, .f32⟩
  | .hbm, ⟨38, _⟩ => ⟨S16384x1408, .f32⟩
  | .hbm, ⟨39, _⟩ => ⟨S16384x1408, .f32⟩
  | .hbm, ⟨40, _⟩ => ⟨S16384x1408, .f32⟩
  | .hbm, ⟨41, _⟩ => ⟨S16384x1408, .f32⟩
  | .hbm, ⟨42, _⟩ => ⟨S16384x1408, .f32⟩
  | .hbm, ⟨43, _⟩ => ⟨S16384x1024, .f32⟩
  | .hbm, ⟨44, _⟩ => ⟨S1024x1408, .f32⟩
  | .hbm, ⟨45, _⟩ => ⟨S1408x1024, .f32⟩
  | .hbm, ⟨46, _⟩ => ⟨S16384x1408, .f32⟩
  | .hbm, ⟨47, _⟩ => ⟨S16384x1408, .f32⟩
  | .hbm, ⟨48, _⟩ => ⟨S16384x1408, .f32⟩
  | .hbm, ⟨49, _⟩ => ⟨S1408x1024, .f32⟩
  | .hbm, ⟨50, _⟩ => ⟨S1024x1408, .f32⟩
  | .hbm, ⟨51, _⟩ => ⟨S16384x1024, .f32⟩
  | .hbm, ⟨52, _⟩ => ⟨S16384x1408, .f32⟩
  | .hbm, ⟨53, _⟩ => ⟨S16384x1408, .f32⟩
  | .hbm, ⟨54, _⟩ => ⟨S16384x1408, .f32⟩
  | .hbm, ⟨55, _⟩ => ⟨S16384x1408, .f32⟩
  | .hbm, ⟨56, _⟩ => ⟨S1408x1024, .f32⟩
  | .hbm, ⟨57, _⟩ => ⟨S1024x1408, .f32⟩
  | .hbm, ⟨58, _⟩ => ⟨S16384x1024, .f32⟩
  | .hbm, ⟨59, _⟩ => ⟨S16384x1024, .f32⟩
  | .hbm, ⟨60, _⟩ => ⟨S1024x1408, .f32⟩
  | .hbm, ⟨61, _⟩ => ⟨S1024x1408, .f32⟩
  | .hbm, ⟨62, _⟩ => ⟨S1408x1024, .f32⟩
  | .hbm, ⟨63, _⟩ => ⟨S16384x1408, .f32⟩
  | .hbm, ⟨64, _⟩ => ⟨S16384x1408, .f32⟩
  | .hbm, ⟨65, _⟩ => ⟨S16384x1408, .f32⟩
  | .hbm, ⟨66, _⟩ => ⟨S_, .f32⟩
  | .hbm, ⟨67, _⟩ => ⟨S16384x1408, .f32⟩
  | .hbm, ⟨68, _⟩ => ⟨S16384x1408, .f32⟩
  | .hbm, ⟨69, _⟩ => ⟨S_, .f32⟩
  | .hbm, ⟨70, _⟩ => ⟨S16384x1408, .f32⟩
  | .hbm, ⟨71, _⟩ => ⟨S16384x1408, .f32⟩
  | .hbm, ⟨72, _⟩ => ⟨S_, .f32⟩
  | .hbm, ⟨73, _⟩ => ⟨S16384x1408, .f32⟩
  | .hbm, ⟨74, _⟩ => ⟨S16384x1408, .f32⟩
  | .hbm, ⟨75, _⟩ => ⟨S16384x1408, .f32⟩
  | .hbm, ⟨76, _⟩ => ⟨S16384x1408, .f32⟩
  | .hbm, ⟨77, _⟩ => ⟨S16384x1408, .f32⟩
  | .hbm, ⟨78, _⟩ => ⟨S16384x1408, .f32⟩
  | .hbm, ⟨79, _⟩ => ⟨S16384x1024, .f32⟩
  | .hbm, ⟨80, _⟩ => ⟨S1024x1408, .f32⟩
  | .hbm, ⟨81, _⟩ => ⟨S1408x1024, .f32⟩
  | .hbm, ⟨82, _⟩ => ⟨S16384x1408, .f32⟩
  | .hbm, ⟨83, _⟩ => ⟨S16384x1408, .f32⟩
  | .hbm, ⟨84, _⟩ => ⟨S16384x1408, .f32⟩
  | .hbm, ⟨85, _⟩ => ⟨S1408x1024, .f32⟩
  | .hbm, ⟨86, _⟩ => ⟨S1024x1408, .f32⟩
  | .hbm, ⟨87, _⟩ => ⟨S16384x1024, .f32⟩
  | .hbm, ⟨88, _⟩ => ⟨S16384x1408, .f32⟩
  | .hbm, ⟨89, _⟩ => ⟨S16384x1408, .f32⟩
  | .hbm, ⟨90, _⟩ => ⟨S16384x1408, .f32⟩
  | .hbm, ⟨91, _⟩ => ⟨S16384x1408, .f32⟩
  | .hbm, ⟨92, _⟩ => ⟨S1408x1024, .f32⟩
  | .hbm, ⟨93, _⟩ => ⟨S1024x1408, .f32⟩
  | .hbm, ⟨94, _⟩ => ⟨S16384x1024, .f32⟩
  | .hbm, ⟨95, _⟩ => ⟨S16384x1024, .f32⟩
  | .hbm, ⟨96, _⟩ => ⟨S1x16384x1024, .f32⟩
  | .hbm, ⟨97, _⟩ => ⟨S1x16384x1024, .f32⟩
  | .hbm, ⟨98, _⟩ => ⟨S2x16384x1024, .f32⟩
  | .hbm, ⟨99, _⟩ => ⟨S1x1024x1408, .f32⟩
  | .hbm, ⟨100, _⟩ => ⟨S1x1024x1408, .f32⟩
  | .hbm, ⟨101, _⟩ => ⟨S2x1024x1408, .f32⟩
  | .hbm, ⟨102, _⟩ => ⟨S1x1024x1408, .f32⟩
  | .hbm, ⟨103, _⟩ => ⟨S1x1024x1408, .f32⟩
  | .hbm, ⟨104, _⟩ => ⟨S2x1024x1408, .f32⟩
  | .hbm, ⟨105, _⟩ => ⟨S1x1408x1024, .f32⟩
  | .hbm, ⟨106, _⟩ => ⟨S1x1408x1024, .f32⟩
  | .hbm, ⟨107, _⟩ => ⟨S2x1408x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v21_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v21_1 : Ref sig .tc := ⟨.hbm, 39, rfl⟩
abbrev main_v21_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_v42_2 : Ref sig .tc := ⟨.hbm, 71, rfl⟩
abbrev main_call2_cst_1 : Ref sig .tc := ⟨.hbm, 72, rfl⟩
abbrev main_call2_v6 : Ref sig .tc := ⟨.hbm, 73, rfl⟩
abbrev main_call2_v7 : Ref sig .tc := ⟨.hbm, 74, rfl⟩
abbrev main_v42_1 : Ref sig .tc := ⟨.hbm, 75, rfl⟩
abbrev main_v42_0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩

abbrev nD : Nat := 1
abbrev τ : Topo := Topo.v7x

variable {F : FTy → Type} [FloatOps F]
-- ==== Kernel3.lean ====
abbrev S16384x1024 : Shape := ⟨2, ![16384, 1024]⟩
abbrev S16x1024 : Shape := ⟨2, ![16, 1024]⟩
abbrev S1024x2816 : Shape := ⟨2, ![1024, 2816]⟩
abbrev S2816x1024 : Shape := ⟨2, ![2816, 1024]⟩
abbrev S16384x2816 : Shape := ⟨2, ![16384, 2816]⟩
abbrev S256x1024 : Shape := ⟨2, ![256, 1024]⟩
abbrev S256x2816 : Shape := ⟨2, ![256, 2816]⟩
abbrev S1x1024 : Shape := ⟨2, ![1, 1024]⟩
abbrev S256 : Shape := ⟨1, ![256]⟩
abbrev S256x1 : Shape := ⟨2, ![256, 1]⟩
abbrev S1024 : Shape := ⟨1, ![1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 13
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .hbm, ⟨10, _⟩ => ⟨S16x1024, .f32⟩
  | .hbm, ⟨11, _⟩ => ⟨S16384x2816, .bf16⟩
  | .hbm, ⟨12, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S16x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S16x1024 : Shape := ⟨2, ![16, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩

abbrev nBuf : Space → Nat
  | .hbm => 141
  | .vmem => 0
  | .smem => 0
  | _ => 0

abbrev hbmTy0_0 (i : Nat) : BufTy := match i % 128 with
  | 0 => ⟨S16384x1024, .f32⟩
  | 1 => ⟨S16384x1024, .f32⟩
  | 2 => ⟨S16x1024, .f32⟩
  | 3 => ⟨S1024x2816, .f32⟩
  | 4 => ⟨S1024x2816, .f32⟩
  | 5 => ⟨S2816x1024, .f32⟩
  | 6 => ⟨S1x1024, .f32⟩
  | 7 => ⟨S1024, .f32⟩
  | 8 => ⟨S1x1024, .f32⟩
  | 9 => ⟨S1024, .f32⟩
  | 10 => ⟨S_, .f32⟩
  | 11 => ⟨S1024, .f32⟩
  | 12 => ⟨S1024, .f32⟩
  | 13 => ⟨S1x1024, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S_, .f32⟩
  | 20 => ⟨S16384x1024, .f32⟩
  | 21 => ⟨S16384x1024, .f32⟩
  | 22 => ⟨S1x1024, .f32⟩
  | 23 => ⟨S1024, .f32⟩
  | 24 => ⟨S16384x2816, .f32⟩
  | 25 => ⟨S16384x2816, .f32⟩
  | 26 => ⟨S16384x2816, .f32⟩
  | 27 => ⟨S_, .f32⟩
  | 28 => ⟨S16384x2816, .f32⟩
  | 29 => ⟨S16384x2816, .f32⟩
  | 30 => ⟨S_, .f32⟩
  | 31 => ⟨S16384x2816, .f32⟩
  | 32 => ⟨S16384x2816, .f32⟩
  | 33 => ⟨S16384x2816, .f32⟩
  | 34 => ⟨S16384x2816, .f32⟩
  | 35 => ⟨S16384x2816, .f32⟩
  | 36 => ⟨S16384x1024, .f32⟩
  | 37 => ⟨S1x1024, .f32⟩
  | 38 => ⟨S16384x1024, .f32⟩
  | 39 => ⟨S16384x1024, .f32⟩
  | 40 => ⟨S16384x1024, .f32⟩
  | 41 => ⟨S1x1024, .f32⟩
  | 42 => ⟨S1024, .f32⟩
  | 43 => ⟨S1x1024, .f32⟩
  | 44 => ⟨S1024, .f32⟩
  | 45 => ⟨S_, .f32⟩
  | 46 => ⟨S16384, .f32⟩
  | 47 => ⟨S16384x1, .f32⟩
  | 48 => ⟨S_, .f32⟩
  | 49 => ⟨S16384x1, .f32⟩
  | 50 => ⟨S16384x1, .f32⟩
  | 51 => ⟨S16384x1024, .f32⟩
  | 52 => ⟨S16384x1024, .f32⟩
  | 53 => ⟨S16384x1024, .f32⟩
  | 54 => ⟨S_, .f32⟩
  | 55 => ⟨S16384x1024, .f32⟩
  | 56 => ⟨S16384x1024, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S16384x1024, .f32⟩
  | 64 => ⟨S16384x1024, .f32⟩
  | 65 => ⟨S_, .f32⟩
  | 66 => ⟨S16384x1, .f32⟩
  | 67 => ⟨S16384x1, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x1024, .f32⟩
  | 74 => ⟨S16384x1024, .f32⟩
  | 75 => ⟨S1x1024, .f32⟩
  | 76 => ⟨S16384x1024, .f32⟩
  | 77 => ⟨S16384x1024, .f32⟩
  | 78 => ⟨S1x1024, .f32⟩
  | 79 => ⟨S16384x1024, .f32⟩
  | 80 => ⟨S16384x1024, .f32⟩
  | 81 => ⟨S16384x1024, .f32⟩
  | 82 => ⟨S16384x1024, .f32⟩
  | 83 => ⟨S_, .f32⟩
  | 84 => ⟨S16384x1024, .f32⟩
  | 85 => ⟨S16384x1024, .f32⟩
  | 86 => ⟨S_, .f32⟩
  | 87 => ⟨S16384, .f32⟩
  | 88 => ⟨S_, .f32⟩
  | 89 => ⟨S16384, .f32⟩
  | 90 => ⟨S16384, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S16384, .f32⟩
  | 99 => ⟨S_, .f32⟩
  | 100 => ⟨S16384, .f32⟩
  | 101 => ⟨S16384, .f32⟩
  | 102 => ⟨S16384x1024, .f32⟩
  | 103 => ⟨S16384x1024, .f32⟩
  | 104 => ⟨S16384x1024, .f32⟩
  | 105 => ⟨S16384x1024, .f32⟩
  | 106 => ⟨S16384x1024, .f32⟩
  | 107 => ⟨S_, .f32⟩
  | 108 => ⟨S16384, .f32⟩
  | 109 => ⟨S16384x1, .f32⟩
  | 110 => ⟨S16384x1024, .f32⟩
  | 111 => ⟨S16384x1024, .f32⟩
  | 112 => ⟨S16384x1, .f32⟩
  | 113 => ⟨S16384x1024, .f32⟩
  | 114 => ⟨S_, .f32⟩
  | 115 => ⟨S16384, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384, .f32⟩
  | 122 => ⟨S16384x1024, .f32⟩
  | 123 => ⟨S16384x1024, .f32⟩
  | 124 => ⟨S16384x1024, .f32⟩
  | 125 => ⟨S_, .f32⟩
  | 126 => ⟨S16384, .f32⟩
  | 127 => ⟨S16384x1, .f32⟩
  | _ => ⟨S16384x1024, .f32⟩

abbrev hbmTy0_1 (i : Nat) : BufTy := match i % 128 with
  | 0 => ⟨S16384x1024, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384, .f32⟩
  | 7 => ⟨S16384x1024, .f32⟩
  | 8 => ⟨S16384x1024, .f32⟩
  | 9 => ⟨S16384x2816, .f32⟩
  | 10 => ⟨S16384x2816, .bf16⟩
  | 11 => ⟨S16384x2816, .f32⟩
  | 12 => ⟨S16384x2816, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_cst_13 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_20 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_v95 : Ref sig .tc := ⟨.hbm, 132, rfl⟩
abbrev main_cst_22 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]
-- ==== Kernel4.lean ====
abbrev S16384x1024 : Shape := ⟨2, ![16384, 1024]⟩
abbrev S16x1024 : Shape := ⟨2, ![16, 1024]⟩
abbrev S1024x3360 : Shape := ⟨2, ![1024, 3360]⟩
abbrev S5x1280 : Shape := ⟨2, ![5, 1280]⟩
abbrev S1280 : Shape := ⟨1, ![1280]⟩
abbrev S_ : Shape := ⟨0, ![]⟩
abbrev S1024x112 : Shape := ⟨2, ![1024, 112]⟩
abbrev S1024x2304 : Shape := ⟨2, ![1024, 2304]⟩
abbrev S1024x16 : Shape := ⟨2, ![1024, 16]⟩
abbrev S1024x1024 : Shape := ⟨2, ![1024, 1024]⟩
abbrev S1024x3584 : Shape := ⟨2, ![1024, 3584]⟩
abbrev S1x1280 : Shape := ⟨2, ![1, 1280]⟩
abbrev S2x1280 : Shape := ⟨2, ![2, 1280]⟩
abbrev S8x1280 : Shape := ⟨2, ![8, 1280]⟩
abbrev S16384x1280 : Shape := ⟨2, ![16384, 1280]⟩
abbrev S16384x256 : Shape := ⟨2, ![16384, 256]⟩
abbrev S256x1024 : Shape := ⟨2, ![256, 1024]⟩
abbrev S8x1024 : Shape := ⟨2, ![8, 1024]⟩
abbrev S256x1280 : Shape := ⟨2, ![256, 1280]⟩
abbrev S256x256 : Shape := ⟨2, ![256, 256]⟩
abbrev S272x1280 : Shape := ⟨2, ![272, 1280]⟩
abbrev S272x1024 : Shape := ⟨2, ![272, 1024]⟩
abbrev S1x1024 : Shape := ⟨2, ![1, 1024]⟩
abbrev S272x3584 : Shape := ⟨2, ![272, 3584]⟩

abbrev nBuf : Space → Nat
  | .hbm => 24
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1024x3360, .f32⟩
  | .hbm, ⟨3, _⟩ => ⟨S5x1280, .f32⟩
  | .hbm, ⟨4, _⟩ => ⟨S1280, .f32⟩
  | .hbm, ⟨5, _⟩ => ⟨S1024x3360, .bf16⟩
  | .hbm, ⟨6, _⟩ => ⟨S_, .bf16⟩
  | .hbm, ⟨7, _⟩ => ⟨S1024x112, .bf16⟩
  | .hbm, ⟨8, _⟩ => ⟨S1024x2304, .bf16⟩
  | .hbm, ⟨9, _⟩ => ⟨S1024x16, .bf16⟩
  | .hbm, ⟨10, _⟩ => ⟨S1024x16, .bf16⟩
  | .hbm, ⟨11, _⟩ => ⟨S1024x1024, .bf16⟩
  | .hbm, ⟨12, _⟩ => ⟨S1024x3584, .bf16⟩
  | .hbm, ⟨13, _⟩ => ⟨S1x1280, .f32⟩
  | .hbm, ⟨14, _⟩ => ⟨S_, .f32⟩
  | .hbm, ⟨15, _⟩ => ⟨S2x1280, .f32⟩
  | .hbm, ⟨16, _⟩ => ⟨S8x1280, .f32⟩
  | .hbm, ⟨17, _⟩ => ⟨S16384x1024, .bf16⟩
  | .hbm, ⟨18, _⟩ => ⟨S16384x1024, .f32⟩
  | .hbm, ⟨19, _⟩ => ⟨S16384x1280, .f32⟩
  | .hbm, ⟨20, _⟩ => ⟨S16384x1280, .f32⟩
  | .hbm, ⟨21, _⟩ => ⟨S16384x1280, .f32⟩
  | .hbm, ⟨22, _⟩ => ⟨S16384x256, .f32⟩
  | .hbm, ⟨23, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S16x1024, .f32⟩
  | .local _ .vmem, ⟨7, _⟩ => ⟨S1024x3584, .bf16⟩
  | .local _ .vmem, ⟨8, _⟩ => ⟨S8x1280, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | .local _ .vmem, ⟨16, _⟩ => ⟨S256x1280, .f32⟩
  | .local _ .vmem, ⟨17, _⟩ => ⟨S256x1280, .f32⟩
  | .local _ .vmem, ⟨18, _⟩ => ⟨S256x1280, .f32⟩
  | .local _ .vmem, ⟨19, _⟩ => ⟨S256x256, .f32⟩
  | .local _ .vmem, ⟨20, _⟩ => ⟨S256x256, .f32⟩
  | .local _ .vmem, ⟨21, _⟩ => ⟨S256x1024, .f32⟩
  | .local _ .vmem, ⟨22, _⟩ => ⟨S256x1024, .f32⟩
  | .local _ .vmem, ⟨23, _⟩ => ⟨S272x1280, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev main_v10_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S16x1024 : Shape := ⟨2, ![16, 1024]⟩
abbrev S1024x3360 : Shape := ⟨2, ![1024, 3360]⟩
abbrev S5x1280 : Shape := ⟨2, ![5, 1280]⟩
abbrev S1280 : Shape := ⟨1, ![1280]⟩
abbrev S1x1024 : Shape := ⟨2, ![1, 1024]⟩
abbrev S1024 : Shape := ⟨1, ![1024]⟩
abbrev S_ : Shape := ⟨0, ![]⟩
abbrev S16384x3360 : Shape := ⟨2, ![16384, 3360]⟩
abbrev S16384x1280 : Shape := ⟨2, ![16384, 1280]⟩
abbrev S16384x32 : Shape := ⟨2, ![16384, 32]⟩
abbrev S16388x1280 : Shape := ⟨2, ![16388, 1280]⟩
abbrev S1x1280 : Shape := ⟨2, ![1, 1280]⟩
abbrev S16384x112 : Shape := ⟨2, ![16384, 112]⟩
abbrev S16384x16 : Shape := ⟨2, ![16384, 16]⟩
abbrev S16384x256 : Shape := ⟨2, ![16384, 256]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1024x3360, .f32⟩
  | .hbm, ⟨3, _⟩ => ⟨S5x1280, .f32⟩
  | .hbm, ⟨4, _⟩ => ⟨S1280, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x3360, .f32⟩
  | .hbm, ⟨19, _⟩ => ⟨S16384x1024, .f32⟩
  | .hbm, ⟨20, _⟩ => ⟨S16384x1280, .f32⟩
  | .hbm, ⟨21, _⟩ => ⟨S16384x32, .f32⟩
  | .hbm, ⟨22, _⟩ => ⟨S16384x1024, .f32⟩
  | .hbm, ⟨23, _⟩ => ⟨S_, .i32⟩
  | .hbm, ⟨24, _⟩ => ⟨S_, .f32⟩
  | .hbm, ⟨25, _⟩ => ⟨S16388x1280, .f32⟩
  | .hbm, ⟨26, _⟩ => ⟨S1x1280, .f32⟩
  | .hbm, ⟨27, _⟩ => ⟨S1280, .f32⟩
  | .hbm, ⟨28, _⟩ => ⟨S16384x1280, .f32⟩
  | .hbm, ⟨29, _⟩ => ⟨S1x1280, .f32⟩
  | .hbm, ⟨30, _⟩ => ⟨S16384x1280, .f32⟩
  | .hbm, ⟨31, _⟩ => ⟨S16384x1280, .f32⟩
  | .hbm, ⟨32, _⟩ => ⟨S_, .f32⟩
  | .hbm, ⟨33, _⟩ => ⟨S16384x1280, .f32⟩
  | .hbm, ⟨34, _⟩ => ⟨S16384x1280, .f32⟩
  | .hbm, ⟨35, _⟩ => ⟨S1x1280, .f32⟩
  | .hbm, ⟨36, _⟩ => ⟨S1280, .f32⟩
  | .hbm, ⟨37, _⟩ => ⟨S16384x1280, .f32⟩
  | .hbm, ⟨38, _⟩ => ⟨S1x1280, .f32⟩
  | .hbm, ⟨39, _⟩ => ⟨S16384x1280, .f32⟩
  | .hbm, ⟨40, _⟩ => ⟨S16384x1280, .f32⟩
  | .hbm, ⟨41, _⟩ => ⟨S16384x1280, .f32⟩
  | .hbm, ⟨42, _⟩ => ⟨S1x1280, .f32⟩
  | .hbm, ⟨43, _⟩ => ⟨S1280, .f32⟩
  | .hbm, ⟨44, _⟩ => ⟨S16384x1280, .f32⟩
  | .hbm, ⟨45, _⟩ => ⟨S1x1280, .f32⟩
  | .hbm, ⟨46, _⟩ => ⟨S16384x1280, .f32⟩
  | .hbm, ⟨47, _⟩ => ⟨S16384x1280, .f32⟩
  | .hbm, ⟨48, _⟩ => ⟨S16384x1280, .f32⟩
  | .hbm, ⟨49, _⟩ => ⟨S1x1280, .f32⟩
  | .hbm, ⟨50, _⟩ => ⟨S1280, .f32⟩
  | .hbm, ⟨51, _⟩ => ⟨S16384x1280, .f32⟩
  | .hbm, ⟨52, _⟩ => ⟨S1x1280, .f32⟩
  | .hbm, ⟨53, _⟩ => ⟨S16384x1280, .f32⟩
  | .hbm, ⟨54, _⟩ => ⟨S16384x1280, .f32⟩
  | .hbm, ⟨55, _⟩ => ⟨S16384x1280, .f32⟩
  | .hbm, ⟨56, _⟩ => ⟨S1x1280, .f32⟩
  | .hbm, ⟨57, _⟩ => ⟨S1280, .f32⟩
  | .hbm, ⟨58, _⟩ => ⟨S16384x1280, .f32⟩
  | .hbm, ⟨59, _⟩ => ⟨S1x1280, .f32⟩
  | .hbm, ⟨60, _⟩ => ⟨S16384x1280, .f32⟩
  | .hbm, ⟨61, _⟩ => ⟨S16384x1280, .f32⟩
  | .hbm, ⟨62, _⟩ => ⟨S16384x1280, .f32⟩
  | .hbm, ⟨63, _⟩ => ⟨S1x1280, .f32⟩
  | .hbm, ⟨64, _⟩ => ⟨S16384x1280, .f32⟩
  | .hbm, ⟨65, _⟩ => ⟨S16384x1280, .f32⟩
  | .hbm, ⟨66, _⟩ => ⟨S_, .f32⟩
  | .hbm, ⟨67, _⟩ => ⟨S16384x112, .f32⟩
  | .hbm, ⟨68, _⟩ => ⟨S16384x1024, .bf16⟩
  | .hbm, ⟨69, _⟩ => ⟨S16384x1280, .f32⟩
  | .hbm, ⟨70, _⟩ => ⟨S16384x1280, .f32⟩
  | .hbm, ⟨71, _⟩ => ⟨S_, .f32⟩
  | .hbm, ⟨72, _⟩ => ⟨S16384x1280, .f32⟩
  | .hbm, ⟨73, _⟩ => ⟨S16384x1280, .f32⟩
  | .hbm, ⟨74, _⟩ => ⟨S_, .f32⟩
  | .hbm, ⟨75, _⟩ => ⟨S16384x1280, .f32⟩
  | .hbm, ⟨76, _⟩ => ⟨S16384x1280, .f32⟩
  | .hbm, ⟨77, _⟩ => ⟨S16384x1280, .f32⟩
  | .hbm, ⟨78, _⟩ => ⟨S16384x16, .f32⟩
  | .hbm, ⟨79, _⟩ => ⟨S16384x16, .f32⟩
  | .hbm, ⟨80, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_1 : Ref sig .tc := ⟨.hbm, 66, rfl⟩
abbrev main_v57 : Ref sig .tc := ⟨.hbm, 67, rfl⟩
abbrev main_v58 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel5.lean ====
abbrev S16384x1280 : Shape := ⟨2, ![16384, 1280]⟩
abbrev S5x1280 : Shape := ⟨2, ![5, 1280]⟩
abbrev S1280 : Shape := ⟨1, ![1280]⟩
abbrev S16384x1024 : Shape := ⟨2, ![16384, 1024]⟩
abbrev S16384x32 : Shape := ⟨2, ![16384, 32]⟩
abbrev S16x1024 : Shape := ⟨2, ![16, 1024]⟩
abbrev S1024x3360 : Shape := ⟨2, ![1024, 3360]⟩
abbrev S_ : Shape := ⟨0, ![]⟩
abbrev S1024x112 : Shape := ⟨2, ![1024, 112]⟩
abbrev S1024x2304 : Shape := ⟨2, ![1024, 2304]⟩
abbrev S1024x16 : Shape := ⟨2, ![1024, 16]⟩
abbrev S1024x1024 : Shape := ⟨2, ![1024, 1024]⟩
abbrev S1024x3584 : Shape := ⟨2, ![1024, 3584]⟩
abbrev S1x1280 : Shape := ⟨2, ![1, 1280]⟩
abbrev S2x1280 : Shape := ⟨2, ![2, 1280]⟩
abbrev S8x1280 : Shape := ⟨2, ![8, 1280]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S16384x16 : Shape := ⟨2, ![16384, 16]⟩
abbrev S16384x128 : Shape := ⟨2, ![16384, 128]⟩
abbrev S256x1280 : Shape := ⟨2, ![256, 1280]⟩
abbrev S256x1024 : Shape := ⟨2, ![256, 1024]⟩
abbrev S256x128 : Shape := ⟨2, ![256, 128]⟩
abbrev S272x1280 : Shape := ⟨2, ![272, 1280]⟩
abbrev S256x3584 : Shape := ⟨2, ![256, 3584]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩

abbrev nBuf : Space → Nat
  | .hbm => 82
  | .vmem => 28
  | .smem => 0
  | _ => 0

abbrev bufTy : (tb : Table) → Fin (tcTables nBuf tb) → BufTy
  | .hbm, ⟨0, _⟩ => ⟨S16384x1280, .f32⟩
  | .hbm, ⟨1, _⟩ => ⟨S5x1280, .f32⟩
  | .hbm, ⟨2, _⟩ => ⟨S1280, .f32⟩
  | .hbm, ⟨3, _⟩ => ⟨S16384x1024, .f32⟩
  | .hbm, ⟨4, _⟩ => ⟨S16384x32, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16x1024, .f32⟩
  | .hbm, ⟨9, _⟩ => ⟨S1024x3360, .f32⟩
  | .hbm, ⟨10, _⟩ => ⟨S1024x3360, .bf16⟩
  | .hbm, ⟨11, _⟩ => ⟨S_, .bf16⟩
  | .hbm, ⟨12, _⟩ => ⟨S1024x112, .bf16⟩
  | .hbm, ⟨13, _⟩ => ⟨S1024x2304, .bf16⟩
  | .hbm, ⟨14, _⟩ => ⟨S1024x16, .bf16⟩
  | .hbm, ⟨15, _⟩ => ⟨S1024x16, .bf16⟩
  | .hbm, ⟨16, _⟩ => ⟨S1024x1024, .bf16⟩
  | .hbm, ⟨17, _⟩ => ⟨S1024x3584, .bf16⟩
  | .hbm, ⟨18, _⟩ => ⟨S1x1280, .f32⟩
  | .hbm, ⟨19, _⟩ => ⟨S_, .f32⟩
  | .hbm, ⟨20, _⟩ => ⟨S2x1280, .f32⟩
  | .hbm, ⟨21, _⟩ => ⟨S8x1280, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .bf16⟩
  | .hbm, ⟨69, _⟩ => ⟨S16384x16, .f32⟩
  | .hbm, ⟨70, _⟩ => ⟨S_, .i32⟩
  | .hbm, ⟨71, _⟩ => ⟨S_, .f32⟩
  | .hbm, ⟨72, _⟩ => ⟨S16384x128, .f32⟩
  | .hbm, ⟨73, _⟩ => ⟨S16384x16, .f32⟩
  | .hbm, ⟨74, _⟩ => ⟨S_, .i32⟩
  | .hbm, ⟨75, _⟩ => ⟨S_, .f32⟩
  | .hbm, ⟨76, _⟩ => ⟨S16384x128, .f32⟩
  | .hbm, ⟨77, _⟩ => ⟨S_, .f32⟩
  | .hbm, ⟨78, _⟩ => ⟨S1024x3584, .f32⟩
  | .hbm, ⟨79, _⟩ => ⟨S16384x1024, .f32⟩
  | .hbm, ⟨80, _⟩ => ⟨S16x1024, .f32⟩
  | .hbm, ⟨81, _⟩ => ⟨S1024x3584, .f32⟩
  | .local _ .vmem, ⟨0, _⟩ => ⟨S256x1280, .f32⟩
  | .local _ .vmem, ⟨1, _⟩ => ⟨S256x1280, .f32⟩
  | .local _ .vmem, ⟨2, _⟩ => ⟨S8x1280, .f32⟩
  | .local _ .vmem, ⟨3, _⟩ => ⟨S8x1280, .f32⟩
  | .local _ .vmem, ⟨4, _⟩ => ⟨S8x1280, .f32⟩
  | .local _ .vmem, ⟨5, _⟩ => ⟨S8x1280, .f32⟩
  | .local _ .vmem, ⟨6, _⟩ => ⟨S8x1280, .f32⟩
  | .local _ .vmem, ⟨7, _⟩ => ⟨S256x1024, .f32⟩
  | .local _ .vmem, ⟨8, _⟩ => ⟨S256x1024, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S16x1024, .f32⟩
  | .local _ .vmem, ⟨22, _⟩ => ⟨S1024x3584, .bf16⟩
  | .local _ .vmem, ⟨23, _⟩ => ⟨S256x1024, .f32⟩
  | .local _ .vmem, ⟨24, _⟩ => ⟨S256x1024, .f32⟩
  | .local _ .vmem, ⟨25, _⟩ => ⟨S16x1024, .f32⟩
  | .local _ .vmem, ⟨26, _⟩ => ⟨S1024x3584, .f32⟩
  | .local _ .vmem, ⟨27, _⟩ => ⟨S272x1280, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c : Ref sig .tc := ⟨.hbm, 70, rfl⟩
abbrev main_call0_v0 : Ref sig .tc := ⟨.hbm, 71, rfl⟩
abbrev main_v52 : Ref sig .tc := ⟨.hbm, 72, rfl⟩
abbrev main_v53 : Ref sig .tc := ⟨.hbm, 73, rfl⟩
abbrev main_c_7 : Ref sig .tc := ⟨.hbm, 74, rfl⟩
abbrev main_call1_v0 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56_0 : Ref sig .tc := ⟨.hbm, 79, rfl⟩
abbrev main_v56_1 : Ref sig .tc := ⟨.hbm, 80, rfl⟩
abbrev main_v56_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x3584 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S16384x1280 : Shape := ⟨2, ![16384, 1280]⟩
abbrev S5x1280 : Shape := ⟨2, ![5, 1280]⟩
abbrev S1280 : Shape := ⟨1, ![1280]⟩
abbrev S16384x1024 : Shape := ⟨2, ![16384, 1024]⟩
abbrev S16384x32 : Shape := ⟨2, ![16384, 32]⟩
abbrev S16x1024 : Shape := ⟨2, ![16, 1024]⟩
abbrev S1024x3360 : Shape := ⟨2, ![1024, 3360]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x3360 : Shape := ⟨2, ![16384, 3360]⟩
abbrev S2x1280 : Shape := ⟨2, ![2, 1280]⟩
abbrev S16388x1280 : Shape := ⟨2, ![16388, 1280]⟩
abbrev S1x1280 : Shape := ⟨2, ![1, 1280]⟩
abbrev S3360x1024 : Shape := ⟨2, ![3360, 1024]⟩
abbrev S1024x112 : Shape := ⟨2, ![1024, 112]⟩
abbrev S1024x2320 : Shape := ⟨2, ![1024, 2320]⟩
abbrev S1024x16 : Shape := ⟨2, ![1024, 16]⟩
abbrev S1024x1024 : Shape := ⟨2, ![1024, 1024]⟩
abbrev S1024x3584 : Shape := ⟨2, ![1024, 3584]⟩

abbrev nBuf : Space → Nat
  | .hbm => 200
  | .vmem => 0
  | .smem => 0
  | _ => 0

abbrev hbmTy0_0 (i : Nat) : BufTy := match i % 128 with
  | 0 => ⟨S16384x1280, .f32⟩
  | 1 => ⟨S5x1280, .f32⟩
  | 2 => ⟨S1280, .f32⟩
  | 3 => ⟨S16384x1024, .f32⟩
  | 4 => ⟨S16384x32, .f32⟩
  | 5 => ⟨S16384x1024, .f32⟩
  | 6 => ⟨S16384x1024, .f32⟩
  | 7 => ⟨S16384x1024, .f32⟩
  | 8 => ⟨S16x1024, .f32⟩
  | 9 => ⟨S1024x3360, .f32⟩
  | 10 => ⟨S1x1024, .f32⟩
  | 11 => ⟨S1024, .f32⟩
  | 12 => ⟨S1x1024, .f32⟩
  | 13 => ⟨S1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S16384x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1024, .f32⟩
  | 33 => ⟨S16384x1024, .f32⟩
  | 34 => ⟨S_, .f32⟩
  | 35 => ⟨S16384x1, .f32⟩
  | 36 => ⟨S16384x1, .f32⟩
  | 37 => ⟨S16384x1, .f32⟩
  | 38 => ⟨S16384x1, .f32⟩
  | 39 => ⟨S_, .f32⟩
  | 40 => ⟨S16384x1, .f32⟩
  | 41 => ⟨S16384x1, .f32⟩
  | 42 => ⟨S16384x1024, .f32⟩
  | 43 => ⟨S16384x1024, .f32⟩
  | 44 => ⟨S1x1024, .f32⟩
  | 45 => ⟨S16384x1024, .f32⟩
  | 46 => ⟨S16384x1024, .f32⟩
  | 47 => ⟨S1x1024, .f32⟩
  | 48 => ⟨S16384x1024, .f32⟩
  | 49 => ⟨S16384x1024, .f32⟩
  | 50 => ⟨S1x1024, .f32⟩
  | 51 => ⟨S1024, .f32⟩
  | 52 => ⟨S1x1024, .f32⟩
  | 53 => ⟨S1024, .f32⟩
  | 54 => ⟨S_, .f32⟩
  | 55 => ⟨S1024, .f32⟩
  | 56 => ⟨S1024, .f32⟩
  | 57 => ⟨S1x1024, .f32⟩
  | 58 => ⟨S16384x1024, .f32⟩
  | 59 => ⟨S16384x1024, .f32⟩
  | 60 => ⟨S1x1024, .f32⟩
  | 61 => ⟨S16384x1024, .f32⟩
  | 62 => ⟨S16384x1024, .f32⟩
  | 63 => ⟨S16384x3360, .f32⟩
  | 64 => ⟨S16384x1024, .f32⟩
  | 65 => ⟨S16384x1280, .f32⟩
  | 66 => ⟨S16384x32, .f32⟩
  | 67 => ⟨S16384x1024, .f32⟩
  | 68 => ⟨S_, .f32⟩
  | 69 => ⟨S2x1280, .f32⟩
  | 70 => ⟨S16388x1280, .f32⟩
  | 71 => ⟨S_, .f32⟩
  | 72 => ⟨S2x1280, .f32⟩
  | 73 => ⟨S_, .f32⟩
  | 74 => ⟨S2x1280, .f32⟩
  | 75 => ⟨S1x1280, .f32⟩
  | 76 => ⟨S1280, .f32⟩
  | 77 => ⟨S16384x1280, .f32⟩
  | 78 => ⟨S1x1280, .f32⟩
  | 79 => ⟨S16384x1280, .f32⟩
  | 80 => ⟨S16384x1280, .f32⟩
  | 81 => ⟨S_, .f32⟩
  | 82 => ⟨S16384x1280, .f32⟩
  | 83 => ⟨S16384x1280, .f32⟩
  | 84 => ⟨S1x1280, .f32⟩
  | 85 => ⟨S1280, .f32⟩
  | 86 => ⟨S16384x1280, .f32⟩
  | 87 => ⟨S1x1280, .f32⟩
  | 88 => ⟨S16384x1280, .f32⟩
  | 89 => ⟨S16384x1280, .f32⟩
  | 90 => ⟨S16384x1280, .f32⟩
  | 91 => ⟨S1x1280, .f32⟩
  | 92 => ⟨S1280, .f32⟩
  | 93 => ⟨S16384x1280, .f32⟩
  | 94 => ⟨S1x1280, .f32⟩
  | 95 => ⟨S16384x1280, .f32⟩
  | 96 => ⟨S16384x1280, .f32⟩
  | 97 => ⟨S16384x1280, .f32⟩
  | 98 => ⟨S1x1280, .f32⟩
  | 99 => ⟨S1280, .f32⟩
  | 100 => ⟨S16384x1280, .f32⟩
  | 101 => ⟨S1x1280, .f32⟩
  | 102 => ⟨S16384x1280, .f32⟩
  | 103 => ⟨S16384x1280, .f32⟩
  | 104 => ⟨S16384x1280, .f32⟩
  | 105 => ⟨S1x1280, .f32⟩
  | 106 => ⟨S1280, .f32⟩
  | 107 => ⟨S16384x1280, .f32⟩
  | 108 => ⟨S1x1280, .f32⟩
  | 109 => ⟨S16384x1280, .f32⟩
  | 110 => ⟨S16384x1280, .f32⟩
  | 111 => ⟨S16384x1280, .f32⟩
  | 112 => ⟨S1x1280, .f32⟩
  | 113 => ⟨S16384x1280, .f32⟩
  | 114 => ⟨S16384x1280, .f32⟩
  | 115 => ⟨S16384x1280, .f32⟩
  | 116 => ⟨S16384x1280, .f32⟩
  | 117 => ⟨S16384x1280, .f32⟩
  | 118 => ⟨S16384x1280, .f32⟩
  | 119 => ⟨S_, .f32⟩
  | 120 => ⟨S16388x1280, .f32⟩
  | 121 => ⟨S16384x1280, .f32⟩
  | 122 => ⟨S16384x1280, .f32⟩
  | 123 => ⟨S_, .f32⟩
  | 124 => ⟨S16388x1280, .f32⟩
  | 125 => ⟨S16388x1280, .f32⟩
  | 126 => ⟨S16384x1280, .f32⟩
  | 127 => ⟨S16384x1280, .f32⟩
  | _ => ⟨S16384x1280, .f32⟩

abbrev hbmTy0_1 (i : Nat) : BufTy := match i % 128 with
  | 0 => ⟨S_, .f32⟩
  | 1 => ⟨S16388x1280, .f32⟩
  | 2 => ⟨S16388x1280, .f32⟩
  | 3 => ⟨S16384x1280, .f32⟩
  | 4 => ⟨S16384x1280, .f32⟩
  | 5 => ⟨S_, .f32⟩
  | 6 => ⟨S16388x1280, .f32⟩
  | 7 => ⟨S16388x1280, .f32⟩
  | 8 => ⟨S16384x1280, .f32⟩
  | 9 => ⟨S16384x1280, .f32⟩
  | 10 => ⟨S_, .f32⟩
  | 11 => ⟨S16388x1280, .f32⟩
  | 12 => ⟨S16388x1280, .f32⟩
  | 13 => ⟨S2x1280, .f32⟩
  | 14 => ⟨S16384x1280, .f32⟩
  | 15 => ⟨S2x1280, .f32⟩
  | 16 => ⟨S_, .f32⟩
  | 17 => ⟨S16384x3360, .f32⟩
  | 18 => ⟨S_, .f32⟩
  | 19 => ⟨S16384x3360, .f32⟩
  | 20 => ⟨S16384x3360, .f32⟩
  | 21 => ⟨S_, .f32⟩
  | 22 => ⟨S16384x3360, .f32⟩
  | 23 => ⟨S16384x3360, .f32⟩
  | 24 => ⟨S_, .f32⟩
  | 25 => ⟨S16384x3360, .f32⟩
  | 26 => ⟨S16384x3360, .f32⟩
  | 27 => ⟨S3360x1024, .f32⟩
  | 28 => ⟨S1024x3360, .f32⟩
  | 29 => ⟨S16384x1024, .f32⟩
  | 30 => ⟨S16384x1024, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S_, .f32⟩
  | 37 => ⟨S16384, .f32⟩
  | 38 => ⟨S16384x1, .f32⟩
  | 39 => ⟨S16384x1024, .f32⟩
  | 40 => ⟨S16384x1024, .f32⟩
  | 41 => ⟨S16384x1, .f32⟩
  | 42 => ⟨S16384x1024, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384, .f32⟩
  | 51 => ⟨S16384x1024, .f32⟩
  | 52 => ⟨S16384x1024, .f32⟩
  | 53 => ⟨S16384x1024, .f32⟩
  | 54 => ⟨S_, .f32⟩
  | 55 => ⟨S16384, .f32⟩
  | 56 => ⟨S16384x1, .f32⟩
  | 57 => ⟨S16384x1024, .f32⟩
  | 58 => ⟨S16384x1, .f32⟩
  | 59 => ⟨S_, .f32⟩
  | 60 => ⟨S16384x1, .f32⟩
  | 61 => ⟨S16384x1, .f32⟩
  | 62 => ⟨S_, .f32⟩
  | 63 => ⟨S16384, .f32⟩
  | 64 => ⟨S16384x1024, .f32⟩
  | 65 => ⟨S16384x1024, .f32⟩
  | 66 => ⟨S_, .f32⟩
  | 67 => ⟨S1024x112, .f32⟩
  | 68 => ⟨S1024x2320, .f32⟩
  | 69 => ⟨S1024x16, .f32⟩
  | 70 => ⟨S1024x1024, .f32⟩
  | 71 => ⟨S1024x3584, .f32⟩
  | _ => ⟨S16384x1280, .f32⟩

abbrev hbmTy (i : Nat) : BufTy := match i / 128 with
  | 0 => hbmTy0_0 i
  | 1 => hbmTy0_1 i
  | _ => ⟨S16384x1280, .f32⟩

abbrev bufTy : (tb : Table) → Fin (tcTables nBuf tb) → BufTy
  | .hbm, ⟨i, _⟩ => hbmTy i
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_11 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_12 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_13 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_14 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_15 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_16 : Ref sig .tc := ⟨.hbm, 144, rfl⟩
abbrev main_v117 : Ref sig .tc := ⟨.hbm, 145, rfl⟩
abbrev main_cst_17 : Ref sig .tc := ⟨.hbm, 146, rfl⟩
abbrev main_v118 : Ref sig .tc := ⟨.hbm, 147, rfl⟩
abbrev main_v119 : Ref sig .tc := ⟨.hbm, 148, rfl⟩
abbrev main_cst_18 : Ref sig .tc := ⟨.hbm, 149, rfl⟩
abbrev main_v120 : Ref sig .tc := ⟨.hbm, 150, rfl⟩
abbrev main_v121 : Ref sig .tc := ⟨.hbm, 151, rfl⟩
abbrev main_cst_19 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_20 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_21 : Ref sig .tc := ⟨.hbm, 171, rfl⟩
abbrev main_v139 : Ref sig .tc := ⟨.hbm, 172, rfl⟩
abbrev main_v140 : Ref sig .tc := ⟨.hbm, 173, rfl⟩
abbrev main_cst_22 : Ref sig .tc := ⟨.hbm, 174, rfl⟩
abbrev main_v141 : Ref sig .tc := ⟨.hbm, 175, rfl⟩
abbrev main_v142 : Ref sig .tc := ⟨.hbm, 176, rfl⟩
abbrev main_cst_23 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_24 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_cst_25 : Ref sig .tc := ⟨.hbm, 187, rfl⟩
abbrev main_v151 : Ref sig .tc := ⟨.hbm, 188, rfl⟩
abbrev main_v152 : Ref sig .tc := ⟨.hbm, 189, rfl⟩
abbrev main_cst_26 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_cst_27 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩

abbrev nD : Nat := 1
abbrev τ : Topo := Topo.v7x

variable {F : FTy → Type} [FloatOps F]
-- ==== Proof.ScanSums.lean ====
module

public import Mathlib.Analysis.SpecialFunctions.Exp
public import Mathlib.Analysis.SpecialFunctions.Log.Basic
public import Mathlib.Data.EReal.Operations

@[expose] public section

/-!
# The state gradient of a decaying scan, whole and by chunks

`α j` is the logarithm of the decay of step `j`, `u i` what step `i` sends back to the state before it, `g` the gradient
that arrives at the state after the last step.  `back u α g T m` is the gradient that arrives at the state before step `m`
of `T`: every later step's contribution, decayed over the steps in between.  `back_zero` is the whole sum, as a scan
without chunks has it; `back_chunk` is the recurrence over a chunk of `q` steps.
-/

namespace Cert.Scan

open Finset

/-- The sum of the first `n` logarithms of decays. -/
noncomputable def cum (α : ℕ → ℝ) (n : ℕ) : ℝ := ∑ j ∈ range n, α j

/-- The gradient at the state before step `m` of `T`. -/
noncomputable def back (u α : ℕ → ℝ) (g : ℝ) (T m : ℕ) : ℝ :=
  ∑ i ∈ range (T - m), u (m + i) * Real.exp (cum α (m + i + 1) - cum α m) + g * Real.exp (cum α T - cum α m)

/-- The gradient at the state after the last step is the one that arrives there. -/
theorem back_last (u α : ℕ → ℝ) (g : ℝ) (T : ℕ) : back u α g T T = g := by simp [back]

/-- The gradient at the state before the first step. -/
theorem back_zero (u α : ℕ → ℝ) (g : ℝ) (T : ℕ) :
    back u α g T 0 = ∑ i ∈ range T, u i * Real.exp (cum α (i + 1)) + g * Real.exp (cum α T) := by
  simp [back, cum]

/-- A difference of cumulative sums is the sum of the steps between. -/
theorem cum_sub (α : ℕ → ℝ) (m n : ℕ) : cum α (m + n) - cum α m = ∑ j ∈ range n, α (m + j) := by
  rw [cum, cum, sum_range_add, add_sub_cancel_left]

/-- The gradient before a chunk of `q` steps, from the gradient after it. -/
theorem back_chunk (u α : ℕ → ℝ) (g : ℝ) (T m q : ℕ) (h : m + q ≤ T) :
    back u α g T m = ∑ i ∈ range q, u (m + i) * Real.exp (∑ j ∈ range (i + 1), α (m + j))
      + back u α g T (m + q) * Real.exp (∑ j ∈ range q, α (m + j)) := by
  obtain ⟨d, rfl⟩ := Nat.exists_eq_add_of_le h
  have e1 : m + q + d - m = q + d := by omega
  have e2 : m + q + d - (m + q) = d := by omega
  unfold back
  rw [e1, e2, sum_range_add, ← cum_sub α m q, add_mul, sum_mul, mul_assoc g, ← Real.exp_add, ← add_assoc]
  congr 1
  · congr 1
    · refine sum_congr rfl fun i _ => ?_
      rw [← cum_sub α m (i + 1), add_assoc m i 1]
    · refine sum_congr rfl fun i _ => ?_
      rw [mul_assoc, ← Real.exp_add, ← add_assoc m q i]
      congr 2
      ring
  · congr 2
    ring

/-- The sum over a reversed run. -/
theorem sum_range_rev (f : ℕ → ℝ) (n : ℕ) : ∑ i ∈ range n, f (n - 1 - i) = ∑ i ∈ range n, f i := sum_range_reflect f n

/-- The partial sum of a reversed chunk is the sum of the chunk's tail. -/
theorem sum_rev_tail (β : ℕ → ℝ) (q r : ℕ) (hr : r < q) :
    ∑ j ∈ range (q - 1 - r + 1), β (q - 1 - j) = ∑ j ∈ range q, if r ≤ j then β j else 0 := by
  rw [← sum_filter, ← sum_range_reflect]
  refine sum_bij (fun j _ => q - 1 - (q - 1 - r + 1 - 1 - j)) (fun j hj => ?_) (fun a ha b hb hab => ?_) (fun b hb => ?_) (fun j hj => rfl)
  · simp only [mem_range] at hj
    simp only [mem_filter, mem_range]
    omega
  · simp only [mem_range] at ha hb
    omega
  · simp only [mem_filter, mem_range] at hb
    exact ⟨b - r, by simp only [mem_range]; omega, by omega⟩

/-- A partial sum as a sum over the whole chunk with a mask. -/
theorem sum_head (β : ℕ → ℝ) (q r : ℕ) (hr : r < q) :
    ∑ j ∈ range (r + 1), β j = ∑ j ∈ range q, if j ≤ r then β j else 0 := by
  rw [← sum_filter]
  refine sum_congr (Finset.ext fun j => ?_) fun _ _ => rfl
  simp only [mem_filter, mem_range]
  omega

/-- A sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

end Cert.Scan

end
-- ==== Proof.Spec.lean ====
module

public import proofs.«01_k».proof.Proof.ScanSums
public import Idealize.ShloMosaic.Lib.Pointwise

@[expose] public section

/-!
# What the state gradient of the bidirectional scan is, over the real numbers

The arrays of the call as functions of natural indices: `x` the rates before the softplus (32 columns: 16 heads forward,
16 backward), `b` their bias, `al` the logarithms of the decay rates.  `logDecay d i h` is the logarithm of the decay of
step `i` in head `h` of direction `d`; direction 1 runs through the sequence backwards (`pos`).
-/

namespace Cert.Scan

open Finset Idealize.ShloMosaic

/-- The softplus, written so that the exponential does not overflow. -/
noncomputable def softplus (v : ℝ) : ℝ := max v 0 + Real.log (1 + Real.exp (-|v|))

/-- The softplus of a real number at exact arithmetic. -/
theorem softplus_coe (v : ℝ) :
    max (v : EReal) 0 + Ideal.log (1 + Ideal.exp (-(max (v : EReal) (-(v : EReal))))) = (softplus v : ℝ) := by
  have h1 : max (v : EReal) (-(v : EReal)) = ((|v| : ℝ) : EReal) := by
    rw [← EReal.coe_neg, ← EReal.coe_strictMono.monotone.map_max, abs]
  have h2 : ¬ (1 + Real.exp (-|v|) ≤ 0) := not_le.mpr (by positivity)
  rw [h1, ← EReal.coe_neg, Ideal.exp_coe, ← EReal.coe_one, ← EReal.coe_add, Ideal.log_coe, if_neg h2, ← EReal.coe_zero,
    ← EReal.coe_strictMono.monotone.map_max, ← EReal.coe_add]
  rfl

/-- The rate of step `i` in head `h` of direction `d`. -/
noncomputable def rate (x b : ℕ → ℕ → ℝ) (d i h : ℕ) : ℝ := softplus (x i (16 * d + h) + b d h)

/-- The logarithm of the decay of step `i` in head `h` of direction `d`. -/
noncomputable def logDecay (x b al : ℕ → ℕ → ℝ) (d i h : ℕ) : ℝ := rate x b d i h * -(Real.exp (al d h))

/-- The place in the sequence of the `i`-th step of direction `d`. -/
def pos (d i : ℕ) : ℕ := if d = 0 then i else 16383 - i

/-- The gradient of the state of direction `d` before its step `m`, at row `p` (head `p / 64`) and column `n`: `y` is the
    gradient of the output, `w` the packed inputs, whose last 128 columns read the state out, `g` what arrives after the
    last step. -/
noncomputable def stateGrad (y w x b al : ℕ → ℕ → ℝ) (g : ℕ → ℕ → ℕ → ℝ) (d m p n : ℕ) : ℝ :=
  back (fun i => y (pos d i) p * w (pos d i) (1152 + n)) (fun i => logDecay x b al d (pos d i) (p / 64)) (g d p n) 16384 m

/-- The argument arrays hold these real numbers. -/
structure Holds (a0 : FVec Ideal ⟨2, ![16384, 1024]⟩ .f32) (a1 : FVec Ideal ⟨2, ![16384, 1280]⟩ .f32)
    (a2 : FVec Ideal ⟨2, ![16384, 32]⟩ .f32) (a3 a4 : FVec Ideal ⟨2, ![2, 16]⟩ .f32)
    (a10 a11 : FVec Ideal ⟨3, ![16, 64, 128]⟩ .f32) (y w x b al : ℕ → ℕ → ℝ) (g : ℕ → ℕ → ℕ → ℝ) : Prop where
  dy : ∀ (i : Fin 16384) (p : Fin 1024), a0 (ix2 i p) = ((y i p : ℝ) : EReal)
  xbc : ∀ (i : Fin 16384) (n : Fin 1280), a1 (ix2 i n) = ((w i n : ℝ) : EReal)
  dt : ∀ (i : Fin 16384) (l : Fin 32), a2 (ix2 i l) = ((x i l : ℝ) : EReal)
  bias : ∀ (d : Fin 2) (h : Fin 16), a3 (ix2 d h) = ((b d h : ℝ) : EReal)
  alog : ∀ (d : Fin 2) (h : Fin 16), a4 (ix2 d h) = ((al d h : ℝ) : EReal)
  gf : ∀ (h : Fin 16) (p : Fin 64) (n : Fin 128), a10 (ix3 h p n) = ((g 0 (64 * h + p) n : ℝ) : EReal)
  gb : ∀ (h : Fin 16) (p : Fin 64) (n : Fin 128), a11 (ix3 h p n) = ((g 1 (64 * h + p) n : ℝ) : EReal)

/-- Arrays without an infinite element hold real numbers. -/
theorem exists_holds (a0 : FVec Ideal ⟨2, ![16384, 1024]⟩ .f32) (a1 : FVec Ideal ⟨2, ![16384, 1280]⟩ .f32)
    (a2 : FVec Ideal ⟨2, ![16384, 32]⟩ .f32) (a3 a4 : FVec Ideal ⟨2, ![2, 16]⟩ .f32)
    (a10 a11 : FVec Ideal ⟨3, ![16, 64, 128]⟩ .f32) (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) (h4 : ∀ i, ∃ r : ℝ, a4 i = (r : EReal))
    (h10 : ∀ i, ∃ r : ℝ, a10 i = (r : EReal)) (h11 : ∀ i, ∃ r : ℝ, a11 i = (r : EReal)) :
    ∃ y w x b al g, Holds a0 a1 a2 a3 a4 a10 a11 y w x b al g := by
  choose f0 e0 using h0
  choose f1 e1 using h1
  choose f2 e2 using h2
  choose f3 e3 using h3
  choose f4 e4 using h4
  choose f10 e10 using h10
  choose f11 e11 using h11
  have hd : ∀ (h : Fin 16) (p : Fin 64), (64 * h.val + p.val) / 64 = h.val ∧ (64 * h.val + p.val) % 64 = p.val :=
    fun h p => by omega
  refine ⟨fun i p => if h : i < 16384 ∧ p < 1024 then f0 (ix2 ⟨i, h.1⟩ ⟨p, h.2⟩) else 0,
    fun i p => if h : i < 16384 ∧ p < 1280 then f1 (ix2 ⟨i, h.1⟩ ⟨p, h.2⟩) else 0,
    fun i p => if h : i < 16384 ∧ p < 32 then f2 (ix2 ⟨i, h.1⟩ ⟨p, h.2⟩) else 0,
    fun i p => if h : i < 2 ∧ p < 16 then f3 (ix2 ⟨i, h.1⟩ ⟨p, h.2⟩) else 0,
    fun i p => if h : i < 2 ∧ p < 16 then f4 (ix2 ⟨i, h.1⟩ ⟨p, h.2⟩) else 0,
    fun d q n => if h : q / 64 < 16 ∧ n < 128 then
      (if d = 0 then f10 (ix3 ⟨q / 64, h.1⟩ ⟨q % 64, Nat.mod_lt _ (by decide)⟩ ⟨n, h.2⟩)
       else f11 (ix3 ⟨q / 64, h.1⟩ ⟨q % 64, Nat.mod_lt _ (by decide)⟩ ⟨n, h.2⟩)) else 0, ?_, ?_, ?_, ?_, ?_, ?_, ?_⟩
  · intro i p; rw [dif_pos ⟨i.isLt, p.isLt⟩]; exact e0 _
  · intro i p; rw [dif_pos ⟨i.isLt, p.isLt⟩]; exact e1 _
  · intro i p; rw [dif_pos ⟨i.isLt, p.isLt⟩]; exact e2 _
  · intro i p; rw [dif_pos ⟨i.isLt, p.isLt⟩]; exact e3 _
  · intro i p; rw [dif_pos ⟨i.isLt, p.isLt⟩]; exact e4 _
  · intro h p n
    simp only [(hd h p).1, (hd h p).2]
    rw [dif_pos ⟨h.isLt, n.isLt⟩, if_pos trivial]
    exact e10 _
  · intro h p n
    simp only [(hd h p).1, (hd h p).2]
    rw [dif_pos ⟨h.isLt, n.isLt⟩, if_neg (by decide)]
    exact e11 _

end Cert.Scan

end
-- ==== Proof.Prepared.lean ====
module

public import proofs.«01_k».proof.Proof.Gen.KernelIdeal.Value
public import proofs.«01_k».proof.Proof.Spec
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

/-!
# The arrays the host prepares

Before the launch the host spreads the rates of the two directions over 256 lanes, gathers the biases and the decay
parameters as rows of 128 lanes, makes the matrix that spreads a head over its 64 columns, and stacks the cotangents of
the two states.
-/

noncomputable section

namespace Cert.KernelIdeal.Scan

open Idealize.ShloMosaic Idealize.ShloMosaic.TcCoe Idealize.SL.Sem
open Idealize.ShloMosaic.Pipeline (Dat)
open Cert.KernelIdeal Cert.KernelIdeal.Gen Cert.Scan

variable {m : (ℓ : Loc nD τ sig) → Buf (Elt Ideal) ℓ} {c : Dev nD} {y w x b al : ℕ → ℕ → ℝ} {g : ℕ → ℕ → ℕ → ℝ}

/-- The call's arguments on device `c` are real arrays. -/
abbrev Args (m : (ℓ : Loc nD τ sig) → Buf (Elt Ideal) ℓ) (c : Dev nD) (y w x b al : ℕ → ℕ → ℝ) (g : ℕ → ℕ → ℕ → ℝ) : Prop :=
  Holds (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg10)) (m ((c : Thread nD τ).loc main_arg11)) y w x b al g

/-- The rates' array: 16 heads of the forward direction, 112 zeros, 16 heads of the backward direction, 112 zeros. -/
theorem rates_at (H : Args m c y w x b al g) (r : Fin 16384) (l : Fin 256) :
    V m c main_v3 (ix2 r l) = ((if l.val % 128 < 16 then x r (16 * (l / 128) + l % 128) else 0 : ℝ) : EReal) := by
  after_reads_simp
  pointwise
  after_reads_simp
  pointwise
  by_cases h0 : l.val < 16
  · refine (dif_pos h0).trans ((H.dt r ⟨l.val, by omega⟩).trans ?_)
    rw [if_pos (by omega), show 16 * (l.val / 128) + l.val % 128 = l.val by omega]
  refine (dif_neg h0).trans ?_
  by_cases h1 : l.val - 16 < 112
  · refine (dif_pos h1).trans ?_
    rw [if_neg (by omega), EReal.coe_zero]
  refine (dif_neg h1).trans ?_
  by_cases h2 : l.val - 16 - 112 < 16
  · refine (dif_pos h2).trans ((H.dt r ⟨16 + (l.val - 16 - 112), by omega⟩).trans ?_)
    rw [if_pos (by omega), show 16 * (l.val / 128) + l.val % 128 = 16 + (l.val - 16 - 112) by omega]
  · refine (dif_neg h2).trans ?_
    rw [if_neg (by omega), EReal.coe_zero]

/-- The fill of the padded lanes is zero. -/
theorem fill_zero : (FloatOps.sitofp (F := Ideal) FTy.f32 (0#32 : BitVec 32) : EReal) = 0 := by
  simp [FloatOps.sitofp]

/-- A row of 16 numbers padded by zeros. -/
theorem padded {p : Prop} [Decidable p] {l : Fin 128} {X : p → EReal} {z : ℝ} (hp : p ↔ l.val < 16) (hX : ∀ h, X h = (z : EReal)) :
    (if h : p then X h else FloatOps.sitofp (F := Ideal) FTy.f32 (0#32 : BitVec 32) : EReal) = ((if l.val < 16 then z else 0 : ℝ) : EReal) := by
  by_cases h : p
  · rw [dif_pos h, hX, if_pos (hp.mp h)]
  · rw [dif_neg h, fill_zero, if_neg (fun e => h (hp.mpr e)), EReal.coe_zero]

theorem params_at (H : Args m c y w x b al g) (r : Fin 8) (l : Fin 128) :
    V m c main_v21 (ix2 r l) = ((if l.val < 16 then (if r.val < 2 then b r l else if r.val < 4 then al (r - 2) l else 0) else 0 : ℝ) : EReal) := by
  after_reads_simp
  pointwise
  after_reads_simp
  simp only [StableHlo.TRef.toBuf, StableHlo.TRef.ofBuf, cast_eq, id_eq]
  pointwise
  by_cases h0 : r.val < 1
  · refine (dif_pos h0).trans ((padded (l := l) (p := r.val < 1 ∧ l.val < 16) (X := fun h => m ((c : Thread nD τ).loc main_arg3) (ix2 0 ⟨l.val, h.2⟩)) (z := b 0 l) (by omega)
      (fun h => H.bias 0 ⟨l.val, h.2⟩)).trans ?_)
    rw [if_pos (show r.val < 2 by omega), show r.val = 0 by omega]
  refine (dif_neg h0).trans ?_
  by_cases h1 : r.val - 1 < 1
  · refine (dif_pos h1).trans ((padded (l := l) (p := r.val - 1 < 1 ∧ l.val < 16) (X := fun h => m ((c : Thread nD τ).loc main_arg3) (ix2 1 ⟨l.val, h.2⟩)) (z := b 1 l) (by omega)
      (fun h => H.bias 1 ⟨l.val, h.2⟩)).trans ?_)
    rw [if_pos (show r.val < 2 by omega), show r.val = 1 by omega]
  refine (dif_neg h1).trans ?_
  by_cases h2 : r.val - 1 - 1 < 1
  · refine (dif_pos h2).trans ((padded (l := l) (p := r.val - 1 - 1 < 1 ∧ l.val < 16) (X := fun h => m ((c : Thread nD τ).loc main_arg4) (ix2 0 ⟨l.val, h.2⟩)) (z := al 0 l) (by omega)
      (fun h => H.alog 0 ⟨l.val, h.2⟩)).trans ?_)
    rw [if_neg (show ¬ r.val < 2 by omega), if_pos (show r.val < 4 by omega), show r.val - 2 = 0 by omega]
  refine (dif_neg h2).trans ?_
  by_cases h3 : r.val - 1 - 1 - 1 < 1
  · refine (dif_pos h3).trans ((padded (l := l) (p := r.val - 1 - 1 - 1 < 1 ∧ l.val < 16) (X := fun h => m ((c : Thread nD τ).loc main_arg4) (ix2 1 ⟨l.val, h.2⟩)) (z := al 1 l) (by omega)
      (fun h => H.alog 1 ⟨l.val, h.2⟩)).trans ?_)
    rw [if_neg (show ¬ r.val < 2 by omega), if_pos (show r.val < 4 by omega), show r.val - 2 = 1 by omega]
  refine (dif_neg h3).trans ?_
  rw [if_neg (show ¬ r.val < 2 by omega), if_neg (show ¬ r.val < 4 by omega), ite_self, EReal.coe_zero]

/-- The quotient of the column by 64, as the host computes it for signed integers. -/
theorem quotient_at : ∀ q : Fin 1024, Scalar.select
            (IntOp.andi
              (IntOp.cmpi CmpIPredicate.ne
                (if BitVec.ofNat 32 q.val = 0 then (0 : BitVec 32) else if (BitVec.ofNat 32 q.val).msb = true then -1 else 1)
                (if 64#32 = 0 then 0 else if (64#32).msb = true then -1 else 1))
              (IntOp.cmpi CmpIPredicate.ne (IntOp.remsi ArithUnit.host (BitVec.ofNat 32 q.val) 64#32) 0#32))
            (IntOp.subi (IntOp.divsi ArithUnit.host (BitVec.ofNat 32 q.val) 64#32) 1#32)
            (IntOp.divsi ArithUnit.host (BitVec.ofNat 32 q.val) 64#32) = BitVec.ofNat 32 (q.val / 64) := by
  decide +kernel

/-- Whether two small numbers are equal, as a number of the extended reals. -/
theorem equal_at (k h : ℕ) (hk : k < 128) (hh : h < 16) :
    (FloatOps.uitofp (F := Ideal) FTy.bf16 (IntOp.cmpi CmpIPredicate.eq (BitVec.ofNat 32 k) (BitVec.ofNat 32 h)) : EReal) = if k = h then 1 else 0 := by
  by_cases e : k = h
  · subst e
    simp [IntOp.cmpi, FloatOps.uitofp]
  · have : BitVec.ofNat 32 k ≠ BitVec.ofNat 32 h := fun hb => e (by
      have := congrArg BitVec.toNat hb
      simp only [BitVec.toNat_ofNat] at this
      omega)
    simp [IntOp.cmpi, FloatOps.uitofp, this, e]

theorem spread_at (k : Fin 256) (q : Fin 1024) :
    V m c main_v31 (ix2 k q) = if k.val % 128 = q.val / 64 then (1 : EReal) else 0 := by
  after_reads_simp
  simp only [StableHlo.TRef.toBuf, StableHlo.TRef.ofBuf, cast_eq, id_eq]
  pointwise
  by_cases h : k.val < 128
  · rw [dif_pos h]
    refine (congrArg (fun z => (FloatOps.uitofp (F := Ideal) FTy.bf16 (IntOp.cmpi CmpIPredicate.eq (BitVec.ofNat 32 k.val) z) : EReal)) (quotient_at q)).trans ?_
    refine (equal_at _ _ h (by omega)).trans ?_
    rw [Nat.mod_eq_of_lt h]
  · rw [dif_neg h]
    refine (congrArg (fun z => (FloatOps.uitofp (F := Ideal) FTy.bf16 (IntOp.cmpi CmpIPredicate.eq (BitVec.ofNat 32 (k.val - 128)) z) : EReal)) (quotient_at q)).trans ?_
    refine (equal_at _ _ (by omega) (by omega)).trans ?_
    rw [show k.val % 128 = k.val - 128 by omega]

theorem init_at (H : Args m c y w x b al g) (d : Fin 2) (q : Fin 1024) (n : Fin 128) :
    V m c main_v42 (ix3 d q n) = ((g d q n : ℝ) : EReal) := by
  after_reads_simp
  pointwise
  have hq : 64 * (q.val / 64) + q.val % 64 = q.val := Nat.div_add_mod _ _
  by_cases h : d.val < 1
  · rw [dif_pos h]
    refine (H.gf ⟨q.val / 64, by omega⟩ ⟨q.val % 64, by omega⟩ n).trans ?_
    simp only [hq, show d.val = 0 by omega]
  · rw [dif_neg h]
    refine (H.gb ⟨q.val / 64, by omega⟩ ⟨q.val % 64, by omega⟩ n).trans ?_
    simp only [hq, show d.val = 1 by omega]

end Cert.KernelIdeal.Scan

end
-- ==== Proof.Blocks.lean ====
module

public import proofs.«01_k».proof.Proof.Gen.KernelIdeal.Value
public import proofs.«01_k».proof.Proof.Prepared
public import Idealize.ShloMosaic.Lib.Pointwise
public import Idealize.ShloMosaic.Lib.Claim
public import Idealize.ShloMosaic.Lib.Pipeline.ValueKit

@[expose] public section

set_option maxRecDepth 16384

/-!
# The blocks a grid point reads

Point `t` reads chunk `127 - t` of the arrays for the forward direction, and chunk `t` for the backward direction: the
cotangent `dy`, the columns of `C`, the rates of 16 heads in the first lanes of a block of 128 whose other lanes hold
zeros, and whole the parameters, the matrix that spreads a head over its columns, and the cotangents of the two states.
-/

noncomputable section

namespace Cert.KernelIdeal.Scan

open Idealize.ShloMosaic Idealize.ShloMosaic.TcCoe Idealize.SL.Sem
open Idealize.ShloMosaic.Pipeline (Dat)
open Cert.KernelIdeal Cert.KernelIdeal.Gen Cert.Scan

variable {m : (ℓ : Loc nD τ sig) → Buf (Elt Ideal) ℓ} {c : Dev nD} {y w x b al : ℕ → ℕ → ℝ} {g : ℕ → ℕ → ℕ → ℝ}

theorem idxA : ∀ t : Fin cfg0.N, win0_0.index t = ![127 - t.val, 0] ∧ win0_1.index t = ![t.val, 0] ∧ win0_2.index t = ![127 - t.val, 0]
    ∧ win0_3.index t = ![t.val, 0] ∧ win0_4.index t = ![127 - t.val, 0] ∧ win0_5.index t = ![t.val, 1] ∧ t.val < 128 :=
  (by decide +kernel : ∀ t : Fin grid0.N, _)

theorem idxB : ∀ t : Fin cfg0.N, win0_8.index t = ![0, 0, 0] ∧ win0_9.index t = ![0, 0] ∧ win0_10.index t = ![0, 0] ∧ win0_18.index t = ![0, 0, 0] :=
  (by decide +kernel : ∀ t : Fin grid0.N, _)

theorem blk0 (H : Args m c y w x b al g) (t : Fin cfg0.N) (i : Fin 128) (q : Fin 1024) :
    iblk m c 0 t (ix2 i q) = ((y (128 * (127 - t.val) + i) q : ℝ) : EReal) := by
  have ht := (idxA t).2.2.2.2.2.2
  refine Eq.trans ?_ (H.dy ⟨128 * (127 - t.val) + i.val, by omega⟩ q)
  blk_point [iblk, V, idxA t]

theorem blk1 (H : Args m c y w x b al g) (t : Fin cfg0.N) (i : Fin 128) (q : Fin 1024) :
    iblk m c 1 t (ix2 i q) = ((y (128 * t.val + i) q : ℝ) : EReal) := by
  have ht := (idxA t).2.2.2.2.2.2
  refine Eq.trans ?_ (H.dy ⟨128 * t.val + i.val, by omega⟩ q)
  blk_point [iblk, V, idxA t]

theorem blk2 (H : Args m c y w x b al g) (t : Fin cfg0.N) (i : Fin 128) (k : Fin 1280) :
    iblk m c 2 t (ix2 i k) = ((w (128 * (127 - t.val) + i) k : ℝ) : EReal) := by
  have ht := (idxA t).2.2.2.2.2.2
  refine Eq.trans ?_ (H.xbc ⟨128 * (127 - t.val) + i.val, by omega⟩ k)
  blk_point [iblk, V, idxA t]

theorem blk3 (H : Args m c y w x b al g) (t : Fin cfg0.N) (i : Fin 128) (k : Fin 1280) :
    iblk m c 3 t (ix2 i k) = ((w (128 * t.val + i) k : ℝ) : EReal) := by
  have ht := (idxA t).2.2.2.2.2.2
  refine Eq.trans ?_ (H.xbc ⟨128 * t.val + i.val, by omega⟩ k)
  blk_point [iblk, V, idxA t]

theorem blk4 (H : Args m c y w x b al g) (t : Fin cfg0.N) (i l : Fin 128) :
    iblk m c 4 t (ix2 i l) = ((if l.val < 16 then x (128 * (127 - t.val) + i) l else 0 : ℝ) : EReal) := by
  have ht := (idxA t).2.2.2.2.2.2
  have e : iblk m c 4 t (ix2 i l) = V m c main_v3 (ix2 ⟨128 * (127 - t.val) + i.val, by omega⟩ ⟨l.val, by omega⟩) := by
    blk_ext [iblk, idxA t]
  rw [e, rates_at H]
  simp only [show l.val % 128 = l.val by omega, show l.val / 128 = 0 by omega, Nat.mul_zero, Nat.zero_add]

theorem blk5 (H : Args m c y w x b al g) (t : Fin cfg0.N) (i l : Fin 128) :
    iblk m c 5 t (ix2 i l) = ((if l.val < 16 then x (128 * t.val + i) (16 + l) else 0 : ℝ) : EReal) := by
  have ht := (idxA t).2.2.2.2.2.2
  have e : iblk m c 5 t (ix2 i l) = V m c main_v3 (ix2 ⟨128 * t.val + i.val, by omega⟩ ⟨128 + l.val, by omega⟩) := by
    blk_ext [iblk, idxA t]
  rw [e, rates_at H]
  simp only [show (128 + l.val) % 128 = l.val by omega, show (128 + l.val) / 128 = 1 by omega, Nat.mul_one]

theorem blk9 (H : Args m c y w x b al g) (t : Fin cfg0.N) (r : Fin 8) (l : Fin 128) :
    iblk m c 9 t (ix2 r l) = ((if l.val < 16 then (if r.val < 2 then b r l else if r.val < 4 then al (r - 2) l else 0) else 0 : ℝ) : EReal) :=
  Eq.trans (by blk_ext [iblk, idxB t]) (params_at H r l)

theorem blk10 (t : Fin cfg0.N) (k : Fin 256) (q : Fin 1024) :
    iblk m c 10 t (ix2 k q) = if k.val % 128 = q.val / 64 then (1 : EReal) else 0 :=
  Eq.trans (by blk_ext [iblk, idxB t]) (spread_at k q)

theorem blk8 (H : Args m c y w x b al g) (t : Fin cfg0.N) (d : Fin 2) (q : Fin 1024) (n : Fin 128) :
    iblk m c 8 t (ix3 d q n) = ((g d q n : ℝ) : EReal) :=
  Eq.trans (by blk_ext [iblk, idxB t]) (init_at H d q n)

end Cert.KernelIdeal.Scan

end
-- ==== Proof.Step.lean ====
module

public import proofs.«01_k».proof.Proof.Gen.KernelIdeal.Skeleton
public import proofs.«01_k».proof.Proof.Spec
public import Idealize.ShloMosaic.Lib.Pointwise

@[expose] public section

set_option maxRecDepth 16384

/-!
# One chunk of the backward scan, read at an index

`step0` and `step1` are what one grid point stores as the gradient of the state, for the forward and for the backward
direction: functions of the chunk's rates, the two rows of parameters, the columns of `C`, the cotangent `dy`, the
matrix that spreads a head over its 64 columns, and the gradient that the chunk after it left.
-/

noncomputable section

namespace Cert.KernelIdeal.Scan

open Idealize.ShloMosaic Idealize.ShloMosaic.TcCoe Idealize.SL.Sem
open Cert.KernelIdeal Cert.KernelIdeal.Gen Cert.Scan

/-- The forward direction's chunk. -/
def step0 (x : Vec Ideal S128x128 .f32) (r0 r2 : Vec Ideal S1x128 .f32) (cb : Vec Ideal S128x128 .f32) (y : Vec Ideal S128x1024 .f32)
    (e : Vec Ideal S256x1024 .bf16) (dh : Vec Ideal S1x1024x128 .f32) : FVec Ideal S1024x128 .f32 :=
  let a := k0_pay12 x r0 r2
  let s := k0_pay16 a
  let es := k0_pay33 s
  let io := iota Kind.tc S1x128 32 [1] iota_S1x128_d1_w32
  k0_pay51 io (k0_pay21 dh) (k0_pay31 (k0_pay24 cb) y (k0_pay25 a k0_pay13) (k0_pay26 a k0_pay13) (k0_pay27 a k0_pay13) e)
    es (k0_pay34 io s) (k0_pay35 io s) (k0_pay36 io s) (k0_pay37 io es) (k0_pay38 io es)
    (k0_pay39 io es) (k0_pay40 io es) (k0_pay41 io es) (k0_pay44 es (k0_pay42 io) k0_pay43)
    (k0_pay45 io es) (k0_pay46 io es) (k0_pay47 io es) (k0_pay48 io es) (k0_pay49 io es)

/-- The backward direction's chunk. -/
def step1 (x : Vec Ideal S128x128 .f32) (r1 r3 : Vec Ideal S1x128 .f32) (cb : Vec Ideal S128x128 .f32) (y : Vec Ideal S128x1024 .f32)
    (e : Vec Ideal S256x1024 .bf16) (dh : Vec Ideal S1x1024x128 .f32) : FVec Ideal S1024x128 .f32 :=
  let s := k0_pay349 (k0_pay339 x) k0_pay340 (k0_pay341 r1) r3
  let es := k0_pay366 s
  let io := iota Kind.tc S1x128 32 [1] iota_S1x128_d1_w32
  k0_pay386 (k0_pay356 dh) (k0_pay363 (k0_pay348 (k0_pay339 x) k0_pay340 (k0_pay341 r1) r3) cb y e)
    (k0_pay367 io s) (k0_pay368 io s) (k0_pay369 io s) (k0_pay370 io s) (k0_pay371 io s)
    (k0_pay372 io es) (k0_pay373 io es) (k0_pay374 io es) (k0_pay375 io es) (k0_pay376 io es)
    (k0_pay379 es (k0_pay377 io) k0_pay378) (k0_pay380 io es) (k0_pay381 io es) (k0_pay382 io es)
    (k0_pay383 io es) (k0_pay384 io es)

/-! ## The parts -/

/-- The logarithm of a step's decay at a lane of the block: the first 16 lanes hold the heads, the others nothing. -/
def laneDecay (xr : ℕ → ℕ → ℝ) (br al : ℕ → ℝ) (i l : ℕ) : ℝ :=
  if l < 16 then softplus (xr i l + br l) * -(Real.exp (al l)) else 0

/-- A sum over three stacked blocks of 128. -/
theorem sum_384 (f : Fin 384 → EReal) :
    ∑ k, f k = ∑ j : Fin 128, f ⟨j.val, by omega⟩ + ∑ j : Fin 128, f ⟨128 + j.val, by omega⟩ + ∑ j : Fin 128, f ⟨256 + j.val, by omega⟩ := by
  rw [show (∑ k, f k) = ∑ k : Fin (128 + 128 + 128), f k from rfl, Fin.sum_univ_add, Fin.sum_univ_add]
  rfl

/-- A sum over two stacked blocks of 128. -/
theorem sum_256 (f : Fin 256 → EReal) :
    ∑ k, f k = ∑ j : Fin 128, f ⟨j.val, by omega⟩ + ∑ j : Fin 128, f ⟨128 + j.val, by omega⟩ := by
  rw [show (∑ k, f k) = ∑ k : Fin (128 + 128), f k from rfl, Fin.sum_univ_add]
  rfl

/-- Three stacked sums of which the last two vanish. -/
theorem sum_masked {f1 f2 f3 : Fin 128 → EReal} {g : ℕ → ℝ} (h1 : ∀ j, f1 j = ((g j : ℝ) : EReal)) (h2 : ∀ j, f2 j = 0) (h3 : ∀ j, f3 j = 0) :
    ∑ j, f1 j + ∑ j, f2 j + ∑ j, f3 j = ((∑ j ∈ Finset.range 128, g j : ℝ) : EReal) := by
  rw [Finset.sum_congr rfl fun j _ => h1 j, Finset.sum_eq_zero fun j _ => h2 j, Finset.sum_eq_zero fun j _ => h3 j, add_zero, add_zero, ← coe_sum,
    Fin.sum_univ_eq_sum_range g]

/-! ## The masks -/

theorem slt_16 : ∀ l : Fin 128, IntOp.cmpi CmpIPredicate.slt (BitVec.ofNat 32 l.val) 16#32 = if l.val < 16 then 1#1 else 0#1 := by
  decide +kernel

theorem sge_lane : ∀ i j : Fin 128, IntOp.cmpi CmpIPredicate.sge (BitVec.ofNat 32 i.val) (BitVec.ofNat 32 j.val) = if j.val ≤ i.val then 1#1 else 0#1 := by
  decide +kernel

theorem sle_lane : ∀ i j : Fin 128, IntOp.cmpi CmpIPredicate.sle (BitVec.ofNat 32 i.val) (BitVec.ofNat 32 j.val) = if i.val ≤ j.val then 1#1 else 0#1 := by
  decide +kernel

theorem eq_lane : ∀ (l : Fin 128) (h : Fin 16), IntOp.cmpi CmpIPredicate.eq (BitVec.ofNat 32 l.val) (BitVec.ofNat 32 h.val) = if l.val = h.val then 1#1 else 0#1 := by
  decide +kernel

theorem select_one {α : Type} (a b : α) : Scalar.select 1#1 a b = a := rfl

theorem select_zero {α : Type} (a b : α) : Scalar.select 0#1 a b = b := rfl

theorem sitofp_one : (FloatOps.sitofp FTy.f32 (BitVec.setWidth 32 1#1) : Ideal .f32) = (1 : EReal) := by
  show (((BitVec.setWidth 32 1#1).toInt : ℝ) : EReal) = 1
  rw [show (BitVec.setWidth 32 1#1).toInt = 1 from by decide]
  norm_num

theorem sitofp_zero : (FloatOps.sitofp FTy.f32 (BitVec.setWidth 32 0#1) : Ideal .f32) = (0 : EReal) := by
  show (((BitVec.setWidth 32 0#1).toInt : ℝ) : EReal) = 0
  rw [show (BitVec.setWidth 32 0#1).toInt = 0 from by decide]
  norm_num

/-- The rates' softplus times the decay rate, as the kernel writes it. -/
theorem decay_value (u v r : ℝ) :
    ((max ((u : EReal) + (v : EReal)) 0 + Ideal.log (1 + Ideal.exp (0 - (max ((u : EReal) + (v : EReal)) (-((u : EReal) + (v : EReal))))))) * (0 - Ideal.exp (r : EReal)) : EReal)
      = ((softplus (u + v) * -(Real.exp r) : ℝ) : EReal) := by
  rw [← EReal.coe_add, zero_sub, softplus_coe, Ideal.exp_coe, zero_sub, ← EReal.coe_neg, ← EReal.coe_mul]

section parts
variable {x : Vec Ideal S128x128 .f32} {r0 r2 : Vec Ideal S1x128 .f32} {xr : ℕ → ℕ → ℝ} {br al : ℕ → ℝ}

theorem pay12_at (hx : ∀ i l : Fin 128, x (ix2 i l) = ((xr i l : ℝ) : EReal)) (h0 : ∀ l : Fin 128, r0 (ix2 0 l) = ((br l : ℝ) : EReal))
    (h2 : ∀ l : Fin 128, r2 (ix2 0 l) = ((al l : ℝ) : EReal)) (i l : Fin 128) :
    k0_pay12 x r0 r2 (ix2 i l) = ((laneDecay xr br al i l : ℝ) : EReal) := by
  have e1 := hx i l
  have e2 := h0 l
  have e3 := h2 l
  pointwise [k0_pay12, k0_pay11, k0_pay10, k0_pay9, k0_pay8]
  rw [slt_16]
  unfold laneDecay
  split
  · rw [select_one, select_one, e1, e2, e3]
    exact decay_value _ _ _
  · rw [select_zero]
    rfl

theorem pay345_at (hx : ∀ i l : Fin 128, x (ix2 i l) = ((xr i l : ℝ) : EReal)) (h0 : ∀ l : Fin 128, r0 (ix2 0 l) = ((br l : ℝ) : EReal))
    (h2 : ∀ l : Fin 128, r2 (ix2 0 l) = ((al l : ℝ) : EReal)) (i l : Fin 128) :
    k0_pay345 (k0_pay339 x) k0_pay340 (k0_pay341 r0) r2 (ix2 i l) = ((laneDecay xr br al i l : ℝ) : EReal) := by
  have e1 := hx i l
  have e2 := h0 l
  have e3 := h2 l
  pointwise [k0_pay345, k0_pay344, k0_pay343, k0_pay342, k0_pay341, k0_pay340, k0_pay339]
  rw [slt_16]
  unfold laneDecay
  split
  · rw [select_one, select_one, e1, e2, e3]
    exact decay_value _ _ _
  · rw [select_zero]
    rfl

theorem pay15_at {a : FVec Ideal S128x128 .f32} {α : ℕ → ℕ → ℝ} (ha : ∀ i l : Fin 128, a (ix2 i l) = ((α i l : ℝ) : EReal)) (i l : Fin 128) :
    k0_pay15 a k0_pay13 (ix2 i l) = ((∑ j ∈ Finset.range (i.val + 1), α j l : ℝ) : EReal) := by
  have e1 := fun j => ha j l
  pointwise [k0_pay15, k0_pay13]
  refine (sum_384 _).trans ((sum_masked (g := fun j => if j ≤ i.val then α j l else 0) (fun j => ?_) (fun j => ?_) (fun j => ?_)).trans (by rw [sum_head (fun j => α j l) 128 i.val i.isLt]))
  · rw [dif_pos j.isLt, dif_pos j.isLt, sge_lane, e1]
    simp only []
    split
    · rw [sitofp_one, one_mul]
    · rw [sitofp_zero, zero_mul, EReal.coe_zero]
  · have h1 : ¬ 128 + j.val < 128 := by omega
    have h2 : 128 + j.val - 128 < 128 := by omega
    simp only [h1, h2, dite_false, dite_true, e1, ← EReal.coe_sub, sub_self, EReal.coe_zero, mul_zero]
  · have h1 : ¬ 256 + j.val < 128 := by omega
    have h2 : ¬ 256 + j.val - 128 < 128 := by omega
    simp only [h1, h2, dite_false, e1, ← EReal.coe_sub, sub_self, EReal.coe_zero]
    rw [sub_zero, mul_zero]

theorem pay348_at {x : FVec Ideal S128x128 .f32} {h : IVec S1x128 1} {r0 : FVec Ideal S1x128 .f32} {r2 : Vec Ideal S1x128 .f32} {α : ℕ → ℕ → ℝ}
    (ha : ∀ i l : Fin 128, k0_pay345 x h r0 r2 (ix2 i l) = ((α i l : ℝ) : EReal)) (i l : Fin 128) :
    k0_pay348 x h r0 r2 (ix2 i l) = ((∑ j ∈ Finset.range 128, if i.val ≤ j then α j l else 0 : ℝ) : EReal) := by
  have e1 := fun j => ha j l
  pointwise [k0_pay348, k0_pay346]
  refine (sum_384 _).trans ((sum_masked (g := fun j => if i.val ≤ j then α j l else 0) (fun j => ?_) (fun j => ?_) (fun j => ?_)).trans rfl)
  · rw [dif_pos j.isLt, dif_pos j.isLt, sle_lane, e1]
    simp only []
    split
    · rw [sitofp_one, one_mul]
    · rw [sitofp_zero, zero_mul, EReal.coe_zero]
  · have h1 : ¬ 128 + j.val < 128 := by omega
    have h2 : 128 + j.val - 128 < 128 := by omega
    simp only [h1, h2, dite_false, dite_true, e1, ← EReal.coe_sub, sub_self, EReal.coe_zero, mul_zero]
  · have h1 : ¬ 256 + j.val < 128 := by omega
    have h2 : ¬ 256 + j.val - 128 < 128 := by omega
    simp only [h1, h2, dite_false, e1, ← EReal.coe_sub, sub_self, EReal.coe_zero]
    rw [sub_zero, mul_zero]

theorem pay349_at {x : FVec Ideal S128x128 .f32} {h : IVec S1x128 1} {r0 : FVec Ideal S1x128 .f32} {r2 : Vec Ideal S1x128 .f32} {α : ℕ → ℕ → ℝ}
    (ha : ∀ i l : Fin 128, k0_pay345 x h r0 r2 (ix2 i l) = ((α i l : ℝ) : EReal)) (l : Fin 128) :
    k0_pay349 x h r0 r2 (ix2 0 l) = ((∑ j ∈ Finset.range 128, α j l : ℝ) : EReal) := by
  have e1 := fun j => ha j l
  pointwise [k0_pay349]
  simp only [e1]
  rw [← coe_sum, Fin.sum_univ_eq_sum_range (fun j => α j l)]

theorem pay16_at {a : FVec Ideal S128x128 .f32} {α : ℕ → ℕ → ℝ} (ha : ∀ i l : Fin 128, a (ix2 i l) = ((α i l : ℝ) : EReal)) (l : Fin 128) :
    k0_pay16 a (ix2 0 l) = ((∑ j ∈ Finset.range 128, α j l : ℝ) : EReal) := by
  have e1 := fun j => ha j l
  pointwise [k0_pay16]
  simp only [e1]
  rw [← coe_sum, Fin.sum_univ_eq_sum_range (fun j => α j l)]

theorem pay28_at {v : FVec Ideal S128x128 .f32} {e : Vec Ideal S256x1024 .bf16} {α : ℕ → ℕ → ℝ} (hv : ∀ i l : Fin 128, v (ix2 i l) = ((α i l : ℝ) : EReal))
    (he : ∀ (k : Fin 256) (q : Fin 1024), e (ix2 k q) = if k.val % 128 = q.val / 64 then (1 : EReal) else 0) (i : Fin 128) (q : Fin 1024) :
    k0_pay28 v v v e (ix2 i q) = ((α i (q.val / 64) : ℝ) : EReal) := by
  have e1 := fun l => hv i l
  have e2 := fun k => he k q
  pointwise [k0_pay28]
  simp only [e1, e2, ← EReal.coe_sub, sub_self, EReal.coe_zero, zero_mul, Finset.sum_const_zero, add_zero]
  rw [Finset.sum_eq_single (⟨q.val / 64, by omega⟩ : Fin 128)]
  · rw [if_pos (by simp only []; omega), mul_one]
  · intro l _ hl
    rw [if_neg, mul_zero]
    intro h
    apply hl
    apply Fin.ext
    simp only [] at h ⊢
    omega
  · intro h
    exact absurd (Finset.mem_univ _) h

theorem pay360_at {v : FVec Ideal S128x128 .f32} {e : Vec Ideal S256x1024 .bf16} {α : ℕ → ℕ → ℝ} (hv : ∀ i l : Fin 128, v (ix2 i l) = ((α i l : ℝ) : EReal))
    (he : ∀ (k : Fin 256) (q : Fin 1024), e (ix2 k q) = if k.val % 128 = q.val / 64 then (1 : EReal) else 0) (i : Fin 128) (q : Fin 1024) :
    k0_pay360 v e (ix2 i q) = ((Real.exp (α i (q.val / 64)) : ℝ) : EReal) := by
  have e1 : ∀ i l : Fin 128, exp (F := Ideal) (φ := .f32) v (ix2 i l) = ((Real.exp (α i l) : ℝ) : EReal) := fun i l => by
    have := hv i l
    pointwise
    rw [this, Ideal.exp_coe]
  exact pay28_at (v := exp (F := Ideal) (φ := .f32) v) (α := fun i l => Real.exp (α i l)) e1 he i q

/-- One head's column of decays, spread over the head's 64 rows. -/
theorem column_at {es : FVec Ideal S1x128 .f32} {ε : ℕ → ℝ} (hs : ∀ l : Fin 128, es (ix2 0 l) = ((ε l : ℝ) : EReal)) (h : Fin 16) :
    ∑ l : Fin 128, Scalar.select (IntOp.cmpi CmpIPredicate.eq (BitVec.ofNat 32 l.val) (BitVec.ofNat 32 h.val)) (es (ix2 0 l)) 0 = ((ε h.val : ℝ) : EReal) := by
  rw [Finset.sum_eq_single (⟨h.val, by omega⟩ : Fin 128)]
  · rw [eq_lane, if_pos rfl, select_one, hs]
  · intro l _ hl
    rw [eq_lane, if_neg, select_zero]
    intro he
    exact hl (Fin.ext he)
  · intro hn
    exact absurd (Finset.mem_univ _) hn

/-- The forward direction's decays of the state, a head to 64 rows. -/
theorem decay0_at {s : FVec Ideal S1x128 .f32} {σ : ℕ → ℝ} (hs : ∀ l : Fin 128, s (ix2 0 l) = ((σ l : ℝ) : EReal)) (q : Fin 1024) (n : Fin 128) :
    k0_pay50 (iota Kind.tc S1x128 32 [1] iota_S1x128_d1_w32) (k0_pay33 s) (k0_pay34 (iota Kind.tc S1x128 32 [1] iota_S1x128_d1_w32) s) (k0_pay35 (iota Kind.tc S1x128 32 [1] iota_S1x128_d1_w32) s) (k0_pay36 (iota Kind.tc S1x128 32 [1] iota_S1x128_d1_w32) s) (k0_pay37 (iota Kind.tc S1x128 32 [1] iota_S1x128_d1_w32) (k0_pay33 s)) (k0_pay38 (iota Kind.tc S1x128 32 [1] iota_S1x128_d1_w32) (k0_pay33 s)) (k0_pay39 (iota Kind.tc S1x128 32 [1] iota_S1x128_d1_w32) (k0_pay33 s)) (k0_pay40 (iota Kind.tc S1x128 32 [1] iota_S1x128_d1_w32) (k0_pay33 s)) (k0_pay41 (iota Kind.tc S1x128 32 [1] iota_S1x128_d1_w32) (k0_pay33 s)) (k0_pay44 (k0_pay33 s) (k0_pay42 (iota Kind.tc S1x128 32 [1] iota_S1x128_d1_w32)) k0_pay43) (k0_pay45 (iota Kind.tc S1x128 32 [1] iota_S1x128_d1_w32) (k0_pay33 s)) (k0_pay46 (iota Kind.tc S1x128 32 [1] iota_S1x128_d1_w32) (k0_pay33 s)) (k0_pay47 (iota Kind.tc S1x128 32 [1] iota_S1x128_d1_w32) (k0_pay33 s)) (k0_pay48 (iota Kind.tc S1x128 32 [1] iota_S1x128_d1_w32) (k0_pay33 s)) (k0_pay49 (iota Kind.tc S1x128 32 [1] iota_S1x128_d1_w32) (k0_pay33 s)) (ix2 q n)
      = ((Real.exp (σ (q.val / 64)) : ℝ) : EReal) := by
  have e1 : ∀ l : Fin 128, k0_pay33 s (ix2 0 l) = ((Real.exp (σ l) : ℝ) : EReal) := fun l => by
    have := hs l
    pointwise [k0_pay33]
    rw [this, Ideal.exp_coe]
  have e2 := column_at (es := k0_pay33 s) (ε := fun l => Real.exp (σ l)) e1
  unfold k0_pay34 k0_pay35 k0_pay36
  generalize k0_pay33 s = es at e2 ⊢
  pointwise [k0_pay50, k0_pay37, k0_pay38, k0_pay39, k0_pay40, k0_pay41, k0_pay42, k0_pay43, k0_pay44, k0_pay45, k0_pay46, k0_pay47, k0_pay48, k0_pay49]
  have key : ∀ h : ℕ, h < 16 → q.val / 64 = h → ∑ l : Fin 128, Scalar.select (IntOp.cmpi CmpIPredicate.eq (BitVec.ofNat 32 l.val) (BitVec.ofNat 32 h)) (es (ix2 0 l)) 0 = ((Real.exp (σ (q.val / 64)) : ℝ) : EReal) := fun h hh hq => by
    rw [hq]
    exact e2 ⟨h, hh⟩
  by_cases h0 : q.val < 64
  · rw [dif_pos h0]
    exact key 0 (by decide) (by omega)
  rw [dif_neg h0]
  by_cases h1 : q.val - 64 < 64
  · rw [dif_pos h1]
    exact key 1 (by decide) (by omega)
  rw [dif_neg h1]
  by_cases h2 : q.val - 64 - 64 < 64
  · rw [dif_pos h2]
    exact key 2 (by decide) (by omega)
  rw [dif_neg h2]
  by_cases h3 : q.val - 64 - 64 - 64 < 64
  · rw [dif_pos h3]
    exact key 3 (by decide) (by omega)
  rw [dif_neg h3]
  by_cases h4 : q.val - 64 - 64 - 64 - 64 < 64
  · rw [dif_pos h4]
    exact key 4 (by decide) (by omega)
  rw [dif_neg h4]
  by_cases h5 : q.val - 64 - 64 - 64 - 64 - 64 < 64
  · rw [dif_pos h5]
    exact key 5 (by decide) (by omega)
  rw [dif_neg h5]
  by_cases h6 : q.val - 64 - 64 - 64 - 64 - 64 - 64 < 64
  · rw [dif_pos h6]
    exact key 6 (by decide) (by omega)
  rw [dif_neg h6]
  by_cases h7 : q.val - 64 - 64 - 64 - 64 - 64 - 64 - 64 < 64
  · rw [dif_pos h7]
    exact key 7 (by decide) (by omega)
  rw [dif_neg h7]
  by_cases h8 : q.val - 64 - 64 - 64 - 64 - 64 - 64 - 64 - 64 < 64
  · rw [dif_pos h8]
    exact key 8 (by decide) (by omega)
  rw [dif_neg h8]
  by_cases h9 : q.val - 64 - 64 - 64 - 64 - 64 - 64 - 64 - 64 - 64 < 64
  · rw [dif_pos h9]
    exact key 9 (by decide) (by omega)
  rw [dif_neg h9]
  by_cases h10 : q.val - 64 - 64 - 64 - 64 - 64 - 64 - 64 - 64 - 64 - 64 < 64
  · rw [dif_pos h10]
    exact key 10 (by decide) (by omega)
  rw [dif_neg h10]
  by_cases h11 : q.val - 64 - 64 - 64 - 64 - 64 - 64 - 64 - 64 - 64 - 64 - 64 < 64
  · rw [dif_pos h11]
    exact key 11 (by decide) (by omega)
  rw [dif_neg h11]
  by_cases h12 : q.val - 64 - 64 - 64 - 64 - 64 - 64 - 64 - 64 - 64 - 64 - 64 - 64 < 64
  · rw [dif_pos h12]
    exact key 12 (by decide) (by omega)
  rw [dif_neg h12]
  by_cases h13 : q.val - 64 - 64 - 64 - 64 - 64 - 64 - 64 - 64 - 64 - 64 - 64 - 64 - 64 < 64
  · rw [dif_pos h13]
    exact key 13 (by decide) (by omega)
  rw [dif_neg h13]
  by_cases h14 : q.val - 64 - 64 - 64 - 64 - 64 - 64 - 64 - 64 - 64 - 64 - 64 - 64 - 64 - 64 < 64
  · rw [dif_pos h14]
    exact key 14 (by decide) (by omega)
  rw [dif_neg h14]
  exact key 15 (by decide) (by omega)

/-- The backward direction's decays of the state, a head to 64 rows. -/
theorem decay1_at {s : FVec Ideal S1x128 .f32} {σ : ℕ → ℝ} (hs : ∀ l : Fin 128, s (ix2 0 l) = ((σ l : ℝ) : EReal)) (q : Fin 1024) (n : Fin 128) :
    k0_pay385 (k0_pay367 (iota Kind.tc S1x128 32 [1] iota_S1x128_d1_w32) s) (k0_pay368 (iota Kind.tc S1x128 32 [1] iota_S1x128_d1_w32) s) (k0_pay369 (iota Kind.tc S1x128 32 [1] iota_S1x128_d1_w32) s) (k0_pay370 (iota Kind.tc S1x128 32 [1] iota_S1x128_d1_w32) s) (k0_pay371 (iota Kind.tc S1x128 32 [1] iota_S1x128_d1_w32) s) (k0_pay372 (iota Kind.tc S1x128 32 [1] iota_S1x128_d1_w32) (k0_pay366 s)) (k0_pay373 (iota Kind.tc S1x128 32 [1] iota_S1x128_d1_w32) (k0_pay366 s)) (k0_pay374 (iota Kind.tc S1x128 32 [1] iota_S1x128_d1_w32) (k0_pay366 s)) (k0_pay375 (iota Kind.tc S1x128 32 [1] iota_S1x128_d1_w32) (k0_pay366 s)) (k0_pay376 (iota Kind.tc S1x128 32 [1] iota_S1x128_d1_w32) (k0_pay366 s)) (k0_pay379 (k0_pay366 s) (k0_pay377 (iota Kind.tc S1x128 32 [1] iota_S1x128_d1_w32)) k0_pay378) (k0_pay380 (iota Kind.tc S1x128 32 [1] iota_S1x128_d1_w32) (k0_pay366 s)) (k0_pay381 (iota Kind.tc S1x128 32 [1] iota_S1x128_d1_w32) (k0_pay366 s)) (k0_pay382 (iota Kind.tc S1x128 32 [1] iota_S1x128_d1_w32) (k0_pay366 s)) (k0_pay383 (iota Kind.tc S1x128 32 [1] iota_S1x128_d1_w32) (k0_pay366 s)) (k0_pay384 (iota Kind.tc S1x128 32 [1] iota_S1x128_d1_w32) (k0_pay366 s)) (ix2 q n)
      = ((Real.exp (σ (q.val / 64)) : ℝ) : EReal) := by
  have e1 : ∀ l : Fin 128, k0_pay366 s (ix2 0 l) = ((Real.exp (σ l) : ℝ) : EReal) := fun l => by
    have := hs l
    pointwise [k0_pay366]
    rw [this, Ideal.exp_coe]
  have e2 := column_at (es := k0_pay366 s) (ε := fun l => Real.exp (σ l)) e1
  unfold k0_pay367 k0_pay368 k0_pay369 k0_pay370 k0_pay371
  generalize k0_pay366 s = es at e2 ⊢
  pointwise [k0_pay385, k0_pay372, k0_pay373, k0_pay374, k0_pay375, k0_pay376, k0_pay377, k0_pay378, k0_pay379, k0_pay380, k0_pay381, k0_pay382, k0_pay383, k0_pay384]
  have key : ∀ h : ℕ, h < 16 → q.val / 64 = h → ∑ l : Fin 128, Scalar.select (IntOp.cmpi CmpIPredicate.eq (BitVec.ofNat 32 l.val) (BitVec.ofNat 32 h)) (es (ix2 0 l)) 0 = ((Real.exp (σ (q.val / 64)) : ℝ) : EReal) := fun h hh hq => by
    rw [hq]
    exact e2 ⟨h, hh⟩
  by_cases h0 : q.val < 64
  · rw [dif_pos h0]
    exact key 0 (by decide) (by omega)
  rw [dif_neg h0]
  by_cases h1 : q.val - 64 < 64
  · rw [dif_pos h1]
    exact key 1 (by decide) (by omega)
  rw [dif_neg h1]
  by_cases h2 : q.val - 64 - 64 < 64
  · rw [dif_pos h2]
    exact key 2 (by decide) (by omega)
  rw [dif_neg h2]
  by_cases h3 : q.val - 64 - 64 - 64 < 64
  · rw [dif_pos h3]
    exact key 3 (by decide) (by omega)
  rw [dif_neg h3]
  by_cases h4 : q.val - 64 - 64 - 64 - 64 < 64
  · rw [dif_pos h4]
    exact key 4 (by decide) (by omega)
  rw [dif_neg h4]
  by_cases h5 : q.val - 64 - 64 - 64 - 64 - 64 < 64
  · rw [dif_pos h5]
    exact key 5 (by decide) (by omega)
  rw [dif_neg h5]
  by_cases h6 : q.val - 64 - 64 - 64 - 64 - 64 - 64 < 64
  · rw [dif_pos h6]
    exact key 6 (by decide) (by omega)
  rw [dif_neg h6]
  by_cases h7 : q.val - 64 - 64 - 64 - 64 - 64 - 64 - 64 < 64
  · rw [dif_pos h7]
    exact key 7 (by decide) (by omega)
  rw [dif_neg h7]
  by_cases h8 : q.val - 64 - 64 - 64 - 64 - 64 - 64 - 64 - 64 < 64
  · rw [dif_pos h8]
    exact key 8 (by decide) (by omega)
  rw [dif_neg h8]
  by_cases h9 : q.val - 64 - 64 - 64 - 64 - 64 - 64 - 64 - 64 - 64 < 64
  · rw [dif_pos h9]
    exact key 9 (by decide) (by omega)
  rw [dif_neg h9]
  by_cases h10 : q.val - 64 - 64 - 64 - 64 - 64 - 64 - 64 - 64 - 64 - 64 < 64
  · rw [dif_pos h10]
    exact key 10 (by decide) (by omega)
  rw [dif_neg h10]
  by_cases h11 : q.val - 64 - 64 - 64 - 64 - 64 - 64 - 64 - 64 - 64 - 64 - 64 < 64
  · rw [dif_pos h11]
    exact key 11 (by decide) (by omega)
  rw [dif_neg h11]
  by_cases h12 : q.val - 64 - 64 - 64 - 64 - 64 - 64 - 64 - 64 - 64 - 64 - 64 - 64 < 64
  · rw [dif_pos h12]
    exact key 12 (by decide) (by omega)
  rw [dif_neg h12]
  by_cases h13 : q.val - 64 - 64 - 64 - 64 - 64 - 64 - 64 - 64 - 64 - 64 - 64 - 64 - 64 < 64
  · rw [dif_pos h13]
    exact key 13 (by decide) (by omega)
  rw [dif_neg h13]
  by_cases h14 : q.val - 64 - 64 - 64 - 64 - 64 - 64 - 64 - 64 - 64 - 64 - 64 - 64 - 64 - 64 < 64
  · rw [dif_pos h14]
    exact key 14 (by decide) (by omega)
  rw [dif_neg h14]
  exact key 15 (by decide) (by omega)

end parts

section step
variable {x : Vec Ideal S128x128 .f32} {r0 r2 : Vec Ideal S1x128 .f32} {cb : Vec Ideal S128x128 .f32} {y : Vec Ideal S128x1024 .f32}
  {e : Vec Ideal S256x1024 .bf16} {dh : Vec Ideal S1x1024x128 .f32} {xr : ℕ → ℕ → ℝ} {br al : ℕ → ℝ} {yr wr gr : ℕ → ℕ → ℝ}

/-- **The forward direction's chunk at an index.** -/
theorem step0_at (hx : ∀ i l : Fin 128, x (ix2 i l) = ((xr i l : ℝ) : EReal)) (h0 : ∀ l : Fin 128, r0 (ix2 0 l) = ((br l : ℝ) : EReal))
    (h2 : ∀ l : Fin 128, r2 (ix2 0 l) = ((al l : ℝ) : EReal)) (hc : ∀ i n : Fin 128, cb (ix2 i n) = ((wr i n : ℝ) : EReal))
    (hy : ∀ (i : Fin 128) (q : Fin 1024), y (ix2 i q) = ((yr i q : ℝ) : EReal))
    (he : ∀ (k : Fin 256) (q : Fin 1024), e (ix2 k q) = if k.val % 128 = q.val / 64 then (1 : EReal) else 0)
    (hg : ∀ (q : Fin 1024) (n : Fin 128), dh (ix3 0 q n) = ((gr q n : ℝ) : EReal)) (q : Fin 1024) (n : Fin 128) :
    step0 x r0 r2 cb y e dh (ix2 q n)
      = ((∑ i ∈ Finset.range 128, yr i q * wr i n * Real.exp (∑ j ∈ Finset.range (i + 1), laneDecay xr br al j (q / 64))
          + gr q n * Real.exp (∑ j ∈ Finset.range 128, laneDecay xr br al j (q / 64)) : ℝ) : EReal) := by
  have a0 := pay12_at hx h0 h2
  have a1 := pay15_at a0
  have a2 : ∀ i l : Fin 128, k0_pay25 (k0_pay12 x r0 r2) k0_pay13 (ix2 i l) = ((Real.exp (∑ j ∈ Finset.range (i.val + 1), laneDecay xr br al j l) : ℝ) : EReal) := fun i l => by
    have := a1 i l
    pointwise [k0_pay25]
    rw [this, Ideal.exp_coe]
  have a3 : ∀ (i : Fin 128) (q : Fin 1024), k0_pay28 (k0_pay25 (k0_pay12 x r0 r2) k0_pay13) (k0_pay26 (k0_pay12 x r0 r2) k0_pay13) (k0_pay27 (k0_pay12 x r0 r2) k0_pay13) e (ix2 i q) = _ :=
    pay28_at (α := fun i l => Real.exp (∑ j ∈ Finset.range (i + 1), laneDecay xr br al j l)) a2 he
  have a4 := decay0_at (σ := fun l => ∑ j ∈ Finset.range 128, laneDecay xr br al j l) (pay16_at a0) q n
  have a5 := hg q n
  have a6 := fun i => hc i n
  have a7 := fun i => hy i q
  have a8 := fun i => a3 i q
  unfold step0
  pointwise [k0_pay51, k0_pay31, k0_pay29, k0_pay24, k0_pay21]
  rw [a4, a5]
  simp only [a6, a7, a8, ← EReal.coe_mul]
  rw [← coe_sum, Fin.sum_univ_eq_sum_range (fun i => yr i q * Real.exp (∑ j ∈ Finset.range (i + 1), laneDecay xr br al j (q.val / 64)) * wr i n), ← EReal.coe_add]
  refine congrArg _ (congrArg₂ _ (Finset.sum_congr rfl fun i _ => ?_) rfl)
  ring

/-- **The backward direction's chunk at an index.** -/
theorem step1_at (hx : ∀ i l : Fin 128, x (ix2 i l) = ((xr i l : ℝ) : EReal)) (h0 : ∀ l : Fin 128, r0 (ix2 0 l) = ((br l : ℝ) : EReal))
    (h2 : ∀ l : Fin 128, r2 (ix2 0 l) = ((al l : ℝ) : EReal)) (hc : ∀ i n : Fin 128, cb (ix2 i n) = ((wr i n : ℝ) : EReal))
    (hy : ∀ (i : Fin 128) (q : Fin 1024), y (ix2 i q) = ((yr i q : ℝ) : EReal))
    (he : ∀ (k : Fin 256) (q : Fin 1024), e (ix2 k q) = if k.val % 128 = q.val / 64 then (1 : EReal) else 0)
    (hg : ∀ (q : Fin 1024) (n : Fin 128), dh (ix3 0 q n) = ((gr q n : ℝ) : EReal)) (q : Fin 1024) (n : Fin 128) :
    step1 x r0 r2 cb y e dh (ix2 q n)
      = ((∑ i ∈ Finset.range 128, yr i q * wr i n * Real.exp (∑ j ∈ Finset.range 128, if i ≤ j then laneDecay xr br al j (q / 64) else 0)
          + gr q n * Real.exp (∑ j ∈ Finset.range 128, laneDecay xr br al j (q / 64)) : ℝ) : EReal) := by
  have a0 := pay345_at hx h0 h2
  have a3 := pay360_at (α := fun i l => ∑ j ∈ Finset.range 128, if i ≤ j then laneDecay xr br al j l else 0) (pay348_at a0) he
  have a4 := decay1_at (σ := fun l => ∑ j ∈ Finset.range 128, laneDecay xr br al j l) (pay349_at a0) q n
  have a5 := hg q n
  have a6 := fun i => hc i n
  have a7 := fun i => hy i q
  have a8 := fun i => a3 i q
  unfold step1
  pointwise [k0_pay386, k0_pay363, k0_pay361, k0_pay359, k0_pay356]
  rw [a4, a5]
  simp only [a6, a7, a8, ← EReal.coe_mul]
  rw [← coe_sum, Fin.sum_univ_eq_sum_range (fun i => yr i q * Real.exp (∑ j ∈ Finset.range 128, if i ≤ j then laneDecay xr br al j (q.val / 64) else 0) * wr i n), ← EReal.coe_add]
  refine congrArg _ (congrArg₂ _ (Finset.sum_congr rfl fun i _ => ?_) rfl)
  ring

end step

end Cert.KernelIdeal.Scan

end
-- ==== Proof.Chunk.lean ====
module

public import proofs.«01_k».proof.Proof.Step

@[expose] public section

set_option maxRecDepth 16384

/-!
# One chunk of the scan's gradient

What a grid point makes of its chunk is the step of the gradient over 128 places of the sequence: the forward direction
walks the chunks from the last to the first, and the backward direction, whose steps count from the end of the sequence,
from the first to the last.
-/

noncomputable section

namespace Cert.Scan

open Cert.KernelIdeal.Scan (laneDecay)

/-- The padded lanes' decay is the head's own. -/
theorem lane_decay {xr : ℕ → ℕ → ℝ} {x b al : ℕ → ℕ → ℝ} {d o j p : ℕ} (hp : p < 1024)
    (hx : ∀ h, h < 16 → xr j h = x (o + j) (16 * d + h)) :
    laneDecay xr (fun l => if l < 16 then b d l else 0) (fun l => if l < 16 then al d l else 0) j (p / 64)
      = logDecay x b al d (o + j) (p / 64) := by
  have h16 : p / 64 < 16 := by omega
  simp only [laneDecay, logDecay, rate, if_pos h16, hx _ h16]

/-- The forward direction: chunk `k`. -/
theorem chunk_forward (y w x b al : ℕ → ℕ → ℝ) (g : ℕ → ℕ → ℕ → ℝ) (k p n : ℕ) (hk : k < 128) (hp : p < 1024) :
    ∑ i ∈ Finset.range 128, y (128 * k + i) p * w (128 * k + i) (1152 + n)
        * Real.exp (∑ j ∈ Finset.range (i + 1), laneDecay (fun i l => if l < 16 then x (128 * k + i) l else 0)
            (fun l => if l < 16 then b 0 l else 0) (fun l => if l < 16 then al 0 l else 0) j (p / 64))
      + stateGrad y w x b al g 0 (128 * (k + 1)) p n
        * Real.exp (∑ j ∈ Finset.range 128, laneDecay (fun i l => if l < 16 then x (128 * k + i) l else 0)
            (fun l => if l < 16 then b 0 l else 0) (fun l => if l < 16 then al 0 l else 0) j (p / 64))
      = stateGrad y w x b al g 0 (128 * k) p n := by
  have e : ∀ j, laneDecay (fun i l => if l < 16 then x (128 * k + i) l else 0)
      (fun l => if l < 16 then b 0 l else 0) (fun l => if l < 16 then al 0 l else 0) j (p / 64) = logDecay x b al 0 (128 * k + j) (p / 64) :=
    fun j => lane_decay hp (fun h hh => by rw [if_pos hh, Nat.mul_zero, Nat.zero_add])
  simp only [e]
  unfold stateGrad
  rw [back_chunk _ _ _ 16384 (128 * k) 128 (by omega), Nat.mul_add, Nat.mul_one]
  simp only [pos, if_true]

/-- The backward direction: chunk `t`, which is the chunk `127 - t` of its steps. -/
theorem chunk_backward (y w x b al : ℕ → ℕ → ℝ) (g : ℕ → ℕ → ℕ → ℝ) (t p n : ℕ) (ht : t < 128) (hp : p < 1024) :
    ∑ i ∈ Finset.range 128, y (128 * t + i) p * w (128 * t + i) (1152 + n)
        * Real.exp (∑ j ∈ Finset.range 128, if i ≤ j then laneDecay (fun i l => if l < 16 then x (128 * t + i) (16 + l) else 0)
            (fun l => if l < 16 then b 1 l else 0) (fun l => if l < 16 then al 1 l else 0) j (p / 64) else 0)
      + stateGrad y w x b al g 1 (128 * (127 - t + 1)) p n
        * Real.exp (∑ j ∈ Finset.range 128, laneDecay (fun i l => if l < 16 then x (128 * t + i) (16 + l) else 0)
            (fun l => if l < 16 then b 1 l else 0) (fun l => if l < 16 then al 1 l else 0) j (p / 64))
      = stateGrad y w x b al g 1 (128 * (127 - t)) p n := by
  have e : ∀ j, laneDecay (fun i l => if l < 16 then x (128 * t + i) (16 + l) else 0)
      (fun l => if l < 16 then b 1 l else 0) (fun l => if l < 16 then al 1 l else 0) j (p / 64) = logDecay x b al 1 (128 * t + j) (p / 64) :=
    fun j => lane_decay hp (fun h hh => by rw [if_pos hh])
  have hpos : ∀ j, j < 128 → pos 1 (128 * (127 - t) + j) = 128 * t + (128 - 1 - j) := fun j hj => by
    rw [pos, if_neg (by decide)]; omega
  simp only [e]
  unfold stateGrad
  rw [back_chunk _ _ _ 16384 (128 * (127 - t)) 128 (by omega), Nat.mul_add 128 (127 - t) 1, Nat.mul_one]
  refine congrArg₂ _ ?_ (congrArg _ (congrArg _ ?_))
  · rw [← sum_range_rev]
    refine Finset.sum_congr rfl fun i hi => ?_
    have hi' := Finset.mem_range.mp hi
    rw [hpos i hi', ← sum_rev_tail (fun j => logDecay x b al 1 (128 * t + j) (p / 64)) 128 (128 - 1 - i) (by omega),
      show 128 - 1 - (128 - 1 - i) + 1 = i + 1 by omega]
    refine congrArg _ (congrArg _ (Finset.sum_congr rfl fun j hj => ?_))
    have hj' := Finset.mem_range.mp hj
    rw [hpos j (by omega)]
  · rw [← sum_range_rev]
    refine Finset.sum_congr rfl fun j hj => ?_
    rw [hpos j (Finset.mem_range.mp hj)]

end Cert.Scan

end
-- ==== Proof.Carry.lean ====
module

public import proofs.«01_k».proof.Proof.Gen.KernelIdeal.Value
public import proofs.«01_k».proof.Proof.Blocks
public import proofs.«01_k».proof.Proof.Chunk
public import Idealize.ShloMosaic.Lib.Pointwise
public import Idealize.ShloMosaic.Lib.Pipeline.ReadBack
public import Idealize.ShloMosaic.Lib.Claim
public import Idealize.ShloMosaic.Lib.Pipeline.ValueKit

@[expose] public section

set_option maxRecDepth 16384

/-!
# The gradients of the states, carried from point to point

The call carries the two gradients in one buffer of two slots.  After point `k` the slots hold the gradients of the two
states before the chunk that point took, which the previous point's contents determine.
-/

noncomputable section

namespace Cert.KernelIdeal.Scan

open Idealize.ShloMosaic Idealize.ShloMosaic.TcCoe Idealize.SL.Sem
open Idealize.ShloMosaic.Pipeline (Dat)
open Cert.KernelIdeal Cert.KernelIdeal.Gen Cert.Scan

variable {m : (ℓ : Loc nD τ sig) → Buf (Elt Ideal) ℓ} {c : Dev nD} {y w x b al : ℕ → ℕ → ℝ} {g : ℕ → ℕ → ℕ → ℝ}

/-- The rectangle of the forward direction's slot. -/
abbrev slotA : Rect S2x1024x128 := Rect.unit ![0, 0, 0] ![1, 1024, 128] inb_S2x1024x128_S1x1024x128_0_0_0

/-- The rectangle of the backward direction's slot. -/
abbrev slotB : Rect S2x1024x128 := Rect.unit ![1, 0, 0] ![1, 1024, 128] inb_S2x1024x128_S1x1024x128_1_0_0

/-- What was stored last into the backward direction's slot is read there. -/
theorem canon_slot1 (A : slotB.shape.Idx → Elt Ideal .f32) (L : List (View.Piece (Elt Ideal) S2x1024x128 .f32)) (q : Fin 1024) (n : Fin 128) :
    View.canon (⟨slotB, A⟩ :: L) (ix3 1 q n) = A (ix3 0 q n) := by
  have e : (ix3 1 q n : S2x1024x128.Idx) = slotB.emb (ix3 0 q n) := by blk_ext
  rw [e]
  exact View.canon_cons_emb slotB A L (ix3 0 q n)

/-- The forward direction's slot keeps what was stored before. -/
theorem canon_slot0 (A : slotB.shape.Idx → Elt Ideal .f32) (B : slotA.shape.Idx → Elt Ideal .f32) (L : List (View.Piece (Elt Ideal) S2x1024x128 .f32)) (q : Fin 1024) (n : Fin 128) :
    View.canon (⟨slotB, A⟩ :: ⟨slotA, B⟩ :: L) (ix3 0 q n) = B (ix3 0 q n) := by
  have e : (ix3 0 q n : S2x1024x128.Idx) = slotA.emb (ix3 0 q n) := by blk_ext
  refine (View.canon_cons_of_not_mem ⟨slotB, A⟩ _ ?_).trans ?_
  · rw [e]
    exact LoadRect.idx_not_mem_of_disj (p := slotB) (B := slotA.toLoadRect) (by decide) (ix3 0 q n)
  rw [e]
  exact View.canon_cons_emb slotA B L (ix3 0 q n)

/-- The rectangle of both slots. -/
abbrev slots : Rect S2x1024x128 := Rect.unit ![0, 0, 0] ![2, 1024, 128] inb_S2x1024x128_S2x1024x128_0_0_0

/-- After both slots were filled, the first is read. -/
theorem readback0 (O : S2x1024x128.Idx → Elt Ideal .f32) (q : Fin 1024) (n : Fin 128) :
    (View.whole cc0_scratch0).readCov [⟨slots, O⟩] slotA.toLoadRect (ix3 0 q n) = O (ix3 0 q n) := by
  rw [View.readCov_eq_canon']
  have e : (ix3 0 q n : S2x1024x128.Idx) = slots.emb (ix3 0 q n) := by blk_ext
  have e' : slotA.toLoadRect.idx (ix3 0 q n) = slots.emb (ix3 0 q n : S2x1024x128.Idx) := (show slotA.emb (ix3 0 q n) = (ix3 0 q n : S2x1024x128.Idx) by blk_ext).trans e
  exact (congrArg _ e').trans (View.canon_cons_emb slots O [] (ix3 0 q n))

/-- After both slots were filled and the first was stored again, the second is read. -/
theorem readback1 (A : slotA.shape.Idx → Elt Ideal .f32) (O : S2x1024x128.Idx → Elt Ideal .f32) (q : Fin 1024) (n : Fin 128) :
    (View.whole cc0_scratch0).readCov [⟨slotA, A⟩, ⟨slots, O⟩] slotB.toLoadRect (ix3 0 q n) = O (ix3 1 q n) := by
  rw [View.readCov_skip _ slotA A _ slotB.toLoadRect (by decide), View.readCov_eq_canon']
  have e : (ix3 1 q n : S2x1024x128.Idx) = slots.emb (ix3 1 q n) := by blk_ext
  have e' : slotB.toLoadRect.idx (ix3 0 q n) = slots.emb (ix3 1 q n : S2x1024x128.Idx) := (show slotB.emb (ix3 0 q n) = (ix3 1 q n : S2x1024x128.Idx) by blk_ext).trans e
  exact (congrArg _ e').trans (View.canon_cons_emb slots O [] (ix3 1 q n))

/-- The stored block is the matrix with a leading axis. -/
theorem pay2_at (S : FVec Ideal S1024x128 .f32) (q : Fin 1024) (n : Fin 128) : k0_pay2 S (ix3 0 q n) = S (ix2 q n) := by
  pointwise [k0_pay2]

/-- The stored block is the matrix with a leading axis. -/
theorem pay337_at (S : FVec Ideal S1024x128 .f32) (q : Fin 1024) (n : Fin 128) : k0_pay337 S (ix3 0 q n) = S (ix2 q n) := by
  pointwise [k0_pay337]

/-- What point `t` makes of the state's gradient in the forward direction. -/
theorem new0 (H : Args m c y w x b al g) (t : Fin cfg0.N) {r0 r2 : Vec Ideal S1x128 .f32} {cb : Vec Ideal S128x128 .f32} {dh : Vec Ideal S1x1024x128 .f32}
    (h0 : ∀ l : Fin 128, r0 (ix2 0 l) = iblk m c 9 t (ix2 0 l)) (h2 : ∀ l : Fin 128, r2 (ix2 0 l) = iblk m c 9 t (ix2 2 l))
    (hc : ∀ i n : Fin 128, cb (ix2 i n) = iblk m c 2 t (ix2 i ⟨1152 + n.val, by omega⟩))
    (hg : ∀ (q : Fin 1024) (n : Fin 128), dh (ix3 0 q n) = ((stateGrad y w x b al g 0 (128 * (127 - t.val + 1)) q n : ℝ) : EReal))
    (q : Fin 1024) (n : Fin 128) :
    step0 (iblk m c 4 t) r0 r2 cb (iblk m c 0 t) (iblk m c 10 t) dh (ix2 q n) = ((stateGrad y w x b al g 0 (128 * (127 - t.val)) q n : ℝ) : EReal) :=
  (step0_at (xr := fun i l => if l < 16 then x (128 * (127 - t.val) + i) l else 0)
      (br := fun l => if l < 16 then b 0 l else 0) (al := fun l => if l < 16 then al 0 l else 0)
      (wr := fun i n => w (128 * (127 - t.val) + i) (1152 + n)) (yr := fun i q => y (128 * (127 - t.val) + i) q)
      (gr := fun q n => stateGrad y w x b al g 0 (128 * (127 - t.val + 1)) q n)
      (blk4 H t) (fun l => (h0 l).trans (blk9 H t 0 l)) (fun l => (h2 l).trans (blk9 H t 2 l)) (fun i n => (hc i n).trans (blk2 H t i ⟨1152 + n.val, by omega⟩))
      (blk0 H t) (blk10 t) hg q n).trans
    (congrArg _ (chunk_forward y w x b al g (127 - t.val) q n (by omega) q.isLt))

/-- What point `t` makes of the state's gradient in the backward direction. -/
theorem new1 (H : Args m c y w x b al g) (t : Fin cfg0.N) {r1 r3 : Vec Ideal S1x128 .f32} {cb : Vec Ideal S128x128 .f32} {dh : Vec Ideal S1x1024x128 .f32}
    (h1 : ∀ l : Fin 128, r1 (ix2 0 l) = iblk m c 9 t (ix2 1 l)) (h3 : ∀ l : Fin 128, r3 (ix2 0 l) = iblk m c 9 t (ix2 3 l))
    (hc : ∀ i n : Fin 128, cb (ix2 i n) = iblk m c 3 t (ix2 i ⟨1152 + n.val, by omega⟩))
    (hg : ∀ (q : Fin 1024) (n : Fin 128), dh (ix3 0 q n) = ((stateGrad y w x b al g 1 (128 * (127 - t.val + 1)) q n : ℝ) : EReal))
    (q : Fin 1024) (n : Fin 128) :
    step1 (iblk m c 5 t) r1 r3 cb (iblk m c 1 t) (iblk m c 10 t) dh (ix2 q n) = ((stateGrad y w x b al g 1 (128 * (127 - t.val)) q n : ℝ) : EReal) :=
  (step1_at (xr := fun i l => if l < 16 then x (128 * t.val + i) (16 + l) else 0)
      (br := fun l => if l < 16 then b 1 l else 0) (al := fun l => if l < 16 then al 1 l else 0)
      (wr := fun i n => w (128 * t.val + i) (1152 + n)) (yr := fun i q => y (128 * t.val + i) q)
      (gr := fun q n => stateGrad y w x b al g 1 (128 * (127 - t.val + 1)) q n)
      (blk5 H t) (fun l => (h1 l).trans (blk9 H t 1 l)) (fun l => (h3 l).trans (blk9 H t 3 l)) (fun i n => (hc i n).trans (blk3 H t i ⟨1152 + n.val, by omega⟩))
      (blk1 H t) (blk10 t) hg q n).trans
    (congrArg _ (chunk_backward y w x b al g t.val q n (idxA t).2.2.2.2.2.2 q.isLt))

/-- The gradients of the two states carried after point `k`. -/
abbrev carried (m : (ℓ : Loc nD τ sig) → Buf (Elt Ideal) ℓ) (c : Dev nD) (k : ℕ) (hk : k < cfg0.N) : Vec Ideal S2x1024x128 .f32 := (outsAt0 m c k hk).2.2.2.2.2.2.1

/-- The carried gradients after a point that is not the first. -/
theorem carry_B (H : Args m c y w x b al g) (t : Fin cfg0.N) (h : ¬ t.val % 128 = 0) (hlt : t.val - 1 < cfg0.N)
    (ih : ∀ (d : Fin 2) (q : Fin 1024) (n : Fin 128), carried m c (t.val - 1) hlt (ix3 d q n)
      = ((stateGrad y w x b al g d (128 * (127 - t.val + 1)) q n : ℝ) : EReal)) (d : Fin 2) (q : Fin 1024) (n : Fin 128) :
    carried m c t.val t.isLt (ix3 d q n) = ((stateGrad y w x b al g d (128 * (127 - t.val)) q n : ℝ) : EReal) := by
  unfold carried at ih ⊢
  rw [outsAt0_B m c t h]
  frame_out
  generalize outsAt0 m c (t.val - 1) hlt = O at ih ⊢
  fin_cases d
  · refine (canon_slot0 _ _ _ q n).trans ((pay337_at _ q n).trans (new0 H t (fun l => ?_) (fun l => ?_) (fun i n => ?_) (fun q n => ?_) q n))
    · pointwise
    · pointwise
    · pointwise
    · pointwise
      exact (congrFun (Memref.IsWhole.read_unread _ _) (ix3 0 q n)).trans (ih 0 q n)
  · refine (canon_slot1 _ _ q n).trans ((pay2_at _ q n).trans (new1 H t (fun l => ?_) (fun l => ?_) (fun i n => ?_) (fun q n => ?_) q n))
    · pointwise
    · pointwise
    · pointwise
    · pointwise
      exact (congrFun (Memref.IsWhole.read_unread _ _) (ix3 1 q n)).trans (ih 1 q n)

/-- The carried gradients after the first point. -/
theorem carry_A (H : Args m c y w x b al g) (t : Fin cfg0.N) (h : t.val % 128 = 0) (d : Fin 2) (q : Fin 1024) (n : Fin 128) :
    carried m c t.val t.isLt (ix3 d q n) = ((stateGrad y w x b al g d (128 * (127 - t.val)) q n : ℝ) : EReal) := by
  have ht : t.val = 0 := by have := (idxA t).2.2.2.2.2.2; omega
  have init : ∀ (d : Fin 2) (q : Fin 1024) (n : Fin 128), k0_pay4 (iblk m c 8 t) (ix3 d q n) = ((stateGrad y w x b al g d (128 * (127 - t.val + 1)) q n : ℝ) : EReal) := fun d q n => by
    have e := blk8 H t d q n
    pointwise [k0_pay4]
    rw [e, ht]
    unfold stateGrad
    rw [show 128 * (127 - 0 + 1) = 16384 by norm_num, back_last]
  unfold carried
  rw [outsAt0_A m c t h]
  frame_out
  generalize k0_pay4 (F := Ideal) (iblk m c 8 t) = O at init ⊢
  fin_cases d
  · refine (canon_slot0 _ _ _ q n).trans ((pay337_at _ q n).trans (new0 H t (fun l => ?_) (fun l => ?_) (fun i n => ?_) (fun q n => ?_) q n))
    · pointwise
    · pointwise
    · pointwise
    · exact (readback0 O q n).trans (init 0 q n)
  · refine (canon_slot1 _ _ q n).trans ((pay2_at _ q n).trans (new1 H t (fun l => ?_) (fun l => ?_) (fun i n => ?_) (fun q n => ?_) q n))
    · pointwise
    · pointwise
    · pointwise
    · exact (readback1 _ O q n).trans (init 1 q n)

/-- **The carried gradients after every point**: point `k` has taken the chunks `127 - k` and above. -/
theorem carry (H : Args m c y w x b al g) : ∀ (k : ℕ) (hk : k < cfg0.N) (d : Fin 2) (q : Fin 1024) (n : Fin 128),
    carried m c k hk (ix3 d q n) = ((stateGrad y w x b al g d (128 * (127 - k)) q n : ℝ) : EReal)
  | 0, hk, d, q, n => carry_A H ⟨0, hk⟩ rfl d q n
  | k + 1, hk, d, q, n => by
    have hlt := (idxA ⟨k + 1, hk⟩).2.2.2.2.2.2
    have hk' : k + 1 < 128 := hlt
    refine carry_B H ⟨k + 1, hk⟩ (by show ¬ (k + 1) % 128 = 0; omega) (Nat.lt_of_succ_lt hk) (fun d q n => ?_) d q n
    rw [show 127 - (k + 1) + 1 = 127 - k by omega]
    exact carry H k (Nat.lt_of_succ_lt hk) d q n

end Cert.KernelIdeal.Scan

end
-- ==== Proof.Final.lean ====
module

public import proofs.«01_k».proof.Proof.Gen.KernelIdeal.Value
public import proofs.«01_k».proof.Proof.Carry
public import Idealize.ShloMosaic.Lib.Pointwise
public import Idealize.ShloMosaic.Lib.Pipeline.ReadBack
public import Idealize.ShloMosaic.Lib.Claim
public import Idealize.ShloMosaic.Lib.Pipeline.ValueKit

@[expose] public section

set_option maxRecDepth 16384

/-!
# The gradient of the initial states

The last grid point stores its two gradients into the result's block, which is the whole result and is written back once.
-/

noncomputable section

namespace Cert.KernelIdeal.Scan

open Idealize.ShloMosaic Idealize.ShloMosaic.TcCoe Idealize.SL.Sem
open Idealize.ShloMosaic.Pipeline (Dat)
open Cert.KernelIdeal Cert.KernelIdeal.Gen Cert.Scan

variable {m : (ℓ : Loc nD τ sig) → Buf (Elt Ideal) ℓ} {c : Dev nD} {y w x b al : ℕ → ℕ → ℝ} {g : ℕ → ℕ → ℕ → ℝ}

/-- The last point. -/
abbrev tLast : Fin cfg0.N := ⟨127, by decide⟩

/-- The stored block is the matrix with a leading axis. -/
theorem pay3_at (S : FVec Ideal S1024x128 .f32) (q : Fin 1024) (n : Fin 128) : k0_pay3 S (ix3 0 q n) = S (ix2 q n) := by
  pointwise [k0_pay3]

/-- The stored block is the matrix with a leading axis. -/
theorem pay338_at (S : FVec Ideal S1024x128 .f32) (q : Fin 1024) (n : Fin 128) : k0_pay338 S (ix3 0 q n) = S (ix2 q n) := by
  pointwise [k0_pay338]

/-- What a point that is not the first stores into the result's block. -/
theorem result_B (H : Args m c y w x b al g) (t : Fin cfg0.N) (h : ¬ t.val % 128 = 0) (hlt : t.val - 1 < cfg0.N)
    (ih : ∀ (d : Fin 2) (q : Fin 1024) (n : Fin 128), carried m c (t.val - 1) hlt (ix3 d q n)
      = ((stateGrad y w x b al g d (128 * (127 - t.val + 1)) q n : ℝ) : EReal)) (d : Fin 2) (q : Fin 1024) (n : Fin 128) :
    (outsAt0 m c t.val t.isLt).2.2.2.2.2.1 (ix3 d q n) = ((stateGrad y w x b al g d (128 * (127 - t.val)) q n : ℝ) : EReal) := by
  unfold carried at ih
  rw [outsAt0_B m c t h]
  frame_out
  generalize outsAt0 m c (t.val - 1) hlt = O at ih ⊢
  fin_cases d
  · refine (canon_slot0 _ _ _ q n).trans ((pay338_at _ q n).trans (new0 H t (fun l => ?_) (fun l => ?_) (fun i n => ?_) (fun q n => ?_) q n))
    · pointwise
    · pointwise
    · pointwise
    · pointwise
      exact (congrFun (Memref.IsWhole.read_unread _ _) (ix3 0 q n)).trans (ih 0 q n)
  · refine (canon_slot1 _ _ q n).trans ((pay3_at _ q n).trans (new1 H t (fun l => ?_) (fun l => ?_) (fun i n => ?_) (fun q n => ?_) q n))
    · pointwise
    · pointwise
    · pointwise
    · pointwise
      exact (congrFun (Memref.IsWhole.read_unread _ _) (ix3 1 q n)).trans (ih 1 q n)

/-- What the last point stores into the result's block. -/
theorem last_at (H : Args m c y w x b al g) (t : Fin cfg0.N) (ht : t.val = 127) (d : Fin 2) (q : Fin 1024) (n : Fin 128) :
    (outsAt0 m c t.val t.isLt).2.2.2.2.2.1 (ix3 d q n) = ((stateGrad y w x b al g d 0 q n : ℝ) : EReal) := by
  have hlt : t.val - 1 < cfg0.N := lt_of_le_of_lt (Nat.sub_le _ _) t.isLt
  refine (result_B H t (by omega) hlt (fun d q n => ?_) d q n).trans ?_
  · rw [carry H (t.val - 1) hlt d q n, show 127 - (t.val - 1) = 127 - t.val + 1 by omega]
  · rw [show 128 * (127 - t.val) = 0 by omega]

/-- **The call's result**: the gradients of the two states before the first step. -/
theorem final (H : Args m c y w x b al g) :
    (dats m 0 c).arrAt 18 (cfgs 0).N = fun i => ((stateGrad y w x b al g (i 0).val 0 (i 1).val (i 2).val : ℝ) : EReal) := by
  refine (dats m 0 c).arrAt_eq_of_after_last 18 tLast (by decide +kernel) _ fun j => ?_
  blk_simp [idxB tLast]
  rw [after0_18]
  have e : j = (ix3 (j 0 : Fin 2) (j 1 : Fin 1024) (j 2 : Fin 128) : S2x1024x128.Idx) := by blk_ext
  rw [e]
  exact last_at H tLast rfl _ _ _

end Cert.KernelIdeal.Scan

end
-- ==== Proof.RunningSum.lean ====
module

public import Idealize.ShloMosaic.Lib.Routing.OpsOne
public import Idealize.ShloMosaic.Lib.Pointwise

@[expose] public section

/-!
# A float running sum over the rows of a matrix, at exact arithmetic
-/

namespace Cert.Scan

open Idealize.ShloMosaic Idealize.ShloMosaic.Routing Finset

/-- A left fold of additions is the start plus the sum. -/
theorem foldl_add_eq {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- The window that ends at row `j`, padded low with zeros, sums the rows `0 … j`. -/
theorem sum_window_rows (f : ℕ → EReal) (q j : ℕ) (hj : j ≤ q) :
    ∑ w ∈ range (q + 1), (if q ≤ j + w then f (j + w - q) else 0) = ∑ i ∈ range (j + 1), f i := by
  rw [← sum_filter]
  refine sum_nbij' (fun w => j + w - q) (fun i => q + i - j) ?_ ?_ ?_ ?_ ?_ <;>
    simp only [mem_filter, mem_range] <;> intros <;> first | omega | trivial

/-- `cumsum` along the rows as the host prints it (a window of the whole height, padded low by one less): entry `(j, c)`
    of the result is the sum of the entries `(0, c) … (j, c)`. -/
theorem cumsum_add_rows {R q C : ℕ} (hR : q + 1 = R) (x : FVec Ideal (shape2 R C) .f32) (f : ℕ → ℕ → EReal)
    (hx : ∀ (i : Fin R) (c : Fin C), x (ix2 i c) = f i.val c.val) (init : FVec Ideal shape0 .f32) (hinit : ∀ i, init i = (0 : EReal))
    (h : (shape2 R C).ReduceWindows (![R, 1] : Fin 2 → Nat) ![1, 1] ![q, 0] ![0, 0] (shape2 R C)) (hu : 0 < shape0.numel) (j : Fin R) (c : Fin C) :
    Host.reduceWindowAdd (F := Ideal) ![R, 1] ![1, 1] ![q, 0] ![0, 0] x init h hu (ix2 j c) = ∑ i ∈ range (j.val + 1), f i c.val := by
  subst hR
  have hj := j.isLt
  have hc := c.isLt
  rw [← sum_window_rows (fun i => f i c.val) q j.val (by omega)]
  show (List.finRange (shape2 (q + 1) 1).numel).foldl (fun r n => r + _) (init (Shape.Idx.first hu)) = _
  rw [foldl_add_eq, hinit, zero_add]
  refine (congrArg List.sum (List.map_congr_left (g := fun n => if q ≤ j.val + n.val then f (j.val + n.val - q) c.val else 0) fun n _ => ?_)).trans ?_
  · dsimp only
    have hw0 : ((shape2 (q + 1) 1).rowMajor.symm n 0).val = n.val := by rw [symm_col]; rfl
    have hw1 : ((shape2 (q + 1) 1).rowMajor.symm n 1).val = 0 := by rw [symm_col]; rfl
    have hn : n.val < q + 1 := (n.cast (numel_col _)).isLt
    split
    · next hin =>
      have h0 : q ≤ j.val * 1 + ((shape2 (q + 1) 1).rowMajor.symm n 0).val := (hin 0).1
      rw [hw0] at h0
      rw [if_pos (by omega)]
      refine (congrArg x (funext fun a => Fin.ext ?_)).trans (hx ⟨j.val + n.val - q, by omega⟩ c)
      match a with
      | ⟨0, _⟩ =>
        show j.val * 1 + ((shape2 (q + 1) 1).rowMajor.symm n 0).val - q = j.val + n.val - q
        rw [hw0, Nat.mul_one]
      | ⟨1, _⟩ =>
        show c.val * 1 + ((shape2 (q + 1) 1).rowMajor.symm n 1).val - 0 = c.val
        rw [hw1]
        omega
    · next hin =>
      rw [if_neg fun hle => hin fun a => by
        match a with
        | ⟨0, _⟩ =>
          show q ≤ j.val * 1 + ((shape2 (q + 1) 1).rowMajor.symm n 0).val
            ∧ j.val * 1 + ((shape2 (q + 1) 1).rowMajor.symm n 0).val - q < q + 1
          rw [hw0]
          omega
        | ⟨1, _⟩ =>
          show 0 ≤ c.val * 1 + ((shape2 (q + 1) 1).rowMajor.symm n 1).val ∧ c.val * 1 + ((shape2 (q + 1) 1).rowMajor.symm n 1).val - 0 < C
          rw [hw1]
          omega]
  rw [← List.ofFn_eq_map, List.sum_ofFn, Fin.sum_univ_eq_sum_range (fun w => if q ≤ j.val + w then f (j.val + w - q) c.val else 0), numel_col]

end Cert.Scan

end
-- ==== Proof.RefRead.lean ====
module

public import proofs.«01_k».proof.Proof.Spec
public import proofs.«01_k».proof.Proof.RunningSum
public import proofs.«01_k».proof.Proof.Gen.ReferenceIdeal.Run

@[expose] public section

set_option maxRecDepth 16384

/-!
# The reference's result, read at an index
-/

noncomputable section

namespace Cert.ReferenceIdeal.Read

open Idealize.ShloMosaic Idealize.ShloMosaic.TcCoe Idealize.SL.Sem Cert.ReferenceIdeal Cert.ReferenceIdeal.Gen
open Cert.ReferenceIdeal.Value Cert.Scan

variable {V0 : Valuation τ sig (Elt Ideal)} {y w x b al : ℕ → ℕ → ℝ} {g : ℕ → ℕ → ℕ → ℝ}

/-- The reference's argument arrays hold these real numbers. -/
abbrev Args (V0 : Valuation τ sig (Elt Ideal)) (y w x b al : ℕ → ℕ → ℝ) (g : ℕ → ℕ → ℕ → ℝ) : Prop :=
  Holds (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg10)) (V0 (Proc.devRef .tc main_arg11)) y w x b al g

/-- The biased rates. -/
theorem v3_at (H : Args V0 y w x b al g) (i : Fin 16384) (d : Fin 2) (h : Fin 16) :
    res_main_v3 V0 (ix3 i d h) = ((x i (16 * d + h) + b d h : ℝ) : EReal) := by
  pointwise [res_main_v3]
  refine (congrArg₂ (· + ·) (H.dt i ⟨d.val * 16 + h.val, by omega⟩) (H.bias d h)).trans ?_
  rw [← EReal.coe_add]
  simp only [Nat.mul_comm]

/-- The rates after the softplus. -/
theorem v4_at (H : Args V0 y w x b al g) (i : Fin 16384) (d : Fin 2) (h : Fin 16) :
    res_main_v4 V0 (ix3 i d h) = ((rate x b d i h : ℝ) : EReal) := by
  have h3 := v3_at H i d h
  have hs := softplus_coe (x i (16 * d + h) + b d h)
  pointwise [res_main_v4, res_main_call0_v3, res_main_call0_cst]
  rw [if_neg (fun hne => hne rfl), h3]
  exact hs

/-- The decay rates. -/
theorem v6_at (H : Args V0 y w x b al g) (d : Fin 2) (h : Fin 16) :
    res_main_v6 V0 (ix2 d h) = ((-(Real.exp (al d h)) : ℝ) : EReal) := by
  have h4 := H.alog d h
  pointwise [res_main_v6]
  rw [h4, Ideal.exp_coe, ← EReal.coe_neg]

/-- The cumulative logarithms of decays, forward. -/
theorem v18_at (H : Args V0 y w x b al g) (i : Fin 16384) (h : Fin 16) :
    res_main_v18 V0 (ix2 i h) = ((cum (fun j => logDecay x b al 0 (pos 0 j) h) (i.val + 1) : ℝ) : EReal) := by
  refine (cumsum_add_rows (q := 16383) rfl _ (fun j l => ((logDecay x b al 0 (pos 0 j) l : ℝ) : EReal)) ?_ _ ?_ _ _ i h).trans (coe_sum _ _).symm
  · intro i h
    have e1 := v4_at H i 0 h
    have e2 := v6_at H 0 h
    pointwise [res_main_v12]
    rw [e1, e2, ← EReal.coe_mul]
    rfl
  · intro i
    pointwise

/-- The cumulative logarithms of decays, from the end of the sequence. -/
theorem v76_at (H : Args V0 y w x b al g) (i : Fin 16384) (h : Fin 16) :
    res_main_v76 V0 (ix2 i h) = ((cum (fun j => logDecay x b al 1 (pos 1 j) h) (i.val + 1) : ℝ) : EReal) := by
  refine (cumsum_add_rows (q := 16383) rfl _ (fun j l => ((logDecay x b al 1 (pos 1 j) l : ℝ) : EReal)) ?_ _ ?_ _ _ i h).trans (coe_sum _ _).symm
  · intro i h
    have e1 := fun i' => v4_at H i' 1 h
    have e2 := v6_at H 1 h
    have hp : pos 1 i.val = (Fin.rev (n := 16384) i).val := by
      rw [pos, if_neg one_ne_zero, Fin.val_rev]
      have := i.isLt
      omega
    pointwise [res_main_v68]
    show HMul.hMul (α := EReal) (β := EReal) (γ := EReal) (res_main_v4 V0 (ix3 (Fin.rev (n := 16384) i) 1 h)) (res_main_v6 V0 (ix2 1 h)) = _
    rw [e1, e2, ← EReal.coe_mul, hp]
    rfl
  · intro i
    pointwise

/-- The sum of a real sequence over a finite type is a sum over a range. -/
theorem sum_fin_coe {n : ℕ} (f : ℕ → ℝ) : ∑ i : Fin n, ((f i : ℝ) : EReal) = ((∑ i ∈ Finset.range n, f i : ℝ) : EReal) := by
  rw [← coe_sum, Fin.sum_univ_eq_sum_range]

/-- The gradient of the initial state of the forward direction. -/
theorem fwd_at (H : Args V0 y w x b al g) (h : Fin 16) (p : Fin 64) (n : Fin 128) :
    addf (F := Ideal) (φ := .f32) (Host.dotGeneral (φ₁ := .f32) (φ₂ := .f32) dot_S16384x16x64_S16384x128_S16x64x128_0_0_12_1_n_n none (mulf (φ := .f32) (res_main_v126 V0) (broadcastInDim S16384x16x64 ![0, 1, 2] bcast_S16384x16x1_S16384x16x64_0_1_2 (res_main_v57 V0))) (res_main_v10 V0))
      (mulf (V0 (Proc.devRef .tc main_arg10)) (broadcastInDim S16x64x128 ![0, 1, 2] bcast_S16x1x1_S16x64x128_0_1_2 (res_main_v51 V0))) (ix3 h p n)
      = ((stateGrad y w x b al g 0 0 (64 * h + p) n : ℝ) : EReal) := by
  have e1 := fun i => H.dy i ⟨64 * h.val + p.val, by omega⟩
  have e2 := fun i => v18_at H i h
  have e3 := fun i => H.xbc i ⟨1152 + n.val, by omega⟩
  have e4 := H.gf h p n
  have e5 : ∀ q : Fin 1024, q.val = 64 * h.val + p.val → ∀ i : Fin 16384, V0 (Proc.devRef .tc main_arg0) (ix2 i q) = ((y i (64 * h.val + p.val) : ℝ) : EReal) := fun q hq i => by
    rw [H.dy i q, hq]
  pointwise [res_main_v126, res_main_v57, res_main_v10, res_main_v51]
  have hh : (64 * h.val + p.val) / 64 = h.val := by omega
  simp only [e5 ⟨h.val * 64 + p.val, by omega⟩ (by simp only []; omega), e2, e3, e4, Ideal.exp_coe, ← EReal.coe_mul, sum_fin_coe, ← EReal.coe_add]
  rw [sum_fin_coe (fun i => y i (64 * h.val + p.val) * Real.exp (cum (fun j => logDecay x b al 0 (pos 0 j) h) (i + 1)) * w i (1152 + n)), ← EReal.coe_add, stateGrad, back_zero]
  refine congrArg _ (congrArg₂ _ (Finset.sum_congr rfl fun i _ => ?_) ?_)
  · rw [hh]; simp only [pos, reduceIte]; ring
  · rw [hh]; rfl

theorem bwd_at (H : Args V0 y w x b al g) (h : Fin 16) (p : Fin 64) (n : Fin 128) :
    addf (F := Ideal) (φ := .f32) (Host.dotGeneral (φ₁ := .f32) (φ₂ := .f32) dot_S16384x16x64_S16384x128_S16x64x128_0_0_12_1_n_n none (mulf (φ := .f32) (Host.reverse [0] (res_main_v126 V0)) (broadcastInDim S16384x16x64 ![0, 1, 2] bcast_S16384x16x1_S16384x16x64_0_1_2 (res_main_v115 V0))) (res_main_v72 V0))
      (mulf (V0 (Proc.devRef .tc main_arg11)) (broadcastInDim S16x64x128 ![0, 1, 2] bcast_S16x1x1_S16x64x128_0_1_2 (res_main_v109 V0))) (ix3 h p n)
      = ((stateGrad y w x b al g 1 0 (64 * h + p) n : ℝ) : EReal) := by
  have e1 := fun i => H.dy i ⟨64 * h.val + p.val, by omega⟩
  have e2 := fun i => v76_at H i h
  have e3 := fun i => H.xbc i ⟨1152 + n.val, by omega⟩
  have e4 := H.gb h p n
  have e5 : ∀ q : Fin 1024, q.val = 64 * h.val + p.val → ∀ i : Fin 16384, V0 (Proc.devRef .tc main_arg0) (ix2 i q) = ((y i (64 * h.val + p.val) : ℝ) : EReal) := fun q hq i => by
    rw [H.dy i q, hq]
  pointwise [res_main_v126, res_main_v115, res_main_v72, res_main_v109]
  have hh : (64 * h.val + p.val) / 64 = h.val := by omega
  show HAdd.hAdd (α := EReal) (β := EReal) (γ := EReal) (∑ i : Fin 16384, HMul.hMul (α := EReal) (β := EReal) (γ := EReal) (HMul.hMul (α := EReal) (β := EReal) (γ := EReal) (V0 (Proc.devRef .tc main_arg0) (ix2 (Fin.rev i) ⟨h.val * 64 + p.val, by omega⟩)) (Ideal.exp (res_main_v76 V0 (ix2 i h)))) (V0 (Proc.devRef .tc main_arg1) (ix2 (Fin.rev i) ⟨1152 + n.val, by omega⟩)))
      (HMul.hMul (α := EReal) (β := EReal) (γ := EReal) (V0 (Proc.devRef .tc main_arg11) (ix3 h p n)) (Ideal.exp (res_main_v76 V0 (ix2 16383 h)))) = _
  simp only [e5 ⟨h.val * 64 + p.val, by omega⟩ (by simp only []; omega), e2, e3, e4, Ideal.exp_coe, ← EReal.coe_mul, Fin.val_rev]
  rw [sum_fin_coe (fun i => y (16384 - (i + 1)) (64 * h.val + p.val) * Real.exp (cum (fun j => logDecay x b al 1 (pos 1 j) h) (i + 1)) * w (16384 - (i + 1)) (1152 + n)), ← EReal.coe_add, stateGrad, back_zero]
  refine congrArg _ (congrArg₂ _ (Finset.sum_congr rfl fun i hi => ?_) ?_)
  · rw [hh]
    have hp : pos 1 i = 16384 - (i + 1) := by
      rw [pos, if_neg one_ne_zero]; omega
    simp only [hp]; ring
  · rw [hh]; rfl

/-- **The reference's result**: the gradient of the initial state, of each direction. -/
theorem result_at (H : Args V0 y w x b al g) (d : Fin 2) (q : Fin 1024) (n : Fin 128) :
    (shapeCast S2x1024x128 (concatenate S2x16x64x128 0 [⟨S1x16x64x128, (broadcastInDim S1x16x64x128 ![1, 2, 3] bcast_S16x64x128_S1x16x64x128_1_2_3 (addf (F := Ideal) (φ := .f32) (Host.dotGeneral (φ₁ := .f32) (φ₂ := .f32) dot_S16384x16x64_S16384x128_S16x64x128_0_0_12_1_n_n none (mulf (φ := .f32) (res_main_v126 V0) (broadcastInDim S16384x16x64 ![0, 1, 2] bcast_S16384x16x1_S16384x16x64_0_1_2 (res_main_v57 V0))) (res_main_v10 V0)) (mulf (V0 (Proc.devRef .tc main_arg10)) (broadcastInDim S16x64x128 ![0, 1, 2] bcast_S16x1x1_S16x64x128_0_1_2 (res_main_v51 V0)))))⟩, ⟨S1x16x64x128, (broadcastInDim S1x16x64x128 ![1, 2, 3] bcast_S16x64x128_S1x16x64x128_1_2_3 (addf (F := Ideal) (φ := .f32) (Host.dotGeneral (φ₁ := .f32) (φ₂ := .f32) dot_S16384x16x64_S16384x128_S16x64x128_0_0_12_1_n_n none (mulf (φ := .f32) (Host.reverse [0] (res_main_v126 V0)) (broadcastInDim S16384x16x64 ![0, 1, 2] bcast_S16384x16x1_S16384x16x64_0_1_2 (res_main_v115 V0))) (res_main_v72 V0)) (mulf (V0 (Proc.devRef .tc main_arg11)) (broadcastInDim S16x64x128 ![0, 1, 2] bcast_S16x1x1_S16x64x128_0_1_2 (res_main_v109 V0)))))⟩] concatenates_S1x16x64x128_S1x16x64x128_S2x16x64x128_d0) shapeCasts_S2x16x64x128_S2x1024x128) (ix3 d q n)
      = ((stateGrad y w x b al g d 0 q n : ℝ) : EReal) := by
  have e0 := fwd_at H ⟨q.val / 64, by omega⟩ ⟨q.val % 64, by omega⟩ n
  have e1 := bwd_at H ⟨q.val / 64, by omega⟩ ⟨q.val % 64, by omega⟩ n
  have hq : 64 * (q.val / 64) + q.val % 64 = q.val := by omega
  simp only [hq] at e0 e1
  generalize addf (F := Ideal) (φ := .f32) (Host.dotGeneral (φ₁ := .f32) (φ₂ := .f32) dot_S16384x16x64_S16384x128_S16x64x128_0_0_12_1_n_n none (mulf (φ := .f32) (res_main_v126 V0) _) _) _ = G0 at e0 ⊢
  generalize addf (F := Ideal) (φ := .f32) (Host.dotGeneral (φ₁ := .f32) (φ₂ := .f32) dot_S16384x16x64_S16384x128_S16x64x128_0_0_12_1_n_n none _ _) _ = G1 at e1 ⊢
  fin_vals d with hd
  · pointwise
    rw [dif_pos (by omega)]
    obtain rfl : d = 0 := Fin.ext hd
    exact e0
  · pointwise
    rw [dif_neg (by omega)]
    obtain rfl : d = 1 := Fin.ext hd
    exact e1

end Cert.ReferenceIdeal.Read

end
-- ==== Proof.Finite.lean ====
/-
  The precondition, read: `finite` says of each of seven arguments that the conjunction of `|x| < +∞` over its elements
  is true, so every element is a real number; and from real elements come the real arrays the value modules speak of.
-/
module

public import proofs.«01_k».proof.Defs
public import proofs.«01_k».proof.Proof.Gen.Pre_finite
public import proofs.«01_k».proof.Proof.Prepared
public import Idealize.ShloMosaic.Lib.ReduceAll
public import Idealize.ShloMosaic.Lib.Pointwise

@[expose] public section

noncomputable section

namespace Cert.Finite

open Idealize.ShloMosaic Idealize.ShloMosaic.TcCoe Idealize.SL.Sem

/-- An extended real whose absolute value is below +∞ is a real number. -/
theorem real_of_abs_lt_top (x : EReal) (h : max x (-x) < ⊤) : ∃ r : ℝ, x = (r : EReal) := by
  induction x with
  | bot => simp at h
  | top => simp at h
  | coe r => exact ⟨r, rfl⟩

/-- A conjunction of `|x| < +∞` over a whole array that is true makes every element a real number. -/
theorem real_of_all {s t : Shape} {axes : List (Fin s.rank)} [Subsingleton t.Idx] (x : FVec Ideal s .f32) (b : FVec Ideal s .f32)
    (hb : ∀ i, b i = (FloatOps.ofBits .f32 0x7F800000#32 : Ideal .f32)) (init : IVec Cert.Pre_finite.S_ 1)
    (hr : s.ReducesTo axes t) (hu : 0 < Cert.Pre_finite.S_.numel) (j : t.Idx)
    (e : Host.reduce IntOp.andi (cmpf .olt (Host.absf x) b) init hr hu j = 1#1) (i : s.Idx) : ∃ r : ℝ, x i = (r : EReal) := by
  have h := Host.reduce_andi_all _ init hr hu j e i
  have htop : Ideal.ofBits .f32 0x7F800000#32 = ⊤ := by simp [Ideal.ofBits, Ideal.ieee]
  have h' : Ideal.cmp .olt (max (x i : EReal) (-(x i : EReal))) (b i) = 1#1 := h
  rw [hb i] at h'
  have h2 : max (x i : EReal) (-(x i : EReal)) < Ideal.ofBits .f32 0x7F800000#32 := (Ideal.cmp_olt_eq_one _ _).1 h'
  rw [htop] at h2
  exact real_of_abs_lt_top _ h2

/-- The index of a result that has no axes. -/
def i0 : Cert.Pre_finite.S_.Idx := fun a => a.elim0

instance : Subsingleton Cert.Pre_finite.S_.Idx := ⟨fun a b => funext fun k => k.elim0⟩

/-- Two truth values whose conjunction is true are true. -/
theorem both {a b : IVec Cert.Pre_finite.S_ 1} (h : andi a b i0 = 1#1) : a i0 = 1#1 ∧ b i0 = 1#1 := IntOp.andi_eq_one.1 h

/-- Under the precondition each of the seven arguments is an array of real numbers. -/
theorem args_of_pre (m : (ℓ : Loc Cert.KernelIdeal.nD Cert.KernelIdeal.τ Cert.KernelIdeal.sig) → Buf (Elt Ideal) ℓ)
    (hpre : Cert.Pre_KernelIdeal_finite m) (c : Dev Cert.KernelIdeal.nD) :
    ∃ y w x b al g, Cert.KernelIdeal.Scan.Args m c y w x b al g := by
  have h := congrFun (hpre c) i0
  obtain ⟨h, h11⟩ := both h
  obtain ⟨h, h10⟩ := both h
  obtain ⟨h, h4⟩ := both h
  obtain ⟨h, h3⟩ := both h
  obtain ⟨h, h2⟩ := both h
  obtain ⟨h0, h1⟩ := both h
  exact Cert.Scan.exists_holds _ _ _ _ _ _ _ (real_of_all _ _ (fun _ => rfl) _ _ _ i0 h0) (real_of_all _ _ (fun _ => rfl) _ _ _ i0 h1)
    (real_of_all _ _ (fun _ => rfl) _ _ _ i0 h2) (real_of_all _ _ (fun _ => rfl) _ _ _ i0 h3) (real_of_all _ _ (fun _ => rfl) _ _ _ i0 h4)
    (real_of_all _ _ (fun _ => rfl) _ _ _ i0 h10) (real_of_all _ _ (fun _ => rfl) _ _ _ i0 h11)

end Cert.Finite

end
-- ==== Proof.Ffn.Runs.lean ====
/- The feed-forward backward call: what the runs of its three cases share. The host code before the launch, the arrays at
   region entry, the input blocks of a grid point, the branch conditions of the body in closed form over the points, and the
   staging and scratch buffers, with the three weight-gradient results named by value. The text follows the frame certificate of
   the program; the difference is in what is said of the results that are written by the body's own copies: their contents are
   stated after every point. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.Ffn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the library's     `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's     `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's     `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the library's     `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): the library's     `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): the library's     `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): the library's     `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): the library's     `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: the library's `FramePostR`). -/
def R0 : Finset (Ref sig .tc) := {main_v15_1, main_v15_2, main_v15_3}

/-! ## The frame claim's post from the frame run's -/

/-- THE FRAME from a frame run: for any proof data whose arrays are the region-entry contents (`hA`), a run to
    the library's `FramePostR` read at the argument arrays — a staged input by the library's
    `Dat.arrAt_in`, an array no window stages (none is in `R0`) by the post's second clause, each then by `V_…` — is the frame
    claim's post (`Cert.frame_Kernel2Ideal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 4).trans (((dats 0 c).arrAt_in 4 rfl _).trans ((hA c 4).trans (V_main_arg2 m c))),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 64) — by arithmetic of the point. -/
theorem hcond0_0 : ∀ t : Fin cfg0.N, cond0_0 (grid0.coords t) ↔ t.val % 64 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 1 % 64 := Pipeline.Grid.coords_val t 1 (by decide) rfl
    simp only [cond0_0, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points ≡ 63 (mod 64) — by arithmetic of the point. -/
theorem hcond0_1 : ∀ t : Fin cfg0.N, cond0_1 (grid0.coords t) ↔ t.val % 64 = 63 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 1 % 64 := Pipeline.Grid.coords_val t 1 (by decide) rfl
    simp only [cond0_1, k0_cond2, e0, e1]
    word_cmp
   : ∀ t : Fin grid0.N, cond0_1 (grid0.coords t) ↔ t.val % 64 = 63)

/-! ## The kernel body on any staging memrefs: a subtype the run finds -/

/-- One staging buffer of output window 8, through which its contents are stated (`View.read_writes_of_cover`: the
    choice does not matter). -/
abbrev VO0_8 : View sig .tc .vmem S1x256x1024 .f32 := (Memref.whole cc0_stg8_0 : Memref sig .tc .vmem S1x256x1024 .f32).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1408 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1408x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1024 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x1408 .f32 := Memref.whole cc0_scratch0
abbrev scM0_1 : Memref sig .tc .vmem S1024x1408 .f32 := Memref.whole cc0_scratch1
abbrev scM0_2 : Memref sig .tc .vmem S1408x1024 .f32 := Memref.whole cc0_scratch2
/-- The scratch `arg14` the kernel carries between points, as a view: what it holds is stated through it. -/
abbrev VS0_0 : View sig .tc .vmem S1024x1408 .f32 := scM0_0.view
/-- The scratch `arg15` the kernel carries between points, as a view: what it holds is stated through it. -/
abbrev VS0_1 : View sig .tc .vmem S1024x1408 .f32 := scM0_1.view
/-- The scratch `arg16` the kernel carries between points, as a view: what it holds is stated through it. -/
abbrev VS0_2 : View sig .tc .vmem S1408x1024 .f32 := scM0_2.view
/-- The results left in HBM that the body's own copies out of scratch write, whole. -/
abbrev hbM0_0 : Memref sig .tc .hbm S2x1024x1408 .f32 := Memref.whole main_v15_1
abbrev hbM0_1 : Memref sig .tc .hbm S2x1024x1408 .f32 := Memref.whole main_v15_2
abbrev hbM0_2 : Memref sig .tc .hbm S2x1408x1024 .f32 := Memref.whole main_v15_3
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 17, SemLoc.dma 18, SemLoc.dma 19] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2] (by decide) (by decide)]; rfl
/-- The HBM operands the body only reads (none: it writes every operand left in HBM by its own copies out), as references: unscoped, no window's array (`Pipeline.restRefs`). -/
def H0 : Finset (Ref sig .tc) := {}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed (none: `emp`). -/
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
/-- The written operands' points-tos at their launch contents each (`Pipeline.routed` at the launch's valuation), listed:
    how the launch hands them to the first point. -/
theorem heldV0_eq (c : Dev nD) :
    (Pipeline.routed R0 c ((V m) c) : sProp 𝕄) = iprop(hbPt0 c hbM0_0 (V m c main_v15_1) ∗ hbPt0 c hbM0_1 (V m c main_v15_2) ∗ hbPt0 c hbM0_2 (V m c main_v15_3)) := by
  unfold Pipeline.routed; rw [BI.bigSep_eq_bigSepL_of_eq [main_v15_1, main_v15_2, main_v15_3] (by decide) (by decide)]; rfl

/-- The invariant of a body whose transfers write some HBM operands, held by value, BEFORE THE FIRST POINT: `Pipeline.ΦDRG` with the
    written operands still at their launch contents, conjunct by conjunct: the scratch operands owned at some contents, the generator register at some state,
    the own cells at zero, the HBM operands read at their launch contents, the HBM operands written at their launch contents —
    what the launch hands the region . -/
theorem PhiDRG0_in_eq (c : Dev nD) :
    (Pipeline.ΦDRG osem0 spec0 H0 R0 (V m) (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 17) 0 ∗ semVal ((c : Thread nD τ), SemLoc.dma 18) 0 ∗ semVal ((c : Thread nD τ), SemLoc.dma 19) 0) ∗ iprop(emp) ∗ iprop(hbPt0 c hbM0_0 (V m c main_v15_1) ∗ hbPt0 c hbM0_1 (V m c main_v15_2) ∗ hbPt0 c hbM0_2 (V m c main_v15_3))) := by
  rw [Pipeline.ΦDRG_eq, scopedRest0_eq, ownSems00_eq, hbmPts0_eq, heldV0_eq]; simp only [scM0_0, scM0_1, scM0_2, owns_whole]; try rfl

end Cert.Ffn

end
-- ==== Proof.Ffn.RunA.lean ====
/- The feed-forward backward call: the whole-body run at a first tile of a half (points 0 and 64). -/
module

public import proofs.«01_k».proof.Proof.Ffn.Runs

@[expose] public section

set_option maxRecDepth 16384

noncomputable section

namespace Cert.Ffn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 not taken: points 0, 64), WITH the
    proof that on whole staging memrefs — the inputs' at their contents, the other outputs' at
    anything, a carried scratch at the contents the point before left (`xs·`) or at anything, the other scratch at anything, the results left in HBM it writes by copies out whole at the contents the point before left in them `fw·` (held by value), its DMA cells at zero and the core's `owes`, the body runs to the continuation holding the inputs' as they were,
    a carried scratch it stored into with its pieces written (`LS·`), the other scratch at some contents, the results it writes into at the contents they came in with, the body's copies out written over them (`gw·`, a witness the run finds) and the cells as they were (each copy out waited for within the point), the waits recorded in `owes`, each output's buffer with its pieces written: the printed functions are their skeletons
    (`*_eq_skeleton`)  — each `scf.if` decided by the case's hypotheses `hc·`; the pieces are
    the witness that run finds. -/
noncomputable def kernelRun0_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1408 .bf16) (harg4 : arg4.IsWhole) (arg5 : Memref sig .tc .vmem S256x1408 .bf16) (harg5 : arg5.IsWhole) (arg6 : Memref sig .tc .vmem S16x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S1x256x1024 .f32) (harg10 : arg10.IsWhole) (arg14 : Memref sig .tc .vmem S1024x1408 .f32) (harg14 : arg14.IsWhole) (arg15 : Memref sig .tc .vmem S1024x1408 .f32) (harg15 : arg15.IsWhole) (arg16 : Memref sig .tc .vmem S1408x1024 .f32) (harg16 : arg16.IsWhole) (hc0 : cond0_0 i) (hc1 : ¬cond0_1 i)
    (x0 : Vec F S256x1024 .f32) (x1 : Vec F S256x1024 .f32) (x2 : Vec F S256x1408 .bf16) (x3 : Vec F S256x1408 .bf16) (x4 : Vec F S16x1024 .f32) (x5 : Vec F S1024x1408 .bf16) (x6 : Vec F S1024x1408 .bf16) (x7 : Vec F S1408x1024 .bf16) (fw0 : HbBuf0 (F := F) c hbM0_0) (fw1 : HbBuf0 (F := F) c hbM0_1) (fw2 : HbBuf0 (F := F) c hbM0_2) :
    Σ' (L8 : List (View.Piece (Elt F) S1x256x1024 .f32)), Σ' (LS0 : List (View.Piece (Elt F) S1024x1408 .f32)), Σ' (LS1 : List (View.Piece (Elt F) S1024x1408 .f32)), Σ' (LS2 : List (View.Piece (Elt F) S1408x1024 .f32)), Σ' (gw0 : HbBuf0 (F := F) c hbM0_0), Σ' (gw1 : HbBuf0 (F := F) c hbM0_1), { gw2 : HbBuf0 (F := F) c hbM0_2 //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 17) 0 ∗ semVal ((c : Thread nD τ), SemLoc.dma 18) 0 ∗ semVal ((c : Thread nD τ), SemLoc.dma 19) 0 ∗ hbPt0 c hbM0_0 fw0 ∗ hbPt0 c hbM0_1 fw1 ∗ hbPt0 c hbM0_2 fw2 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ semVal ((c : Thread nD τ), SemLoc.dma 17) 0 ∗ semVal ((c : Thread nD τ), SemLoc.dma 18) 0 ∗ semVal ((c : Thread nD τ), SemLoc.dma 19) 0 ∗ hbPt0 c hbM0_0 gw0 ∗ hbPt0 c hbM0_1 gw1 ∗ hbPt0 c hbM0_2 gw2 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 (Memref.whole main_v15_1) (Memref.isWhole_whole _) (Memref.whole main_v15_2) (Memref.isWhole_whole _) (Memref.whole main_v15_3) (Memref.isWhole_whole _) arg14 harg14 arg15 harg15 arg16 harg16 cc0_scoped0 cc0_scoped1 cc0_scoped2) K } := by
  refine ⟨?_, ?_, ?_, ?_, ?_, ?_, ?_, fun W K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hq0, Hq1, Hq2, Hh0, Hh1, Hh2, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW

end Cert.Ffn

end
-- ==== Proof.Ffn.RunB.lean ====
/- The feed-forward backward call: the whole-body run at a tile that is neither the first nor the last of its half. -/
module

public import proofs.«01_k».proof.Proof.Ffn.RunA

@[expose] public section

set_option maxRecDepth 16384

noncomputable section

namespace Cert.Ffn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- What the body's stores leave in each output's staging memref, as pieces (last first) IN CASE B (`scf.if` 0 not taken, `scf.if` 1 not taken: points 1, 2, … 126: 124 of 128), WITH the
    proof that on whole staging memrefs — the inputs' at their contents, the other outputs' at
    anything, a carried scratch at the contents the point before left (`xs·`) or at anything, the other scratch at anything, the results left in HBM it writes by copies out whole at the contents the point before left in them `fw·` (held by value), its DMA cells at zero and the core's `owes`, the body runs to the continuation holding the inputs' as they were,
    a carried scratch it stored into with its pieces written (`LS·`), the other scratch at some contents, the results it writes into at the contents they came in with, the body's copies out written over them (`gw·`, a witness the run finds) and the cells as they were (each copy out waited for within the point), the waits recorded in `owes`, each output's buffer with its pieces written: the printed functions are their skeletons
    (`*_eq_skeleton`)  — each `scf.if` decided by the case's hypotheses `hc·`; the pieces are
    the witness that run finds. -/
noncomputable def kernelRun0_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1408 .bf16) (harg4 : arg4.IsWhole) (arg5 : Memref sig .tc .vmem S256x1408 .bf16) (harg5 : arg5.IsWhole) (arg6 : Memref sig .tc .vmem S16x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S1x256x1024 .f32) (harg10 : arg10.IsWhole) (arg14 : Memref sig .tc .vmem S1024x1408 .f32) (harg14 : arg14.IsWhole) (arg15 : Memref sig .tc .vmem S1024x1408 .f32) (harg15 : arg15.IsWhole) (arg16 : Memref sig .tc .vmem S1408x1024 .f32) (harg16 : arg16.IsWhole) (hc0 : ¬cond0_0 i) (hc1 : ¬cond0_1 i)
    (x0 : Vec F S256x1024 .f32) (x1 : Vec F S256x1024 .f32) (x2 : Vec F S256x1408 .bf16) (x3 : Vec F S256x1408 .bf16) (x4 : Vec F S16x1024 .f32) (x5 : Vec F S1024x1408 .bf16) (x6 : Vec F S1024x1408 .bf16) (x7 : Vec F S1408x1024 .bf16) (xs0 : Vec F S1024x1408 .f32) (xs1 : Vec F S1024x1408 .f32) (xs2 : Vec F S1408x1024 .f32) (fw0 : HbBuf0 (F := F) c hbM0_0) (fw1 : HbBuf0 (F := F) c hbM0_1) (fw2 : HbBuf0 (F := F) c hbM0_2) :
    Σ' (L8 : List (View.Piece (Elt F) S1x256x1024 .f32)), Σ' (LS0 : List (View.Piece (Elt F) S1024x1408 .f32)), Σ' (LS1 : List (View.Piece (Elt F) S1024x1408 .f32)), Σ' (LS2 : List (View.Piece (Elt F) S1408x1024 .f32)), Σ' (gw0 : HbBuf0 (F := F) c hbM0_0), Σ' (gw1 : HbBuf0 (F := F) c hbM0_1), { gw2 : HbBuf0 (F := F) c hbM0_2 //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg14 fullShare xs0 ∗ owns (c : Thread nD τ) arg15 fullShare xs1 ∗ owns (c : Thread nD τ) arg16 fullShare xs2 ∗ semVal ((c : Thread nD τ), SemLoc.dma 17) 0 ∗ semVal ((c : Thread nD τ), SemLoc.dma 18) 0 ∗ semVal ((c : Thread nD τ), SemLoc.dma 19) 0 ∗ hbPt0 c hbM0_0 fw0 ∗ hbPt0 c hbM0_1 fw1 ∗ hbPt0 c hbM0_2 fw2 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ semVal ((c : Thread nD τ), SemLoc.dma 17) 0 ∗ semVal ((c : Thread nD τ), SemLoc.dma 18) 0 ∗ semVal ((c : Thread nD τ), SemLoc.dma 19) 0 ∗ hbPt0 c hbM0_0 gw0 ∗ hbPt0 c hbM0_1 gw1 ∗ hbPt0 c hbM0_2 gw2 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 (Memref.whole main_v15_1) (Memref.isWhole_whole _) (Memref.whole main_v15_2) (Memref.isWhole_whole _) (Memref.whole main_v15_3) (Memref.isWhole_whole _) arg14 harg14 arg15 harg15 arg16 harg16 cc0_scoped0 cc0_scoped1 cc0_scoped2) K } := by
  refine ⟨?_, ?_, ?_, ?_, ?_, ?_, ?_, fun W K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hq0, Hq1, Hq2, Hh0, Hh1, Hh2, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0; obtain rfl := harg15.eq_unread hfs1; obtain rfl := harg16.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW

end Cert.Ffn

end
-- ==== Proof.Ffn.RunC.lean ====
/- The feed-forward backward call: the whole-body run at a last tile of a half (points 63 and 127), where the copies out run. -/
module

public import proofs.«01_k».proof.Proof.Ffn.RunB

@[expose] public section

set_option maxRecDepth 16384

noncomputable section

namespace Cert.Ffn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- What the body's stores leave in each output's staging memref, as pieces (last first) IN CASE C (`scf.if` 0 not taken, `scf.if` 1 taken: points 63, 127), WITH the
    proof that on whole staging memrefs — the inputs' at their contents, the other outputs' at
    anything, a carried scratch at the contents the point before left (`xs·`) or at anything, the other scratch at anything, the results left in HBM it writes by copies out whole at the contents the point before left in them `fw·` (held by value), its DMA cells at zero and the core's `owes`, the body runs to the continuation holding the inputs' as they were,
    a carried scratch it stored into with its pieces written (`LS·`), the other scratch at some contents, the results it writes into at the contents they came in with, the body's copies out written over them (`gw·`, a witness the run finds) and the cells as they were (each copy out waited for within the point), the waits recorded in `owes`, each output's buffer with its pieces written: the printed functions are their skeletons
    (`*_eq_skeleton`)  — each `scf.if` decided by the case's hypotheses `hc·`; the pieces are
    the witness that run finds. -/
noncomputable def kernelRun0_C (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1408 .bf16) (harg4 : arg4.IsWhole) (arg5 : Memref sig .tc .vmem S256x1408 .bf16) (harg5 : arg5.IsWhole) (arg6 : Memref sig .tc .vmem S16x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S1x256x1024 .f32) (harg10 : arg10.IsWhole) (arg14 : Memref sig .tc .vmem S1024x1408 .f32) (harg14 : arg14.IsWhole) (arg15 : Memref sig .tc .vmem S1024x1408 .f32) (harg15 : arg15.IsWhole) (arg16 : Memref sig .tc .vmem S1408x1024 .f32) (harg16 : arg16.IsWhole) (hc0 : ¬cond0_0 i) (hc1 : cond0_1 i)
    (x0 : Vec F S256x1024 .f32) (x1 : Vec F S256x1024 .f32) (x2 : Vec F S256x1408 .bf16) (x3 : Vec F S256x1408 .bf16) (x4 : Vec F S16x1024 .f32) (x5 : Vec F S1024x1408 .bf16) (x6 : Vec F S1024x1408 .bf16) (x7 : Vec F S1408x1024 .bf16) (xs0 : Vec F S1024x1408 .f32) (xs1 : Vec F S1024x1408 .f32) (xs2 : Vec F S1408x1024 .f32) (fw0 : HbBuf0 (F := F) c hbM0_0) (fw1 : HbBuf0 (F := F) c hbM0_1) (fw2 : HbBuf0 (F := F) c hbM0_2) :
    Σ' (L8 : List (View.Piece (Elt F) S1x256x1024 .f32)), Σ' (LS0 : List (View.Piece (Elt F) S1024x1408 .f32)), Σ' (LS1 : List (View.Piece (Elt F) S1024x1408 .f32)), Σ' (LS2 : List (View.Piece (Elt F) S1408x1024 .f32)), Σ' (gw0 : HbBuf0 (F := F) c hbM0_0), Σ' (gw1 : HbBuf0 (F := F) c hbM0_1), { gw2 : HbBuf0 (F := F) c hbM0_2 //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg14 fullShare xs0 ∗ owns (c : Thread nD τ) arg15 fullShare xs1 ∗ owns (c : Thread nD τ) arg16 fullShare xs2 ∗ semVal ((c : Thread nD τ), SemLoc.dma 17) 0 ∗ semVal ((c : Thread nD τ), SemLoc.dma 18) 0 ∗ semVal ((c : Thread nD τ), SemLoc.dma 19) 0 ∗ hbPt0 c hbM0_0 fw0 ∗ hbPt0 c hbM0_1 fw1 ∗ hbPt0 c hbM0_2 fw2 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ semVal ((c : Thread nD τ), SemLoc.dma 17) 0 ∗ semVal ((c : Thread nD τ), SemLoc.dma 18) 0 ∗ semVal ((c : Thread nD τ), SemLoc.dma 19) 0 ∗ hbPt0 c hbM0_0 gw0 ∗ hbPt0 c hbM0_1 gw1 ∗ hbPt0 c hbM0_2 gw2 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 (Memref.whole main_v15_1) (Memref.isWhole_whole _) (Memref.whole main_v15_2) (Memref.isWhole_whole _) (Memref.whole main_v15_3) (Memref.isWhole_whole _) arg14 harg14 arg15 harg15 arg16 harg16 cc0_scoped0 cc0_scoped1 cc0_scoped2) K } := by
  refine ⟨?_, ?_, ?_, ?_, ?_, ?_, ?_, fun W K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hq0, Hq1, Hq2, Hh0, Hh1, Hh2, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0; obtain rfl := harg15.eq_unread hfs1; obtain rfl := harg16.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW

end Cert.Ffn

end
-- ==== Proof.Ffn.Covers.lean ====
/- The feed-forward backward call: what each case leaves in the output block, in the three accumulators, and in the three
   weight-gradient results, as named terms. -/
module

public import proofs.«01_k».proof.Proof.Ffn.RunC
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1408 .bf16) (harg4 : arg4.IsWhole) (arg5 : Memref sig .tc .vmem S256x1408 .bf16) (harg5 : arg5.IsWhole) (arg6 : Memref sig .tc .vmem S16x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S1x256x1024 .f32) (harg10 : arg10.IsWhole) (arg14 : Memref sig .tc .vmem S1024x1408 .f32) (harg14 : arg14.IsWhole) (arg15 : Memref sig .tc .vmem S1024x1408 .f32) (harg15 : arg15.IsWhole) (arg16 : Memref sig .tc .vmem S1408x1024 .f32) (harg16 : arg16.IsWhole) (hc0 : cond0_0 i) (hc1 : ¬cond0_1 i)
  (x0 : Vec F S256x1024 .f32) (x1 : Vec F S256x1024 .f32) (x2 : Vec F S256x1408 .bf16) (x3 : Vec F S256x1408 .bf16) (x4 : Vec F S16x1024 .f32) (x5 : Vec F S1024x1408 .bf16) (x6 : Vec F S1024x1408 .bf16) (x7 : Vec F S1408x1024 .bf16) (fw0 : HbBuf0 (F := F) c hbM0_0) (fw1 : HbBuf0 (F := F) c hbM0_1) (fw2 : HbBuf0 (F := F) c hbM0_2)

/-- Case A's pieces for output 8 tile its block (1 store of `S1x256x1024`), so they cover it. -/
theorem cover0_A_8 (y : S1x256x1024.Idx) :
    ∃ pc ∈ (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).1, y ∈ pc.1.set :=
  View.cover_of_tiledL (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).1 S1x256x1024.size (by sl_kernel_rfl) y

/-- What case A leaves in output 8's staging buffer: its pieces read back over junk. -/
def out0_A_8 : Vec F S1x256x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).1)

/-- Case A's pieces for scratch `arg14`, which the kernel carries between points, cover it: one of them a store of the WHOLE buffer (the library's `sl_whole_mem`). -/
theorem scover0_A_0 (y : S1024x1408.Idx) :
    ∃ pc ∈ (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.1, y ∈ pc.1.set :=
  View.cover_of_wholeMem (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.1 (by sl_whole_mem) y

/-- What case A leaves in scratch `arg14`: its pieces read back over junk. -/
def sout0_A_0 : Vec F S1024x1408 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.1)

/-- Case A's pieces for scratch `arg15`, which the kernel carries between points, cover it: one of them a store of the WHOLE buffer (the library's `sl_whole_mem`). -/
theorem scover0_A_1 (y : S1024x1408.Idx) :
    ∃ pc ∈ (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.2.1, y ∈ pc.1.set :=
  View.cover_of_wholeMem (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.2.1 (by sl_whole_mem) y

/-- What case A leaves in scratch `arg15`: its pieces read back over junk. -/
def sout0_A_1 : Vec F S1024x1408 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.2.1)

/-- Case A's pieces for scratch `arg16`, which the kernel carries between points, cover it: one of them a store of the WHOLE buffer (the library's `sl_whole_mem`). -/
theorem scover0_A_2 (y : S1408x1024.Idx) :
    ∃ pc ∈ (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.2.2.1, y ∈ pc.1.set :=
  View.cover_of_wholeMem (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.2.2.1 (by sl_whole_mem) y

/-- What case A leaves in scratch `arg16`: its pieces read back over junk. -/
def sout0_A_2 : Vec F S1408x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.2.2.1)

/-- Case A copies nothing into `main_v15_1`: it holds the contents it started from (`fw0`), as the run
    hands them back. -/
def hbw0_A_0 : HbBuf0 (F := F) c hbM0_0 := (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.2.2.2.1

/-- Case A copies nothing into `main_v15_2`: it holds the contents it started from (`fw1`), as the run
    hands them back. -/
def hbw0_A_1 : HbBuf0 (F := F) c hbM0_1 := (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.2.2.2.2.1

/-- Case A copies nothing into `main_v15_3`: it holds the contents it started from (`fw2`), as the run
    hands them back. -/
def hbw0_A_2 : HbBuf0 (F := F) c hbM0_2 := (kernelRun0_A c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 fw0 fw1 fw2).2.2.2.2.2.2.1

end

section
variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1408 .bf16) (harg4 : arg4.IsWhole) (arg5 : Memref sig .tc .vmem S256x1408 .bf16) (harg5 : arg5.IsWhole) (arg6 : Memref sig .tc .vmem S16x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S1x256x1024 .f32) (harg10 : arg10.IsWhole) (arg14 : Memref sig .tc .vmem S1024x1408 .f32) (harg14 : arg14.IsWhole) (arg15 : Memref sig .tc .vmem S1024x1408 .f32) (harg15 : arg15.IsWhole) (arg16 : Memref sig .tc .vmem S1408x1024 .f32) (harg16 : arg16.IsWhole) (hc0 : ¬cond0_0 i) (hc1 : ¬cond0_1 i)
  (x0 : Vec F S256x1024 .f32) (x1 : Vec F S256x1024 .f32) (x2 : Vec F S256x1408 .bf16) (x3 : Vec F S256x1408 .bf16) (x4 : Vec F S16x1024 .f32) (x5 : Vec F S1024x1408 .bf16) (x6 : Vec F S1024x1408 .bf16) (x7 : Vec F S1408x1024 .bf16) (xs0 : Vec F S1024x1408 .f32) (xs1 : Vec F S1024x1408 .f32) (xs2 : Vec F S1408x1024 .f32) (fw0 : HbBuf0 (F := F) c hbM0_0) (fw1 : HbBuf0 (F := F) c hbM0_1) (fw2 : HbBuf0 (F := F) c hbM0_2)

/-- Case B's pieces for output 8 tile its block (1 store of `S1x256x1024`), so they cover it. -/
theorem cover0_B_8 (y : S1x256x1024.Idx) :
    ∃ pc ∈ (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).1, y ∈ pc.1.set :=
  View.cover_of_tiledL (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).1 S1x256x1024.size (by sl_kernel_rfl) y

/-- What case B leaves in output 8's staging buffer: its pieces read back over junk. -/
def out0_B_8 : Vec F S1x256x1024 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).1)

/-- Case B's pieces for scratch `arg14`, which the kernel carries between points, cover it: 3 pieces (stores and landed copies) of several sizes (`S1024x384`, `S1024x512`) tiling it when cut into blocks of `![1024, 128]` (the library's `Piece.tiledBy`). -/
theorem scover0_B_0 (y : S1024x1408.Idx) :
    ∃ pc ∈ (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.1, y ∈ pc.1.set :=
  View.cover_of_tiledBy (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.1 ![1024, 128] (by sl_kernel_rfl) y

/-- What case B leaves in scratch `arg14`: its pieces read back over junk. -/
def sout0_B_0 : Vec F S1024x1408 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.1)

/-- Case B's pieces for scratch `arg15`, which the kernel carries between points, cover it: 3 pieces (stores and landed copies) of several sizes (`S1024x384`, `S1024x512`) tiling it when cut into blocks of `![1024, 128]` (the library's `Piece.tiledBy`). -/
theorem scover0_B_1 (y : S1024x1408.Idx) :
    ∃ pc ∈ (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.1, y ∈ pc.1.set :=
  View.cover_of_tiledBy (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.1 ![1024, 128] (by sl_kernel_rfl) y

/-- What case B leaves in scratch `arg15`: its pieces read back over junk. -/
def sout0_B_1 : Vec F S1024x1408 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.1)

/-- Case B's pieces for scratch `arg16`, which the kernel carries between points, cover it: 2 pieces of `S1408x512` tiling it (the library's `Piece.tiledL`). -/
theorem scover0_B_2 (y : S1408x1024.Idx) :
    ∃ pc ∈ (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.1, y ∈ pc.1.set :=
  View.cover_of_tiledL (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.1 S1408x512.size (by sl_kernel_rfl) y

/-- What case B leaves in scratch `arg16`: its pieces read back over junk. -/
def sout0_B_2 : Vec F S1408x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.1)

/-- Case B copies nothing into `main_v15_1`: it holds the contents it started from (`fw0`), as the run
    hands them back. -/
def hbw0_B_0 : HbBuf0 (F := F) c hbM0_0 := (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.2.1

/-- Case B copies nothing into `main_v15_2`: it holds the contents it started from (`fw1`), as the run
    hands them back. -/
def hbw0_B_1 : HbBuf0 (F := F) c hbM0_1 := (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.2.2.1

/-- Case B copies nothing into `main_v15_3`: it holds the contents it started from (`fw2`), as the run
    hands them back. -/
def hbw0_B_2 : HbBuf0 (F := F) c hbM0_2 := (kernelRun0_B c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.2.2.2.1

end

section
variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1408 .bf16) (harg4 : arg4.IsWhole) (arg5 : Memref sig .tc .vmem S256x1408 .bf16) (harg5 : arg5.IsWhole) (arg6 : Memref sig .tc .vmem S16x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S1x256x1024 .f32) (harg10 : arg10.IsWhole) (arg14 : Memref sig .tc .vmem S1024x1408 .f32) (harg14 : arg14.IsWhole) (arg15 : Memref sig .tc .vmem S1024x1408 .f32) (harg15 : arg15.IsWhole) (arg16 : Memref sig .tc .vmem S1408x1024 .f32) (harg16 : arg16.IsWhole) (hc0 : ¬cond0_0 i) (hc1 : cond0_1 i)
  (x0 : Vec F S256x1024 .f32) (x1 : Vec F S256x1024 .f32) (x2 : Vec F S256x1408 .bf16) (x3 : Vec F S256x1408 .bf16) (x4 : Vec F S16x1024 .f32) (x5 : Vec F S1024x1408 .bf16) (x6 : Vec F S1024x1408 .bf16) (x7 : Vec F S1408x1024 .bf16) (xs0 : Vec F S1024x1408 .f32) (xs1 : Vec F S1024x1408 .f32) (xs2 : Vec F S1408x1024 .f32) (fw0 : HbBuf0 (F := F) c hbM0_0) (fw1 : HbBuf0 (F := F) c hbM0_1) (fw2 : HbBuf0 (F := F) c hbM0_2)

/-- Case C's pieces for output 8 tile its block (1 store of `S1x256x1024`), so they cover it. -/
theorem cover0_C_8 (y : S1x256x1024.Idx) :
    ∃ pc ∈ (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).1, y ∈ pc.1.set :=
  View.cover_of_tiledL (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).1 S1x256x1024.size (by sl_kernel_rfl) y

/-- What case C leaves in output 8's staging buffer: its pieces read back over junk. -/
def out0_C_8 : Vec F S1x256x1024 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).1)

/-- Case C's pieces for scratch `arg14`, which the kernel carries between points, cover it: 3 pieces (stores and landed copies) of several sizes (`S1024x384`, `S1024x512`) tiling it when cut into blocks of `![1024, 128]` (the library's `Piece.tiledBy`). -/
theorem scover0_C_0 (y : S1024x1408.Idx) :
    ∃ pc ∈ (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.1, y ∈ pc.1.set :=
  View.cover_of_tiledBy (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.1 ![1024, 128] (by sl_kernel_rfl) y

/-- What case C leaves in scratch `arg14`: its pieces read back over junk. -/
def sout0_C_0 : Vec F S1024x1408 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.1)

/-- Case C's pieces for scratch `arg15`, which the kernel carries between points, cover it: 3 pieces (stores and landed copies) of several sizes (`S1024x384`, `S1024x512`) tiling it when cut into blocks of `![1024, 128]` (the library's `Piece.tiledBy`). -/
theorem scover0_C_1 (y : S1024x1408.Idx) :
    ∃ pc ∈ (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.1, y ∈ pc.1.set :=
  View.cover_of_tiledBy (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.1 ![1024, 128] (by sl_kernel_rfl) y

/-- What case C leaves in scratch `arg15`: its pieces read back over junk. -/
def sout0_C_1 : Vec F S1024x1408 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.1)

/-- Case C's pieces for scratch `arg16`, which the kernel carries between points, cover it: 2 pieces of `S1408x512` tiling it (the library's `Piece.tiledL`). -/
theorem scover0_C_2 (y : S1408x1024.Idx) :
    ∃ pc ∈ (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.1, y ∈ pc.1.set :=
  View.cover_of_tiledL (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.1 S1408x512.size (by sl_kernel_rfl) y

/-- What case C leaves in scratch `arg16`: its pieces read back over junk. -/
def sout0_C_2 : Vec F S1408x1024 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.1)

/-- What case C leaves in `main_v15_1`, the result left in HBM its copies out of scratch write: the contents
    it started from (`fw0`: what the point before left there, at the first point the launch's) with those copies written over
    them — the contents term the run finds, its witness. -/
def hbw0_C_0 : HbBuf0 (F := F) c hbM0_0 := (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.2.1

/-- What case C leaves in `main_v15_2`, the result left in HBM its copies out of scratch write: the contents
    it started from (`fw1`: what the point before left there, at the first point the launch's) with those copies written over
    them — the contents term the run finds, its witness. -/
def hbw0_C_1 : HbBuf0 (F := F) c hbM0_1 := (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.2.2.1

/-- What case C leaves in `main_v15_3`, the result left in HBM its copies out of scratch write: the contents
    it started from (`fw2`: what the point before left there, at the first point the launch's) with those copies written over
    them — the contents term the run finds, its witness. -/
def hbw0_C_2 : HbBuf0 (F := F) c hbM0_2 := (kernelRun0_C c i arg2 harg2 arg3 harg3 arg4 harg4 arg5 harg5 arg6 harg6 arg7 harg7 arg8 harg8 arg9 harg9 arg10 harg10 arg14 harg14 arg15 harg15 arg16 harg16 hc0 hc1 x0 x1 x2 x3 x4 x5 x6 x7 xs0 xs1 xs2 fw0 fw1 fw2).2.2.2.2.2.2.1

end

end Cert.Ffn

end
-- ==== Proof.Ffn.Held.lean ====
/- The feed-forward backward call: what every point leaves (the output block, the accumulators and the three results written by
   copies), the proof data of the launch, the body obligation, and the run with the three results at what the last point left. -/
module

public import proofs.«01_k».proof.Proof.Ffn.Covers
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## What the outputs hold after each point -/

/-- What the outputs, the carried scratch and the results held by value hold after a point of case A. -/
def pointA (c : Dev nD) (t : Fin cfg0.N) (h0 : t.val % 64 = 0) (h1 : ¬t.val % 64 = 63) (w0 : HbBuf0 (F := F) c hbM0_0) (w1 : HbBuf0 (F := F) c hbM0_1) (w2 : HbBuf0 (F := F) c hbM0_2) :
    Vec F S1x256x1024 .f32 × Vec F S1024x1408 .f32 × Vec F S1024x1408 .f32 × Vec F S1408x1024 .f32 × HbBuf0 (F := F) c hbM0_0 × HbBuf0 (F := F) c hbM0_1 × HbBuf0 (F := F) c hbM0_2 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) w0 w1 w2, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) w0 w1 w2, sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) w0 w1 w2, sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) w0 w1 w2, hbw0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) w0 w1 w2, hbw0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) w0 w1 w2, hbw0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) w0 w1 w2)

/-- What the outputs, the carried scratch and the results held by value hold after a point of case B, over what the point before left. -/
def pointB (c : Dev nD) (t : Fin cfg0.N) (h0 : ¬t.val % 64 = 0) (h1 : ¬t.val % 64 = 63) (p : Vec F S1x256x1024 .f32 × Vec F S1024x1408 .f32 × Vec F S1024x1408 .f32 × Vec F S1408x1024 .f32 × HbBuf0 (F := F) c hbM0_0 × HbBuf0 (F := F) c hbM0_1 × HbBuf0 (F := F) c hbM0_2) :
    Vec F S1x256x1024 .f32 × Vec F S1024x1408 .f32 × Vec F S1024x1408 .f32 × Vec F S1408x1024 .f32 × HbBuf0 (F := F) c hbM0_0 × HbBuf0 (F := F) c hbM0_1 × HbBuf0 (F := F) c hbM0_2 :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, hbw0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, hbw0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, hbw0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2)

/-- What the outputs, the carried scratch and the results held by value hold after a point of case C, over what the point before left. -/
def pointC (c : Dev nD) (t : Fin cfg0.N) (h0 : ¬t.val % 64 = 0) (h1 : t.val % 64 = 63) (p : Vec F S1x256x1024 .f32 × Vec F S1024x1408 .f32 × Vec F S1024x1408 .f32 × Vec F S1408x1024 .f32 × HbBuf0 (F := F) c hbM0_0 × HbBuf0 (F := F) c hbM0_1 × HbBuf0 (F := F) c hbM0_2) :
    Vec F S1x256x1024 .f32 × Vec F S1024x1408 .f32 × Vec F S1024x1408 .f32 × Vec F S1408x1024 .f32 × HbBuf0 (F := F) c hbM0_0 × HbBuf0 (F := F) c hbM0_1 × HbBuf0 (F := F) c hbM0_2 :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, hbw0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, hbw0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2, hbw0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2.1 p.2.2.2.2.2.2)

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1024 .f32 × Vec F S1024x1408 .f32 × Vec F S1024x1408 .f32 × Vec F S1408x1024 .f32 × HbBuf0 (F := F) c hbM0_0 × HbBuf0 (F := F) c hbM0_1 × HbBuf0 (F := F) c hbM0_2
  | 0, hn => pointA m c ⟨0, hn⟩ (Nat.zero_mod _) (fun h => by (try dsimp only at h); omega) (V m c main_v15_1) (V m c main_v15_2) (V m c main_v15_3)
  | n + 1, hn =>
    if h0 : (n + 1) % 64 = 0 then
      if h1 : (n + 1) % 64 = 63 then
        False.elim (by have hN : n + 1 < 128 := lt_of_lt_of_eq hn (show cfg0.N = 128 from N_0); omega)
      else
        pointA m c ⟨n + 1, hn⟩ h0 h1 (outsAt0 c n (Nat.lt_of_succ_lt hn)).2.2.2.2.1 (outsAt0 c n (Nat.lt_of_succ_lt hn)).2.2.2.2.2.1 (outsAt0 c n (Nat.lt_of_succ_lt hn)).2.2.2.2.2.2
    else
      if h1 : (n + 1) % 64 = 63 then
        pointC m c ⟨n + 1, hn⟩ h0 h1 (outsAt0 c n (Nat.lt_of_succ_lt hn))
      else
        pointB m c ⟨n + 1, hn⟩ h0 h1 (outsAt0 c n (Nat.lt_of_succ_lt hn))

/-- `outsAt0` at the first point: case A over the launch contents of the results the copies write. -/
theorem outsAt0_A0 (c : Dev nD) (t : Fin cfg0.N) (hz : t.val = 0) (h0 : t.val % 64 = 0) (h1 : ¬t.val % 64 = 63) :
    outsAt0 m c t.val t.isLt = pointA m c t h0 h1 (V m c main_v15_1) (V m c main_v15_2) (V m c main_v15_3) := by
  obtain ⟨n, hn⟩ := t
  cases n with
  | zero => exact rfl
  | succ n => exact absurd hz (Nat.succ_ne_zero n)

/-- `outsAt0` at a point of case A: that case's contents. -/
theorem outsAt0_A (c : Dev nD) (t : Fin cfg0.N) (hz : ¬t.val = 0) (h0 : t.val % 64 = 0) (h1 : ¬t.val % 64 = 63) :
    outsAt0 m c t.val t.isLt = pointA m c t h0 h1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  obtain ⟨n, hn⟩ := t
  cases n with
  | zero => exact absurd rfl hz
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 m c t.val t.isLt = pointB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 m c t.val t.isLt = pointC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (the library's `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1)) ∗ (∃ r, prngReg c r) ∗ iprop(semVal ((c : Thread nD τ), SemLoc.dma 17) 0 ∗ semVal ((c : Thread nD τ), SemLoc.dma 18) 0 ∗ semVal ((c : Thread nD τ), SemLoc.dma 19) 0) ∗ iprop(emp) ∗ iprop(hbPt0 c hbM0_0 ((outsAt0 m c n hn).2.2.2.2.1) ∗ hbPt0 c hbM0_1 ((outsAt0 m c n hn).2.2.2.2.2.1) ∗ hbPt0 c hbM0_2 ((outsAt0 m c n hn).2.2.2.2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1)) ∗ (∃ r, prngReg c r) ∗ iprop(semVal ((c : Thread nD τ), SemLoc.dma 17) 0 ∗ semVal ((c : Thread nD τ), SemLoc.dma 18) 0 ∗ semVal ((c : Thread nD τ), SemLoc.dma 19) 0) ∗ iprop(emp) ∗ iprop(hbPt0 c hbM0_0 ((outsAt0 m c n hn).2.2.2.2.1) ∗ hbPt0 c hbM0_1 ((outsAt0 m c n hn).2.2.2.2.2.1) ∗ hbPt0 c hbM0_2 ((outsAt0 m c n hn).2.2.2.2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1)) ∗ (∃ r, prngReg c r) ∗ iprop(semVal ((c : Thread nD τ), SemLoc.dma 17) 0 ∗ semVal ((c : Thread nD τ), SemLoc.dma 18) 0 ∗ semVal ((c : Thread nD τ), SemLoc.dma 19) 0) ∗ iprop(emp) ∗ iprop(hbPt0 c hbM0_0 ((outsAt0 m c (n - 1) (by omega)).2.2.2.2.1) ∗ hbPt0 c hbM0_1 ((outsAt0 m c (n - 1) (by omega)).2.2.2.2.2.1) ∗ hbPt0 c hbM0_2 ((outsAt0 m c (n - 1) (by omega)).2.2.2.2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: the library's `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

/-- The proof data's arrays are the region-entry contents: the proof data's definition projected (`dsimp`). -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (the library's `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 14400000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8]
  unfold Dat.owesAt Pipeline.owesWithin
  rw [show (dats m 0 c).owed t.castSucc = 0 from rfl, show (dats m 0 c).owed t.succ = 0 from rfl]
  have hN : t.val < 128 := lt_of_lt_of_eq t.isLt (show cfg0.N = 128 from N_0)
  by_cases h0 : t.val % 64 = 0
  · by_cases h1 : t.val % 64 = 63
    · exfalso; omega
    · by_cases hz : t.val = 0
      · rw [PhiS_castSucc m c t, PhiS_zero m c _ _ hz, PhiDRG0_in_eq]
        rw [outsAt0_A0 m c t hz h0 h1, pointA]
        unfold out0_A_8 sout0_A_0 sout0_A_1 sout0_A_2 hbw0_A_0 hbw0_A_1 hbw0_A_2; (try dsimp only)
        iintro ⟨⟨⟨HS0, HS1, HS2⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) _ _ _).2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, H6, H7, ⟨%e8, H8⟩, ⟨%es0, HS0⟩, ⟨%es1, HS1⟩, ⟨%es2, HS2⟩, Hq0, Hq1, Hq2, Hh0, Hh1, Hh2, ⟨%W', HW'⟩⟩
        isplitl [HS0 HS1 HS2 Hg Hq0 Hq1 Hq2 Hh0 Hh1 Hh2]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
      · rw [PhiS_castSucc m c t, PhiS_pos m c _ _ hz]
        rw [outsAt0_A m c t hz h0 h1, pointA]
        unfold out0_A_8 sout0_A_0 sout0_A_1 sout0_A_2 hbw0_A_0 hbw0_A_1 hbw0_A_2; (try dsimp only)
        iintro ⟨⟨⟨HS0, HS1, HS2⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) _ _ _).2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexists _; iexact HS0
        isplitl [HS1]; · iexists _; iexact HS1
        isplitl [HS2]; · iexists _; iexact HS2
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, H6, H7, ⟨%e8, H8⟩, ⟨%es0, HS0⟩, ⟨%es1, HS1⟩, ⟨%es2, HS2⟩, Hq0, Hq1, Hq2, Hh0, Hh1, Hh2, ⟨%W', HW'⟩⟩
        isplitl [HS0 HS1 HS2 Hg Hq0 Hq1 Hq2 Hh0 Hh1 Hh2]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
  · by_cases h1 : t.val % 64 = 63
    · by_cases hz : t.val = 0
      · exfalso; have hN : t.val < 128 := lt_of_lt_of_eq t.isLt (show cfg0.N = 128 from N_0); omega
      · rw [PhiS_castSucc m c t, PhiS_pos m c _ _ hz]
        rw [outsAt0_C m c t h0 h1, pointC]
        unfold out0_C_8 sout0_C_0 sout0_C_1 sout0_C_2 hbw0_C_0 hbw0_C_1 hbw0_C_2; (try dsimp only)
        iintro ⟨⟨⟨HS0, HS1, HS2⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _ _ _ _).2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, H6, H7, ⟨%e8, H8⟩, ⟨%es0, HS0⟩, ⟨%es1, HS1⟩, ⟨%es2, HS2⟩, Hq0, Hq1, Hq2, Hh0, Hh1, Hh2, ⟨%W', HW'⟩⟩
        isplitl [HS0 HS1 HS2 Hg Hq0 Hq1 Hq2 Hh0 Hh1 Hh2]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _ _ _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _ _ _)
    · by_cases hz : t.val = 0
      · exfalso; have hN : t.val < 128 := lt_of_lt_of_eq t.isLt (show cfg0.N = 128 from N_0); omega
      · rw [PhiS_castSucc m c t, PhiS_pos m c _ _ hz]
        rw [outsAt0_B m c t h0 h1, pointB]
        unfold out0_B_8 sout0_B_0 sout0_B_1 sout0_B_2 hbw0_B_0 hbw0_B_1 hbw0_B_2; (try dsimp only)
        iintro ⟨⟨⟨HS0, HS1, HS2⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _ _ _).2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, H6, H7, ⟨%e8, H8⟩, ⟨%es0, HS0⟩, ⟨%es1, HS1⟩, ⟨%es2, HS2⟩, Hq0, Hq1, Hq2, Hh0, Hh1, Hh2, ⟨%W', HW'⟩⟩
        isplitl [HS0 HS1 HS2 Hg Hq0 Hq1 Hq2 Hh0 Hh1 Hh2]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (the library's `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, after point `n`, as a valuation of the unscoped buffers: the launch contents,
    updated at each written operand with `outsAt0`'s component for the last point — what the launch takes back from the region
    (the library's `θ_run_frame_dmaRG`'s `G`) and its post states of them. -/
def hbG0 (n : ℕ) (hn : n < cfg0.N) (c : Dev nD) : (b : Ref sig .tc) → Buf (Elt F) ((c : Thread nD τ).loc b) :=
  Function.update (Function.update (Function.update ((V m) c) main_v15_1 (outsAt0 m c n hn).2.2.2.2.1) main_v15_2 (outsAt0 m c n hn).2.2.2.2.2.1) main_v15_3 (outsAt0 m c n hn).2.2.2.2.2.2
/-- `hbG0` at `main_v15_1`: `outsAt0`'s component. -/
theorem hbG0_0 (n : ℕ) (hn : n < cfg0.N) (c : Dev nD) : hbG0 m n hn c main_v15_1 = (outsAt0 m c n hn).2.2.2.2.1 := by
  unfold hbG0; simp only [Function.update_of_ne (show (main_v15_1 : Ref sig .tc) ≠ main_v15_2 by decide), Function.update_of_ne (show (main_v15_1 : Ref sig .tc) ≠ main_v15_3 by decide), Function.update_self]
/-- `hbG0` at `main_v15_2`: `outsAt0`'s component. -/
theorem hbG0_1 (n : ℕ) (hn : n < cfg0.N) (c : Dev nD) : hbG0 m n hn c main_v15_2 = (outsAt0 m c n hn).2.2.2.2.2.1 := by
  unfold hbG0; simp only [Function.update_of_ne (show (main_v15_2 : Ref sig .tc) ≠ main_v15_3 by decide), Function.update_self]
/-- `hbG0` at `main_v15_3`: `outsAt0`'s component. -/
theorem hbG0_2 (n : ℕ) (hn : n < cfg0.N) (c : Dev nD) : hbG0 m n hn c main_v15_3 = (outsAt0 m c n hn).2.2.2.2.2.2 := by
  unfold hbG0; simp only [Function.update_self]
/-- The written operands' points-tos after the last point (`Pipeline.routed` at `hbG`), listed: how the launch takes them back. -/
theorem heldG0_eq (n : ℕ) (hn : n < cfg0.N) (c : Dev nD) :
    (Pipeline.routed R0 c (hbG0 m n hn c) : sProp 𝕄) = iprop(hbPt0 c hbM0_0 ((outsAt0 m c n hn).2.2.2.2.1) ∗ hbPt0 c hbM0_1 ((outsAt0 m c n hn).2.2.2.2.2.1) ∗ hbPt0 c hbM0_2 ((outsAt0 m c n hn).2.2.2.2.2.2)) := by
  unfold Pipeline.routed; rw [BI.bigSep_eq_bigSepL_of_eq [main_v15_1, main_v15_2, main_v15_3] (by decide) (by decide)]
  simp only [BI.bigSepL_cons_cons, BI.bigSepL_singleton, hbG0_0, hbG0_1, hbG0_2]; try rfl
/-- The invariant after point `n`, `Pipeline.ΦDRG` at the launch contents and `hbG0`, conjunct by conjunct: what the launch takes back. -/
theorem PhiDRG0_out_eq (n : ℕ) (hn : n < cfg0.N) (c : Dev nD) :
    (Pipeline.ΦDRG osem0 spec0 H0 R0 (V m) (hbG0 m n hn) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 17) 0 ∗ semVal ((c : Thread nD τ), SemLoc.dma 18) 0 ∗ semVal ((c : Thread nD τ), SemLoc.dma 19) 0) ∗ iprop(emp) ∗ iprop(hbPt0 c hbM0_0 ((outsAt0 m c n hn).2.2.2.2.1) ∗ hbPt0 c hbM0_1 ((outsAt0 m c n hn).2.2.2.2.2.1) ∗ hbPt0 c hbM0_2 ((outsAt0 m c n hn).2.2.2.2.2.2))) := by
  rw [Pipeline.ΦDRG_eq, scopedRest0_eq, ownSems00_eq, hbmPts0_eq, heldG0_eq]; simp only [scM0_0, scM0_1, scM0_2, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After point `n` the invariant gives `ΦDRG` back with each result the copies out write at what that point left in it (`hbG0`);
    the carried scratch's named contents are forgotten. -/
theorem hout_at (n : ℕ) (hn : n < cfg0.N) (c : Dev nD) :
    PhiS m c (n + 1) hn ⊢ Pipeline.ΦDRG osem0 spec0 H0 R0 (V m) (hbG0 m n hn) c := by
  rw [PhiS_succ, PhiDRG0_out_eq]
  iintro ⟨⟨HS0, HS1, HS2⟩, Hg, ⟨Hq0, Hq1, Hq2⟩, ⟨Hh0, Hh1, Hh2⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

/-- There are 128 points. -/
theorem last_lt : 127 < cfg0.N := lt_of_lt_of_eq (by decide) N_0.symm

/-- The invariant at a number. -/
theorem Phi_num (c : Dev nD) (k : Fin (cfg0.N + 1)) (n : ℕ) (hn : n < cfg0.N) (hk : k.val = n + 1) :
    (dats m 0 c).Φ k = PhiS m c (n + 1) hn := by
  obtain ⟨k, hlt⟩ := k
  subst hk
  rfl

/-- What the launch takes back after the last point. -/
theorem hout (c : Dev nD) : (dats m 0 c).Φ (Fin.last cfg0.N) ⊢ Pipeline.ΦDRG osem0 spec0 H0 R0 (V m) (hbG0 m 127 last_lt) c :=
  (BI.BIBase.Entails.of_eq (Phi_num m c (Fin.last cfg0.N) 127 last_lt ((Fin.val_last _).trans N_0))).trans (hout_at m 127 last_lt c)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m 127 last_lt)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m 127 last_lt)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (the library's `FramePostRG`). -/
theorem run_main : θ_run defs (onTc (τ := τ) (main (F := F))) (s₀ m ρ) (Pipeline.FramePostRG cfgs (dats m) 0 R0 (V m) (hbG0 m 127 last_lt)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.toR) (run_main m ρ))

/-- THE FRAME: `Cert.quiescent_Kernel2Ideal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Ffn

end
-- ==== Proof.Ffn.Out.lean ====
/- The feed-forward backward call: the run with its four results named. The input-gradient array is read block by block, the
   three weight gradients are what the last point left. -/
module

public import proofs.«01_k».proof.Proof.Ffn.Held
public import Idealize.ShloMosaic.Lib.Pipeline.Value

@[expose] public section

noncomputable section

namespace Cert.Ffn

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- The index map sends distinct grid points to distinct block indices (decided over the 128 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (the library's `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x16384x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePostRG cfgs (dats m) 0 R0 (V m) (hbG0 m 127 last_lt) r) (c : Dev nD) :
    r.2.mem ((c : Thread nD τ).loc main_v15_0) = (dats m 0 c).arrAt 8 cfg0.N :=
  (h.toR c).1 8

/-- After the frame run, argument `main_arg0` is as launched: input window 0 stages it and never writes it back. -/
theorem kept_main_arg0 (r : PUnit × MemSt nD τ sig (Elt F)) (h : Pipeline.FramePostRG cfgs (dats m) 0 R0 (V m) (hbG0 m 127 last_lt) r) (c : Dev nD) :
    r.2.mem ((c : Thread nD τ).loc main_arg0) = m ((c : Thread nD τ).loc main_arg0) :=
  ((h.toR c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePostRG cfgs (dats m) 0 R0 (V m) (hbG0 m 127 last_lt) r) (c : Dev nD) :
    r.2.mem ((c : Thread nD τ).loc main_arg1) = m ((c : Thread nD τ).loc main_arg1) :=
  ((h.toR c).1 1).trans (((dats m 0 c).arrAt_in 1 rfl _).trans ((A_eq m c 1).trans (V_main_arg1 m c)))

/-- After the frame run, argument `main_arg2` is as launched: input window 4 stages it and never writes it back. -/
theorem kept_main_arg2 (r : PUnit × MemSt nD τ sig (Elt F)) (h : Pipeline.FramePostRG cfgs (dats m) 0 R0 (V m) (hbG0 m 127 last_lt) r) (c : Dev nD) :
    r.2.mem ((c : Thread nD τ).loc main_arg2) = m ((c : Thread nD τ).loc main_arg2) :=
  ((h.toR c).1 4).trans (((dats m 0 c).arrAt_in 4 rfl _).trans ((A_eq m c 4).trans (V_main_arg2 m c)))

/-- After the frame run, argument `main_arg3` is as launched: no window stages it, and the run leaves the region's other buffers as they were (it is none of `R0`, the buffers the body itself writes). -/
theorem kept_main_arg3 (r : PUnit × MemSt nD τ sig (Elt F)) (h : Pipeline.FramePostRG cfgs (dats m) 0 R0 (V m) (hbG0 m 127 last_lt) r) (c : Dev nD) :
    r.2.mem ((c : Thread nD τ).loc main_arg3) = m ((c : Thread nD τ).loc main_arg3) :=
  ((h.toR c).2 main_arg3 (Finset.mem_sdiff.mpr ⟨Pipeline.mem_restRefs_of main_arg3 (by decide) (by decide), by decide⟩)).trans (V_main_arg3 m c)

/-- After the frame run, argument `main_arg4` is as launched: no window stages it, and the run leaves the region's other buffers as they were (it is none of `R0`, the buffers the body itself writes). -/
theorem kept_main_arg4 (r : PUnit × MemSt nD τ sig (Elt F)) (h : Pipeline.FramePostRG cfgs (dats m) 0 R0 (V m) (hbG0 m 127 last_lt) r) (c : Dev nD) :
    r.2.mem ((c : Thread nD τ).loc main_arg4) = m ((c : Thread nD τ).loc main_arg4) :=
  ((h.toR c).2 main_arg4 (Finset.mem_sdiff.mpr ⟨Pipeline.mem_restRefs_of main_arg4 (by decide) (by decide), by decide⟩)).trans (V_main_arg4 m c)

/-- After the frame run, argument `main_arg5` is as launched: no window stages it, and the run leaves the region's other buffers as they were (it is none of `R0`, the buffers the body itself writes). -/
theorem kept_main_arg5 (r : PUnit × MemSt nD τ sig (Elt F)) (h : Pipeline.FramePostRG cfgs (dats m) 0 R0 (V m) (hbG0 m 127 last_lt) r) (c : Dev nD) :
    r.2.mem ((c : Thread nD τ).loc main_arg5) = m ((c : Thread nD τ).loc main_arg5) :=
  ((h.toR c).2 main_arg5 (Finset.mem_sdiff.mpr ⟨Pipeline.mem_restRefs_of main_arg5 (by decide) (by decide), by decide⟩)).trans (V_main_arg5 m c)

/-- After the frame run, `main_v15_1`, a result left in HBM that the body's copies out of scratch write, holds what the LAST point left
    in it: `outsAt0`'s component for it there (the value post states it at `hbG0`, which `hbG0_0` unfolds). -/
theorem held_main_v15_1 (r : PUnit × MemSt nD τ sig (Elt F)) (h : Pipeline.FramePostRG cfgs (dats m) 0 R0 (V m) (hbG0 m 127 last_lt) r) (c : Dev nD) :
    r.2.mem ((c : Thread nD τ).loc main_v15_1) = (outsAt0 m c 127 last_lt).2.2.2.2.1 :=
  (h.written c (by decide : main_v15_1 ∈ R0)).trans (hbG0_0 m 127 last_lt c)

/-- After the frame run, `main_v15_2`, a result left in HBM that the body's copies out of scratch write, holds what the LAST point left
    in it: `outsAt0`'s component for it there (the value post states it at `hbG0`, which `hbG0_1` unfolds). -/
theorem held_main_v15_2 (r : PUnit × MemSt nD τ sig (Elt F)) (h : Pipeline.FramePostRG cfgs (dats m) 0 R0 (V m) (hbG0 m 127 last_lt) r) (c : Dev nD) :
    r.2.mem ((c : Thread nD τ).loc main_v15_2) = (outsAt0 m c 127 last_lt).2.2.2.2.2.1 :=
  (h.written c (by decide : main_v15_2 ∈ R0)).trans (hbG0_1 m 127 last_lt c)

/-- After the frame run, `main_v15_3`, a result left in HBM that the body's copies out of scratch write, holds what the LAST point left
    in it: `outsAt0`'s component for it there (the value post states it at `hbG0`, which `hbG0_2` unfolds). -/
theorem held_main_v15_3 (r : PUnit × MemSt nD τ sig (Elt F)) (h : Pipeline.FramePostRG cfgs (dats m) 0 R0 (V m) (hbG0 m 127 last_lt) r) (c : Dev nD) :
    r.2.mem ((c : Thread nD τ).loc main_v15_3) = (outsAt0 m c 127 last_lt).2.2.2.2.2.2 :=
  (h.written c (by decide : main_v15_3 ∈ R0)).trans (hbG0_2 m 127 last_lt c)

/-- The frame run with each output array after the run NAMED — `(dats m 0 c).arrAt w N`, which `blocks_w` / `entry_w` read —,
    the arguments unchanged; each result the body's copies out write at what the last point left in it. -/
theorem run_blocks : θ_run defs (onTc (τ := τ) (main (F := F))) ⟨m, fun _ => 0, ρ⟩ fun r => ∀ c : Dev nD,
      r.2.mem ((c : Thread nD τ).loc main_v15_0) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_v15_1) = (outsAt0 m c 127 last_lt).2.2.2.2.1
      ∧ r.2.mem ((c : Thread nD τ).loc main_v15_2) = (outsAt0 m c 127 last_lt).2.2.2.2.2.1
      ∧ r.2.mem ((c : Thread nD τ).loc main_v15_3) = (outsAt0 m c 127 last_lt).2.2.2.2.2.2 :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c,
      held_main_v15_1 m r h c,
      held_main_v15_2 m r h c,
      held_main_v15_3 m r h c⟩)
    (run_main m ρ)

end Cert.Ffn

end
-- ==== Proof.Ffn.Spec.lean ====
module

public import proofs.«01_k».proof.Proof.ScanSums
public import Idealize.ShloMosaic.Lib.Pointwise

@[expose] public section

set_option maxRecDepth 16384

/-!
# The gradient of the feed-forward layer, over the real numbers

The layer takes the hidden rows `h = x (1 + scale) + shift`, makes a gate `h G` and a value `h U`, multiplies the SiLU of
the gate by the value, and maps the product back by `D`.  `cot` is the cotangent of its result.  The 2816 inner columns
fall into two halves of 1408; `j` names the half.  A weight's gradient is a sum over rows, stated here over the first `n`
of them.
-/

noncomputable section

namespace Cert.FfnSpec

open Idealize.ShloMosaic Finset
open Cert.Scan (coe_sum)

/-- The logistic function. -/
def logistic (z : ℝ) : ℝ := 1 / (1 + Real.exp (-z))

variable (X P v G U D : ℕ → ℕ → ℝ)

/-- The modulated row: scale in row 4 of the parameters, shift in row 3. -/
def hid (r d : ℕ) : ℝ := X r d * (1 + v 4 d) + v 3 d

/-- The cotangent of the layer's result: the branch's gain is row 5 of the parameters. -/
def cot (r d : ℕ) : ℝ := v 5 d * P r d

/-- The row times a matrix. -/
def lin (W : ℕ → ℕ → ℝ) (r k : ℕ) : ℝ := ∑ d ∈ range 1024, hid X v r d * W d k

/-- The cotangent of the inner product's column `k`. -/
def inner (r k : ℕ) : ℝ := ∑ d ∈ range 1024, cot P v r d * D k d

/-- SiLU of the gate. -/
def gated (r k : ℕ) : ℝ := lin X v G r k * logistic (lin X v G r k)

/-- The inner column. -/
def act (r k : ℕ) : ℝ := gated X v G r k * lin X v U r k

/-- The gate's cotangent. -/
def dGate (r k : ℕ) : ℝ :=
  inner P v D r k * lin X v U r k * (logistic (lin X v G r k) * (1 + lin X v G r k * (1 - logistic (lin X v G r k))))

/-- The value's cotangent. -/
def dVal (r k : ℕ) : ℝ := inner P v D r k * gated X v G r k

/-- Half `j`'s part of the hidden row's cotangent. -/
def dHid (j r d : ℕ) : ℝ :=
  ∑ k ∈ range 1408, dGate X P v G U D r (1408 * j + k) * G d (1408 * j + k) + ∑ k ∈ range 1408, dVal X P v G D r (1408 * j + k) * U d (1408 * j + k)

/-- The gate weight's gradient over the first `n` rows. -/
def dGateW (n j d k : ℕ) : ℝ := ∑ r ∈ range n, hid X v r d * dGate X P v G U D r (1408 * j + k)

/-- The value weight's gradient over the first `n` rows. -/
def dValW (n j d k : ℕ) : ℝ := ∑ r ∈ range n, hid X v r d * dVal X P v G D r (1408 * j + k)

/-- The down projection's gradient over the first `n` rows. -/
def dDownW (n j k d : ℕ) : ℝ := ∑ r ∈ range n, act X v G U r (1408 * j + k) * cot P v r d

/-- A sum over a whole index of real numbers. -/
theorem sum_coe {n : ℕ} (f : Fin n → EReal) (g : ℕ → ℝ) (h : ∀ i, f i = ((g i : ℝ) : EReal)) :
    ∑ i, f i = ((∑ i ∈ range n, g i : ℝ) : EReal) := by
  rw [Finset.sum_congr rfl fun i _ => h i, ← coe_sum, Fin.sum_univ_eq_sum_range g]

/-- A sum over the rows of one more tile. -/
theorem sum_tile (f : ℕ → ℝ) (n : ℕ) :
    ∑ r ∈ range (256 * n), f r + ∑ r ∈ range 256, f (256 * n + r) = ∑ r ∈ range (256 * (n + 1)), f r := by
  rw [Nat.mul_add, Nat.mul_one, Finset.sum_range_add]

/-- The logistic function, as it is computed. -/
theorem logistic_coe (z : ℝ) : (Ideal.div 1 (1 + Ideal.exp (-(z : EReal))) : EReal) = ((logistic z : ℝ) : EReal) := by
  have h : 1 + Real.exp (-z) ≠ 0 := by positivity
  rw [← EReal.coe_neg, Ideal.exp_coe, ← EReal.coe_one, ← EReal.coe_add, Ideal.div_coe h, EReal.coe_one, one_mul]
  rfl

/-- Arrays whose elements are real numbers. -/
structure Holds (a0 a1 : FVec Ideal ⟨2, ![16384, 1024]⟩ .f32) (a2 : FVec Ideal ⟨2, ![16, 1024]⟩ .f32)
    (a3 a4 : FVec Ideal ⟨2, ![1024, 2816]⟩ .f32) (a5 : FVec Ideal ⟨2, ![2816, 1024]⟩ .f32) (X P v G U D : ℕ → ℕ → ℝ) : Prop where
  x : ∀ (r : Fin 16384) (d : Fin 1024), a0 (ix2 r d) = ((X r d : ℝ) : EReal)
  p : ∀ (r : Fin 16384) (d : Fin 1024), a1 (ix2 r d) = ((P r d : ℝ) : EReal)
  v : ∀ (i : Fin 16) (d : Fin 1024), a2 (ix2 i d) = ((v i d : ℝ) : EReal)
  g : ∀ (d : Fin 1024) (k : Fin 2816), a3 (ix2 d k) = ((G d k : ℝ) : EReal)
  u : ∀ (d : Fin 1024) (k : Fin 2816), a4 (ix2 d k) = ((U d k : ℝ) : EReal)
  d : ∀ (k : Fin 2816) (d : Fin 1024), a5 (ix2 k d) = ((D k d : ℝ) : EReal)

/-- Arrays without an infinite element hold real numbers. -/
theorem exists_holds (a0 a1 : FVec Ideal ⟨2, ![16384, 1024]⟩ .f32) (a2 : FVec Ideal ⟨2, ![16, 1024]⟩ .f32)
    (a3 a4 : FVec Ideal ⟨2, ![1024, 2816]⟩ .f32) (a5 : FVec Ideal ⟨2, ![2816, 1024]⟩ .f32)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal)) :
    ∃ X P v G U D, Holds a0 a1 a2 a3 a4 a5 X P v G U D := by
  choose f0 e0 using h0
  choose f1 e1 using h1
  choose f2 e2 using h2
  choose f3 e3 using h3
  choose f4 e4 using h4
  choose f5 e5 using h5
  refine ⟨fun i p => if h : i < 16384 ∧ p < 1024 then f0 (ix2 ⟨i, h.1⟩ ⟨p, h.2⟩) else 0,
    fun i p => if h : i < 16384 ∧ p < 1024 then f1 (ix2 ⟨i, h.1⟩ ⟨p, h.2⟩) else 0,
    fun i p => if h : i < 16 ∧ p < 1024 then f2 (ix2 ⟨i, h.1⟩ ⟨p, h.2⟩) else 0,
    fun i p => if h : i < 1024 ∧ p < 2816 then f3 (ix2 ⟨i, h.1⟩ ⟨p, h.2⟩) else 0,
    fun i p => if h : i < 1024 ∧ p < 2816 then f4 (ix2 ⟨i, h.1⟩ ⟨p, h.2⟩) else 0,
    fun i p => if h : i < 2816 ∧ p < 1024 then f5 (ix2 ⟨i, h.1⟩ ⟨p, h.2⟩) else 0, ?_, ?_, ?_, ?_, ?_, ?_⟩
  · intro i p; rw [dif_pos ⟨i.isLt, p.isLt⟩]; exact e0 _
  · intro i p; rw [dif_pos ⟨i.isLt, p.isLt⟩]; exact e1 _
  · intro i p; rw [dif_pos ⟨i.isLt, p.isLt⟩]; exact e2 _
  · intro i p; rw [dif_pos ⟨i.isLt, p.isLt⟩]; exact e3 _
  · intro i p; rw [dif_pos ⟨i.isLt, p.isLt⟩]; exact e4 _
  · intro i p; rw [dif_pos ⟨i.isLt, p.isLt⟩]; exact e5 _

end Cert.FfnSpec

end
-- ==== Proof.Ffn.Blocks.lean ====
module

public import proofs.«01_k».proof.Proof.Ffn.Out
public import proofs.«01_k».proof.Proof.Ffn.Spec
public import Idealize.ShloMosaic.Lib.Pointwise
public import Idealize.ShloMosaic.Lib.Claim
public import Idealize.ShloMosaic.Lib.Pipeline.ValueKit
public import Idealize.ShloMosaic.Lib.StableHlo.RunRead

@[expose] public section

set_option maxRecDepth 16384

/-!
# The feed-forward backward call: what a grid point reads

Point `t` is tile `t % 64` of half `t / 64`.  It reads 256 rows of the layer's input and of the cotangent, the same rows of
the half's 1408 columns of the gate and the value, the parameters whole, and the half's part of the three weights.  The
gate and the value were made by the host before the launch.
-/

noncomputable section

namespace Cert.Ffn

open Idealize.ShloMosaic Idealize.ShloMosaic.TcCoe Idealize.SL.Sem
open Idealize.ShloMosaic.Pipeline (Dat)
open Cert.Kernel2Ideal Cert.Kernel2Ideal.Gen Cert.FfnSpec

variable {m : (ℓ : Loc nD τ sig) → Buf (Elt Ideal) ℓ} {c : Dev nD} {X P v G U D : ℕ → ℕ → ℝ}

/-- The call's arguments on device `c` are real arrays. -/
abbrev Args (m : (ℓ : Loc nD τ sig) → Buf (Elt Ideal) ℓ) (c : Dev nD) (X P v G U D : ℕ → ℕ → ℝ) : Prop :=
  Holds (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) X P v G U D

theorem idxA : ∀ t : Fin cfg0.N, win0_0.index t = ![t.val % 64, 0] ∧ win0_1.index t = ![t.val % 64, 0] ∧ win0_2.index t = ![t.val % 64, t.val / 64]
    ∧ win0_3.index t = ![t.val % 64, t.val / 64] ∧ win0_4.index t = ![0, 0] ∧ win0_5.index t = ![0, t.val / 64] ∧ win0_6.index t = ![0, t.val / 64]
    ∧ win0_7.index t = ![t.val / 64, 0] ∧ win0_8.index t = ![t.val / 64, t.val % 64, 0] ∧ t.val < 128 ∧ t.val / 64 < 2 ∧ t.val % 64 < 64 :=
  (by decide +kernel : ∀ t : Fin grid0.N, _)

/-- The gate. -/
theorem gate_at (H : Args m c X P v G U D) (r : Fin 16384) (k : Fin 2816) :
    V m c main_v9 (ix2 r k) = ((lin X v G r k : ℝ) : EReal) := by
  have e0 := H.x r
  have e3 := fun d => H.g d k
  have e4 := H.v 3
  have e5 := H.v 4
  after_reads_simp
  pointwise
  refine sum_coe _ (fun d => hid X v r d * G d k) fun d => ?_
  refine (congrArg₂ (· * ·) (congrArg₂ (· + ·) (congrArg₂ (· * ·) (e0 d) (congrArg (fun z : EReal => 1 + z) (e5 d))) (e4 d)) (e3 d)).trans ?_
  rw [← EReal.coe_one, ← EReal.coe_add, ← EReal.coe_mul, ← EReal.coe_add, ← EReal.coe_mul]
  rfl

/-- The value. -/
theorem value_at (H : Args m c X P v G U D) (r : Fin 16384) (k : Fin 2816) :
    V m c main_v11 (ix2 r k) = ((lin X v U r k : ℝ) : EReal) := by
  have e0 := H.x r
  have e3 := fun d => H.u d k
  have e4 := H.v 3
  have e5 := H.v 4
  after_reads_simp
  pointwise
  refine sum_coe _ (fun d => hid X v r d * U d k) fun d => ?_
  refine (congrArg₂ (· * ·) (congrArg₂ (· + ·) (congrArg₂ (· * ·) (e0 d) (congrArg (fun z : EReal => 1 + z) (e5 d))) (e4 d)) (e3 d)).trans ?_
  rw [← EReal.coe_one, ← EReal.coe_add, ← EReal.coe_mul, ← EReal.coe_add, ← EReal.coe_mul]
  rfl

theorem blk0 (H : Args m c X P v G U D) (t : Fin cfg0.N) (i : Fin 256) (d : Fin 1024) :
    iblk m c 0 t (ix2 i d) = ((X (256 * (t.val % 64) + i) d : ℝ) : EReal) := by
  have ht := (idxA t).2.2.2.2.2.2.2.2.2
  refine Eq.trans ?_ (H.x ⟨256 * (t.val % 64) + i.val, by omega⟩ d)
  blk_point [iblk, V, idxA t]

theorem blk1 (H : Args m c X P v G U D) (t : Fin cfg0.N) (i : Fin 256) (d : Fin 1024) :
    iblk m c 1 t (ix2 i d) = ((P (256 * (t.val % 64) + i) d : ℝ) : EReal) := by
  have ht := (idxA t).2.2.2.2.2.2.2.2.2
  refine Eq.trans ?_ (H.p ⟨256 * (t.val % 64) + i.val, by omega⟩ d)
  blk_point [iblk, V, idxA t]

theorem blk2 (H : Args m c X P v G U D) (t : Fin cfg0.N) (i : Fin 256) (k : Fin 1408) :
    iblk m c 2 t (ix2 i k) = ((lin X v G (256 * (t.val % 64) + i) (1408 * (t.val / 64) + k) : ℝ) : EReal) := by
  have ht := (idxA t).2.2.2.2.2.2.2.2.2
  refine Eq.trans ?_ (gate_at H ⟨256 * (t.val % 64) + i.val, by omega⟩ ⟨1408 * (t.val / 64) + k.val, by omega⟩)
  blk_ext [iblk, idxA t]

theorem blk3 (H : Args m c X P v G U D) (t : Fin cfg0.N) (i : Fin 256) (k : Fin 1408) :
    iblk m c 3 t (ix2 i k) = ((lin X v U (256 * (t.val % 64) + i) (1408 * (t.val / 64) + k) : ℝ) : EReal) := by
  have ht := (idxA t).2.2.2.2.2.2.2.2.2
  refine Eq.trans ?_ (value_at H ⟨256 * (t.val % 64) + i.val, by omega⟩ ⟨1408 * (t.val / 64) + k.val, by omega⟩)
  blk_ext [iblk, idxA t]

theorem blk4 (H : Args m c X P v G U D) (t : Fin cfg0.N) (i : Fin 16) (d : Fin 1024) :
    iblk m c 4 t (ix2 i d) = ((v i d : ℝ) : EReal) := by
  refine Eq.trans ?_ (H.v i d)
  blk_point [iblk, V, idxA t]

theorem wg_at (H : Args m c X P v G U D) (d : Fin 1024) (k : Fin 2816) : V m c main_v12 (ix2 d k) = ((G d k : ℝ) : EReal) := by
  have e := H.g d k
  after_reads_simp
  pointwise
  exact e

theorem wu_at (H : Args m c X P v G U D) (d : Fin 1024) (k : Fin 2816) : V m c main_v13 (ix2 d k) = ((U d k : ℝ) : EReal) := by
  have e := H.u d k
  after_reads_simp
  pointwise
  exact e

theorem wd_at (H : Args m c X P v G U D) (k : Fin 2816) (d : Fin 1024) : V m c main_v14 (ix2 k d) = ((D k d : ℝ) : EReal) := by
  have e := H.d k d
  after_reads_simp
  pointwise
  exact e

theorem blk5 (H : Args m c X P v G U D) (t : Fin cfg0.N) (d : Fin 1024) (k : Fin 1408) :
    iblk m c 5 t (ix2 d k) = ((G d (1408 * (t.val / 64) + k) : ℝ) : EReal) := by
  have ht := (idxA t).2.2.2.2.2.2.2.2.2
  refine Eq.trans ?_ (wg_at H d ⟨1408 * (t.val / 64) + k.val, by omega⟩)
  blk_ext [iblk, idxA t]

theorem blk6 (H : Args m c X P v G U D) (t : Fin cfg0.N) (d : Fin 1024) (k : Fin 1408) :
    iblk m c 6 t (ix2 d k) = ((U d (1408 * (t.val / 64) + k) : ℝ) : EReal) := by
  have ht := (idxA t).2.2.2.2.2.2.2.2.2
  refine Eq.trans ?_ (wu_at H d ⟨1408 * (t.val / 64) + k.val, by omega⟩)
  blk_ext [iblk, idxA t]

theorem blk7 (H : Args m c X P v G U D) (t : Fin cfg0.N) (k : Fin 1408) (d : Fin 1024) :
    iblk m c 7 t (ix2 k d) = ((D (1408 * (t.val / 64) + k) d : ℝ) : EReal) := by
  have ht := (idxA t).2.2.2.2.2.2.2.2.2
  refine Eq.trans ?_ (wd_at H ⟨1408 * (t.val / 64) + k.val, by omega⟩ d)
  blk_ext [iblk, idxA t]

end Cert.Ffn

end
-- ==== Proof.Ffn.Tile.lean ====
module

public import proofs.«01_k».proof.Proof.Ffn.Blocks

@[expose] public section

set_option maxRecDepth 16384

/-!
# One tile of the feed-forward gradient

What the body makes of 256 rows (from row `o` on) and 1408 inner columns (from column `1408 j` on), over real numbers: the
hidden rows, the cotangents of gate and value, the half's part of the hidden row's cotangent, and what is added to the
three accumulators.
-/

noncomputable section

namespace Cert.Ffn

open Idealize.ShloMosaic Idealize.ShloMosaic.TcCoe Idealize.SL.Sem
open Cert.Kernel2Ideal Cert.Kernel2Ideal.Gen Cert.FfnSpec

variable {X P v G U D : ℕ → ℕ → ℝ} {o j : ℕ}

/-- The hidden rows. -/
theorem hid_at {a : Vec Ideal S256x1024 .f32} {s b : Vec Ideal S1x1024 .f32}
    (ha : ∀ (i : Fin 256) (d : Fin 1024), a (ix2 i d) = ((X (o + i) d : ℝ) : EReal)) (hs : ∀ d : Fin 1024, s (ix2 0 d) = ((v 4 d : ℝ) : EReal))
    (hb : ∀ d : Fin 1024, b (ix2 0 d) = ((v 3 d : ℝ) : EReal)) (i : Fin 256) (d : Fin 1024) :
    k0_pay6 a s b (ix2 i d) = ((hid X v (o + i) d : ℝ) : EReal) := by
  have e1 := ha i d
  have e2 := hs d
  have e3 := hb d
  pointwise [k0_pay6]
  rw [e1, e2, e3, ← EReal.coe_one, ← EReal.coe_add, ← EReal.coe_mul, ← EReal.coe_add]
  rfl

/-- The cotangent of the layer's result. -/
theorem cot_at {a : Vec Ideal S256x1024 .f32} {s : Vec Ideal S1x1024 .f32}
    (ha : ∀ (i : Fin 256) (d : Fin 1024), a (ix2 i d) = ((P (o + i) d : ℝ) : EReal)) (hs : ∀ d : Fin 1024, s (ix2 0 d) = ((v 5 d : ℝ) : EReal))
    (i : Fin 256) (d : Fin 1024) :
    k0_pay12 s a (ix2 i d) = ((cot P v (o + i) d : ℝ) : EReal) := by
  have e1 := ha i d
  have e2 := hs d
  pointwise [k0_pay12]
  rw [e1, e2, ← EReal.coe_mul]
  rfl

/-- The cotangent of the inner product. -/
theorem inner_at {g : FVec Ideal S256x1024 .bf16} {w : Vec Ideal S1408x1024 .bf16}
    (hg : ∀ (i : Fin 256) (d : Fin 1024), g (ix2 i d) = ((cot P v (o + i) d : ℝ) : EReal))
    (hw : ∀ (k : Fin 1408) (d : Fin 1024), w (ix2 k d) = ((D (1408 * j + k) d : ℝ) : EReal)) (i : Fin 256) (k : Fin 1408) :
    k0_pay13 g w (ix2 i k) = ((inner P v D (o + i) (1408 * j + k) : ℝ) : EReal) := by
  pointwise [k0_pay13]
  refine sum_coe _ (fun d => cot P v (o + i) d * D (1408 * j + k) d) fun d => ?_
  rw [hg, hw, ← EReal.coe_mul]

/-- The gate, the value, and the gate's logistic. -/
theorem wide_at {z : Vec Ideal S256x1408 .bf16} (i : Fin 256) (k : Fin 1408) :
    k0_pay7 z (ix2 i k) = z (ix2 i k) ∧ k0_pay8 z (ix2 i k) = z (ix2 i k) := by
  constructor
  · pointwise [k0_pay7]
  · pointwise [k0_pay8]

theorem logistic_at {z : Vec Ideal S256x1408 .bf16} (hz : ∀ (i : Fin 256) (k : Fin 1408), z (ix2 i k) = ((lin X v G (o + i) (1408 * j + k) : ℝ) : EReal))
    (i : Fin 256) (k : Fin 1408) :
    k0_pay9 z (ix2 i k) = ((logistic (lin X v G (o + i) (1408 * j + k)) : ℝ) : EReal) := by
  have e := (wide_at (z := z) i k).1
  pointwise [k0_pay9]
  rw [zero_sub, e, hz]
  exact logistic_coe _

theorem gated_at {z : Vec Ideal S256x1408 .bf16} (hz : ∀ (i : Fin 256) (k : Fin 1408), z (ix2 i k) = ((lin X v G (o + i) (1408 * j + k) : ℝ) : EReal))
    (i : Fin 256) (k : Fin 1408) :
    k0_pay10 z (ix2 i k) = ((gated X v G (o + i) (1408 * j + k) : ℝ) : EReal) := by
  have e := (wide_at (z := z) i k).1
  have l := logistic_at hz i k
  pointwise [k0_pay10]
  rw [e, l, hz, ← EReal.coe_mul]
  rfl

theorem act_at {z y : Vec Ideal S256x1408 .bf16} (hz : ∀ (i : Fin 256) (k : Fin 1408), z (ix2 i k) = ((lin X v G (o + i) (1408 * j + k) : ℝ) : EReal))
    (hy : ∀ (i : Fin 256) (k : Fin 1408), y (ix2 i k) = ((lin X v U (o + i) (1408 * j + k) : ℝ) : EReal)) (i : Fin 256) (k : Fin 1408) :
    k0_pay11 z y (ix2 i k) = ((act X v G U (o + i) (1408 * j + k) : ℝ) : EReal) := by
  have e := (wide_at (z := y) i k).2
  have l := gated_at hz i k
  pointwise [k0_pay11]
  rw [e, l, hy, ← EReal.coe_mul]
  rfl

section cotangents
variable {z y : Vec Ideal S256x1408 .bf16} {g : FVec Ideal S256x1024 .bf16} {w : Vec Ideal S1408x1024 .bf16}
  (hz : ∀ (i : Fin 256) (k : Fin 1408), z (ix2 i k) = ((lin X v G (o + i) (1408 * j + k) : ℝ) : EReal))
  (hy : ∀ (i : Fin 256) (k : Fin 1408), y (ix2 i k) = ((lin X v U (o + i) (1408 * j + k) : ℝ) : EReal))
  (hg : ∀ (i : Fin 256) (d : Fin 1024), g (ix2 i d) = ((cot P v (o + i) d : ℝ) : EReal))
  (hw : ∀ (k : Fin 1408) (d : Fin 1024), w (ix2 k d) = ((D (1408 * j + k) d : ℝ) : EReal))
include hz hy hg hw

/-- The gate's cotangent. -/
theorem dGate_at (i : Fin 256) (k : Fin 1408) :
    k0_pay14 (k0_pay7 z) (k0_pay8 y) (k0_pay9 z) g w (ix2 i k) = ((dGate X P v G U D (o + i) (1408 * j + k) : ℝ) : EReal) := by
  have e1 := (wide_at (z := z) i k).1
  have e2 := (wide_at (z := y) i k).2
  have e3 := logistic_at hz i k
  have e4 := inner_at hg hw i k
  pointwise [k0_pay14]
  rw [e1, e2, e3, e4, hz, hy, ← EReal.coe_one, ← EReal.coe_mul, ← EReal.coe_sub, ← EReal.coe_mul, ← EReal.coe_add, ← EReal.coe_mul, ← EReal.coe_mul]
  rfl

omit hy in
/-- The value's cotangent. -/
theorem dVal_at (i : Fin 256) (k : Fin 1408) :
    k0_pay15 (k0_pay10 z) g w (ix2 i k) = ((dVal X P v G D (o + i) (1408 * j + k) : ℝ) : EReal) := by
  have e3 := gated_at hz i k
  have e4 := inner_at hg hw i k
  pointwise [k0_pay15]
  rw [e3, e4, ← EReal.coe_mul]
  rfl

/-- The half's part of the hidden row's cotangent. -/
theorem dHid_at {wg wu : Vec Ideal S1024x1408 .bf16} (hwg : ∀ (d : Fin 1024) (k : Fin 1408), wg (ix2 d k) = ((G d (1408 * j + k) : ℝ) : EReal))
    (hwu : ∀ (d : Fin 1024) (k : Fin 1408), wu (ix2 d k) = ((U d (1408 * j + k) : ℝ) : EReal)) (i : Fin 256) (d : Fin 1024) :
    k0_pay16 (k0_pay7 z) (k0_pay8 y) (k0_pay9 z) (k0_pay10 z) g w wg wu (ix3 0 i d) = ((dHid X P v G U D j (o + i) d : ℝ) : EReal) := by
  have e1 := fun k => dGate_at hz hy hg hw i k
  have e2 := fun k => dVal_at hz hg hw i k
  pointwise [k0_pay16]
  refine (congrArg₂ (· + ·) (sum_coe _ (fun k => dGate X P v G U D (o + i) (1408 * j + k) * G d (1408 * j + k)) fun k => ?_)
    (sum_coe _ (fun k => dVal X P v G D (o + i) (1408 * j + k) * U d (1408 * j + k)) fun k => ?_)).trans (EReal.coe_add _ _).symm
  · rw [e1, hwg, ← EReal.coe_mul]
  · rw [e2, hwu, ← EReal.coe_mul]

end cotangents

/-! What is added to a chunk of columns of an accumulator of the form `hᵀ g`. -/

/-- The gate accumulator, the last 384 columns. -/
theorem pay20_at {h : FVec Ideal S256x1024 .bf16} {g : FVec Ideal S256x1408 .bf16} {a : Vec Ideal S1024x384 .f32} {A B : ℕ → ℕ → ℝ}
    (hh : ∀ (i : Fin 256) (d : Fin 1024), h (ix2 i d) = ((A i d : ℝ) : EReal)) (hg : ∀ (i : Fin 256) (k : Fin 1408), g (ix2 i k) = ((B i k : ℝ) : EReal))
    (d : Fin 1024) (k : Fin 384) :
    k0_pay20 h g a (ix2 d k) = a (ix2 d k) + ((∑ i ∈ Finset.range 256, A i d * B i (1024 + k) : ℝ) : EReal) := by
  pointwise [k0_pay20]
  refine congrArg (a (ix2 d k) + ·) (sum_coe _ (fun i => A i d * B i (1024 + k)) fun i => ?_)
  exact (congrArg₂ (· * ·) (hh i d) (hg i ⟨1024 + k.val, by omega⟩)).trans (EReal.coe_mul _ _).symm

/-- The value accumulator, the first 512 columns. -/
theorem pay21_at {h : FVec Ideal S256x1024 .bf16} {g : FVec Ideal S256x1408 .bf16} {a : Vec Ideal S1024x512 .f32} {A B : ℕ → ℕ → ℝ}
    (hh : ∀ (i : Fin 256) (d : Fin 1024), h (ix2 i d) = ((A i d : ℝ) : EReal)) (hg : ∀ (i : Fin 256) (k : Fin 1408), g (ix2 i k) = ((B i k : ℝ) : EReal))
    (d : Fin 1024) (k : Fin 512) :
    k0_pay21 h g a (ix2 d k) = a (ix2 d k) + ((∑ i ∈ Finset.range 256, A i d * B i (k) : ℝ) : EReal) := by
  pointwise [k0_pay21]
  refine congrArg (a (ix2 d k) + ·) (sum_coe _ (fun i => A i d * B i (k)) fun i => ?_)
  exact (congrArg₂ (· * ·) (hh i d) (hg i ⟨k.val, by omega⟩)).trans (EReal.coe_mul _ _).symm

/-- The value accumulator, the next 512 columns. -/
theorem pay22_at {h : FVec Ideal S256x1024 .bf16} {g : FVec Ideal S256x1408 .bf16} {a : Vec Ideal S1024x512 .f32} {A B : ℕ → ℕ → ℝ}
    (hh : ∀ (i : Fin 256) (d : Fin 1024), h (ix2 i d) = ((A i d : ℝ) : EReal)) (hg : ∀ (i : Fin 256) (k : Fin 1408), g (ix2 i k) = ((B i k : ℝ) : EReal))
    (d : Fin 1024) (k : Fin 512) :
    k0_pay22 h g a (ix2 d k) = a (ix2 d k) + ((∑ i ∈ Finset.range 256, A i d * B i (512 + k) : ℝ) : EReal) := by
  pointwise [k0_pay22]
  refine congrArg (a (ix2 d k) + ·) (sum_coe _ (fun i => A i d * B i (512 + k)) fun i => ?_)
  exact (congrArg₂ (· * ·) (hh i d) (hg i ⟨512 + k.val, by omega⟩)).trans (EReal.coe_mul _ _).symm

/-- The value accumulator, the last 384 columns. -/
theorem pay23_at {h : FVec Ideal S256x1024 .bf16} {g : FVec Ideal S256x1408 .bf16} {a : Vec Ideal S1024x384 .f32} {A B : ℕ → ℕ → ℝ}
    (hh : ∀ (i : Fin 256) (d : Fin 1024), h (ix2 i d) = ((A i d : ℝ) : EReal)) (hg : ∀ (i : Fin 256) (k : Fin 1408), g (ix2 i k) = ((B i k : ℝ) : EReal))
    (d : Fin 1024) (k : Fin 384) :
    k0_pay23 h g a (ix2 d k) = a (ix2 d k) + ((∑ i ∈ Finset.range 256, A i d * B i (1024 + k) : ℝ) : EReal) := by
  pointwise [k0_pay23]
  refine congrArg (a (ix2 d k) + ·) (sum_coe _ (fun i => A i d * B i (1024 + k)) fun i => ?_)
  exact (congrArg₂ (· * ·) (hh i d) (hg i ⟨1024 + k.val, by omega⟩)).trans (EReal.coe_mul _ _).symm

/-- The gate accumulator, the first 512 columns. -/
theorem pay17_at {h : FVec Ideal S256x1024 .bf16} {z y e : FVec Ideal S256x1408 .f32} {g : FVec Ideal S256x1024 .bf16} {w : Vec Ideal S1408x1024 .bf16} {a : Vec Ideal S1024x512 .f32} {A B : ℕ → ℕ → ℝ}
    (hh : ∀ (i : Fin 256) (d : Fin 1024), h (ix2 i d) = ((A i d : ℝ) : EReal)) (hg : ∀ (i : Fin 256) (k : Fin 1408), k0_pay14 z y e g w (ix2 i k) = ((B i k : ℝ) : EReal))
    (d : Fin 1024) (k : Fin 512) :
    k0_pay17 h z y e g w a (ix2 d k) = a (ix2 d k) + ((∑ i ∈ Finset.range 256, A i d * B i (k) : ℝ) : EReal) := by
  pointwise [k0_pay17]
  refine congrArg (a (ix2 d k) + ·) (sum_coe _ (fun i => A i d * B i (k)) fun i => ?_)
  exact (congrArg₂ (· * ·) (hh i d) (hg i ⟨k.val, by omega⟩)).trans (EReal.coe_mul _ _).symm

/-- The gate accumulator, the next 512 columns. -/
theorem pay18_at {h : FVec Ideal S256x1024 .bf16} {z y e : FVec Ideal S256x1408 .f32} {g : FVec Ideal S256x1024 .bf16} {w : Vec Ideal S1408x1024 .bf16} {a : Vec Ideal S1024x512 .f32} {A B : ℕ → ℕ → ℝ}
    (hh : ∀ (i : Fin 256) (d : Fin 1024), h (ix2 i d) = ((A i d : ℝ) : EReal)) (hg : ∀ (i : Fin 256) (k : Fin 1408), k0_pay14 z y e g w (ix2 i k) = ((B i k : ℝ) : EReal))
    (d : Fin 1024) (k : Fin 512) :
    k0_pay19 (k0_pay18 h z y e g w a) (ix2 d k) = a (ix2 d k) + ((∑ i ∈ Finset.range 256, A i d * B i (512 + k) : ℝ) : EReal) := by
  pointwise [k0_pay19, k0_pay18]
  refine congrArg (a (ix2 d k) + ·) (sum_coe _ (fun i => A i d * B i (512 + k)) fun i => ?_)
  exact (congrArg₂ (· * ·) (hh i d) (hg i ⟨512 + k.val, by omega⟩)).trans (EReal.coe_mul _ _).symm

/-- The down accumulator, the first 512 columns. -/
theorem pay24_at {f : FVec Ideal S256x1408 .bf16} {g : FVec Ideal S256x1024 .bf16} {a : Vec Ideal S1408x512 .f32} {A B : ℕ → ℕ → ℝ}
    (hf : ∀ (i : Fin 256) (k : Fin 1408), f (ix2 i k) = ((A i k : ℝ) : EReal)) (hg : ∀ (i : Fin 256) (d : Fin 1024), g (ix2 i d) = ((B i d : ℝ) : EReal))
    (k : Fin 1408) (d : Fin 512) :
    k0_pay1 a (k0_pay24 f g) (ix2 k d) = a (ix2 k d) + ((∑ i ∈ Finset.range 256, A i k * B i (d) : ℝ) : EReal) := by
  pointwise [k0_pay1, k0_pay24]
  refine congrArg (a (ix2 k d) + ·) (sum_coe _ (fun i => A i k * B i (d)) fun i => ?_)
  exact (congrArg₂ (· * ·) (hf i k) (hg i ⟨d.val, by omega⟩)).trans (EReal.coe_mul _ _).symm

/-- The down accumulator, the last 512 columns. -/
theorem pay2_at {f : FVec Ideal S256x1408 .bf16} {g : FVec Ideal S256x1024 .bf16} {a : Vec Ideal S1408x512 .f32} {A B : ℕ → ℕ → ℝ}
    (hf : ∀ (i : Fin 256) (k : Fin 1408), f (ix2 i k) = ((A i k : ℝ) : EReal)) (hg : ∀ (i : Fin 256) (d : Fin 1024), g (ix2 i d) = ((B i d : ℝ) : EReal))
    (k : Fin 1408) (d : Fin 512) :
    k0_pay2 f g a (ix2 k d) = a (ix2 k d) + ((∑ i ∈ Finset.range 256, A i k * B i (512 + d) : ℝ) : EReal) := by
  pointwise [k0_pay2]
  refine congrArg (a (ix2 k d) + ·) (sum_coe _ (fun i => A i k * B i (512 + d)) fun i => ?_)
  exact (congrArg₂ (· * ·) (hf i k) (hg i ⟨512 + d.val, by omega⟩)).trans (EReal.coe_mul _ _).symm

end Cert.Ffn

end
-- ==== Proof.Ffn.Step.lean ====
module

public import proofs.«01_k».proof.Proof.Ffn.Tile
public import Idealize.ShloMosaic.Lib.Pipeline.ReadBack

@[expose] public section

set_option maxRecDepth 16384

/-!
# One grid point's stores into the accumulators

The three accumulators are stored in column chunks: the gate's and the value's in chunks of 512, 512 and 384 columns, the
down projection's in two chunks of 512.  Each chunk is what was loaded from it plus a product over the tile's 256 rows, so
the accumulator as a whole gains the tile's product.
-/

noncomputable section

namespace Cert.Ffn

open Idealize.ShloMosaic Idealize.ShloMosaic.TcCoe Idealize.SL.Sem
open Cert.Kernel2Ideal Cert.Kernel2Ideal.Gen Cert.FfnSpec

/-- The first 512 columns of a wide accumulator. -/
abbrev w0 : Rect S1024x1408 := Rect.unit ![0, 0] ![1024, 512] inb_S1024x1408_S1024x512_0_0
/-- The next 512 columns. -/
abbrev w1 : Rect S1024x1408 := Rect.unit ![0, 512] ![1024, 512] inb_S1024x1408_S1024x512_0_512
/-- The last 384 columns. -/
abbrev w2 : Rect S1024x1408 := Rect.unit ![0, 1024] ![1024, 384] inb_S1024x1408_S1024x384_0_1024
/-- All columns. -/
abbrev wA : Rect S1024x1408 := Rect.unit ![0, 0] ![1024, 1408] inb_S1024x1408_S1024x1408_0_0
/-- The first 512 columns of the tall accumulator. -/
abbrev d0 : Rect S1408x1024 := Rect.unit ![0, 0] ![1408, 512] inb_S1408x1024_S1408x512_0_0
/-- The last 512 columns. -/
abbrev d1 : Rect S1408x1024 := Rect.unit ![0, 512] ![1408, 512] inb_S1408x1024_S1408x512_0_512
/-- All columns. -/
abbrev dA : Rect S1408x1024 := Rect.unit ![0, 0] ![1408, 1024] inb_S1408x1024_S1408x1024_0_0

section layout

variable {f : ℕ → ℕ → EReal}

/-- A wide accumulator stored in three chunks holds each chunk's values. -/
theorem canon_wide (A2 : w2.shape.Idx → Elt Ideal .f32) (A1 : w1.shape.Idx → Elt Ideal .f32) (A0 : w0.shape.Idx → Elt Ideal .f32)
    (L : List (View.Piece (Elt Ideal) S1024x1408 .f32))
    (h0 : ∀ (d : Fin 1024) (k : Fin 512), A0 (ix2 d k) = f d k) (h1 : ∀ (d : Fin 1024) (k : Fin 512), A1 (ix2 d k) = f d (512 + k))
    (h2 : ∀ (d : Fin 1024) (k : Fin 384), A2 (ix2 d k) = f d (1024 + k)) (d : Fin 1024) (k : Fin 1408) :
    View.canon (⟨w2, A2⟩ :: ⟨w1, A1⟩ :: ⟨w0, A0⟩ :: L) (ix2 d k) = f d k := by
  rcases Nat.lt_or_ge k.val 512 with hk | hk
  · have e : (ix2 d k : S1024x1408.Idx) = w0.emb (ix2 d ⟨k.val, hk⟩) := by blk_ext
    refine (View.canon_cons_of_not_mem ⟨w2, A2⟩ _ ?_).trans ((View.canon_cons_of_not_mem ⟨w1, A1⟩ _ ?_).trans ?_)
    · rw [e]
      exact LoadRect.idx_not_mem_of_disj (p := w2) (B := w0.toLoadRect) (by decide) (ix2 d ⟨k.val, hk⟩)
    · rw [e]
      exact LoadRect.idx_not_mem_of_disj (p := w1) (B := w0.toLoadRect) (by decide) (ix2 d ⟨k.val, hk⟩)
    · rw [e]
      exact (View.canon_cons_emb w0 A0 L _).trans (h0 d ⟨k.val, hk⟩)
  rcases Nat.lt_or_ge k.val 1024 with hk' | hk'
  · have hl : k.val - 512 < 512 := by omega
    have hs : 512 + (k.val - 512) = k.val := by omega
    have e : (ix2 d k : S1024x1408.Idx) = w1.emb (ix2 d ⟨k.val - 512, hl⟩) := by blk_ext
    refine (View.canon_cons_of_not_mem ⟨w2, A2⟩ _ ?_).trans ?_
    · rw [e]
      exact LoadRect.idx_not_mem_of_disj (p := w2) (B := w1.toLoadRect) (by decide) (ix2 d ⟨k.val - 512, hl⟩)
    · rw [e]
      exact (View.canon_cons_emb w1 A1 _ _).trans ((h1 d ⟨k.val - 512, hl⟩).trans (congrArg (f d) hs))
  · have hl : k.val - 1024 < 384 := by omega
    have hs : 1024 + (k.val - 1024) = k.val := by omega
    have e : (ix2 d k : S1024x1408.Idx) = w2.emb (ix2 d ⟨k.val - 1024, hl⟩) := by blk_ext
    rw [e]
    exact (View.canon_cons_emb w2 A2 _ _).trans ((h2 d ⟨k.val - 1024, hl⟩).trans (congrArg (f d) hs))

/-- The tall accumulator stored in two chunks holds each chunk's values. -/
theorem canon_tall (A1 : d1.shape.Idx → Elt Ideal .f32) (A0 : d0.shape.Idx → Elt Ideal .f32) (L : List (View.Piece (Elt Ideal) S1408x1024 .f32))
    (h0 : ∀ (k : Fin 1408) (d : Fin 512), A0 (ix2 k d) = f k d) (h1 : ∀ (k : Fin 1408) (d : Fin 512), A1 (ix2 k d) = f k (512 + d))
    (k : Fin 1408) (d : Fin 1024) :
    View.canon (⟨d1, A1⟩ :: ⟨d0, A0⟩ :: L) (ix2 k d) = f k d := by
  rcases Nat.lt_or_ge d.val 512 with hk | hk
  · have e : (ix2 k d : S1408x1024.Idx) = d0.emb (ix2 k ⟨d.val, hk⟩) := by blk_ext
    refine (View.canon_cons_of_not_mem ⟨d1, A1⟩ _ ?_).trans ?_
    · rw [e]
      exact LoadRect.idx_not_mem_of_disj (p := d1) (B := d0.toLoadRect) (by decide) (ix2 k ⟨d.val, hk⟩)
    · rw [e]
      exact (View.canon_cons_emb d0 A0 L _).trans (h0 k ⟨d.val, hk⟩)
  · have hl : d.val - 512 < 512 := by omega
    have hs : 512 + (d.val - 512) = d.val := by omega
    have e : (ix2 k d : S1408x1024.Idx) = d1.emb (ix2 k ⟨d.val - 512, hl⟩) := by blk_ext
    rw [e]
    exact (View.canon_cons_emb d1 A1 _ _).trans ((h1 k ⟨d.val - 512, hl⟩).trans (congrArg (f k) hs))

end layout

section cleared

/-- A chunk read from a wide accumulator that was filled as a whole. -/
theorem wide_fill {κ : Kind} {sp : Space} (V : View sig κ sp S1024x1408 .f32) (O : wA.shape.Idx → Elt Ideal .f32) {z : EReal} (hO : ∀ i, O i = z)
    (r : Rect S1024x1408) (i : r.shape.Idx) : V.readCov [⟨wA, O⟩] r.toLoadRect i = z := by
  rw [View.readCov_eq_canon']
  obtain ⟨d, k, e⟩ : ∃ (d : Fin 1024) (k : Fin 1408), r.toLoadRect.idx i = ix2 d k := ⟨_, _, (ix2_eta _).symm⟩
  have e' : (ix2 d k : S1024x1408.Idx) = wA.emb (ix2 d k) := by blk_ext
  exact (congrArg _ (e.trans e')).trans ((View.canon_cons_emb wA O [] (ix2 d k)).trans (hO _))

/-- A chunk read from the tall accumulator that was filled as a whole. -/
theorem tall_fill {κ : Kind} {sp : Space} (V : View sig κ sp S1408x1024 .f32) (O : dA.shape.Idx → Elt Ideal .f32) {z : EReal} (hO : ∀ i, O i = z)
    (r : Rect S1408x1024) (i : r.shape.Idx) : V.readCov [⟨dA, O⟩] r.toLoadRect i = z := by
  rw [View.readCov_eq_canon']
  obtain ⟨k, d, e⟩ : ∃ (k : Fin 1408) (d : Fin 1024), r.toLoadRect.idx i = ix2 k d := ⟨_, _, (ix2_eta _).symm⟩
  have e' : (ix2 k d : S1408x1024.Idx) = dA.emb (ix2 k d) := by blk_ext
  exact (congrArg _ (e.trans e')).trans ((View.canon_cons_emb dA O [] (ix2 k d)).trans (hO _))

end cleared

variable {m : (ℓ : Loc nD τ sig) → Buf (Elt Ideal) ℓ} {c : Dev nD} {X P v G U D : ℕ → ℕ → ℝ}

/-- The scale's row. -/
theorem row4 (H : Args m c X P v G U D) (t : Fin cfg0.N) (d : Fin 1024) :
    View.ld (iblk m c 4 t) (Rect.unit ![4, 0] ![1, 1024] inb_S16x1024_S1x1024_4_0) (ix2 0 d) = ((v 4 d : ℝ) : EReal) :=
  (show View.ld (iblk m c 4 t) (Rect.unit ![4, 0] ![1, 1024] inb_S16x1024_S1x1024_4_0) (ix2 0 d) = iblk m c 4 t (ix2 4 d) by pointwise).trans (blk4 H t 4 d)

/-- The shift's row. -/
theorem row3 (H : Args m c X P v G U D) (t : Fin cfg0.N) (d : Fin 1024) :
    View.ld (iblk m c 4 t) (Rect.unit ![3, 0] ![1, 1024] inb_S16x1024_S1x1024_3_0) (ix2 0 d) = ((v 3 d : ℝ) : EReal) :=
  (show View.ld (iblk m c 4 t) (Rect.unit ![3, 0] ![1, 1024] inb_S16x1024_S1x1024_3_0) (ix2 0 d) = iblk m c 4 t (ix2 3 d) by pointwise).trans (blk4 H t 3 d)

/-- The gate's row. -/
theorem row5 (H : Args m c X P v G U D) (t : Fin cfg0.N) (d : Fin 1024) :
    View.ld (iblk m c 4 t) (Rect.unit ![5, 0] ![1, 1024] inb_S16x1024_S1x1024_5_0) (ix2 0 d) = ((v 5 d : ℝ) : EReal) :=
  (show View.ld (iblk m c 4 t) (Rect.unit ![5, 0] ![1, 1024] inb_S16x1024_S1x1024_5_0) (ix2 0 d) = iblk m c 4 t (ix2 5 d) by pointwise).trans (blk4 H t 5 d)

/-- The tile's hidden rows. -/
abbrev hidT (m : (ℓ : Loc nD τ sig) → Buf (Elt Ideal) ℓ) (c : Dev nD) (t : Fin cfg0.N) : FVec Ideal S256x1024 .bf16 :=
  k0_pay6 (iblk m c 0 t) (View.ld (iblk m c 4 t) (Rect.unit ![4, 0] ![1, 1024] inb_S16x1024_S1x1024_4_0))
    (View.ld (iblk m c 4 t) (Rect.unit ![3, 0] ![1, 1024] inb_S16x1024_S1x1024_3_0))

/-- The tile's cotangents. -/
abbrev cotT (m : (ℓ : Loc nD τ sig) → Buf (Elt Ideal) ℓ) (c : Dev nD) (t : Fin cfg0.N) : FVec Ideal S256x1024 .bf16 :=
  k0_pay12 (View.ld (iblk m c 4 t) (Rect.unit ![5, 0] ![1, 1024] inb_S16x1024_S1x1024_5_0)) (iblk m c 1 t)

theorem hidT_at (H : Args m c X P v G U D) (t : Fin cfg0.N) (i : Fin 256) (d : Fin 1024) :
    hidT m c t (ix2 i d) = ((hid X v (256 * (t.val % 64) + i) d : ℝ) : EReal) := hid_at (blk0 H t) (row4 H t) (row3 H t) i d

theorem cotT_at (H : Args m c X P v G U D) (t : Fin cfg0.N) (i : Fin 256) (d : Fin 1024) :
    cotT m c t (ix2 i d) = ((cot P v (256 * (t.val % 64) + i) d : ℝ) : EReal) := cot_at (blk1 H t) (row5 H t) i d

theorem gateT_at (H : Args m c X P v G U D) (t : Fin cfg0.N) (i : Fin 256) (k : Fin 1408) :
    k0_pay14 (k0_pay7 (iblk m c 2 t)) (k0_pay8 (iblk m c 3 t)) (k0_pay9 (iblk m c 2 t)) (cotT m c t) (iblk m c 7 t) (ix2 i k)
      = ((dGate X P v G U D (256 * (t.val % 64) + i) (1408 * (t.val / 64) + k) : ℝ) : EReal) :=
  dGate_at (blk2 H t) (blk3 H t) (cotT_at H t) (blk7 H t) i k

theorem valueT_at (H : Args m c X P v G U D) (t : Fin cfg0.N) (i : Fin 256) (k : Fin 1408) :
    k0_pay15 (k0_pay10 (iblk m c 2 t)) (cotT m c t) (iblk m c 7 t) (ix2 i k)
      = ((dVal X P v G D (256 * (t.val % 64) + i) (1408 * (t.val / 64) + k) : ℝ) : EReal) :=
  dVal_at (blk2 H t) (cotT_at H t) (blk7 H t) i k

theorem actT_at (H : Args m c X P v G U D) (t : Fin cfg0.N) (i : Fin 256) (k : Fin 1408) :
    k0_pay11 (iblk m c 2 t) (iblk m c 3 t) (ix2 i k) = ((act X v G U (256 * (t.val % 64) + i) (1408 * (t.val / 64) + k) : ℝ) : EReal) :=
  act_at (blk2 H t) (blk3 H t) i k

/-- The block of the hidden rows' cotangent that a point stores. -/
theorem hiddenT_at (H : Args m c X P v G U D) (t : Fin cfg0.N) (i : Fin 256) (d : Fin 1024) :
    k0_pay16 (k0_pay7 (iblk m c 2 t)) (k0_pay8 (iblk m c 3 t)) (k0_pay9 (iblk m c 2 t)) (k0_pay10 (iblk m c 2 t)) (cotT m c t) (iblk m c 7 t)
        (iblk m c 5 t) (iblk m c 6 t) (ix3 0 i d)
      = ((dHid X P v G U D (t.val / 64) (256 * (t.val % 64) + i) d : ℝ) : EReal) :=
  dHid_at (blk2 H t) (blk3 H t) (cotT_at H t) (blk7 H t) (blk5 H t) (blk6 H t) i d

variable {R : ℕ → ℕ → ℝ}

/-- The gate accumulator gains the tile's product. -/
theorem gate_step (H : Args m c X P v G U D) (t : Fin cfg0.N) {a0 a1 : Vec Ideal S1024x512 .f32} {a2 : Vec Ideal S1024x384 .f32}
    (h0 : ∀ (d : Fin 1024) (k : Fin 512), a0 (ix2 d k) = ((R d k : ℝ) : EReal)) (h1 : ∀ (d : Fin 1024) (k : Fin 512), a1 (ix2 d k) = ((R d (512 + k) : ℝ) : EReal))
    (h2 : ∀ (d : Fin 1024) (k : Fin 384), a2 (ix2 d k) = ((R d (1024 + k) : ℝ) : EReal)) (L : List (View.Piece (Elt Ideal) S1024x1408 .f32)) (d : Fin 1024) (k : Fin 1408) :
    View.canon (⟨w2, k0_pay20 (hidT m c t) (k0_pay14 (k0_pay7 (iblk m c 2 t)) (k0_pay8 (iblk m c 3 t)) (k0_pay9 (iblk m c 2 t)) (cotT m c t) (iblk m c 7 t)) a2⟩
      :: ⟨w1, k0_pay19 (k0_pay18 (hidT m c t) (k0_pay7 (iblk m c 2 t)) (k0_pay8 (iblk m c 3 t)) (k0_pay9 (iblk m c 2 t)) (cotT m c t) (iblk m c 7 t) a1)⟩
      :: ⟨w0, k0_pay17 (hidT m c t) (k0_pay7 (iblk m c 2 t)) (k0_pay8 (iblk m c 3 t)) (k0_pay9 (iblk m c 2 t)) (cotT m c t) (iblk m c 7 t) a0⟩ :: L) (ix2 d k)
      = ((R d k + ∑ i ∈ Finset.range 256, hid X v (256 * (t.val % 64) + i) d * dGate X P v G U D (256 * (t.val % 64) + i) (1408 * (t.val / 64) + k) : ℝ) : EReal) :=
  canon_wide (f := fun d k => ((R d k + ∑ i ∈ Finset.range 256, hid X v (256 * (t.val % 64) + i) d * dGate X P v G U D (256 * (t.val % 64) + i) (1408 * (t.val / 64) + k) : ℝ) : EReal))
    _ _ _ L
    (fun d k => (pay17_at (A := fun i d => hid X v (256 * (t.val % 64) + i) d) (B := fun i k => dGate X P v G U D (256 * (t.val % 64) + i) (1408 * (t.val / 64) + k))
      (hidT_at H t) (gateT_at H t) d k).trans ((congrArg (· + _) (h0 d k)).trans (EReal.coe_add _ _).symm))
    (fun d k => (pay18_at (A := fun i d => hid X v (256 * (t.val % 64) + i) d) (B := fun i k => dGate X P v G U D (256 * (t.val % 64) + i) (1408 * (t.val / 64) + k))
      (hidT_at H t) (gateT_at H t) d k).trans ((congrArg (· + _) (h1 d k)).trans (EReal.coe_add _ _).symm))
    (fun d k => (pay20_at (A := fun i d => hid X v (256 * (t.val % 64) + i) d) (B := fun i k => dGate X P v G U D (256 * (t.val % 64) + i) (1408 * (t.val / 64) + k))
      (hidT_at H t) (gateT_at H t) d k).trans ((congrArg (· + _) (h2 d k)).trans (EReal.coe_add _ _).symm)) d k

/-- The value accumulator gains the tile's product. -/
theorem value_step (H : Args m c X P v G U D) (t : Fin cfg0.N) {a0 a1 : Vec Ideal S1024x512 .f32} {a2 : Vec Ideal S1024x384 .f32}
    (h0 : ∀ (d : Fin 1024) (k : Fin 512), a0 (ix2 d k) = ((R d k : ℝ) : EReal)) (h1 : ∀ (d : Fin 1024) (k : Fin 512), a1 (ix2 d k) = ((R d (512 + k) : ℝ) : EReal))
    (h2 : ∀ (d : Fin 1024) (k : Fin 384), a2 (ix2 d k) = ((R d (1024 + k) : ℝ) : EReal)) (L : List (View.Piece (Elt Ideal) S1024x1408 .f32)) (d : Fin 1024) (k : Fin 1408) :
    View.canon (⟨w2, k0_pay23 (hidT m c t) (k0_pay15 (k0_pay10 (iblk m c 2 t)) (cotT m c t) (iblk m c 7 t)) a2⟩
      :: ⟨w1, k0_pay22 (hidT m c t) (k0_pay15 (k0_pay10 (iblk m c 2 t)) (cotT m c t) (iblk m c 7 t)) a1⟩
      :: ⟨w0, k0_pay21 (hidT m c t) (k0_pay15 (k0_pay10 (iblk m c 2 t)) (cotT m c t) (iblk m c 7 t)) a0⟩ :: L) (ix2 d k)
      = ((R d k + ∑ i ∈ Finset.range 256, hid X v (256 * (t.val % 64) + i) d * dVal X P v G D (256 * (t.val % 64) + i) (1408 * (t.val / 64) + k) : ℝ) : EReal) :=
  canon_wide (f := fun d k => ((R d k + ∑ i ∈ Finset.range 256, hid X v (256 * (t.val % 64) + i) d * dVal X P v G D (256 * (t.val % 64) + i) (1408 * (t.val / 64) + k) : ℝ) : EReal))
    _ _ _ L
    (fun d k => (pay21_at (A := fun i d => hid X v (256 * (t.val % 64) + i) d) (B := fun i k => dVal X P v G D (256 * (t.val % 64) + i) (1408 * (t.val / 64) + k))
      (hidT_at H t) (valueT_at H t) d k).trans ((congrArg (· + _) (h0 d k)).trans (EReal.coe_add _ _).symm))
    (fun d k => (pay22_at (A := fun i d => hid X v (256 * (t.val % 64) + i) d) (B := fun i k => dVal X P v G D (256 * (t.val % 64) + i) (1408 * (t.val / 64) + k))
      (hidT_at H t) (valueT_at H t) d k).trans ((congrArg (· + _) (h1 d k)).trans (EReal.coe_add _ _).symm))
    (fun d k => (pay23_at (A := fun i d => hid X v (256 * (t.val % 64) + i) d) (B := fun i k => dVal X P v G D (256 * (t.val % 64) + i) (1408 * (t.val / 64) + k))
      (hidT_at H t) (valueT_at H t) d k).trans ((congrArg (· + _) (h2 d k)).trans (EReal.coe_add _ _).symm)) d k

/-- The down accumulator gains the tile's product. -/
theorem down_step (H : Args m c X P v G U D) (t : Fin cfg0.N) {a0 a1 : Vec Ideal S1408x512 .f32}
    (h0 : ∀ (k : Fin 1408) (d : Fin 512), a0 (ix2 k d) = ((R k d : ℝ) : EReal)) (h1 : ∀ (k : Fin 1408) (d : Fin 512), a1 (ix2 k d) = ((R k (512 + d) : ℝ) : EReal))
    (L : List (View.Piece (Elt Ideal) S1408x1024 .f32)) (k : Fin 1408) (d : Fin 1024) :
    View.canon (⟨d1, k0_pay2 (k0_pay11 (iblk m c 2 t) (iblk m c 3 t)) (cotT m c t) a1⟩
      :: ⟨d0, k0_pay1 a0 (k0_pay24 (k0_pay11 (iblk m c 2 t) (iblk m c 3 t)) (cotT m c t))⟩ :: L) (ix2 k d)
      = ((R k d + ∑ i ∈ Finset.range 256, act X v G U (256 * (t.val % 64) + i) (1408 * (t.val / 64) + k) * cot P v (256 * (t.val % 64) + i) d : ℝ) : EReal) :=
  canon_tall (f := fun k d => ((R k d + ∑ i ∈ Finset.range 256, act X v G U (256 * (t.val % 64) + i) (1408 * (t.val / 64) + k) * cot P v (256 * (t.val % 64) + i) d : ℝ) : EReal))
    _ _ L
    (fun k d => (pay24_at (A := fun i k => act X v G U (256 * (t.val % 64) + i) (1408 * (t.val / 64) + k)) (B := fun i d => cot P v (256 * (t.val % 64) + i) d)
      (actT_at H t) (cotT_at H t) k d).trans ((congrArg (· + _) (h0 k d)).trans (EReal.coe_add _ _).symm))
    (fun k d => (pay2_at (A := fun i k => act X v G U (256 * (t.val % 64) + i) (1408 * (t.val / 64) + k)) (B := fun i d => cot P v (256 * (t.val % 64) + i) d)
      (actT_at H t) (cotT_at H t) k d).trans ((congrArg (· + _) (h1 k d)).trans (EReal.coe_add _ _).symm)) k d

end Cert.Ffn

end
-- ==== Proof.Ffn.Acc.lean ====
module

public import proofs.«01_k».proof.Proof.Ffn.Step
public import proofs.«01_k».proof.Proof.Ffn.Held
public import Idealize.ShloMosaic.Lib.Pipeline.ValueKit

@[expose] public section

set_option maxRecDepth 16384

/-!
# The accumulators, point by point

After point `64 j + n` the three accumulators hold the sums over the first `256 (n + 1)` rows of the weight gradients of
half `j`: the first point of a half clears them, and each point adds its tile.
-/

noncomputable section

namespace Cert.Ffn

open Idealize.ShloMosaic Idealize.ShloMosaic.TcCoe Idealize.SL.Sem
open Idealize.ShloMosaic.Pipeline (Dat)
open Cert.Kernel2Ideal Cert.Kernel2Ideal.Gen Cert.FfnSpec

variable {m : (ℓ : Loc nD τ sig) → Buf (Elt Ideal) ℓ} {c : Dev nD} {X P v G U D : ℕ → ℕ → ℝ}

/-- The gate accumulator is cleared to zero. -/
theorem pay3_zero (i : S1024x1408.Idx) : k0_pay3 (F := Ideal) i = ((0 : ℝ) : EReal) := by
  rw [EReal.coe_zero]
  pointwise [k0_pay3]

/-- The value accumulator is cleared to zero. -/
theorem pay4_zero (i : S1024x1408.Idx) : k0_pay4 (F := Ideal) i = ((0 : ℝ) : EReal) := by
  rw [EReal.coe_zero]
  pointwise [k0_pay4]

/-- The down accumulator is cleared to zero. -/
theorem pay5_zero (i : S1408x1024.Idx) : k0_pay5 (F := Ideal) i = ((0 : ℝ) : EReal) := by
  rw [EReal.coe_zero]
  pointwise [k0_pay5]

/-- The point before. -/
abbrev prev (t : Fin cfg0.N) : t.val - 1 < cfg0.N := Nat.lt_of_le_of_lt (Nat.sub_le _ _) t.isLt

/-- What the three accumulators hold after point `n`. -/
structure Sums (m : (ℓ : Loc nD τ sig) → Buf (Elt Ideal) ℓ) (c : Dev nD) (X P v G U D : ℕ → ℕ → ℝ) (n : ℕ) (hn : n < cfg0.N) (r j : ℕ) : Prop where
  gate : ∀ (d : Fin 1024) (k : Fin 1408), (outsAt0 m c n hn).2.1 (ix2 d k) = ((dGateW X P v G U D r j d k : ℝ) : EReal)
  value : ∀ (d : Fin 1024) (k : Fin 1408), (outsAt0 m c n hn).2.2.1 (ix2 d k) = ((dValW X P v G D r j d k : ℝ) : EReal)
  down : ∀ (k : Fin 1408) (d : Fin 1024), (outsAt0 m c n hn).2.2.2.1 (ix2 k d) = ((dDownW X P v G U r j k d : ℝ) : EReal)

/-- The first tile's sum is a sum over the first rows. -/
theorem first_tile (f : ℕ → ℝ) (n : ℕ) (hn : n = 0) : 0 + ∑ i ∈ Finset.range 256, f (256 * n + i) = ∑ r ∈ Finset.range (256 * (n + 1)), f r := by
  subst hn
  simp

/-- The gate accumulator at the first point of a half, which clears it. -/
theorem gate_first (H : Args m c X P v G U D) (t : Fin cfg0.N) (h0 : t.val % 64 = 0) (d : Fin 1024) (k : Fin 1408) :
    (outsAt0 m c t.val t.isLt).2.1 (ix2 d k) = ((dGateW X P v G U D (256 * (t.val % 64 + 1)) (t.val / 64) d k : ℝ) : EReal) := by
  have h1 : ¬ t.val % 64 = 63 := by omega
  by_cases hz : t.val = 0
  · rw [outsAt0_A0 m c t hz h0 h1, pointA]
    frame_out
    refine (gate_step H t (R := fun _ _ => 0) (fun d k => ?_) (fun d k => ?_) (fun d k => ?_) _ d k).trans (congrArg _ (first_tile (fun r => hid X v r d * dGate X P v G U D r (1408 * (t.val / 64) + k)) _ h0))
    · exact wide_fill _ _ pay3_zero w0 _
    · exact (congrFun (View.readCov_skip _ w0 _ _ w1.toLoadRect (by decide)) _).trans (wide_fill _ _ pay3_zero w1 _)
    · exact (congrFun (View.readCov_skip _ w1 _ _ w2.toLoadRect (by decide)) _).trans ((congrFun (View.readCov_skip _ w0 _ _ w2.toLoadRect (by decide)) _).trans (wide_fill _ _ pay3_zero w2 _))
  · rw [outsAt0_A m c t hz h0 h1, pointA]
    frame_out
    refine (gate_step H t (R := fun _ _ => 0) (fun d k => ?_) (fun d k => ?_) (fun d k => ?_) _ d k).trans (congrArg _ (first_tile (fun r => hid X v r d * dGate X P v G U D r (1408 * (t.val / 64) + k)) _ h0))
    · exact wide_fill _ _ pay3_zero w0 _
    · exact (congrFun (View.readCov_skip _ w0 _ _ w1.toLoadRect (by decide)) _).trans (wide_fill _ _ pay3_zero w1 _)
    · exact (congrFun (View.readCov_skip _ w1 _ _ w2.toLoadRect (by decide)) _).trans ((congrFun (View.readCov_skip _ w0 _ _ w2.toLoadRect (by decide)) _).trans (wide_fill _ _ pay3_zero w2 _))

/-- The gate accumulator at a later point. -/
theorem gate_next (H : Args m c X P v G U D) (t : Fin cfg0.N) (h0 : ¬ t.val % 64 = 0)
    (ih : Sums m c X P v G U D (t.val - 1) (prev t) (256 * (t.val % 64)) (t.val / 64)) (d : Fin 1024) (k : Fin 1408) :
    (outsAt0 m c t.val t.isLt).2.1 (ix2 d k) = ((dGateW X P v G U D (256 * (t.val % 64 + 1)) (t.val / 64) d k : ℝ) : EReal) := by
  have hg := ih.gate
  by_cases h1 : t.val % 64 = 63
  · rw [outsAt0_C m c t h0 h1, pointC]
    frame_out
    generalize outsAt0 m c (t.val - 1) (prev t) = O at hg ⊢
    refine (gate_step H t (R := fun d k => dGateW X P v G U D (256 * (t.val % 64)) (t.val / 64) d k) (fun d k => ?_) (fun d k => ?_) (fun d k => ?_) _ d k).trans (congrArg _ (sum_tile (fun r => hid X v r d * dGate X P v G U D r (1408 * (t.val / 64) + k)) _))
    · pointwise
      exact (congrFun (Memref.IsWhole.read_unread _ _) (ix2 d _)).trans (hg d ⟨k.val, by omega⟩)
    · pointwise
      exact (congrFun (Memref.IsWhole.read_unread _ _) (ix2 d _)).trans (hg d ⟨512 + k.val, by omega⟩)
    · pointwise
      exact (congrFun (Memref.IsWhole.read_unread _ _) (ix2 d _)).trans (hg d ⟨1024 + k.val, by omega⟩)
  · rw [outsAt0_B m c t h0 h1, pointB]
    frame_out
    generalize outsAt0 m c (t.val - 1) (prev t) = O at hg ⊢
    refine (gate_step H t (R := fun d k => dGateW X P v G U D (256 * (t.val % 64)) (t.val / 64) d k) (fun d k => ?_) (fun d k => ?_) (fun d k => ?_) _ d k).trans (congrArg _ (sum_tile (fun r => hid X v r d * dGate X P v G U D r (1408 * (t.val / 64) + k)) _))
    · pointwise
      exact (congrFun (Memref.IsWhole.read_unread _ _) (ix2 d _)).trans (hg d ⟨k.val, by omega⟩)
    · pointwise
      exact (congrFun (Memref.IsWhole.read_unread _ _) (ix2 d _)).trans (hg d ⟨512 + k.val, by omega⟩)
    · pointwise
      exact (congrFun (Memref.IsWhole.read_unread _ _) (ix2 d _)).trans (hg d ⟨1024 + k.val, by omega⟩)

/-- The value accumulator at the first point of a half. -/
theorem value_first (H : Args m c X P v G U D) (t : Fin cfg0.N) (h0 : t.val % 64 = 0) (d : Fin 1024) (k : Fin 1408) :
    (outsAt0 m c t.val t.isLt).2.2.1 (ix2 d k) = ((dValW X P v G D (256 * (t.val % 64 + 1)) (t.val / 64) d k : ℝ) : EReal) := by
  have h1 : ¬ t.val % 64 = 63 := by omega
  by_cases hz : t.val = 0
  · rw [outsAt0_A0 m c t hz h0 h1, pointA]
    frame_out
    refine (value_step H t (R := fun _ _ => 0) (fun d k => ?_) (fun d k => ?_) (fun d k => ?_) _ d k).trans (congrArg _ (first_tile (fun r => hid X v r d * dVal X P v G D r (1408 * (t.val / 64) + k)) _ h0))
    · exact wide_fill _ _ pay4_zero w0 _
    · exact (congrFun (View.readCov_skip _ w0 _ _ w1.toLoadRect (by decide)) _).trans (wide_fill _ _ pay4_zero w1 _)
    · exact (congrFun (View.readCov_skip _ w1 _ _ w2.toLoadRect (by decide)) _).trans ((congrFun (View.readCov_skip _ w0 _ _ w2.toLoadRect (by decide)) _).trans (wide_fill _ _ pay4_zero w2 _))
  · rw [outsAt0_A m c t hz h0 h1, pointA]
    frame_out
    refine (value_step H t (R := fun _ _ => 0) (fun d k => ?_) (fun d k => ?_) (fun d k => ?_) _ d k).trans (congrArg _ (first_tile (fun r => hid X v r d * dVal X P v G D r (1408 * (t.val / 64) + k)) _ h0))
    · exact wide_fill _ _ pay4_zero w0 _
    · exact (congrFun (View.readCov_skip _ w0 _ _ w1.toLoadRect (by decide)) _).trans (wide_fill _ _ pay4_zero w1 _)
    · exact (congrFun (View.readCov_skip _ w1 _ _ w2.toLoadRect (by decide)) _).trans ((congrFun (View.readCov_skip _ w0 _ _ w2.toLoadRect (by decide)) _).trans (wide_fill _ _ pay4_zero w2 _))

/-- The value accumulator at a later point. -/
theorem value_next (H : Args m c X P v G U D) (t : Fin cfg0.N) (h0 : ¬ t.val % 64 = 0)
    (ih : Sums m c X P v G U D (t.val - 1) (prev t) (256 * (t.val % 64)) (t.val / 64)) (d : Fin 1024) (k : Fin 1408) :
    (outsAt0 m c t.val t.isLt).2.2.1 (ix2 d k) = ((dValW X P v G D (256 * (t.val % 64 + 1)) (t.val / 64) d k : ℝ) : EReal) := by
  have hg := ih.value
  by_cases h1 : t.val % 64 = 63
  · rw [outsAt0_C m c t h0 h1, pointC]
    frame_out
    generalize outsAt0 m c (t.val - 1) (prev t) = O at hg ⊢
    refine (value_step H t (R := fun d k => dValW X P v G D (256 * (t.val % 64)) (t.val / 64) d k) (fun d k => ?_) (fun d k => ?_) (fun d k => ?_) _ d k).trans (congrArg _ (sum_tile (fun r => hid X v r d * dVal X P v G D r (1408 * (t.val / 64) + k)) _))
    · pointwise
      exact (congrFun (Memref.IsWhole.read_unread _ _) (ix2 d _)).trans (hg d ⟨k.val, by omega⟩)
    · pointwise
      exact (congrFun (Memref.IsWhole.read_unread _ _) (ix2 d _)).trans (hg d ⟨512 + k.val, by omega⟩)
    · pointwise
      exact (congrFun (Memref.IsWhole.read_unread _ _) (ix2 d _)).trans (hg d ⟨1024 + k.val, by omega⟩)
  · rw [outsAt0_B m c t h0 h1, pointB]
    frame_out
    generalize outsAt0 m c (t.val - 1) (prev t) = O at hg ⊢
    refine (value_step H t (R := fun d k => dValW X P v G D (256 * (t.val % 64)) (t.val / 64) d k) (fun d k => ?_) (fun d k => ?_) (fun d k => ?_) _ d k).trans (congrArg _ (sum_tile (fun r => hid X v r d * dVal X P v G D r (1408 * (t.val / 64) + k)) _))
    · pointwise
      exact (congrFun (Memref.IsWhole.read_unread _ _) (ix2 d _)).trans (hg d ⟨k.val, by omega⟩)
    · pointwise
      exact (congrFun (Memref.IsWhole.read_unread _ _) (ix2 d _)).trans (hg d ⟨512 + k.val, by omega⟩)
    · pointwise
      exact (congrFun (Memref.IsWhole.read_unread _ _) (ix2 d _)).trans (hg d ⟨1024 + k.val, by omega⟩)

/-- The down accumulator at the first point of a half. -/
theorem down_first (H : Args m c X P v G U D) (t : Fin cfg0.N) (h0 : t.val % 64 = 0) (k : Fin 1408) (d : Fin 1024) :
    (outsAt0 m c t.val t.isLt).2.2.2.1 (ix2 k d) = ((dDownW X P v G U (256 * (t.val % 64 + 1)) (t.val / 64) k d : ℝ) : EReal) := by
  have h1 : ¬ t.val % 64 = 63 := by omega
  by_cases hz : t.val = 0
  · rw [outsAt0_A0 m c t hz h0 h1, pointA]
    frame_out
    refine (down_step H t (R := fun _ _ => 0) (fun k d => ?_) (fun k d => ?_) _ k d).trans (congrArg _ (first_tile (fun r => act X v G U r (1408 * (t.val / 64) + k) * cot P v r d) _ h0))
    · exact tall_fill _ _ pay5_zero d0 _
    · exact (congrFun (View.readCov_skip _ d0 _ _ d1.toLoadRect (by decide)) _).trans (tall_fill _ _ pay5_zero d1 _)
  · rw [outsAt0_A m c t hz h0 h1, pointA]
    frame_out
    refine (down_step H t (R := fun _ _ => 0) (fun k d => ?_) (fun k d => ?_) _ k d).trans (congrArg _ (first_tile (fun r => act X v G U r (1408 * (t.val / 64) + k) * cot P v r d) _ h0))
    · exact tall_fill _ _ pay5_zero d0 _
    · exact (congrFun (View.readCov_skip _ d0 _ _ d1.toLoadRect (by decide)) _).trans (tall_fill _ _ pay5_zero d1 _)

/-- The down accumulator at a later point. -/
theorem down_next (H : Args m c X P v G U D) (t : Fin cfg0.N) (h0 : ¬ t.val % 64 = 0)
    (ih : Sums m c X P v G U D (t.val - 1) (prev t) (256 * (t.val % 64)) (t.val / 64)) (k : Fin 1408) (d : Fin 1024) :
    (outsAt0 m c t.val t.isLt).2.2.2.1 (ix2 k d) = ((dDownW X P v G U (256 * (t.val % 64 + 1)) (t.val / 64) k d : ℝ) : EReal) := by
  have hg := ih.down
  by_cases h1 : t.val % 64 = 63
  · rw [outsAt0_C m c t h0 h1, pointC]
    frame_out
    generalize outsAt0 m c (t.val - 1) (prev t) = O at hg ⊢
    refine (down_step H t (R := fun k d => dDownW X P v G U (256 * (t.val % 64)) (t.val / 64) k d) (fun k d => ?_) (fun k d => ?_) _ k d).trans (congrArg _ (sum_tile (fun r => act X v G U r (1408 * (t.val / 64) + k) * cot P v r d) _))
    · pointwise
      exact (congrFun (Memref.IsWhole.read_unread _ _) (ix2 k _)).trans (hg k ⟨d.val, by omega⟩)
    · pointwise
      exact (congrFun (Memref.IsWhole.read_unread _ _) (ix2 k _)).trans (hg k ⟨512 + d.val, by omega⟩)
  · rw [outsAt0_B m c t h0 h1, pointB]
    frame_out
    generalize outsAt0 m c (t.val - 1) (prev t) = O at hg ⊢
    refine (down_step H t (R := fun k d => dDownW X P v G U (256 * (t.val % 64)) (t.val / 64) k d) (fun k d => ?_) (fun k d => ?_) _ k d).trans (congrArg _ (sum_tile (fun r => act X v G U r (1408 * (t.val / 64) + k) * cot P v r d) _))
    · pointwise
      exact (congrFun (Memref.IsWhole.read_unread _ _) (ix2 k _)).trans (hg k ⟨d.val, by omega⟩)
    · pointwise
      exact (congrFun (Memref.IsWhole.read_unread _ _) (ix2 k _)).trans (hg k ⟨512 + d.val, by omega⟩)

/-- The accumulators after every point. -/
theorem sums (H : Args m c X P v G U D) : ∀ (n : ℕ) (hn : n < cfg0.N), Sums m c X P v G U D n hn (256 * (n % 64 + 1)) (n / 64)
  | n, hn => by
    by_cases h0 : n % 64 = 0
    · exact ⟨gate_first H ⟨n, hn⟩ h0, value_first H ⟨n, hn⟩ h0, down_first H ⟨n, hn⟩ h0⟩
    · have hp : n - 1 < n := by omega
      have ih := sums H (n - 1) (Nat.lt_of_le_of_lt (Nat.sub_le _ _) hn)
      rw [show (n - 1) % 64 + 1 = n % 64 by omega, show (n - 1) / 64 = n / 64 by omega] at ih
      exact ⟨gate_next H ⟨n, hn⟩ h0 ih, value_next H ⟨n, hn⟩ h0 ih, down_next H ⟨n, hn⟩ h0 ih⟩

/-- The block of the hidden rows' cotangent, at every point. -/
theorem block_at (H : Args m c X P v G U D) (t : Fin cfg0.N) (i : Fin 256) (d : Fin 1024) :
    (outsAt0 m c t.val t.isLt).1 (ix3 0 i d) = ((dHid X P v G U D (t.val / 64) (256 * (t.val % 64) + i) d : ℝ) : EReal) := by
  by_cases h0 : t.val % 64 = 0
  · have h1 : ¬ t.val % 64 = 63 := by omega
    by_cases hz : t.val = 0
    · rw [outsAt0_A0 m c t hz h0 h1, pointA]
      frame_out
      exact hiddenT_at H t i d
    · rw [outsAt0_A m c t hz h0 h1, pointA]
      frame_out
      exact hiddenT_at H t i d
  · by_cases h1 : t.val % 64 = 63
    · rw [outsAt0_C m c t h0 h1, pointC]
      frame_out
      exact hiddenT_at H t i d
    · rw [outsAt0_B m c t h0 h1, pointB]
      frame_out
      exact hiddenT_at H t i d

end Cert.Ffn

end
-- ==== Proof.Ffn.Copied.lean ====
module

public import proofs.«01_k».proof.Proof.Ffn.Acc
public import Idealize.ShloMosaic.Lib.ValueLayout

@[expose] public section

set_option maxRecDepth 16384

/-!
# The weight gradients in the results

The last point of a half copies the three accumulators into the half's slot of the three results.  No other point touches
the results, so after the last point each slot holds its half's gradient over all rows.
-/

noncomputable section

namespace Cert.Ffn

open Idealize.ShloMosaic Idealize.ShloMosaic.TcCoe Idealize.SL.Sem
open Idealize.ShloMosaic.Pipeline (Dat)
open Cert.Kernel2Ideal Cert.Kernel2Ideal.Gen Cert.FfnSpec

variable {m : (ℓ : Loc nD τ sig) → Buf (Elt Ideal) ℓ} {c : Dev nD} {X P v G U D : ℕ → ℕ → ℝ}

/-- Which rows of a result a half's slot covers. -/
theorem slot_emb {n0 n1 n2 : ℕ} (off : Fin 3 → ℕ) (o : Fin n0) (h : off = ![o.val, 0, 0]) (inb : ∀ a, off a + ![1, n1, n2] a ≤ (⟨3, ![n0, n1, n2]⟩ : Shape).size a)
    (hn : (⟨2, ![n1, n2]⟩ : Shape).numel = (⟨3, ![1, n1, n2]⟩ : Shape).numel) (d : Fin n1) (k : Fin n2) :
    (Rect.unit (s := ⟨3, ![n0, n1, n2]⟩) off ![1, n1, n2] inb).emb (Shape.reshapeEquiv hn (ix2 d k)) = ix3 o d k := by
  subst h
  have e : Shape.reshapeEquiv hn (ix2 d k) = ix3 (0 : Fin 1) d k := by
    rw [ix2_eq_valueIdx, ix3_eq_valueIdx]
    exact ValueIdx.reshapeEquiv_ix2_1ab hn d k
  rw [e]
  funext a
  apply Fin.ext
  rw [Rect.emb_apply]
  match a with
  | ⟨0, _⟩ => show o.val + 1 * 0 = o.val; omega
  | ⟨1, _⟩ => show 0 + 1 * d.val = d.val; omega
  | ⟨2, _⟩ => show 0 + 1 * k.val = k.val; omega

/-- The half a grid point works on. -/
theorem off1_at : ∀ t : Fin cfg0.N, k0_off1 (grid0.coords t) = ![t.val / 64, 0, 0] := (by decide +kernel : ∀ t : Fin grid0.N, k0_off1 (grid0.coords t) = ![t.val / 64, 0, 0])

/-- The half a grid point works on. -/
theorem off2_at : ∀ t : Fin cfg0.N, k0_off2 (grid0.coords t) = ![t.val / 64, 0, 0] := (by decide +kernel : ∀ t : Fin grid0.N, k0_off2 (grid0.coords t) = ![t.val / 64, 0, 0])

/-- The slots lie in the results. -/
theorem off1_inb (t : Fin cfg0.N) (a : Fin 3) : k0_off1 (grid0.coords t) a + ![1, 1024, 1408] a ≤ S2x1024x1408.size a := by
  have ht := (idxA t).2.2.2.2.2.2.2.2.2.2.1
  rw [off1_at t]
  match a with
  | ⟨0, _⟩ => show t.val / 64 + 1 ≤ 2; omega
  | ⟨1, _⟩ => show 0 + 1024 ≤ 1024; omega
  | ⟨2, _⟩ => show 0 + 1408 ≤ 1408; omega

/-- The slots lie in the results. -/
theorem off2_inb (t : Fin cfg0.N) (a : Fin 3) : k0_off2 (grid0.coords t) a + ![1, 1408, 1024] a ≤ S2x1408x1024.size a := by
  have ht := (idxA t).2.2.2.2.2.2.2.2.2.2.1
  rw [off2_at t]
  match a with
  | ⟨0, _⟩ => show t.val / 64 + 1 ≤ 2; omega
  | ⟨1, _⟩ => show 0 + 1408 ≤ 1408; omega
  | ⟨2, _⟩ => show 0 + 1024 ≤ 1024; omega

/-- What the gate result holds where a half's slot was written. -/
theorem gateSlot_in (t : Fin cfg0.N) (hr) (hr') (f : HbBuf0 (F := Ideal) c hbM0_0) (w : S1024x1408.Idx → Elt Ideal .f32) (o : Fin 2) (ho : o.val = t.val / 64) (d : Fin 1024) (k : Fin 1408) :
    View.write (Elt Ideal) (((Memref.whole main_v15_1).slice (Rect.unit (k0_off1 (grid0.coords t)) ![1, 1024, 1408] hr) hr').squeeze S1024x1408 squeezes_S1x1024x1408_S1024x1408).view f w Finset.univ (ix3 o d k)
      = w (ix2 d k) := by
  have e := slot_emb (n0 := 2) (n1 := 1024) (n2 := 1408) (k0_off1 (grid0.coords t)) o ((off1_at t).trans (by rw [ho])) hr squeezes_S1x1024x1408_S1024x1408.numel_eq d k
  exact (congrArg (View.write (Elt Ideal) (((Memref.whole main_v15_1).slice (Rect.unit (k0_off1 (grid0.coords t)) ![1, 1024, 1408] hr) hr').squeeze S1024x1408 squeezes_S1x1024x1408_S1024x1408).view f w Finset.univ) e.symm).trans
    (View.write_emb_of_mem (v := (((Memref.whole main_v15_1).slice (Rect.unit (k0_off1 (grid0.coords t)) ![1, 1024, 1408] hr) hr').squeeze S1024x1408 squeezes_S1x1024x1408_S1024x1408).view) f w (x := ix2 d k) (Finset.mem_univ _))

/-- What it holds elsewhere. -/
theorem gateSlot_out (t : Fin cfg0.N) (hr) (hr') (f : HbBuf0 (F := Ideal) c hbM0_0) (w : S1024x1408.Idx → Elt Ideal .f32) (o : Fin 2) (ho : o.val ≠ t.val / 64) (d : Fin 1024) (k : Fin 1408) :
    View.write (Elt Ideal) (((Memref.whole main_v15_1).slice (Rect.unit (k0_off1 (grid0.coords t)) ![1, 1024, 1408] hr) hr').squeeze S1024x1408 squeezes_S1x1024x1408_S1024x1408).view f w Finset.univ (ix3 o d k)
      = f (ix3 o d k) := by
  refine View.write_of_not_mem _ _ _ ?_
  intro hm
  obtain ⟨x, -, hx⟩ := Finset.mem_map.mp hm
  obtain ⟨d', k', e'⟩ : ∃ (d' : Fin 1024) (k' : Fin 1408), x = ix2 d' k' := ⟨_, _, (ix2_eta x).symm⟩
  have e := slot_emb (n0 := 2) (n1 := 1024) (n2 := 1408) (k0_off1 (grid0.coords t)) ⟨t.val / 64, (idxA t).2.2.2.2.2.2.2.2.2.2.1⟩ (off1_at t) hr squeezes_S1x1024x1408_S1024x1408.numel_eq d' k'
  rw [e'] at hx
  exact ho (congrArg (fun y : S2x1024x1408.Idx => (y 0).val) (hx.symm.trans e))

/-- The gate result's contents after point `n`. -/
abbrev gateRes (m : (ℓ : Loc nD τ sig) → Buf (Elt Ideal) ℓ) (c : Dev nD) (n : ℕ) (hn : n < cfg0.N) : S2x1024x1408.Idx → EReal := (outsAt0 m c n hn).2.2.2.2.1

/-- Within a half the gate result stays as it was. -/
theorem gateRes_keep (t : Fin cfg0.N) (hz : ¬ t.val = 0) (h1 : ¬ t.val % 64 = 63) : gateRes m c t.val t.isLt = gateRes m c (t.val - 1) (prev t) := by
  unfold gateRes
  by_cases h0 : t.val % 64 = 0
  · rw [outsAt0_A m c t hz h0 h1, pointA]
    rfl
  · rw [outsAt0_B m c t h0 h1, pointB]
    rfl

/-- At a half's last point the other half's slot of the gate result stays as it was. -/
theorem gateRes_other (t : Fin cfg0.N) (h1 : t.val % 64 = 63) (o : Fin 2) (ho : o.val ≠ t.val / 64) (d : Fin 1024) (k : Fin 1408) :
    gateRes m c t.val t.isLt (ix3 o d k) = gateRes m c (t.val - 1) (prev t) (ix3 o d k) := by
  have h0 : ¬ t.val % 64 = 0 := by omega
  unfold gateRes
  rw [outsAt0_C m c t h0 h1, pointC]
  dsimp only
  unfold hbw0_C_0 kernelRun0_C
  dsimp only
  unfold kernelRun0_C.sl.Hh0_w0
  exact gateSlot_out t _ _ _ _ o ho d k

/-- At a half's last point the half's slot of the gate result receives the accumulator. -/
theorem gateRes_copied (t : Fin cfg0.N) (h1 : t.val % 64 = 63) (o : Fin 2) (ho : o.val = t.val / 64) (d : Fin 1024) (k : Fin 1408) :
    gateRes m c t.val t.isLt (ix3 o d k) = (outsAt0 m c t.val t.isLt).2.1 (ix2 d k) := by
  have h0 : ¬ t.val % 64 = 0 := by omega
  have hc := scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 d k)
  unfold gateRes
  rw [outsAt0_C m c t h0 h1, pointC]
  dsimp only
  unfold hbw0_C_0 sout0_C_0 kernelRun0_C
  dsimp only
  unfold kernelRun0_C.sl.Hh0_w0
  refine (gateSlot_in t _ _ _ _ o ho d k).trans ?_
  unfold kernelRun0_C.sl.dma36
  refine Eq.trans ?_ (View.read_writes_apply_eq_canon _ _ _ _ hc).symm
  exact View.read_writes_apply_eq_canon _ _ _ _ hc

/-- What the value result holds where a half's slot was written. -/
theorem valueSlot_in (t : Fin cfg0.N) (hr) (hr') (f : HbBuf0 (F := Ideal) c hbM0_1) (w : S1024x1408.Idx → Elt Ideal .f32) (o : Fin 2) (ho : o.val = t.val / 64) (d : Fin 1024) (k : Fin 1408) :
    View.write (Elt Ideal) (((Memref.whole main_v15_2).slice (Rect.unit (k0_off1 (grid0.coords t)) ![1, 1024, 1408] hr) hr').squeeze S1024x1408 squeezes_S1x1024x1408_S1024x1408).view f w Finset.univ (ix3 o d k)
      = w (ix2 d k) := by
  have e := slot_emb (n0 := 2) (n1 := 1024) (n2 := 1408) (k0_off1 (grid0.coords t)) o ((off1_at t).trans (by rw [ho])) hr squeezes_S1x1024x1408_S1024x1408.numel_eq d k
  exact (congrArg (View.write (Elt Ideal) (((Memref.whole main_v15_2).slice (Rect.unit (k0_off1 (grid0.coords t)) ![1, 1024, 1408] hr) hr').squeeze S1024x1408 squeezes_S1x1024x1408_S1024x1408).view f w Finset.univ) e.symm).trans
    (View.write_emb_of_mem (v := (((Memref.whole main_v15_2).slice (Rect.unit (k0_off1 (grid0.coords t)) ![1, 1024, 1408] hr) hr').squeeze S1024x1408 squeezes_S1x1024x1408_S1024x1408).view) f w (x := ix2 d k) (Finset.mem_univ _))

/-- What it holds elsewhere. -/
theorem valueSlot_out (t : Fin cfg0.N) (hr) (hr') (f : HbBuf0 (F := Ideal) c hbM0_1) (w : S1024x1408.Idx → Elt Ideal .f32) (o : Fin 2) (ho : o.val ≠ t.val / 64) (d : Fin 1024) (k : Fin 1408) :
    View.write (Elt Ideal) (((Memref.whole main_v15_2).slice (Rect.unit (k0_off1 (grid0.coords t)) ![1, 1024, 1408] hr) hr').squeeze S1024x1408 squeezes_S1x1024x1408_S1024x1408).view f w Finset.univ (ix3 o d k)
      = f (ix3 o d k) := by
  refine View.write_of_not_mem _ _ _ ?_
  intro hm
  obtain ⟨x, -, hx⟩ := Finset.mem_map.mp hm
  obtain ⟨d', k', e'⟩ : ∃ (d' : Fin 1024) (k' : Fin 1408), x = ix2 d' k' := ⟨_, _, (ix2_eta x).symm⟩
  have e := slot_emb (n0 := 2) (n1 := 1024) (n2 := 1408) (k0_off1 (grid0.coords t)) ⟨t.val / 64, (idxA t).2.2.2.2.2.2.2.2.2.2.1⟩ (off1_at t) hr squeezes_S1x1024x1408_S1024x1408.numel_eq d' k'
  rw [e'] at hx
  exact ho (congrArg (fun y : S2x1024x1408.Idx => (y 0).val) (hx.symm.trans e))

/-- The value result's contents after point `n`. -/
abbrev valueRes (m : (ℓ : Loc nD τ sig) → Buf (Elt Ideal) ℓ) (c : Dev nD) (n : ℕ) (hn : n < cfg0.N) : S2x1024x1408.Idx → EReal := (outsAt0 m c n hn).2.2.2.2.2.1

/-- Within a half the value result stays as it was. -/
theorem valueRes_keep (t : Fin cfg0.N) (hz : ¬ t.val = 0) (h1 : ¬ t.val % 64 = 63) : valueRes m c t.val t.isLt = valueRes m c (t.val - 1) (prev t) := by
  unfold valueRes
  by_cases h0 : t.val % 64 = 0
  · rw [outsAt0_A m c t hz h0 h1, pointA]
    rfl
  · rw [outsAt0_B m c t h0 h1, pointB]
    rfl

/-- At a half's last point the other half's slot of the value result stays as it was. -/
theorem valueRes_other (t : Fin cfg0.N) (h1 : t.val % 64 = 63) (o : Fin 2) (ho : o.val ≠ t.val / 64) (d : Fin 1024) (k : Fin 1408) :
    valueRes m c t.val t.isLt (ix3 o d k) = valueRes m c (t.val - 1) (prev t) (ix3 o d k) := by
  have h0 : ¬ t.val % 64 = 0 := by omega
  unfold valueRes
  rw [outsAt0_C m c t h0 h1, pointC]
  dsimp only
  unfold hbw0_C_1 kernelRun0_C
  dsimp only
  unfold kernelRun0_C.sl.Hh1_w1
  exact valueSlot_out t _ _ _ _ o ho d k

/-- At a half's last point the half's slot of the value result receives the accumulator. -/
theorem valueRes_copied (t : Fin cfg0.N) (h1 : t.val % 64 = 63) (o : Fin 2) (ho : o.val = t.val / 64) (d : Fin 1024) (k : Fin 1408) :
    valueRes m c t.val t.isLt (ix3 o d k) = (outsAt0 m c t.val t.isLt).2.2.1 (ix2 d k) := by
  have h0 : ¬ t.val % 64 = 0 := by omega
  have hc := scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 d k)
  unfold valueRes
  rw [outsAt0_C m c t h0 h1, pointC]
  dsimp only
  unfold hbw0_C_1 sout0_C_1 kernelRun0_C
  dsimp only
  unfold kernelRun0_C.sl.Hh1_w1
  refine (valueSlot_in t _ _ _ _ o ho d k).trans ?_
  unfold kernelRun0_C.sl.dma36_1
  refine Eq.trans ?_ (View.read_writes_apply_eq_canon _ _ _ _ hc).symm
  exact View.read_writes_apply_eq_canon _ _ _ _ hc

/-- What the down result holds where a half's slot was written. -/
theorem downSlot_in (t : Fin cfg0.N) (hr) (hr') (f : HbBuf0 (F := Ideal) c hbM0_2) (w : S1408x1024.Idx → Elt Ideal .f32) (o : Fin 2) (ho : o.val = t.val / 64) (d : Fin 1408) (k : Fin 1024) :
    View.write (Elt Ideal) (((Memref.whole main_v15_3).slice (Rect.unit (k0_off2 (grid0.coords t)) ![1, 1408, 1024] hr) hr').squeeze S1408x1024 squeezes_S1x1408x1024_S1408x1024).view f w Finset.univ (ix3 o d k)
      = w (ix2 d k) := by
  have e := slot_emb (n0 := 2) (n1 := 1408) (n2 := 1024) (k0_off2 (grid0.coords t)) o ((off2_at t).trans (by rw [ho])) hr squeezes_S1x1408x1024_S1408x1024.numel_eq d k
  exact (congrArg (View.write (Elt Ideal) (((Memref.whole main_v15_3).slice (Rect.unit (k0_off2 (grid0.coords t)) ![1, 1408, 1024] hr) hr').squeeze S1408x1024 squeezes_S1x1408x1024_S1408x1024).view f w Finset.univ) e.symm).trans
    (View.write_emb_of_mem (v := (((Memref.whole main_v15_3).slice (Rect.unit (k0_off2 (grid0.coords t)) ![1, 1408, 1024] hr) hr').squeeze S1408x1024 squeezes_S1x1408x1024_S1408x1024).view) f w (x := ix2 d k) (Finset.mem_univ _))

/-- What it holds elsewhere. -/
theorem downSlot_out (t : Fin cfg0.N) (hr) (hr') (f : HbBuf0 (F := Ideal) c hbM0_2) (w : S1408x1024.Idx → Elt Ideal .f32) (o : Fin 2) (ho : o.val ≠ t.val / 64) (d : Fin 1408) (k : Fin 1024) :
    View.write (Elt Ideal) (((Memref.whole main_v15_3).slice (Rect.unit (k0_off2 (grid0.coords t)) ![1, 1408, 1024] hr) hr').squeeze S1408x1024 squeezes_S1x1408x1024_S1408x1024).view f w Finset.univ (ix3 o d k)
      = f (ix3 o d k) := by
  refine View.write_of_not_mem _ _ _ ?_
  intro hm
  obtain ⟨x, -, hx⟩ := Finset.mem_map.mp hm
  obtain ⟨d', k', e'⟩ : ∃ (d' : Fin 1408) (k' : Fin 1024), x = ix2 d' k' := ⟨_, _, (ix2_eta x).symm⟩
  have e := slot_emb (n0 := 2) (n1 := 1408) (n2 := 1024) (k0_off2 (grid0.coords t)) ⟨t.val / 64, (idxA t).2.2.2.2.2.2.2.2.2.2.1⟩ (off2_at t) hr squeezes_S1x1408x1024_S1408x1024.numel_eq d' k'
  rw [e'] at hx
  exact ho (congrArg (fun y : S2x1408x1024.Idx => (y 0).val) (hx.symm.trans e))

/-- The down result's contents after point `n`. -/
abbrev downRes (m : (ℓ : Loc nD τ sig) → Buf (Elt Ideal) ℓ) (c : Dev nD) (n : ℕ) (hn : n < cfg0.N) : S2x1408x1024.Idx → EReal := (outsAt0 m c n hn).2.2.2.2.2.2

/-- Within a half the down result stays as it was. -/
theorem downRes_keep (t : Fin cfg0.N) (hz : ¬ t.val = 0) (h1 : ¬ t.val % 64 = 63) : downRes m c t.val t.isLt = downRes m c (t.val - 1) (prev t) := by
  unfold downRes
  by_cases h0 : t.val % 64 = 0
  · rw [outsAt0_A m c t hz h0 h1, pointA]
    rfl
  · rw [outsAt0_B m c t h0 h1, pointB]
    rfl

/-- At a half's last point the other half's slot of the down result stays as it was. -/
theorem downRes_other (t : Fin cfg0.N) (h1 : t.val % 64 = 63) (o : Fin 2) (ho : o.val ≠ t.val / 64) (d : Fin 1408) (k : Fin 1024) :
    downRes m c t.val t.isLt (ix3 o d k) = downRes m c (t.val - 1) (prev t) (ix3 o d k) := by
  have h0 : ¬ t.val % 64 = 0 := by omega
  unfold downRes
  rw [outsAt0_C m c t h0 h1, pointC]
  dsimp only
  unfold hbw0_C_2 kernelRun0_C
  dsimp only
  unfold kernelRun0_C.sl.Hh2_w2
  exact downSlot_out t _ _ _ _ o ho d k

/-- At a half's last point the half's slot of the down result receives the accumulator. -/
theorem downRes_copied (t : Fin cfg0.N) (h1 : t.val % 64 = 63) (o : Fin 2) (ho : o.val = t.val / 64) (d : Fin 1408) (k : Fin 1024) :
    downRes m c t.val t.isLt (ix3 o d k) = (outsAt0 m c t.val t.isLt).2.2.2.1 (ix2 d k) := by
  have h0 : ¬ t.val % 64 = 0 := by omega
  have hc := scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 d k)
  unfold downRes
  rw [outsAt0_C m c t h0 h1, pointC]
  dsimp only
  unfold hbw0_C_2 sout0_C_2 kernelRun0_C
  dsimp only
  unfold kernelRun0_C.sl.Hh2_w2
  refine (downSlot_in t _ _ _ _ o ho d k).trans ?_
  unfold kernelRun0_C.sl.dma36_2
  refine Eq.trans ?_ (View.read_writes_apply_eq_canon _ _ _ _ hc).symm
  exact View.read_writes_apply_eq_canon _ _ _ _ hc

/-- After point `n` the gate result's slots of the halves that are done hold the gradient over all rows. -/
theorem gateRes_at (H : Args m c X P v G U D) : ∀ (n : ℕ) (hn : n < cfg0.N) (o : Fin 2) (ho : o.val < (n + 1) / 64) (d : Fin 1024) (k : Fin 1408),
    gateRes m c n hn (ix3 o d k) = ((dGateW X P v G U D 16384 o d k : ℝ) : EReal)
  | n, hn, o, ho, d, k => by
    have hp : ¬ n = 0 := by omega
    have hlt : n - 1 < n := by omega
    by_cases h1 : n % 64 = 63
    · by_cases hq : o.val = n / 64
      · refine (gateRes_copied ⟨n, hn⟩ h1 o hq d k).trans (((sums H n hn).gate d k).trans ?_)
        rw [h1, ← hq]
      · exact (gateRes_other ⟨n, hn⟩ h1 o hq d k).trans (gateRes_at H (n - 1) (Nat.lt_of_le_of_lt (Nat.sub_le _ _) hn) o (by omega) d k)
    · exact (congrFun (gateRes_keep ⟨n, hn⟩ hp h1) (ix3 o d k)).trans (gateRes_at H (n - 1) (Nat.lt_of_le_of_lt (Nat.sub_le _ _) hn) o (by omega) d k)

/-- After point `n` the value result's slots of the halves that are done hold the gradient over all rows. -/
theorem valueRes_at (H : Args m c X P v G U D) : ∀ (n : ℕ) (hn : n < cfg0.N) (o : Fin 2) (ho : o.val < (n + 1) / 64) (d : Fin 1024) (k : Fin 1408),
    valueRes m c n hn (ix3 o d k) = ((dValW X P v G D 16384 o d k : ℝ) : EReal)
  | n, hn, o, ho, d, k => by
    have hp : ¬ n = 0 := by omega
    have hlt : n - 1 < n := by omega
    by_cases h1 : n % 64 = 63
    · by_cases hq : o.val = n / 64
      · refine (valueRes_copied ⟨n, hn⟩ h1 o hq d k).trans (((sums H n hn).value d k).trans ?_)
        rw [h1, ← hq]
      · exact (valueRes_other ⟨n, hn⟩ h1 o hq d k).trans (valueRes_at H (n - 1) (Nat.lt_of_le_of_lt (Nat.sub_le _ _) hn) o (by omega) d k)
    · exact (congrFun (valueRes_keep ⟨n, hn⟩ hp h1) (ix3 o d k)).trans (valueRes_at H (n - 1) (Nat.lt_of_le_of_lt (Nat.sub_le _ _) hn) o (by omega) d k)

/-- After point `n` the down result's slots of the halves that are done hold the gradient over all rows. -/
theorem downRes_at (H : Args m c X P v G U D) : ∀ (n : ℕ) (hn : n < cfg0.N) (o : Fin 2) (ho : o.val < (n + 1) / 64) (d : Fin 1408) (k : Fin 1024),
    downRes m c n hn (ix3 o d k) = ((dDownW X P v G U 16384 o d k : ℝ) : EReal)
  | n, hn, o, ho, d, k => by
    have hp : ¬ n = 0 := by omega
    have hlt : n - 1 < n := by omega
    by_cases h1 : n % 64 = 63
    · by_cases hq : o.val = n / 64
      · refine (downRes_copied ⟨n, hn⟩ h1 o hq d k).trans (((sums H n hn).down d k).trans ?_)
        rw [h1, ← hq]
      · exact (downRes_other ⟨n, hn⟩ h1 o hq d k).trans (downRes_at H (n - 1) (Nat.lt_of_le_of_lt (Nat.sub_le _ _) hn) o (by omega) d k)
    · exact (congrFun (downRes_keep ⟨n, hn⟩ hp h1) (ix3 o d k)).trans (downRes_at H (n - 1) (Nat.lt_of_le_of_lt (Nat.sub_le _ _) hn) o (by omega) d k)

end Cert.Ffn

end
-- ==== Proof.Ffn.Final.lean ====
module

public import proofs.«01_k».proof.Proof.Ffn.Copied
public import proofs.«01_k».proof.Proof.Ffn.Out
public import Idealize.ShloMosaic.Lib.Claim

@[expose] public section

set_option maxRecDepth 16384

/-!
# The four results of the call

The hidden rows' cotangent, one half's part per slot, and the gradients of the three weights, one half per slot.
-/

noncomputable section

namespace Cert.Ffn

open Idealize.ShloMosaic Idealize.ShloMosaic.TcCoe Idealize.SL.Sem
open Idealize.ShloMosaic.Pipeline (Dat)
open Cert.Kernel2Ideal Cert.Kernel2Ideal.Gen Cert.FfnSpec

variable {m : (ℓ : Loc nD τ sig) → Buf (Elt Ideal) ℓ} {c : Dev nD} {X P v G U D : ℕ → ℕ → ℝ}

/-- **The first result**: both halves' parts of the hidden rows' cotangent. -/
theorem final_hidden (H : Args m c X P v G U D) :
    (dats m 0 c).arrAt 8 cfg0.N = fun i => ((dHid X P v G U D (i 0).val (i 1).val (i 2).val : ℝ) : EReal) := by
  refine (dats m 0 c).arrAt_eq_of_covers 8 _ (by decide +kernel) fun t _ y => ?_
  have ht := (idxA t).2.2.2.2.2.2.2.2.2
  blk_simp [idxA t]
  rw [after0_8]
  have e : y = (ix3 0 (y 1 : Fin 256) (y 2 : Fin 1024) : S1x256x1024.Idx) := by blk_ext
  rw [e]
  refine (block_at H t (y 1) (y 2)).trans ?_
  rw [Nat.mul_comm 256 (t.val % 64)]
  rfl

/-- **The second result**: the gate weight's gradient. -/
theorem final_gate (H : Args m c X P v G U D) (i : S2x1024x1408.Idx) :
    gateRes m c 127 last_lt i = ((dGateW X P v G U D 16384 (i 0).val (i 1).val (i 2).val : ℝ) : EReal) := by
  obtain ⟨o, d, k, e⟩ : ∃ (o : Fin 2) (d : Fin 1024) (k : Fin 1408), i = ix3 o d k := ⟨_, _, _, (ix3_eta i).symm⟩
  subst e
  exact gateRes_at H 127 last_lt o (by omega) d k

/-- **The third result**: the value weight's gradient. -/
theorem final_value (H : Args m c X P v G U D) (i : S2x1024x1408.Idx) :
    valueRes m c 127 last_lt i = ((dValW X P v G D 16384 (i 0).val (i 1).val (i 2).val : ℝ) : EReal) := by
  obtain ⟨o, d, k, e⟩ : ∃ (o : Fin 2) (d : Fin 1024) (k : Fin 1408), i = ix3 o d k := ⟨_, _, _, (ix3_eta i).symm⟩
  subst e
  exact valueRes_at H 127 last_lt o (by omega) d k

/-- **The fourth result**: the down projection's gradient. -/
theorem final_down (H : Args m c X P v G U D) (i : S2x1408x1024.Idx) :
    downRes m c 127 last_lt i = ((dDownW X P v G U 16384 (i 0).val (i 1).val (i 2).val : ℝ) : EReal) := by
  obtain ⟨o, k, d, e⟩ : ∃ (o : Fin 2) (k : Fin 1408) (d : Fin 1024), i = ix3 o k d := ⟨_, _, _, (ix3_eta i).symm⟩
  subst e
  exact downRes_at H 127 last_lt o (by omega) k d

end Cert.Ffn

end
-- ==== Proof.Ffn.RefRead.lean ====
module

public import proofs.«01_k».proof.Proof.Ffn.Spec
public import proofs.«01_k».proof.Proof.Gen.Reference2Ideal.Run
public import Idealize.ShloMosaic.Lib.Pointwise

@[expose] public section

set_option maxRecDepth 16384

/-!
# The reference's four gradients, read at an index

The reference differentiates the layer half by half; its two halves use the same operations on different columns of the
weights, so each stage is read once, over a half's matrices.
-/

noncomputable section

namespace Cert.FfnRef

open Idealize.ShloMosaic Idealize.ShloMosaic.TcCoe Idealize.SL.Sem Cert.Reference2Ideal Cert.Reference2Ideal.Gen
open Cert.Reference2Ideal.Value Cert.FfnSpec

/-- The hidden rows. -/
def hidR (x : FVec Ideal S16384x1024 .f32) (v : FVec Ideal S16x1024 .f32) : FVec Ideal S16384x1024 .f32 :=
  addf (mulf x (broadcastInDim S16384x1024 ![0, 1] bcast_S1x1024_S16384x1024_0_1 (broadcastInDim S1x1024 ![1] bcast_S1024_S1x1024_1
      (addf (broadcastInDim S1024 ![] bcast_S_S1024 (constant S_ .f32 0x3F800000#32))
        (shapeCast _ (extractStridedSlice S1x1024 ![4, 0] v slices_S16x1024_S1x1024_4_0) shapeCasts_S1x1024_S1024)))))
    (broadcastInDim S16384x1024 ![0, 1] bcast_S1x1024_S16384x1024_0_1 (broadcastInDim S1x1024 ![1] bcast_S1024_S1x1024_1
      (shapeCast _ (extractStridedSlice S1x1024 ![3, 0] v slices_S16x1024_S1x1024_3_0) shapeCasts_S1x1024_S1024)))

/-- The cotangents. -/
def cotR (p : FVec Ideal S16384x1024 .f32) (v : FVec Ideal S16x1024 .f32) : FVec Ideal S16384x1024 .f32 :=
  mulf (broadcastInDim S16384x1024 ![0, 1] bcast_S1x1024_S16384x1024_0_1 (broadcastInDim S1x1024 ![1] bcast_S1024_S1x1024_1
      (shapeCast _ (extractStridedSlice S1x1024 ![5, 0] v slices_S16x1024_S1x1024_5_0) shapeCasts_S1x1024_S1024))) p

/-- Rows times a half's matrix. -/
def linR (h : FVec Ideal S16384x1024 .f32) (w : FVec Ideal S1024x1408 .f32) : FVec Ideal S16384x1408 .f32 :=
  Host.dotGeneral dot_S16384x1024_S1024x1408_S16384x1408_1_0_0_1_n_n none h w

/-- The inner columns' cotangent. -/
def innerR (ct : FVec Ideal S16384x1024 .f32) (w : FVec Ideal S1408x1024 .f32) : FVec Ideal S16384x1408 .f32 :=
  Host.dotGeneral dot_S16384x1024_S1408x1024_S16384x1408_1_1_0_0_n_n none ct w

/-- The array of ones. -/
def oneR : FVec Ideal S16384x1408 .f32 := broadcastInDim S16384x1408 ![] bcast_S_S16384x1408 (constant S_ .f32 0x3F800000#32)

/-- The logistic function of the gate. -/
def sigR (z : FVec Ideal S16384x1408 .f32) : FVec Ideal S16384x1408 .f32 := Host.divf oneR (addf oneR (Host.exp (Host.negf z)))

/-- The gate's cotangent. -/
def gateR (z y q : FVec Ideal S16384x1408 .f32) : FVec Ideal S16384x1408 .f32 :=
  addf (mulf (mulf q y) (sigR z)) (mulf (mulf z (mulf q y)) (mulf (sigR z) (subf oneR (sigR z))))

/-- The value's cotangent. -/
def valueR (z q : FVec Ideal S16384x1408 .f32) : FVec Ideal S16384x1408 .f32 := mulf (mulf z (sigR z)) q

/-- The inner columns. -/
def actR (z y : FVec Ideal S16384x1408 .f32) : FVec Ideal S16384x1408 .f32 := mulf (mulf z (sigR z)) y

/-- A half's part of the hidden rows' cotangent. -/
def hiddenR (a b : FVec Ideal S16384x1408 .f32) (wu wg : FVec Ideal S1024x1408 .f32) : FVec Ideal S1x16384x1024 .f32 :=
  broadcastInDim S1x16384x1024 ![1, 2] bcast_S16384x1024_S1x16384x1024_1_2
    (addf (Host.dotGeneral dot_S16384x1408_S1024x1408_S16384x1024_1_1_0_0_n_n none a wu) (Host.dotGeneral dot_S16384x1408_S1024x1408_S16384x1024_1_1_0_0_n_n none b wg))

/-- A half's gradient of a wide weight. -/
def wideR (a : FVec Ideal S16384x1408 .f32) (h : FVec Ideal S16384x1024 .f32) : FVec Ideal S1x1024x1408 .f32 :=
  broadcastInDim S1x1024x1408 ![1, 2] bcast_S1024x1408_S1x1024x1408_1_2
    (transpose S1024x1408 [1, 0] (Host.dotGeneral dot_S16384x1408_S16384x1024_S1408x1024_0_0_1_1_n_n none a h) transposes_S1408x1024_S1024x1408_1_0)

/-- A half's gradient of the down projection. -/
def tallR (ct : FVec Ideal S16384x1024 .f32) (a : FVec Ideal S16384x1408 .f32) : FVec Ideal S1x1408x1024 .f32 :=
  broadcastInDim S1x1408x1024 ![1, 2] bcast_S1408x1024_S1x1408x1024_1_2
    (transpose S1408x1024 [1, 0] (Host.dotGeneral dot_S16384x1024_S16384x1408_S1024x1408_0_0_1_1_n_n none ct a) transposes_S1024x1408_S1408x1024_1_0)

variable {X P v G U D : ℕ → ℕ → ℝ} {j : ℕ}

theorem hidR_at {x : FVec Ideal S16384x1024 .f32} {a : FVec Ideal S16x1024 .f32} (hx : ∀ (r : Fin 16384) (d : Fin 1024), x (ix2 r d) = ((X r d : ℝ) : EReal))
    (hv : ∀ (i : Fin 16) (d : Fin 1024), a (ix2 i d) = ((v i d : ℝ) : EReal)) (r : Fin 16384) (d : Fin 1024) : hidR x a (ix2 r d) = ((hid X v r d : ℝ) : EReal) := by
  pointwise [hidR]
  refine (congrArg₂ (· + ·) (congrArg₂ (· * ·) (hx r d) (congrArg (fun z : EReal => 1 + z) (hv 4 d))) (hv 3 d)).trans ?_
  rw [← EReal.coe_one, ← EReal.coe_add, ← EReal.coe_mul, ← EReal.coe_add]
  rfl

theorem cotR_at {p : FVec Ideal S16384x1024 .f32} {a : FVec Ideal S16x1024 .f32} (hp : ∀ (r : Fin 16384) (d : Fin 1024), p (ix2 r d) = ((P r d : ℝ) : EReal))
    (hv : ∀ (i : Fin 16) (d : Fin 1024), a (ix2 i d) = ((v i d : ℝ) : EReal)) (r : Fin 16384) (d : Fin 1024) : cotR p a (ix2 r d) = ((cot P v r d : ℝ) : EReal) := by
  pointwise [cotR]
  refine (congrArg₂ (· * ·) (hv 5 d) (hp r d)).trans ?_
  rw [← EReal.coe_mul]
  rfl

theorem linR_at {h : FVec Ideal S16384x1024 .f32} {w : FVec Ideal S1024x1408 .f32} (hh : ∀ (r : Fin 16384) (d : Fin 1024), h (ix2 r d) = ((hid X v r d : ℝ) : EReal))
    (hw : ∀ (d : Fin 1024) (k : Fin 1408), w (ix2 d k) = ((G d (1408 * j + k) : ℝ) : EReal)) (r : Fin 16384) (k : Fin 1408) :
    linR h w (ix2 r k) = ((lin X v G r (1408 * j + k) : ℝ) : EReal) := by
  pointwise [linR]
  refine sum_coe _ (fun d => hid X v r d * G d (1408 * j + k)) fun d => ?_
  rw [hh, hw, ← EReal.coe_mul]

theorem innerR_at {ct : FVec Ideal S16384x1024 .f32} {w : FVec Ideal S1408x1024 .f32} (hh : ∀ (r : Fin 16384) (d : Fin 1024), ct (ix2 r d) = ((cot P v r d : ℝ) : EReal))
    (hw : ∀ (k : Fin 1408) (d : Fin 1024), w (ix2 k d) = ((D (1408 * j + k) d : ℝ) : EReal)) (r : Fin 16384) (k : Fin 1408) :
    innerR ct w (ix2 r k) = ((inner P v D r (1408 * j + k) : ℝ) : EReal) := by
  pointwise [innerR]
  refine sum_coe _ (fun d => cot P v r d * D (1408 * j + k) d) fun d => ?_
  rw [hh, hw, ← EReal.coe_mul]

theorem sigR_at {z : FVec Ideal S16384x1408 .f32} {f : ℕ → ℕ → ℝ} (hz : ∀ (r : Fin 16384) (k : Fin 1408), z (ix2 r k) = ((f r k : ℝ) : EReal)) (r : Fin 16384) (k : Fin 1408) :
    sigR z (ix2 r k) = ((logistic (f r k) : ℝ) : EReal) := by
  have e := hz r k
  pointwise [sigR, oneR]
  rw [e]
  exact logistic_coe _

section cotangents

variable {z y q : FVec Ideal S16384x1408 .f32} (hz : ∀ (r : Fin 16384) (k : Fin 1408), z (ix2 r k) = ((lin X v G r (1408 * j + k) : ℝ) : EReal))
  (hy : ∀ (r : Fin 16384) (k : Fin 1408), y (ix2 r k) = ((lin X v U r (1408 * j + k) : ℝ) : EReal))
  (hq : ∀ (r : Fin 16384) (k : Fin 1408), q (ix2 r k) = ((inner P v D r (1408 * j + k) : ℝ) : EReal))

include hz hy hq in
theorem gateR_at (r : Fin 16384) (k : Fin 1408) : gateR z y q (ix2 r k) = ((dGate X P v G U D r (1408 * j + k) : ℝ) : EReal) := by
  have e := sigR_at (f := fun r k => lin X v G r (1408 * j + k)) hz r k
  pointwise [gateR, oneR]
  rw [e, hz, hy, hq, ← EReal.coe_one]
  simp only [← EReal.coe_mul, ← EReal.coe_sub, ← EReal.coe_add]
  refine congrArg _ ?_
  unfold dGate
  ring

include hz hq in
theorem valueR_at (r : Fin 16384) (k : Fin 1408) : valueR z q (ix2 r k) = ((dVal X P v G D r (1408 * j + k) : ℝ) : EReal) := by
  have e := sigR_at (f := fun r k => lin X v G r (1408 * j + k)) hz r k
  pointwise [valueR]
  rw [e, hz, hq]
  simp only [← EReal.coe_mul]
  refine congrArg _ ?_
  unfold dVal gated
  ring

include hz hy in
theorem actR_at (r : Fin 16384) (k : Fin 1408) : actR z y (ix2 r k) = ((act X v G U r (1408 * j + k) : ℝ) : EReal) := by
  have e := sigR_at (f := fun r k => lin X v G r (1408 * j + k)) hz r k
  pointwise [actR]
  rw [e, hz, hy]
  simp only [← EReal.coe_mul]
  rfl

end cotangents

theorem hiddenR_at {a b : FVec Ideal S16384x1408 .f32} {wu wg : FVec Ideal S1024x1408 .f32}
    (ha : ∀ (r : Fin 16384) (k : Fin 1408), a (ix2 r k) = ((dVal X P v G D r (1408 * j + k) : ℝ) : EReal))
    (hb : ∀ (r : Fin 16384) (k : Fin 1408), b (ix2 r k) = ((dGate X P v G U D r (1408 * j + k) : ℝ) : EReal))
    (hu : ∀ (d : Fin 1024) (k : Fin 1408), wu (ix2 d k) = ((U d (1408 * j + k) : ℝ) : EReal))
    (hg : ∀ (d : Fin 1024) (k : Fin 1408), wg (ix2 d k) = ((G d (1408 * j + k) : ℝ) : EReal)) (r : Fin 16384) (d : Fin 1024) :
    hiddenR a b wu wg (ix3 0 r d) = ((dHid X P v G U D j r d : ℝ) : EReal) := by
  pointwise [hiddenR]
  refine (congrArg₂ (· + ·) (sum_coe _ (fun k => dVal X P v G D r (1408 * j + k) * U d (1408 * j + k)) fun k => ?_)
    (sum_coe _ (fun k => dGate X P v G U D r (1408 * j + k) * G d (1408 * j + k)) fun k => ?_)).trans ?_
  · rw [ha, hu, ← EReal.coe_mul]
  · rw [hb, hg, ← EReal.coe_mul]
  · rw [add_comm, ← EReal.coe_add]
    rfl

theorem wideR_at {a : FVec Ideal S16384x1408 .f32} {h : FVec Ideal S16384x1024 .f32} {f g : ℕ → ℕ → ℝ}
    (ha : ∀ (r : Fin 16384) (k : Fin 1408), a (ix2 r k) = ((f r k : ℝ) : EReal)) (hh : ∀ (r : Fin 16384) (d : Fin 1024), h (ix2 r d) = ((g r d : ℝ) : EReal))
    (d : Fin 1024) (k : Fin 1408) : wideR a h (ix3 0 d k) = ((∑ r ∈ Finset.range 16384, g r d * f r k : ℝ) : EReal) := by
  pointwise [wideR]
  refine sum_coe _ (fun r => g r d * f r k) fun r => ?_
  rw [ha, hh, ← EReal.coe_mul, mul_comm]

theorem tallR_at {ct : FVec Ideal S16384x1024 .f32} {a : FVec Ideal S16384x1408 .f32} {f g : ℕ → ℕ → ℝ}
    (ha : ∀ (r : Fin 16384) (k : Fin 1408), a (ix2 r k) = ((f r k : ℝ) : EReal)) (hh : ∀ (r : Fin 16384) (d : Fin 1024), ct (ix2 r d) = ((g r d : ℝ) : EReal))
    (k : Fin 1408) (d : Fin 1024) : tallR ct a (ix3 0 k d) = ((∑ r ∈ Finset.range 16384, f r k * g r d : ℝ) : EReal) := by
  pointwise [tallR]
  refine sum_coe _ (fun r => f r k * g r d) fun r => ?_
  rw [ha, hh, ← EReal.coe_mul, mul_comm]

end Cert.FfnRef

end
-- ==== Proof.Ffn.RefResult.lean ====
module

public import proofs.«01_k».proof.Proof.Ffn.RefRead

@[expose] public section

set_option maxRecDepth 16384

/-!
# The reference's four results

Each result stacks the two halves' gradients.
-/

noncomputable section

namespace Cert.FfnRef

open Idealize.ShloMosaic Idealize.ShloMosaic.TcCoe Idealize.SL.Sem Cert.Reference2Ideal Cert.Reference2Ideal.Gen
open Cert.Reference2Ideal.Value Cert.FfnSpec

variable {m : (ℓ : Loc nD τ sig) → Buf (Elt Ideal) ℓ} {c : Dev nD} {X P v G U D : ℕ → ℕ → ℝ}

/-- The reference's argument arrays hold these real numbers. -/
abbrev Args (m : (ℓ : Loc nD τ sig) → Buf (Elt Ideal) ℓ) (c : Dev nD) (X P v G U D : ℕ → ℕ → ℝ) : Prop :=
  Holds (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) X P v G U D

/-- The hidden rows. -/
abbrev H (m : (ℓ : Loc nD τ sig) → Buf (Elt Ideal) ℓ) (c : Dev nD) := hidR (m ((c.tc : Thread nD τ).loc main_arg0)) (m ((c.tc : Thread nD τ).loc main_arg2))
/-- The cotangents. -/
abbrev C (m : (ℓ : Loc nD τ sig) → Buf (Elt Ideal) ℓ) (c : Dev nD) := cotR (m ((c.tc : Thread nD τ).loc main_arg1)) (m ((c.tc : Thread nD τ).loc main_arg2))
/-- The first half of the gate's weight. -/
abbrev G0 (m : (ℓ : Loc nD τ sig) → Buf (Elt Ideal) ℓ) (c : Dev nD) : FVec Ideal S1024x1408 .f32 := extractStridedSlice S1024x1408 ![0, 0] (m ((c.tc : Thread nD τ).loc main_arg3)) slices_S1024x2816_S1024x1408_0_0
/-- The second half of the gate's weight. -/
abbrev G1 (m : (ℓ : Loc nD τ sig) → Buf (Elt Ideal) ℓ) (c : Dev nD) : FVec Ideal S1024x1408 .f32 := extractStridedSlice S1024x1408 ![0, 1408] (m ((c.tc : Thread nD τ).loc main_arg3)) slices_S1024x2816_S1024x1408_0_1408
/-- The first half of the value's weight. -/
abbrev U0 (m : (ℓ : Loc nD τ sig) → Buf (Elt Ideal) ℓ) (c : Dev nD) : FVec Ideal S1024x1408 .f32 := extractStridedSlice S1024x1408 ![0, 0] (m ((c.tc : Thread nD τ).loc main_arg4)) slices_S1024x2816_S1024x1408_0_0
/-- The second half of the value's weight. -/
abbrev U1 (m : (ℓ : Loc nD τ sig) → Buf (Elt Ideal) ℓ) (c : Dev nD) : FVec Ideal S1024x1408 .f32 := extractStridedSlice S1024x1408 ![0, 1408] (m ((c.tc : Thread nD τ).loc main_arg4)) slices_S1024x2816_S1024x1408_0_1408
/-- The first half of the down projection. -/
abbrev D0 (m : (ℓ : Loc nD τ sig) → Buf (Elt Ideal) ℓ) (c : Dev nD) : FVec Ideal S1408x1024 .f32 := extractStridedSlice S1408x1024 ![0, 0] (m ((c.tc : Thread nD τ).loc main_arg5)) slices_S2816x1024_S1408x1024_0_0
/-- The second half of the down projection. -/
abbrev D1 (m : (ℓ : Loc nD τ sig) → Buf (Elt Ideal) ℓ) (c : Dev nD) : FVec Ideal S1408x1024 .f32 := extractStridedSlice S1408x1024 ![1408, 0] (m ((c.tc : Thread nD τ).loc main_arg5)) slices_S2816x1024_S1408x1024_1408_0

/-- A half's gates, values and inner cotangents. -/
abbrev Z0 (m : (ℓ : Loc nD τ sig) → Buf (Elt Ideal) ℓ) (c : Dev nD) := linR (H m c) (G0 m c)
/-- A half's gates, values and inner cotangents. -/
abbrev Z1 (m : (ℓ : Loc nD τ sig) → Buf (Elt Ideal) ℓ) (c : Dev nD) := linR (H m c) (G1 m c)
/-- A half's gates, values and inner cotangents. -/
abbrev Y0 (m : (ℓ : Loc nD τ sig) → Buf (Elt Ideal) ℓ) (c : Dev nD) := linR (H m c) (U0 m c)
/-- A half's gates, values and inner cotangents. -/
abbrev Y1 (m : (ℓ : Loc nD τ sig) → Buf (Elt Ideal) ℓ) (c : Dev nD) := linR (H m c) (U1 m c)
/-- A half's gates, values and inner cotangents. -/
abbrev Q0 (m : (ℓ : Loc nD τ sig) → Buf (Elt Ideal) ℓ) (c : Dev nD) := innerR (C m c) (D0 m c)
/-- A half's gates, values and inner cotangents. -/
abbrev Q1 (m : (ℓ : Loc nD τ sig) → Buf (Elt Ideal) ℓ) (c : Dev nD) := innerR (C m c) (D1 m c)

theorem hiddenEq : res_main_v61 m c = concatenate S2x16384x1024 0 [⟨S1x16384x1024, hiddenR (valueR (Z0 m c) (Q0 m c)) (gateR (Z0 m c) (Y0 m c) (Q0 m c)) (U0 m c) (G0 m c)⟩,
    ⟨S1x16384x1024, hiddenR (valueR (Z1 m c) (Q1 m c)) (gateR (Z1 m c) (Y1 m c) (Q1 m c)) (U1 m c) (G1 m c)⟩] concatenates_S1x16384x1024_S1x16384x1024_S2x16384x1024_d0 := rfl

theorem gateEq : res_main_v64 m c = concatenate S2x1024x1408 0 [⟨S1x1024x1408, wideR (gateR (Z0 m c) (Y0 m c) (Q0 m c)) (H m c)⟩,
    ⟨S1x1024x1408, wideR (gateR (Z1 m c) (Y1 m c) (Q1 m c)) (H m c)⟩] concatenates_S1x1024x1408_S1x1024x1408_S2x1024x1408_d0 := rfl

theorem valueEq : res_main_v67 m c = concatenate S2x1024x1408 0 [⟨S1x1024x1408, wideR (valueR (Z0 m c) (Q0 m c)) (H m c)⟩,
    ⟨S1x1024x1408, wideR (valueR (Z1 m c) (Q1 m c)) (H m c)⟩] concatenates_S1x1024x1408_S1x1024x1408_S2x1024x1408_d0 := rfl

theorem downEq : res_main_v70 m c = concatenate S2x1408x1024 0 [⟨S1x1408x1024, tallR (C m c) (actR (Z0 m c) (Y0 m c))⟩,
    ⟨S1x1408x1024, tallR (C m c) (actR (Z1 m c) (Y1 m c))⟩] concatenates_S1x1408x1024_S1x1408x1024_S2x1408x1024_d0 := rfl

theorem H_at (A : Args m c X P v G U D) (r : Fin 16384) (d : Fin 1024) : H m c (ix2 r d) = ((hid X v r d : ℝ) : EReal) := hidR_at A.x A.v r d
theorem C_at (A : Args m c X P v G U D) (r : Fin 16384) (d : Fin 1024) : C m c (ix2 r d) = ((cot P v r d : ℝ) : EReal) := cotR_at A.p A.v r d

theorem G0_at (A : Args m c X P v G U D) (d : Fin 1024) (k : Fin 1408) : G0 m c (ix2 d k) = ((G d (1408 * 0 + k) : ℝ) : EReal) := by
  have e := A.g d ⟨k.val, by omega⟩
  pointwise
  exact e.trans (by simp)
theorem G1_at (A : Args m c X P v G U D) (d : Fin 1024) (k : Fin 1408) : G1 m c (ix2 d k) = ((G d (1408 * 1 + k) : ℝ) : EReal) := by
  have e := A.g d ⟨1408 + k.val, by omega⟩
  pointwise
  exact e.trans (by simp)
theorem U0_at (A : Args m c X P v G U D) (d : Fin 1024) (k : Fin 1408) : U0 m c (ix2 d k) = ((U d (1408 * 0 + k) : ℝ) : EReal) := by
  have e := A.u d ⟨k.val, by omega⟩
  pointwise
  exact e.trans (by simp)
theorem U1_at (A : Args m c X P v G U D) (d : Fin 1024) (k : Fin 1408) : U1 m c (ix2 d k) = ((U d (1408 * 1 + k) : ℝ) : EReal) := by
  have e := A.u d ⟨1408 + k.val, by omega⟩
  pointwise
  exact e.trans (by simp)
theorem D0_at (A : Args m c X P v G U D) (k : Fin 1408) (d : Fin 1024) : D0 m c (ix2 k d) = ((D (1408 * 0 + k) d : ℝ) : EReal) := by
  have e := A.d ⟨k.val, by omega⟩ d
  pointwise
  exact e.trans (by simp)
theorem D1_at (A : Args m c X P v G U D) (k : Fin 1408) (d : Fin 1024) : D1 m c (ix2 k d) = ((D (1408 * 1 + k) d : ℝ) : EReal) := by
  have e := A.d ⟨1408 + k.val, by omega⟩ d
  pointwise
  exact e.trans (by simp)

theorem Z0_at (A : Args m c X P v G U D) (r : Fin 16384) (k : Fin 1408) : Z0 m c (ix2 r k) = ((lin X v G r (1408 * 0 + k) : ℝ) : EReal) := linR_at (H_at A) (G0_at A) r k
theorem Z1_at (A : Args m c X P v G U D) (r : Fin 16384) (k : Fin 1408) : Z1 m c (ix2 r k) = ((lin X v G r (1408 * 1 + k) : ℝ) : EReal) := linR_at (H_at A) (G1_at A) r k
theorem Y0_at (A : Args m c X P v G U D) (r : Fin 16384) (k : Fin 1408) : Y0 m c (ix2 r k) = ((lin X v U r (1408 * 0 + k) : ℝ) : EReal) := linR_at (H_at A) (U0_at A) r k
theorem Y1_at (A : Args m c X P v G U D) (r : Fin 16384) (k : Fin 1408) : Y1 m c (ix2 r k) = ((lin X v U r (1408 * 1 + k) : ℝ) : EReal) := linR_at (H_at A) (U1_at A) r k
theorem Q0_at (A : Args m c X P v G U D) (r : Fin 16384) (k : Fin 1408) : Q0 m c (ix2 r k) = ((inner P v D r (1408 * 0 + k) : ℝ) : EReal) := innerR_at (C_at A) (D0_at A) r k
theorem Q1_at (A : Args m c X P v G U D) (r : Fin 16384) (k : Fin 1408) : Q1 m c (ix2 r k) = ((inner P v D r (1408 * 1 + k) : ℝ) : EReal) := innerR_at (C_at A) (D1_at A) r k

/-- Two stacked matrices, read at an index. -/
theorem stack_at {a b : ℕ} (x y : FVec Ideal ⟨3, ![1, a, b]⟩ .f32) (h) {f : ℕ → ℕ → ℕ → ℝ} (h0 : ∀ (i : Fin a) (k : Fin b), x (ix3 0 i k) = ((f 0 i k : ℝ) : EReal))
    (h1 : ∀ (i : Fin a) (k : Fin b), y (ix3 0 i k) = ((f 1 i k : ℝ) : EReal)) (o : Fin 2) (i : Fin a) (k : Fin b) :
    concatenate (⟨3, ![2, a, b]⟩ : Shape) 0 [⟨⟨3, ![1, a, b]⟩, x⟩, ⟨⟨3, ![1, a, b]⟩, y⟩] h (ix3 o i k) = ((f o i k : ℝ) : EReal) := by
  fin_vals o with hd
  · pointwise
    rw [dif_pos (by omega)]
    obtain rfl : o = 0 := Fin.ext hd
    refine (congrArg x (funext fun b => ?_)).trans (h0 i k)
    fin_cases b <;> rfl
  · pointwise
    rw [dif_neg (by omega)]
    obtain rfl : o = 1 := Fin.ext hd
    refine (congrArg y (funext fun b => ?_)).trans (h1 i k)
    fin_cases b <;> rfl

/-- The hidden rows' cotangent. -/
theorem hidden_at (A : Args m c X P v G U D) (o : Fin 2) (r : Fin 16384) (d : Fin 1024) :
    res_main_v61 m c (ix3 o r d) = ((dHid X P v G U D o r d : ℝ) : EReal) := by
  rw [hiddenEq]
  exact stack_at _ _ _ (f := fun o r d => dHid X P v G U D o r d)
    (hiddenR_at (valueR_at (Z0_at A) (Q0_at A)) (gateR_at (Z0_at A) (Y0_at A) (Q0_at A)) (U0_at A) (G0_at A))
    (hiddenR_at (valueR_at (Z1_at A) (Q1_at A)) (gateR_at (Z1_at A) (Y1_at A) (Q1_at A)) (U1_at A) (G1_at A)) o r d

/-- The gate weight's gradient. -/
theorem gate_at (A : Args m c X P v G U D) (o : Fin 2) (d : Fin 1024) (k : Fin 1408) :
    res_main_v64 m c (ix3 o d k) = ((dGateW X P v G U D 16384 o d k : ℝ) : EReal) := by
  rw [gateEq]
  exact stack_at _ _ _ (f := fun o d k => dGateW X P v G U D 16384 o d k)
    (wideR_at (f := fun r k => dGate X P v G U D r (1408 * 0 + k)) (g := fun r d => hid X v r d) (gateR_at (Z0_at A) (Y0_at A) (Q0_at A)) (H_at A))
    (wideR_at (f := fun r k => dGate X P v G U D r (1408 * 1 + k)) (g := fun r d => hid X v r d) (gateR_at (Z1_at A) (Y1_at A) (Q1_at A)) (H_at A)) o d k

/-- The value weight's gradient. -/
theorem value_at (A : Args m c X P v G U D) (o : Fin 2) (d : Fin 1024) (k : Fin 1408) :
    res_main_v67 m c (ix3 o d k) = ((dValW X P v G D 16384 o d k : ℝ) : EReal) := by
  rw [valueEq]
  exact stack_at _ _ _ (f := fun o d k => dValW X P v G D 16384 o d k)
    (wideR_at (f := fun r k => dVal X P v G D r (1408 * 0 + k)) (g := fun r d => hid X v r d) (valueR_at (Z0_at A) (Q0_at A)) (H_at A))
    (wideR_at (f := fun r k => dVal X P v G D r (1408 * 1 + k)) (g := fun r d => hid X v r d) (valueR_at (Z1_at A) (Q1_at A)) (H_at A)) o d k

/-- The down projection's gradient. -/
theorem down_at (A : Args m c X P v G U D) (o : Fin 2) (k : Fin 1408) (d : Fin 1024) :
    res_main_v70 m c (ix3 o k d) = ((dDownW X P v G U 16384 o k d : ℝ) : EReal) := by
  rw [downEq]
  exact stack_at _ _ _ (f := fun o k d => dDownW X P v G U 16384 o k d)
    (tallR_at (f := fun r k => act X v G U r (1408 * 0 + k)) (g := fun r d => cot P v r d) (actR_at (Z0_at A) (Y0_at A)) (C_at A))
    (tallR_at (f := fun r k => act X v G U r (1408 * 1 + k)) (g := fun r d => cot P v r d) (actR_at (Z1_at A) (Y1_at A)) (C_at A)) o k d

end Cert.FfnRef

end
-- ==== Proof.Ffn.Finite.lean ====
/-
  What the second precondition says of the arguments: every element of the six arrays is a real number.
-/
module

public import proofs.«01_k».proof.Defs
public import proofs.«01_k».proof.Proof.Gen.Pre_finite2
public import proofs.«01_k».proof.Proof.Finite
public import proofs.«01_k».proof.Proof.Ffn.Blocks

@[expose] public section

noncomputable section

namespace Cert.FfnFinite

open Idealize.ShloMosaic Idealize.ShloMosaic.TcCoe Idealize.SL.Sem Cert.Finite

/-- Under the precondition each of the six arguments is an array of real numbers. -/
theorem args_of_pre (m : (ℓ : Loc Cert.Kernel2Ideal.nD Cert.Kernel2Ideal.τ Cert.Kernel2Ideal.sig) → Buf (Elt Ideal) ℓ)
    (hpre : Cert.Pre_Kernel2Ideal_finite2 m) (c : Dev Cert.Kernel2Ideal.nD) :
    ∃ X P v G U D, Cert.Ffn.Args m c X P v G U D := by
  have h := congrFun (hpre c) i0
  obtain ⟨h, h5⟩ := both h
  obtain ⟨h, h4⟩ := both h
  obtain ⟨h, h3⟩ := both h
  obtain ⟨h, h2⟩ := both h
  obtain ⟨h0, h1⟩ := both h
  exact Cert.FfnSpec.exists_holds _ _ _ _ _ _ (real_of_all _ _ (fun _ => rfl) _ _ _ i0 h0) (real_of_all _ _ (fun _ => rfl) _ _ _ i0 h1)
    (real_of_all _ _ (fun _ => rfl) _ _ _ i0 h2) (real_of_all _ _ (fun _ => rfl) _ _ _ i0 h3) (real_of_all _ _ (fun _ => rfl) _ _ _ i0 h4)
    (real_of_all _ _ (fun _ => rfl) _ _ _ i0 h5)

end Cert.FfnFinite

end
-- ==== Proof.Fwd.Spec.lean ====
module

public import proofs.«01_k».proof.Proof.Ffn.Spec

@[expose] public section

set_option maxRecDepth 16384

/-!
# The last layer of the forward pass and the gradient of the loss, over the real numbers

A row `p` of 1024 entries is normalised: its mean is taken off, and what is left is divided by the root of its mean square
plus a small constant.  The loss is half the mean square of the difference between the normalised row, times the gain `g`
plus the bias `b`, and the target `t`.  `dRow` is the loss's gradient in the row, in the form that needs only means;
`dRow_eq` is the form that the chain rule gives.
-/

noncomputable section

namespace Cert.FwdSpec

open Idealize.ShloMosaic Finset
open Cert.FfnSpec

/-- The residual's factor: the single-precision number next to the fourth root of two. -/
def alpha : ℝ := 9975792 / 8388608

/-- The constant under the root. -/
def eps : ℝ := 10995116 / 1099511627776

theorem alpha_bits : Ideal.ofBits .f32 0x3F9837F0#32 = ((alpha : ℝ) : EReal) := by
  simp [Ideal.ofBits, Ideal.ieee, -EReal.coe_mul, alpha]; norm_num

theorem eps_bits : Ideal.ofBits .f32 0x3727C5AC#32 = ((eps : ℝ) : EReal) := by
  simp [Ideal.ofBits, Ideal.ieee, -EReal.coe_mul, eps]; norm_num

theorem n1024_bits : Ideal.ofBits .f32 0x44800000#32 = ((1024 : ℝ) : EReal) := by
  simp [Ideal.ofBits, Ideal.ieee, -EReal.coe_mul]; norm_num

theorem inv1024_bits : Ideal.ofBits .f32 0x3A800000#32 = ((1 / 1024 : ℝ) : EReal) := by
  simp [Ideal.ofBits, Ideal.ieee, -EReal.coe_mul]; norm_num

theorem half_bits : Ideal.ofBits .f32 0x3F000000#32 = ((1 / 2 : ℝ) : EReal) := by
  simp [Ideal.ofBits, Ideal.ieee, -EReal.coe_mul]; norm_num

theorem neghalf_bits : Ideal.ofBits .f32 0xBF000000#32 = ((-(1 / 2) : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

/-- The mean of a row. -/
def mean (p : ℕ → ℝ) : ℝ := (∑ d ∈ range 1024, p d) / 1024

/-- The row without its mean. -/
def cen (p : ℕ → ℝ) (d : ℕ) : ℝ := p d - mean p

/-- The mean square of what is left, plus the constant. -/
def vare (p : ℕ → ℝ) : ℝ := mean (fun d => cen p d * cen p d) + eps

/-- One over the root. -/
def rs (p : ℕ → ℝ) : ℝ := (√(vare p))⁻¹

/-- The normalised row. -/
def nrm (p : ℕ → ℝ) (d : ℕ) : ℝ := cen p d * rs p

variable (p g b t : ℕ → ℝ)

/-- The difference to the target. -/
def err (d : ℕ) : ℝ := nrm p d * g d + b d - t d

/-- The loss's gradient in the normalised row. -/
def dn (d : ℕ) : ℝ := err p g b t d * (1 / 1024) * g d

/-- The loss's gradient in the row. -/
def dRow (d : ℕ) : ℝ :=
  rs p * (dn p g b t d - mean (dn p g b t) - nrm p d * mean fun e => dn p g b t e * nrm p e)

theorem vare_pos : 0 < vare p := by
  have h : 0 ≤ mean (fun d => cen p d * cen p d) := by
    unfold mean
    exact div_nonneg (Finset.sum_nonneg fun d _ => mul_self_nonneg _) (by norm_num)
  have : 0 < eps := by unfold eps; norm_num
  unfold vare
  linarith

/-- The reciprocal root, as it is computed. -/
theorem rs_coe : Ideal.rsqrt (((vare p : ℝ) : EReal)) = ((rs p : ℝ) : EReal) := by
  have h := vare_pos p
  rw [Ideal.rsqrt_coe, if_neg (by linarith), if_neg h.ne']
  rfl

theorem rs_div : rs p / vare p = rs p * rs p * rs p := by
  have h := vare_pos p
  have e : rs p * rs p = (vare p)⁻¹ := by
    unfold rs
    rw [← mul_inv, Real.mul_self_sqrt h.le]
  rw [e, div_eq_mul_inv, mul_comm]

theorem sum_cen : ∑ d ∈ range 1024, cen p d = 0 := by
  unfold cen mean
  rw [Finset.sum_sub_distrib, Finset.sum_const, card_range, nsmul_eq_mul]
  push_cast
  ring

/-- The gradient through the mean square. -/
def viaVar (d : ℕ) : ℝ :=
  (∑ e ∈ range 1024, cen p e * dn p g b t e) * (-(1 / 2) * (rs p / vare p)) / 1024 * (2 * cen p d)

/-- The chain rule's form of the gradient: directly, through the mean square, and through the mean. -/
theorem dRow_eq (d : ℕ) :
    dn p g b t d * rs p + viaVar p g b t d
      + (∑ e ∈ range 1024, -(dn p g b t e * rs p) + ∑ e ∈ range 1024, -(viaVar p g b t e)) / 1024 = dRow p g b t d := by
  have e2 : ∑ e ∈ range 1024, viaVar p g b t e = 0 := by
    unfold viaVar
    rw [← Finset.mul_sum, ← Finset.mul_sum, sum_cen, mul_zero, mul_zero]
  have e1 : ∑ e ∈ range 1024, dn p g b t e * rs p = (∑ e ∈ range 1024, dn p g b t e) * rs p := (Finset.sum_mul _ _ _).symm
  have e3 : ∑ e ∈ range 1024, dn p g b t e * nrm p e = (∑ e ∈ range 1024, cen p e * dn p g b t e) * rs p := by
    rw [Finset.sum_mul]
    refine Finset.sum_congr rfl fun e _ => ?_
    unfold nrm
    ring
  rw [Finset.sum_neg_distrib, Finset.sum_neg_distrib, e2, e1]
  unfold dRow viaVar
  rw [rs_div]
  simp only [mean]
  rw [e3]
  unfold nrm
  ring

/-- The row before the normalisation: the scaled input plus the gained result of the feed-forward layer. -/
def pre (X v G U D : ℕ → ℕ → ℝ) (r d : ℕ) : ℝ :=
  alpha * X r d + v 5 d * ∑ k ∈ range 2816, act X v G U r k * D k d

end Cert.FwdSpec

end
-- ==== Proof.Fwd.Tile.lean ====
module

public import proofs.«01_k».proof.Proof.Fwd.Spec
public import proofs.«01_k».proof.Proof.Gen.Kernel3Ideal.Value
public import Idealize.ShloMosaic.Lib.Pointwise
public import Idealize.ShloMosaic.Lib.Claim
public import Idealize.ShloMosaic.Lib.Pipeline.ValueKit
public import Idealize.ShloMosaic.Lib.StableHlo.RunRead

@[expose] public section

set_option maxRecDepth 16384

/-!
# One tile of the feed-forward layer's forward pass

What the body makes of 256 rows (from row `o` on), over real numbers: the gate and the value, the row before the
normalisation without its mean, the normalised row, the loss's gradient in it, and the loss's gradient in the row.
-/

noncomputable section

namespace Cert.Fwd

open Idealize.ShloMosaic Idealize.ShloMosaic.TcCoe Idealize.SL.Sem
open Cert.Kernel3Ideal Cert.Kernel3Ideal.Gen Cert.FfnSpec Cert.FwdSpec

variable {X T v G U D : ℕ → ℕ → ℝ} {o : ℕ}

section projections
variable {a : Vec Ideal S256x1024 .f32} {s b : Vec Ideal S1x1024 .f32} {wg wu : Vec Ideal S1024x2816 .bf16}
  (ha : ∀ (i : Fin 256) (d : Fin 1024), a (ix2 i d) = ((X (o + i) d : ℝ) : EReal)) (hs : ∀ d : Fin 1024, s (ix2 0 d) = ((v 4 d : ℝ) : EReal))
  (hb : ∀ d : Fin 1024, b (ix2 0 d) = ((v 3 d : ℝ) : EReal)) (hg : ∀ (d : Fin 1024) (k : Fin 2816), wg (ix2 d k) = ((G d k : ℝ) : EReal))
  (hu : ∀ (d : Fin 1024) (k : Fin 2816), wu (ix2 d k) = ((U d k : ℝ) : EReal))
include ha hs hb

/-- The hidden rows. -/
theorem hid_at (i : Fin 256) (d : Fin 1024) : k0_pay3 a s b (ix2 i d) = ((hid X v (o + i) d : ℝ) : EReal) := by
  have e1 := ha i d
  have e2 := hs d
  have e3 := hb d
  pointwise [k0_pay3]
  rw [e1, e2, e3, ← EReal.coe_one, ← EReal.coe_add, ← EReal.coe_mul, ← EReal.coe_add]
  rfl

include hg in
/-- The gate. -/
theorem gate_at (i : Fin 256) (k : Fin 2816) : k0_pay4 a s b wg (ix2 i k) = ((lin X v G (o + i) k : ℝ) : EReal) := by
  have e := fun d => hid_at ha hs hb i d
  pointwise [k0_pay4]
  refine sum_coe _ (fun d => hid X v (o + i) d * G d k) fun d => ?_
  rw [e, hg, ← EReal.coe_mul]

include hu in
/-- The value. -/
theorem value_at (i : Fin 256) (k : Fin 2816) : k0_pay5 a s b wu (ix2 i k) = ((lin X v U (o + i) k : ℝ) : EReal) := by
  have e := fun d => hid_at ha hs hb i d
  pointwise [k0_pay5]
  refine sum_coe _ (fun d => hid X v (o + i) d * U d k) fun d => ?_
  rw [e, hu, ← EReal.coe_mul]

include hg in
/-- The gate, as it is stored. -/
theorem gate_stored (i : Fin 256) (k : Fin 2816) : k0_pay6 a s b wg (ix2 i k) = ((lin X v G (o + i) k : ℝ) : EReal) := by
  have e := gate_at ha hs hb hg i k
  pointwise [k0_pay6]
  exact e

include hu in
/-- The value, as it is stored. -/
theorem value_stored (i : Fin 256) (k : Fin 2816) : k0_pay7 a s b wu (ix2 i k) = ((lin X v U (o + i) k : ℝ) : EReal) := by
  have e := value_at ha hs hb hu i k
  pointwise [k0_pay7]
  exact e

include hg hu in
/-- The inner columns. -/
theorem act_at (i : Fin 256) (k : Fin 2816) : k0_pay8 a s b wg wu (ix2 i k) = ((act X v G U (o + i) k : ℝ) : EReal) := by
  have e1 := gate_at ha hs hb hg i k
  have e2 := value_at ha hs hb hu i k
  pointwise [k0_pay8]
  rw [zero_sub, e1, e2]
  refine (congrArg (fun z => _ * z * _) (logistic_coe _)).trans ?_
  rw [← EReal.coe_mul, ← EReal.coe_mul]
  rfl

end projections

/-- The mean of a row, as it is computed. -/
theorem mean_coe {f : Fin 1024 → EReal} {p : ℕ → ℝ} (h : ∀ d : Fin 1024, f d = ((p d : ℝ) : EReal)) :
    Ideal.div (∑ d, f d) (Ideal.ofBits .f32 0x44800000#32) = ((mean p : ℝ) : EReal) := by
  rw [sum_coe f p h, n1024_bits, Ideal.div_coe (by norm_num), ← EReal.coe_mul]
  exact congrArg _ (mul_one_div _ _)

section normalisation
variable {a t : Vec Ideal S256x1024 .f32} {f : FVec Ideal S256x2816 .bf16} {wd : Vec Ideal S2816x1024 .bf16} {g2 lg lb : Vec Ideal S1x1024 .f32}
  (ha : ∀ (i : Fin 256) (d : Fin 1024), a (ix2 i d) = ((X (o + i) d : ℝ) : EReal))
  (hf : ∀ (i : Fin 256) (k : Fin 2816), f (ix2 i k) = ((act X v G U (o + i) k : ℝ) : EReal))
  (hd : ∀ (k : Fin 2816) (d : Fin 1024), wd (ix2 k d) = ((D k d : ℝ) : EReal))
  (h2 : ∀ d : Fin 1024, g2 (ix2 0 d) = ((v 5 d : ℝ) : EReal))
  (hlg : ∀ d : Fin 1024, lg (ix2 0 d) = ((v 10 d : ℝ) : EReal)) (hlb : ∀ d : Fin 1024, lb (ix2 0 d) = ((v 11 d : ℝ) : EReal))
  (ht : ∀ (i : Fin 256) (d : Fin 1024), t (ix2 i d) = ((T (o + i) d : ℝ) : EReal))
include hf hd

/-- The layer's result. -/
theorem down_at (i : Fin 256) (d : Fin 1024) :
    k0_pay9 f wd (ix2 i d) = ((∑ k ∈ Finset.range 2816, act X v G U (o + i) k * D k d : ℝ) : EReal) := by
  pointwise [k0_pay9]
  refine sum_coe _ (fun k => act X v G U (o + i) k * D k d) fun k => ?_
  rw [hf, hd, ← EReal.coe_mul]

include ha h2

/-- The row without its mean. -/
theorem cen_at (i : Fin 256) (d : Fin 1024) :
    k0_pay10 a f wd g2 (ix2 i d) = ((cen (pre X v G U D (o + i)) d : ℝ) : EReal) := by
  have e9 := fun d => down_at (X := X) (v := v) (G := G) (U := U) hf hd i d
  have ea := fun d => ha i d
  have e : ∀ d : Fin 1024, Ideal.ofBits .f32 0x3F9837F0#32 * a (ix2 i d) + g2 (ix2 0 d) * k0_pay9 f wd (ix2 i d) = ((pre X v G U D (o + i) d : ℝ) : EReal) := by
    intro d
    rw [ea, e9, h2, alpha_bits, ← EReal.coe_mul, ← EReal.coe_mul, ← EReal.coe_add]
    rfl
  pointwise [k0_pay10]
  refine (congrArg₂ (· - ·) (e d) (mean_coe e)).trans (EReal.coe_sub _ _).symm

/-- One over the root. -/
theorem rs_at (i : Fin 256) (j : Fin 1) :
    k0_pay11 a f wd g2 (ix2 i j) = ((rs (pre X v G U D (o + i)) : ℝ) : EReal) := by
  have e := fun d => cen_at ha hf hd h2 i d
  pointwise [k0_pay11]
  refine (congrArg Ideal.rsqrt (congrArg₂ (· + ·) (mean_coe (p := fun d => cen (pre X v G U D (o + i)) d * cen (pre X v G U D (o + i)) d) fun d => ?_) eps_bits)).trans ?_
  · rw [e, ← EReal.coe_mul]
  · rw [← EReal.coe_add]
    exact rs_coe _

/-- The normalised row. -/
theorem nrm_at (i : Fin 256) (d : Fin 1024) :
    k0_pay12 a f wd g2 (ix2 i d) = ((nrm (pre X v G U D (o + i)) d : ℝ) : EReal) := by
  have e := cen_at ha hf hd h2 i d
  have e' := rs_at ha hf hd h2 i 0
  pointwise [k0_pay12]
  rw [e, e', ← EReal.coe_mul]
  rfl

include hlg hlb ht

/-- The difference to the target. -/
theorem err_at (i : Fin 256) (d : Fin 1024) :
    k0_pay13 a f wd g2 lg lb t (ix2 i d) = ((err (pre X v G U D (o + i)) (v 10) (v 11) (T (o + i)) d : ℝ) : EReal) := by
  have e := nrm_at ha hf hd h2 i d
  have e1 := ht i d
  pointwise [k0_pay13]
  rw [e, hlg, hlb, e1, ← EReal.coe_mul, ← EReal.coe_add, ← EReal.coe_sub]
  rfl

/-- The loss's gradient in the normalised row. -/
theorem dn_at (i : Fin 256) (d : Fin 1024) :
    k0_pay15 a f wd g2 lg lb t (ix2 i d) = ((dn (pre X v G U D (o + i)) (v 10) (v 11) (T (o + i)) d : ℝ) : EReal) := by
  have e := err_at ha hf hd h2 hlg hlb ht i d
  pointwise [k0_pay15, k0_pay14]
  rw [e, hlg, inv1024_bits, ← EReal.coe_mul, ← EReal.coe_mul]
  rfl

/-- Its mean. -/
theorem dnMean_at (i : Fin 256) (j : Fin 1) :
    k0_pay16 a f wd g2 lg lb t (ix2 i j) = ((mean (dn (pre X v G U D (o + i)) (v 10) (v 11) (T (o + i))) : ℝ) : EReal) := by
  have e := fun d => dn_at ha hf hd h2 hlg hlb ht i d
  pointwise [k0_pay16]
  exact mean_coe e

/-- The loss's gradient in the row. -/
theorem dRow_at (i : Fin 256) (d : Fin 1024) :
    k0_pay17 (k0_pay11 a f wd g2) (k0_pay12 a f wd g2) (k0_pay15 a f wd g2 lg lb t) (k0_pay16 a f wd g2 lg lb t) (ix2 i d)
      = ((dRow (pre X v G U D (o + i)) (v 10) (v 11) (T (o + i)) d : ℝ) : EReal) := by
  have e1 := rs_at ha hf hd h2 i 0
  have e2 := fun d => nrm_at ha hf hd h2 i d
  have e3 := fun d => dn_at ha hf hd h2 hlg hlb ht i d
  have e4 := dnMean_at ha hf hd h2 hlg hlb ht i 0
  have e5 : Ideal.div (∑ d : Fin 1024, k0_pay15 a f wd g2 lg lb t (ix2 i d) * k0_pay12 a f wd g2 (ix2 i d)) (Ideal.ofBits .f32 0x44800000#32)
      = ((mean fun e => dn (pre X v G U D (o + i)) (v 10) (v 11) (T (o + i)) e * nrm (pre X v G U D (o + i)) e : ℝ) : EReal) :=
    mean_coe fun d => by rw [e2, e3, ← EReal.coe_mul]
  pointwise [k0_pay17]
  refine (congrArg₂ (· * ·) e1 (congrArg₂ (· - ·) (congrArg₂ (· - ·) (e3 d) e4) (congrArg₂ (· * ·) (e2 d) e5))).trans ?_
  rw [← EReal.coe_sub, ← EReal.coe_mul, ← EReal.coe_sub, ← EReal.coe_mul]
  rfl

end normalisation

end Cert.Fwd

end
-- ==== Proof.Fwd.Final.lean ====
module

public import proofs.«01_k».proof.Proof.Fwd.Tile

@[expose] public section

set_option maxRecDepth 16384

/-!
# The results of the forward call

Grid point `t` handles rows `256 t` to `256 t + 255`.  It reads the layer's input and the target of these rows, and the
parameters and the three weights whole.  The results are the loss's gradient in the rows before the normalisation, and the
two wide projections that the backward pass reads again.
-/

noncomputable section

namespace Cert.Fwd

open Idealize.ShloMosaic Idealize.ShloMosaic.TcCoe Idealize.SL.Sem
open Idealize.ShloMosaic.Pipeline (Dat)
open Cert.Kernel3Ideal Cert.Kernel3Ideal.Gen Cert.FfnSpec Cert.FwdSpec

variable {m : (ℓ : Loc nD τ sig) → Buf (Elt Ideal) ℓ} {c : Dev nD} {X T v G U D : ℕ → ℕ → ℝ}

/-- The call's arguments on device `c` are real arrays. -/
abbrev Args (m : (ℓ : Loc nD τ sig) → Buf (Elt Ideal) ℓ) (c : Dev nD) (X T v G U D : ℕ → ℕ → ℝ) : Prop :=
  Holds (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) X T v G U D

theorem idxA : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_8.index t = ![t.val, 0] ∧ win0_9.index t = ![t.val, 0] ∧ t.val < 64 :=
  (by decide +kernel : ∀ t : Fin grid0.N, _)

theorem blk0 (H : Args m c X T v G U D) (t : Fin cfg0.N) (i : Fin 256) (d : Fin 1024) :
    iblk m c 0 t (ix2 i d) = ((X (256 * t.val + i) d : ℝ) : EReal) := by
  have ht := (idxA t).2.2.2.2.2.2.2.2.2
  refine Eq.trans ?_ (H.x ⟨256 * t.val + i.val, by omega⟩ d)
  blk_point [iblk, V, idxA t]

theorem blk1 (H : Args m c X T v G U D) (t : Fin cfg0.N) (i : Fin 256) (d : Fin 1024) :
    iblk m c 1 t (ix2 i d) = ((T (256 * t.val + i) d : ℝ) : EReal) := by
  have ht := (idxA t).2.2.2.2.2.2.2.2.2
  refine Eq.trans ?_ (H.p ⟨256 * t.val + i.val, by omega⟩ d)
  blk_point [iblk, V, idxA t]

theorem blk2 (H : Args m c X T v G U D) (t : Fin cfg0.N) (i : Fin 16) (d : Fin 1024) :
    iblk m c 2 t (ix2 i d) = ((v i d : ℝ) : EReal) := by
  refine Eq.trans ?_ (H.v i d)
  blk_point [iblk, V, idxA t]

theorem wg_at (H : Args m c X T v G U D) (d : Fin 1024) (k : Fin 2816) : V m c main_v0 (ix2 d k) = ((G d k : ℝ) : EReal) := by
  have e := H.g d k
  after_reads_simp
  pointwise
  exact e

theorem wu_at (H : Args m c X T v G U D) (d : Fin 1024) (k : Fin 2816) : V m c main_v1 (ix2 d k) = ((U d k : ℝ) : EReal) := by
  have e := H.u d k
  after_reads_simp
  pointwise
  exact e

theorem wd_at (H : Args m c X T v G U D) (k : Fin 2816) (d : Fin 1024) : V m c main_v2 (ix2 k d) = ((D k d : ℝ) : EReal) := by
  have e := H.d k d
  after_reads_simp
  pointwise
  exact e

theorem blk3 (H : Args m c X T v G U D) (t : Fin cfg0.N) (d : Fin 1024) (k : Fin 2816) : iblk m c 3 t (ix2 d k) = ((G d k : ℝ) : EReal) := by
  refine Eq.trans ?_ (wg_at H d k)
  blk_ext [iblk, idxA t]

theorem blk4 (H : Args m c X T v G U D) (t : Fin cfg0.N) (d : Fin 1024) (k : Fin 2816) : iblk m c 4 t (ix2 d k) = ((U d k : ℝ) : EReal) := by
  refine Eq.trans ?_ (wu_at H d k)
  blk_ext [iblk, idxA t]

theorem blk5 (H : Args m c X T v G U D) (t : Fin cfg0.N) (k : Fin 2816) (d : Fin 1024) : iblk m c 5 t (ix2 k d) = ((D k d : ℝ) : EReal) := by
  refine Eq.trans ?_ (wd_at H k d)
  blk_ext [iblk, idxA t]

/-- What a point leaves of the gate. -/
theorem gateBlock_at (H : Args m c X T v G U D) (t : Fin cfg0.N) (i : Fin 256) (k : Fin 2816) :
    (outsAt0 m c t.val t.isLt).2.2.1 (ix2 i k) = ((lin X v G (256 * t.val + i) k : ℝ) : EReal) := by
  by_cases h : t.val % 64 = 0
  · rw [outsAt0_A m c t h]
    frame_out
    exact gate_stored (fun i d => by pointwise; exact blk0 H t i d) (fun d => by pointwise; exact blk2 H t 4 d) (fun d => by pointwise; exact blk2 H t 3 d)
      (fun d k => by pointwise; exact blk3 H t d k) i k
  · rw [outsAt0_B m c t h]
    frame_out
    exact gate_stored (fun i d => by pointwise; exact blk0 H t i d) (fun d => by pointwise; exact blk2 H t 4 d) (fun d => by pointwise; exact blk2 H t 3 d)
      (fun d k => by pointwise; exact blk3 H t d k) i k

/-- What a point leaves of the value. -/
theorem valueBlock_at (H : Args m c X T v G U D) (t : Fin cfg0.N) (i : Fin 256) (k : Fin 2816) :
    (outsAt0 m c t.val t.isLt).2.2.2 (ix2 i k) = ((lin X v U (256 * t.val + i) k : ℝ) : EReal) := by
  by_cases h : t.val % 64 = 0
  · rw [outsAt0_A m c t h]
    frame_out
    exact value_stored (fun i d => by pointwise; exact blk0 H t i d) (fun d => by pointwise; exact blk2 H t 4 d) (fun d => by pointwise; exact blk2 H t 3 d)
      (fun d k => by pointwise; exact blk4 H t d k) i k
  · rw [outsAt0_B m c t h]
    frame_out
    exact value_stored (fun i d => by pointwise; exact blk0 H t i d) (fun d => by pointwise; exact blk2 H t 4 d) (fun d => by pointwise; exact blk2 H t 3 d)
      (fun d k => by pointwise; exact blk4 H t d k) i k

/-- What a point leaves of the gradient. -/
theorem gradBlock_at (H : Args m c X T v G U D) (t : Fin cfg0.N) (i : Fin 256) (d : Fin 1024) :
    (outsAt0 m c t.val t.isLt).1 (ix2 i d) = ((dRow (pre X v G U D (256 * t.val + i)) (v 10) (v 11) (T (256 * t.val + i)) d : ℝ) : EReal) := by
  by_cases h : t.val % 64 = 0
  · rw [outsAt0_A m c t h]
    frame_out
    exact dRow_at (fun i d => by pointwise; exact blk0 H t i d)
      (fun i k => act_at (fun i d => by pointwise; exact blk0 H t i d) (fun d => by pointwise; exact blk2 H t 4 d) (fun d => by pointwise; exact blk2 H t 3 d)
        (fun d k => by pointwise; exact blk3 H t d k) (fun d k => by pointwise; exact blk4 H t d k) i k)
      (fun k d => by pointwise; exact blk5 H t k d) (fun d => by pointwise; exact blk2 H t 5 d) (fun d => by pointwise; exact blk2 H t 10 d)
      (fun d => by pointwise; exact blk2 H t 11 d) (fun i d => by pointwise; exact blk1 H t i d) i d
  · rw [outsAt0_B m c t h]
    frame_out
    exact dRow_at (fun i d => by pointwise; exact blk0 H t i d)
      (fun i k => act_at (fun i d => by pointwise; exact blk0 H t i d) (fun d => by pointwise; exact blk2 H t 4 d) (fun d => by pointwise; exact blk2 H t 3 d)
        (fun d k => by pointwise; exact blk3 H t d k) (fun d k => by pointwise; exact blk4 H t d k) i k)
      (fun k d => by pointwise; exact blk5 H t k d) (fun d => by pointwise; exact blk2 H t 5 d) (fun d => by pointwise; exact blk2 H t 10 d)
      (fun d => by pointwise; exact blk2 H t 11 d) (fun i d => by pointwise; exact blk1 H t i d) i d

/-- **The first result**: the loss's gradient in the rows before the normalisation. -/
theorem final_grad (H : Args m c X T v G U D) :
    (dats m 0 c).arrAt 6 cfg0.N = fun i => ((dRow (pre X v G U D (i 0).val) (v 10) (v 11) (T (i 0).val) (i 1).val : ℝ) : EReal) := by
  refine (dats m 0 c).arrAt_eq_of_covers 6 _ (by decide +kernel) fun t _ y => ?_
  blk_simp [idxA t]
  rw [after0_6]
  have e : y = (ix2 (y 0 : Fin 256) (y 1 : Fin 1024) : S256x1024.Idx) := by blk_ext
  rw [e]
  refine (gradBlock_at H t (y 0) (y 1)).trans ?_
  rw [Nat.mul_comm 256 t.val]
  rfl

/-- **The second result**: the gate. -/
theorem final_gate (H : Args m c X T v G U D) :
    (dats m 0 c).arrAt 8 cfg0.N = fun i => ((lin X v G (i 0).val (i 1).val : ℝ) : EReal) := by
  refine (dats m 0 c).arrAt_eq_of_covers 8 _ (by decide +kernel) fun t _ y => ?_
  blk_simp [idxA t]
  rw [after0_8]
  have e : y = (ix2 (y 0 : Fin 256) (y 1 : Fin 2816) : S256x2816.Idx) := by blk_ext
  rw [e]
  refine (gateBlock_at H t (y 0) (y 1)).trans ?_
  rw [Nat.mul_comm 256 t.val]
  rfl

/-- **The third result**: the value. -/
theorem final_value (H : Args m c X T v G U D) :
    (dats m 0 c).arrAt 9 cfg0.N = fun i => ((lin X v U (i 0).val (i 1).val : ℝ) : EReal) := by
  refine (dats m 0 c).arrAt_eq_of_covers 9 _ (by decide +kernel) fun t _ y => ?_
  blk_simp [idxA t]
  rw [after0_9]
  have e : y = (ix2 (y 0 : Fin 256) (y 1 : Fin 2816) : S256x2816.Idx) := by blk_ext
  rw [e]
  refine (valueBlock_at H t (y 0) (y 1)).trans ?_
  rw [Nat.mul_comm 256 t.val]
  rfl

end Cert.Fwd

end
-- ==== Proof.Fwd.RefRead.lean ====
module

public import proofs.«01_k».proof.Proof.Fwd.Spec
public import proofs.«01_k».proof.Proof.Gen.Reference3Ideal.Run
public import Idealize.ShloMosaic.Lib.Pointwise

@[expose] public section

set_option maxRecDepth 16384

/-!
# The third reference's results, read at an index

The reference runs the layer, and differentiates the loss with respect to the rows before the normalisation.  The chain
rule leaves three terms: directly, through the mean square, and through the mean.
-/

noncomputable section

namespace Cert.FwdRef

open Idealize.ShloMosaic Idealize.ShloMosaic.TcCoe Idealize.SL.Sem Idealize.ShloMosaic.StableHlo
open Cert.Reference3Ideal Cert.Reference3Ideal.Gen Cert.Reference3Ideal.Value Cert.FfnSpec Cert.FwdSpec

variable {V0 : Valuation τ sig (Elt Ideal)} {X T v G U D : ℕ → ℕ → ℝ}

/-- The reference's arguments are real arrays. -/
abbrev Args (V0 : Valuation τ sig (Elt Ideal)) (X T v G U D : ℕ → ℕ → ℝ) : Prop :=
  Holds (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) X T v G U D

/-- The hidden rows. -/
theorem hid_at (H : Args V0 X T v G U D) (r : Fin 16384) (d : Fin 1024) : res_main_v11 V0 (ix2 r d) = ((hid X v r d : ℝ) : EReal) := by
  pointwise [res_main_v11]
  refine (congrArg₂ (· + ·) (congrArg₂ (· * ·) (H.x r d) (congrArg (fun z : EReal => 1 + z) (H.v 4 d))) (H.v 3 d)).trans ?_
  rw [← EReal.coe_one, ← EReal.coe_add, ← EReal.coe_mul, ← EReal.coe_add]
  rfl

/-- The hidden rows times a matrix. -/
theorem lin_at (H : Args V0 X T v G U D) {w : FVec Ideal S1024x2816 .f32} {W : ℕ → ℕ → ℝ} (hw : ∀ (d : Fin 1024) (k : Fin 2816), w (ix2 d k) = ((W d k : ℝ) : EReal))
    (r : Fin 16384) (k : Fin 2816) :
    Host.dotGeneral dot_S16384x1024_S1024x2816_S16384x2816_1_0_0_1_n_n none (res_main_v11 V0) w (ix2 r k) = ((lin X v W r k : ℝ) : EReal) := by
  have e := fun d => hid_at H r d
  pointwise
  refine sum_coe _ (fun d => hid X v r d * W d k) fun d => ?_
  rw [e, hw, ← EReal.coe_mul]

/-- The gate. -/
theorem gate_at (H : Args V0 X T v G U D) (r : Fin 16384) (k : Fin 2816) : res_main_v16 V0 (ix2 r k) = ((lin X v G r k : ℝ) : EReal) :=
  lin_at H H.g r k

/-- The inner columns. -/
def actR (V0 : Valuation τ sig (Elt Ideal)) : FVec Ideal S16384x2816 .f32 :=
  mulf (mulf (res_main_v16 V0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (res_main_v16 V0)))))) (Host.dotGeneral (φ₁ := .f32) (φ₂ := .f32) dot_S16384x1024_S1024x2816_S16384x2816_1_0_0_1_n_n none (res_main_v11 V0) (V0 (Proc.devRef .tc main_arg4)))

theorem act_at (H : Args V0 X T v G U D) (r : Fin 16384) (k : Fin 2816) : actR V0 (ix2 r k) = ((act X v G U r k : ℝ) : EReal) := by
  have e1 := gate_at H r k
  have e2 := lin_at H H.u r k
  unfold actR
  generalize Host.dotGeneral dot_S16384x1024_S1024x2816_S16384x2816_1_0_0_1_n_n none (res_main_v11 V0) (V0 (Proc.devRef .tc main_arg4)) = u at e2 ⊢
  pointwise
  rw [e1]
  refine (congrArg₂ (· * ·) (congrArg (_ * ·) (logistic_coe _)) e2).trans ?_
  rw [← EReal.coe_mul, ← EReal.coe_mul]
  rfl

/-- The rows before the normalisation. -/
theorem pre_at (H : Args V0 X T v G U D) (r : Fin 16384) (d : Fin 1024) : res_main_v24 V0 (ix2 r d) = ((pre X v G U D r d : ℝ) : EReal) := by
  have e := fun k => act_at H r k
  change addf (mulf (broadcastInDim S16384x1024 ![] bcast_S_S16384x1024 (constant S_ .f32 0x3F9837F0#32)) (V0 (Proc.devRef .tc main_arg0))) (mulf (broadcastInDim S16384x1024 ![0, 1] bcast_S1x1024_S16384x1024_0_1 (broadcastInDim S1x1024 ![1] bcast_S1024_S1x1024_1 (shapeCast _ (extractStridedSlice S1x1024 ![5, 0] (V0 (Proc.devRef .tc main_arg2)) slices_S16x1024_S1x1024_5_0) shapeCasts_S1x1024_S1024))) (Host.dotGeneral dot_S16384x2816_S2816x1024_S16384x1024_1_0_0_1_n_n none (actR V0) (V0 (Proc.devRef .tc main_arg5)))) (ix2 r d) = _
  generalize actR V0 = a at e
  pointwise
  refine (congrArg₂ (· + ·) (congrArg₂ (· * ·) alpha_bits (H.x r d)) (congrArg₂ (· * ·) (H.v 5 d)
    (sum_coe _ (fun k => act X v G U r k * D k d) fun k => (congrArg₂ (· * ·) (e k) (H.d k d)).trans (EReal.coe_mul _ _).symm))).trans ?_
  rw [← EReal.coe_mul, ← EReal.coe_mul, ← EReal.coe_add]
  rfl

/-- The mean of a row, as it is computed. -/
theorem mean_coe {f : Fin 1024 → EReal} {p : ℕ → ℝ} (h : ∀ d : Fin 1024, f d = ((p d : ℝ) : EReal)) :
    Ideal.div (∑ d, f d) (Ideal.ofBits .f32 0x44800000#32) = ((mean p : ℝ) : EReal) := by
  rw [sum_coe f p h, n1024_bits, Ideal.div_coe (by norm_num), ← EReal.coe_mul]
  exact congrArg _ (mul_one_div _ _)

theorem mean_at (H : Args V0 X T v G U D) (r : Fin 16384) (j : Fin 1) : res_main_v32 V0 (ix2 r j) = ((mean (pre X v G U D r) : ℝ) : EReal) := by
  have e := fun d => pre_at H r d
  pointwise [res_main_v32]
  exact mean_coe e

theorem cen_at (H : Args V0 X T v G U D) (r : Fin 16384) (d : Fin 1024) : res_main_v34 V0 (ix2 r d) = ((cen (pre X v G U D r) d : ℝ) : EReal) := by
  have e := pre_at H r d
  have e' := mean_at H r 0
  pointwise [res_main_v34]
  rw [e, e', ← EReal.coe_sub]
  rfl

theorem cen_at' (H : Args V0 X T v G U D) (r : Fin 16384) (d : Fin 1024) : res_main_v43 V0 (ix2 r d) = ((cen (pre X v G U D r) d : ℝ) : EReal) :=
  cen_at H r d

theorem vare_at (H : Args V0 X T v G U D) (r : Fin 16384) (j : Fin 1) : res_main_v45 V0 (ix2 r j) = ((vare (pre X v G U D r) : ℝ) : EReal) := by
  have e := fun d => cen_at H r d
  pointwise [res_main_v45]
  refine (congrArg₂ (· + ·) (mean_coe (p := fun d => cen (pre X v G U D r) d * cen (pre X v G U D r) d) fun d => ?_) eps_bits).trans (EReal.coe_add _ _).symm
  rw [e, ← EReal.coe_mul]

theorem rs_at (H : Args V0 X T v G U D) (r : Fin 16384) (j : Fin 1) : res_main_v46 V0 (ix2 r j) = ((rs (pre X v G U D r) : ℝ) : EReal) := by
  have e := vare_at H r j
  pointwise [res_main_v46]
  rw [e]
  exact rs_coe _

theorem gain_at (H : Args V0 X T v G U D) (j : Fin 1) (d : Fin 1024) : res_main_v52 V0 (ix2 j d) = ((v 10 d : ℝ) : EReal) := by
  pointwise [res_main_v52]
  exact H.v 10 d

theorem err_at (H : Args V0 X T v G U D) (r : Fin 16384) (d : Fin 1024) :
    res_main_v58 V0 (ix2 r d) = ((err (pre X v G U D r) (v 10) (v 11) (T r) d : ℝ) : EReal) := by
  have e1 := cen_at' H r d
  have e2 := rs_at H r 0
  have e3 := gain_at H 0 d
  pointwise [res_main_v58]
  rw [e1, e2, e3]
  refine (congrArg₂ (· - ·) (congrArg (_ + ·) (H.v 11 d)) (H.p r d)).trans ?_
  rw [← EReal.coe_mul, ← EReal.coe_mul, ← EReal.coe_add, ← EReal.coe_sub]
  rfl

theorem dn_at (H : Args V0 X T v G U D) (r : Fin 16384) (d : Fin 1024) :
    res_main_v74 V0 (ix2 r d) = ((dn (pre X v G U D r) (v 10) (v 11) (T r) d : ℝ) : EReal) := by
  have e1 := err_at H r d
  have e3 := gain_at H 0 d
  pointwise [res_main_v74]
  rw [e1, e3, half_bits, n1024_bits, two_bits, Ideal.div_coe (by norm_num)]
  simp only [← EReal.coe_mul, ← EReal.coe_one]
  refine congrArg _ ?_
  unfold dn
  ring

theorem direct_at (H : Args V0 X T v G U D) (r : Fin 16384) (d : Fin 1024) :
    res_main_v79 V0 (ix2 r d) = ((dn (pre X v G U D r) (v 10) (v 11) (T r) d * rs (pre X v G U D r) : ℝ) : EReal) := by
  have e1 := dn_at H r d
  have e3 := rs_at H r 0
  pointwise [res_main_v79]
  rw [e1, e3, ← EReal.coe_mul]

/-- The term through the mean square, as it is computed. -/
theorem viaVar_coe {p g b t : ℕ → ℝ} {f h : Fin 1024 → EReal} {s w : Fin 1 → EReal} {z : EReal} {d : ℕ}
    (hf : ∀ d : Fin 1024, f d = ((cen p d : ℝ) : EReal)) (hh : ∀ d : Fin 1024, h d = ((dn p g b t d : ℝ) : EReal))
    (hs : s 0 = ((rs p : ℝ) : EReal)) (hw : w 0 = ((vare p : ℝ) : EReal)) (hz : z = ((cen p d : ℝ) : EReal)) :
    (∑ x, Ideal.div ((∑ e, f e * h e) * (Ideal.ofBits .f32 0xBF000000#32 * Ideal.div (s x) (w x))) (Ideal.ofBits .f32 0x44800000#32))
      * (Ideal.ofBits .f32 0x40000000#32 * z) = ((viaVar p g b t d : ℝ) : EReal) := by
  have k := sum_coe (fun e => f e * h e) (fun e => cen p e * dn p g b t e) fun e => (congrArg₂ (· * ·) (hf e) (hh e)).trans (EReal.coe_mul _ _).symm
  rw [Fin.sum_univ_one, k, hs, hw, hz, neghalf_bits, n1024_bits, two_bits, Ideal.div_coe (vare_pos p).ne', Ideal.div_coe (by norm_num)]
  simp only [← EReal.coe_mul]
  refine congrArg _ ?_
  unfold viaVar
  ring

/-- The three terms together, as they are computed. -/
theorem dRow_coe {p g b t : ℕ → ℝ} {f h : Fin 1024 → EReal} (hf : ∀ d : Fin 1024, f d = ((dn p g b t d * rs p : ℝ) : EReal))
    (hh : ∀ d : Fin 1024, h d = ((viaVar p g b t d : ℝ) : EReal)) (d : Fin 1024) :
    f d + h d + ∑ x : Fin 1, Ideal.div (∑ e, -f e + ∑ e, -h e) (Ideal.ofBits .f32 0x44800000#32) = ((dRow p g b t d : ℝ) : EReal) := by
  have k1 := sum_coe (fun e => -f e) (fun e => -(dn p g b t e * rs p)) fun e => (congrArg (- ·) (hf e)).trans (EReal.coe_neg _).symm
  have k2 := sum_coe (fun e => -h e) (fun e => -(viaVar p g b t e)) fun e => (congrArg (- ·) (hh e)).trans (EReal.coe_neg _).symm
  rw [Fin.sum_univ_one, k1, k2, hf, hh, n1024_bits, Ideal.div_coe (by norm_num)]
  simp only [← EReal.coe_mul, ← EReal.coe_add]
  refine congrArg _ (Eq.trans ?_ (dRow_eq p g b t d))
  rw [mul_one_div]

theorem viaVar_at (H : Args V0 X T v G U D) (r : Fin 16384) (d : Fin 1024) :
    res_main_v88 V0 (ix2 r d) = ((viaVar (pre X v G U D r) (v 10) (v 11) (T r) d : ℝ) : EReal) := by
  have e1 := fun d => cen_at' H r d
  have e2 := fun d => dn_at H r d
  have e3 := rs_at H r 0
  have e4 := vare_at H r 0
  have e5 := cen_at H r d
  pointwise [res_main_v88]
  exact viaVar_coe (s := fun x => res_main_v46 V0 (ix2 r x)) (w := fun x => res_main_v45 V0 (ix2 r x)) e1 e2 e3 e4 e5

/-- **The first result**: the loss's gradient in the rows before the normalisation. -/
theorem grad_at (H : Args V0 X T v G U D) (r : Fin 16384) (d : Fin 1024) :
    addf (addf (res_main_v79 V0) (res_main_v88 V0)) (broadcastInDim S16384x1024 ![0] bcast_S16384_S16384x1024_0 (Host.reduceAdd (Host.divf (addf (shapeCast _ (Host.reduceAdd (Host.negf (res_main_v79 V0)) (constant S_ .f32 0x00000000#32) reducesTo_S16384x1024_S16384_d1 h_S_) shapeCasts_S16384_S16384x1) (shapeCast _ (Host.reduceAdd (Host.negf (res_main_v88 V0)) (constant S_ .f32 0x00000000#32) reducesTo_S16384x1024_S16384_d1 h_S_) shapeCasts_S16384_S16384x1)) (broadcastInDim S16384x1 ![] bcast_S_S16384x1 (constant S_ .f32 0x44800000#32))) (constant S_ .f32 0x00000000#32) reducesTo_S16384x1_S16384_d1 h_S_)) (ix2 r d)
      = ((dRow (pre X v G U D r) (v 10) (v 11) (T r) d : ℝ) : EReal) := by
  have e1 := fun d => direct_at H r d
  have e2 := fun d => viaVar_at H r d
  generalize res_main_v79 V0 = a at e1 ⊢
  generalize res_main_v88 V0 = b at e2 ⊢
  pointwise
  exact dRow_coe e1 e2 d

/-- **The second and the third result**: the two wide projections. -/
theorem wide_at (H : Args V0 X T v G U D) {w : FVec Ideal S1024x2816 .f32} {W : ℕ → ℕ → ℝ} (hw : ∀ (d : Fin 1024) (k : Fin 2816), w (ix2 d k) = ((W d k : ℝ) : EReal))
    (r : Fin 16384) (k : Fin 2816) :
    truncf .bf16 (Host.dotGeneral dot_S16384x1024_S1024x2816_S16384x2816_1_0_0_1_n_n none (res_main_v11 V0) w) bitsLt_bf16_f32 (ix2 r k) = ((lin X v W r k : ℝ) : EReal) := by
  have e := lin_at H hw r k
  generalize Host.dotGeneral dot_S16384x1024_S1024x2816_S16384x2816_1_0_0_1_n_n none (res_main_v11 V0) w = u at e ⊢
  pointwise
  exact e

end Cert.FwdRef

end
-- ==== Proof.Fwd.Finite.lean ====
/-
  What the third precondition says of the arguments: every element of the six arrays is a real number.
-/
module

public import proofs.«01_k».proof.Defs
public import proofs.«01_k».proof.Proof.Gen.Pre_finite3
public import proofs.«01_k».proof.Proof.Finite
public import proofs.«01_k».proof.Proof.Fwd.Final

@[expose] public section

noncomputable section

namespace Cert.FwdFinite

open Idealize.ShloMosaic Idealize.ShloMosaic.TcCoe Idealize.SL.Sem Cert.Finite

/-- Under the precondition each of the six arguments is an array of real numbers. -/
theorem args_of_pre (m : (ℓ : Loc Cert.Kernel3Ideal.nD Cert.Kernel3Ideal.τ Cert.Kernel3Ideal.sig) → Buf (Elt Ideal) ℓ)
    (hpre : Cert.Pre_Kernel3Ideal_finite3 m) (c : Dev Cert.Kernel3Ideal.nD) :
    ∃ X T v G U D, Cert.Fwd.Args m c X T v G U D := by
  have h := congrFun (hpre c) i0
  obtain ⟨h, h5⟩ := both h
  obtain ⟨h, h4⟩ := both h
  obtain ⟨h, h3⟩ := both h
  obtain ⟨h, h2⟩ := both h
  obtain ⟨h0, h1⟩ := both h
  exact Cert.FfnSpec.exists_holds _ _ _ _ _ _ (real_of_all _ _ (fun _ => rfl) _ _ _ i0 h0) (real_of_all _ _ (fun _ => rfl) _ _ _ i0 h1)
    (real_of_all _ _ (fun _ => rfl) _ _ _ i0 h2) (real_of_all _ _ (fun _ => rfl) _ _ _ i0 h3) (real_of_all _ _ (fun _ => rfl) _ _ _ i0 h4)
    (real_of_all _ _ (fun _ => rfl) _ _ _ i0 h5)

end Cert.FwdFinite

end
-- ==== Proof.Inp.Rows.lean ====
module

public import Idealize.ShloMosaic.PureOps.Ideal
public import Idealize.ShloMosaic.Lib.Pipeline.FrameBody
public import Idealize.ShloMosaic.Lib.Pointwise

@[expose] public section

set_option maxRecDepth 16384

/-!
# Reading a scratch that was stored in groups of rows

A scratch of rows is stored in groups of whole rows, some over others; a load takes a group of rows.  What the load reads in
a row is what the last store over that row put there.
-/

noncomputable section

namespace Cert.Rows

open Idealize.ShloMosaic Idealize.ShloMosaic.View

variable {sig : RefSig} {κ : Kind} {sp : Space} {e : EltTy} {Val : EltTy → Type} [∀ e, Nonempty (Val e)] {m n k : ℕ}

/-- A load of rows from row `s`. -/
theorem load_at (w : View sig κ sp ⟨2, ![m, n]⟩ e) (L : List (Piece Val (⟨2, ![m, n]⟩ : Shape) e)) (s : ℕ)
    (inb : ∀ a, (![s, 0] : Fin 2 → ℕ) a + (⟨2, ![k, n]⟩ : Shape).size a ≤ (⟨2, ![m, n]⟩ : Shape).size a) (i : Fin k) (c : Fin n) (h : s + i < m) :
    w.readCov L (Rect.unit (s := (⟨2, ![m, n]⟩ : Shape)) ![s, 0] (⟨2, ![k, n]⟩ : Shape).size inb).toLoadRect (ix2 i c)
      = View.canon L (ix2 ⟨s + i, h⟩ c) := by
  rw [View.readCov_eq_canon']
  refine congrArg (View.canon L) ?_
  funext a; apply Fin.ext
  fin_cases a
  · show s + 1 * i.val = s + i.val; omega
  · show 0 + 1 * c.val = c.val; omega

/-- A row of the last store. -/
theorem canon_in (o : ℕ) (inb : ∀ a, (![o, 0] : Fin 2 → ℕ) a + (⟨2, ![k, n]⟩ : Shape).size a ≤ (⟨2, ![m, n]⟩ : Shape).size a)
    (x : (⟨2, ![k, n]⟩ : Shape).Idx → Val e) (L : List (Piece Val (⟨2, ![m, n]⟩ : Shape) e)) (r : Fin m) (c : Fin n) (i : Fin k) (h : r.val = o + i) :
    View.canon ((⟨Rect.unit (s := (⟨2, ![m, n]⟩ : Shape)) ![o, 0] (⟨2, ![k, n]⟩ : Shape).size inb, x⟩ : Piece Val (⟨2, ![m, n]⟩ : Shape) e) :: L) (ix2 r c)
      = x (ix2 i c) := by
  refine Eq.trans (congrArg _ ?_) (View.canon_cons_emb (Rect.unit (s := (⟨2, ![m, n]⟩ : Shape)) ![o, 0] (⟨2, ![k, n]⟩ : Shape).size inb) x L (ix2 i c))
  funext a; apply Fin.ext
  fin_cases a
  · show r.val = o + 1 * i.val; omega
  · show c.val = 0 + 1 * c.val; omega

/-- A row the last store does not touch. -/
theorem canon_out (o : ℕ) (inb : ∀ a, (![o, 0] : Fin 2 → ℕ) a + (⟨2, ![k, n]⟩ : Shape).size a ≤ (⟨2, ![m, n]⟩ : Shape).size a)
    (x : (⟨2, ![k, n]⟩ : Shape).Idx → Val e) (L : List (Piece Val (⟨2, ![m, n]⟩ : Shape) e)) (r : Fin m) (c : Fin n) (h : r.val < o ∨ o + k ≤ r.val) :
    View.canon ((⟨Rect.unit (s := (⟨2, ![m, n]⟩ : Shape)) ![o, 0] (⟨2, ![k, n]⟩ : Shape).size inb, x⟩ : Piece Val (⟨2, ![m, n]⟩ : Shape) e) :: L) (ix2 r c)
      = View.canon L (ix2 r c) := by
  refine View.canon_cons_of_not_mem _ _ fun hm => ?_
  obtain ⟨i, hi⟩ := LoadRect.exists_idx_of_mem _ hm
  have h0 : o + 1 * (i 0).val = r.val := congrArg (fun y : (⟨2, ![m, n]⟩ : Shape).Idx => (y 0).val) hi
  have h1 : (i 0).val < k := (i 0).isLt
  omega

/-- Stored whole, then the first eight rows, then the last eight: the load of 256 rows from row `s`. -/
theorem edges_at (w : View sig κ sp ⟨2, ![272, n]⟩ e) (A B : (⟨2, ![8, n]⟩ : Shape).Idx → Val e) (P : (⟨2, ![272, n]⟩ : Shape).Idx → Val e)
    (f : ℕ → Fin n → Val e) (hA : ∀ (j : Fin 8) (c : Fin n), A (ix2 j c) = f (264 + j) c) (hB : ∀ (j : Fin 8) (c : Fin n), B (ix2 j c) = f j c)
    (hP : ∀ (j : Fin 256) (c : Fin n), P (ix2 ⟨8 + j, by omega⟩ c) = f (8 + j) c)
    (inA : ∀ a, (![264, 0] : Fin 2 → ℕ) a + (⟨2, ![8, n]⟩ : Shape).size a ≤ (⟨2, ![272, n]⟩ : Shape).size a)
    (inB : ∀ a, (![0, 0] : Fin 2 → ℕ) a + (⟨2, ![8, n]⟩ : Shape).size a ≤ (⟨2, ![272, n]⟩ : Shape).size a)
    (inP : ∀ a, (![0, 0] : Fin 2 → ℕ) a + (⟨2, ![272, n]⟩ : Shape).size a ≤ (⟨2, ![272, n]⟩ : Shape).size a)
    (s : ℕ) (hs : s + 256 ≤ 272)
    (inb : ∀ a, (![s, 0] : Fin 2 → ℕ) a + (⟨2, ![256, n]⟩ : Shape).size a ≤ (⟨2, ![272, n]⟩ : Shape).size a) (i : Fin 256) (c : Fin n) :
    w.readCov [(⟨Rect.unit (s := (⟨2, ![272, n]⟩ : Shape)) ![264, 0] (⟨2, ![8, n]⟩ : Shape).size inA, A⟩ : Piece Val (⟨2, ![272, n]⟩ : Shape) e),
        ⟨Rect.unit (s := (⟨2, ![272, n]⟩ : Shape)) ![0, 0] (⟨2, ![8, n]⟩ : Shape).size inB, B⟩,
        ⟨Rect.unit (s := (⟨2, ![272, n]⟩ : Shape)) ![0, 0] (⟨2, ![272, n]⟩ : Shape).size inP, P⟩]
      (Rect.unit (s := (⟨2, ![272, n]⟩ : Shape)) ![s, 0] (⟨2, ![256, n]⟩ : Shape).size inb).toLoadRect (ix2 i c) = f (s + i) c := by
  have hi := i.isLt
  refine (load_at w _ s inb i c (by omega)).trans ?_
  by_cases hh : 264 ≤ s + i.val
  · refine (canon_in 264 inA A _ _ c ⟨s + i.val - 264, by omega⟩ (by dsimp only; omega)).trans ((hA _ c).trans (congrArg (fun r => f r c) (by dsimp only; omega)))
  refine (canon_out 264 inA A _ _ c (Or.inl (by dsimp only; omega))).trans ?_
  by_cases hl : s + i.val < 8
  · refine (canon_in 0 inB B _ _ c ⟨s + i.val, by omega⟩ (by dsimp only; omega)).trans ((hB _ c).trans (congrArg (fun r => f r c) (by dsimp only)))
  refine (canon_out 0 inB B _ _ c (Or.inr (by dsimp only; omega))).trans ?_
  refine (canon_in 0 inP P _ _ c ⟨s + i.val, by omega⟩ (by dsimp only; omega)).trans ?_
  refine Eq.trans ?_ ((hP ⟨s + i.val - 8, by omega⟩ c).trans (congrArg (fun r => f r c) (by dsimp only; omega)))
  exact congrArg (fun r => P (ix2 r c)) (Fin.ext (by dsimp only; omega))

/-- The first eight rows of what was stored whole. -/
theorem first_at (w : View sig κ sp ⟨2, ![272, n]⟩ e) (P : (⟨2, ![272, n]⟩ : Shape).Idx → Val e)
    (inb : ∀ a, (![0, 0] : Fin 2 → ℕ) a + (⟨2, ![8, n]⟩ : Shape).size a ≤ (⟨2, ![272, n]⟩ : Shape).size a)
    (inP : ∀ a, (![0, 0] : Fin 2 → ℕ) a + (⟨2, ![272, n]⟩ : Shape).size a ≤ (⟨2, ![272, n]⟩ : Shape).size a) (i : Fin 8) (c : Fin n) :
    w.readCov [(⟨Rect.unit (s := (⟨2, ![272, n]⟩ : Shape)) ![0, 0] (⟨2, ![272, n]⟩ : Shape).size inP, P⟩ : Piece Val (⟨2, ![272, n]⟩ : Shape) e)]
      (Rect.unit (s := (⟨2, ![272, n]⟩ : Shape)) ![0, 0] (⟨2, ![8, n]⟩ : Shape).size inb).toLoadRect (ix2 i c) = P (ix2 ⟨i, by omega⟩ c) :=
  (load_at w _ 0 inb i c (by omega)).trans (canon_in 0 inP P _ _ c ⟨i, by omega⟩ rfl)

/-- The last eight rows of what was stored whole, after another store of the first eight. -/
theorem last_at (w : View sig κ sp ⟨2, ![272, n]⟩ e) (B : (⟨2, ![8, n]⟩ : Shape).Idx → Val e) (P : (⟨2, ![272, n]⟩ : Shape).Idx → Val e)
    (inb : ∀ a, (![264, 0] : Fin 2 → ℕ) a + (⟨2, ![8, n]⟩ : Shape).size a ≤ (⟨2, ![272, n]⟩ : Shape).size a)
    (inB : ∀ a, (![0, 0] : Fin 2 → ℕ) a + (⟨2, ![8, n]⟩ : Shape).size a ≤ (⟨2, ![272, n]⟩ : Shape).size a)
    (inP : ∀ a, (![0, 0] : Fin 2 → ℕ) a + (⟨2, ![272, n]⟩ : Shape).size a ≤ (⟨2, ![272, n]⟩ : Shape).size a) (i : Fin 8) (c : Fin n) :
    w.readCov [(⟨Rect.unit (s := (⟨2, ![272, n]⟩ : Shape)) ![0, 0] (⟨2, ![8, n]⟩ : Shape).size inB, B⟩ : Piece Val (⟨2, ![272, n]⟩ : Shape) e),
        ⟨Rect.unit (s := (⟨2, ![272, n]⟩ : Shape)) ![0, 0] (⟨2, ![272, n]⟩ : Shape).size inP, P⟩]
      (Rect.unit (s := (⟨2, ![272, n]⟩ : Shape)) ![264, 0] (⟨2, ![8, n]⟩ : Shape).size inb).toLoadRect (ix2 i c) = P (ix2 ⟨264 + i, by omega⟩ c) :=
  (load_at w _ 264 inb i c (by omega)).trans ((canon_out 0 inB B _ _ c (Or.inr (by dsimp only; omega))).trans
    (canon_in 0 inP P _ _ c ⟨264 + i, by omega⟩ (by dsimp only; omega)))

end Cert.Rows

end
-- ==== Proof.Inp.Spec.lean ====
module

public import Idealize.ShloMosaic.PureOps.Ideal
public import Idealize.ShloMosaic.Lib.Pointwise

@[expose] public section

set_option maxRecDepth 16384

/-!
# The input projections, over the extended real numbers

Every row `X r` is scaled by one plus `v 1`, moved by `v 0`, and multiplied with the matrix `W` of 3360 columns: 1024 for
the gate, 1280 for the convolution, twice 16 for the step sizes, and 1024 for the pooling branch.  The kernel's matrix has
zero columns after each 16 (`wide`).  The convolution runs along the rows with five taps `C`, two rows of zeros before the first row and
after the last, and a bias `b`.
-/

noncomputable section

namespace Cert.InpSpec

open Idealize.ShloMosaic

/-- The arrays' elements, by plain numbers. -/
structure Holds (a0 : FVec Ideal ⟨2, ![16384, 1024]⟩ .f32) (a1 : FVec Ideal ⟨2, ![16, 1024]⟩ .f32)
    (a2 : FVec Ideal ⟨2, ![1024, 3360]⟩ .f32) (a3 : FVec Ideal ⟨2, ![5, 1280]⟩ .f32) (a4 : FVec Ideal ⟨1, ![1280]⟩ .f32)
    (X v W C : ℕ → ℕ → EReal) (b : ℕ → EReal) : Prop where
  x : ∀ (r : Fin 16384) (d : Fin 1024), a0 (ix2 r d) = X r d
  v : ∀ (i : Fin 16) (d : Fin 1024), a1 (ix2 i d) = v i d
  w : ∀ (d : Fin 1024) (k : Fin 3360), a2 (ix2 d k) = W d k
  c : ∀ (i : Fin 5) (k : Fin 1280), a3 (ix2 i k) = C i k
  b : ∀ k : Fin 1280, a4 (ix1 k) = b k

theorem exists_holds (a0 : FVec Ideal ⟨2, ![16384, 1024]⟩ .f32) (a1 : FVec Ideal ⟨2, ![16, 1024]⟩ .f32)
    (a2 : FVec Ideal ⟨2, ![1024, 3360]⟩ .f32) (a3 : FVec Ideal ⟨2, ![5, 1280]⟩ .f32) (a4 : FVec Ideal ⟨1, ![1280]⟩ .f32) :
    ∃ X v W C b, Holds a0 a1 a2 a3 a4 X v W C b := by
  refine ⟨fun i p => if h : i < 16384 ∧ p < 1024 then a0 (ix2 ⟨i, h.1⟩ ⟨p, h.2⟩) else 0,
    fun i p => if h : i < 16 ∧ p < 1024 then a1 (ix2 ⟨i, h.1⟩ ⟨p, h.2⟩) else 0,
    fun i p => if h : i < 1024 ∧ p < 3360 then a2 (ix2 ⟨i, h.1⟩ ⟨p, h.2⟩) else 0,
    fun i p => if h : i < 5 ∧ p < 1280 then a3 (ix2 ⟨i, h.1⟩ ⟨p, h.2⟩) else 0,
    fun p => if h : p < 1280 then a4 (ix1 ⟨p, h⟩) else 0, ?_, ?_, ?_, ?_, ?_⟩
  · intro r d
    rw [dif_pos ⟨r.isLt, d.isLt⟩]
  · intro r d
    rw [dif_pos ⟨r.isLt, d.isLt⟩]
  · intro r d
    rw [dif_pos ⟨r.isLt, d.isLt⟩]
  · intro r d
    rw [dif_pos ⟨r.isLt, d.isLt⟩]
  · intro d
    rw [dif_pos d.isLt]

variable (X v W C : ℕ → ℕ → EReal) (b : ℕ → EReal)

/-- The scaled and moved row. -/
def hid (r d : ℕ) : EReal := X r d * (1 + v 1 d) + v 0 d

/-- The projection. -/
def lin (r k : ℕ) : EReal := ∑ d : Fin 1024, hid X v r d * W d k

/-- The kernel's matrix: zero columns after each 16 columns of the step sizes. -/
def wide (d k : ℕ) : EReal :=
  if k < 2320 then W d k else if k < 2432 then 0 else if k < 2448 then W d (k - 112) else if k < 2560 then 0 else W d (k - 224)

/-- The columns of the step sizes, as they are laid out. -/
def steps (r k : ℕ) : EReal :=
  if k < 16 then lin X v W r (2304 + k) else if k < 128 then 0 else if k < 144 then lin X v W r (2192 + k) else 0

/-- The convolution's columns, two rows of zeros before the first row and after the last. -/
def padded (s k : ℕ) : EReal := if 2 ≤ s ∧ s < 16386 then lin X v W (s - 2) (1024 + k) else 0

/-- The convolution. -/
def conv (r k : ℕ) : EReal :=
  b k + C 0 k * padded X v W r k + C 1 k * padded X v W (r + 1) k + C 2 k * padded X v W (r + 2) k
    + C 3 k * padded X v W (r + 3) k + C 4 k * padded X v W (r + 4) k

/-- What the convolution is passed through. -/
def silu (p : EReal) : EReal := p * Ideal.div 1 (1 + Ideal.exp (-p))

/-- The row times the kernel's matrix. -/
def linWide (r k : ℕ) : EReal := ∑ d : Fin 1024, hid X v r d * wide W d k

theorem linWide_lo (r k : ℕ) (h : k < 2320) : linWide X v W r k = lin X v W r k := by
  unfold linWide lin wide
  simp only [if_pos h]

theorem linWide_hi (r k : ℕ) : linWide X v W r (2560 + k) = lin X v W r (2336 + k) := by
  unfold linWide lin wide
  refine Finset.sum_congr rfl fun d _ => ?_
  rw [if_neg (by omega), if_neg (by omega), if_neg (by omega), if_neg (by omega), show 2560 + k - 224 = 2336 + k by omega]

theorem linWide_steps (r k : ℕ) (h : k < 256) : linWide X v W r (2304 + k) = steps X v W r k := by
  unfold linWide steps lin wide
  by_cases h1 : k < 16
  · simp only [if_pos h1, if_pos (show 2304 + k < 2320 by omega)]
  by_cases h2 : k < 128
  · simp only [if_neg h1, if_pos h2, if_neg (show ¬2304 + k < 2320 by omega), if_pos (show 2304 + k < 2432 by omega), mul_zero, Finset.sum_const_zero]
  by_cases h3 : k < 144
  · simp only [if_neg h1, if_neg h2, if_pos h3, if_neg (show ¬2304 + k < 2320 by omega), if_neg (show ¬2304 + k < 2432 by omega),
      if_pos (show 2304 + k < 2448 by omega), show 2304 + k - 112 = 2192 + k by omega]
  · simp only [if_neg h1, if_neg h2, if_neg h3, if_neg (show ¬2304 + k < 2320 by omega), if_neg (show ¬2304 + k < 2432 by omega),
      if_neg (show ¬2304 + k < 2448 by omega), if_pos (show 2304 + k < 2560 by omega), mul_zero, Finset.sum_const_zero]

end Cert.InpSpec

end
-- ==== Proof.Inp.Tile.lean ====
module

public import proofs.«01_k».proof.Proof.Inp.Spec
public import proofs.«01_k».proof.Proof.Gen.Kernel4Ideal.Value
public import Idealize.ShloMosaic.Lib.Pointwise
public import Idealize.ShloMosaic.Lib.Claim
public import Idealize.ShloMosaic.Lib.Pipeline.ValueKit
public import Idealize.ShloMosaic.Lib.StableHlo.RunRead

@[expose] public section

set_option maxRecDepth 16384

/-!
# One tile of the input projections

What the body makes of 272 rows: eight before the tile, the tile's 256, and eight after it.
-/

noncomputable section

namespace Cert.Inp

open Idealize.ShloMosaic Idealize.ShloMosaic.TcCoe Idealize.SL.Sem
open Cert.Kernel4Ideal Cert.Kernel4Ideal.Gen Cert.InpSpec

variable {X v W C : ℕ → ℕ → EReal} {b : ℕ → EReal} {o : ℕ}

section projections
variable {p n : Vec Ideal S8x1024 .f32} {a : Vec Ideal S256x1024 .f32} {s u : Vec Ideal S1x1024 .f32} {w : Vec Ideal S1024x3584 .bf16}
  (hs : ∀ d : Fin 1024, s (ix2 0 d) = v 1 d) (hu : ∀ d : Fin 1024, u (ix2 0 d) = v 0 d)
  (hw : ∀ (d : Fin 1024) (k : Fin 3584), w (ix2 d k) = wide W d k)

include hs hu hw

/-- The projection of a row before the tile. -/
theorem lo_at (i : Fin 8) (r : ℕ) (h : ∀ d : Fin 1024, p (ix2 i d) = X r d) (k : Fin 3584) :
    k0_pay1 p a n s u w (ix2 ⟨i.val, by omega⟩ k) = linWide X v W r k := by
  pointwise [k0_pay1]
  refine Finset.sum_congr rfl fun d _ => ?_
  rw [h, hs, hu, hw]
  rfl

/-- The projection of a row of the tile. -/
theorem mid_at (i : Fin 256) (r : ℕ) (h : ∀ d : Fin 1024, a (ix2 i d) = X r d) (k : Fin 3584) :
    k0_pay1 p a n s u w (ix2 ⟨8 + i.val, by omega⟩ k) = linWide X v W r k := by
  pointwise [k0_pay1]
  refine Finset.sum_congr rfl fun d _ => ?_
  rw [h, hs, hu, hw]
  rfl

/-- The projection of a row after the tile. -/
theorem hi_at (i : Fin 8) (r : ℕ) (h : ∀ d : Fin 1024, n (ix2 i d) = X r d) (k : Fin 3584) :
    k0_pay1 p a n s u w (ix2 ⟨264 + i.val, by omega⟩ k) = linWide X v W r k := by
  pointwise [k0_pay1]
  refine Finset.sum_congr rfl fun d _ => ?_
  have e : n (ix2 ⟨264 + i.val - 8 - 256, by omega⟩ d) = X r d :=
    (congrArg (fun j : Fin 8 => n (ix2 j d)) (Fin.ext (by dsimp only; omega))).trans (h d)
  rw [dif_neg (by omega), dif_neg (by omega), e, hs, hu, hw]
  rfl

omit hw in
/-- The scaled and moved rows. -/
theorem hid_at (i : Fin 256) (r : ℕ) (h : ∀ d : Fin 1024, a (ix2 i d) = X r d) (d : Fin 1024) : k0_pay2 a s u (ix2 i d) = hid X v r d := by
  pointwise [k0_pay2]
  rw [h, hs, hu]
  rfl

/-- The gate. -/
theorem gate_at (i : Fin 256) (r : ℕ) (h : ∀ d : Fin 1024, a (ix2 i d) = X r d) (k : Fin 1024) : k0_pay3 p a n s u w (ix2 i k) = lin X v W r k := by
  have e := mid_at (p := p) (n := n) hs hu hw i r h ⟨k.val, by omega⟩
  rw [linWide_lo _ _ _ _ _ (by dsimp only; omega)] at e
  pointwise [k0_pay3]
  refine Eq.trans ?_ e
  blk_ext

/-- The convolution's columns. -/
theorem xbc_at (i : Fin 256) (r : ℕ) (h : ∀ d : Fin 1024, a (ix2 i d) = X r d) (k : Fin 1280) :
    k0_pay4 p a n s u w (ix2 i k) = lin X v W r (1024 + k) := by
  have e := mid_at (p := p) (n := n) hs hu hw i r h ⟨1024 + k.val, by omega⟩
  rw [linWide_lo _ _ _ _ _ (by dsimp only; omega)] at e
  pointwise [k0_pay4]
  refine Eq.trans ?_ e
  blk_ext

/-- The step sizes. -/
theorem steps_at (i : Fin 256) (r : ℕ) (h : ∀ d : Fin 1024, a (ix2 i d) = X r d) (k : Fin 256) :
    k0_pay5 (k0_pay1 p a n s u w) (ix2 i k) = steps X v W r k := by
  have e := mid_at (p := p) (n := n) hs hu hw i r h ⟨2304 + k.val, by omega⟩
  rw [linWide_steps _ _ _ _ _ k.isLt] at e
  generalize k0_pay1 p a n s u w = z at e ⊢
  pointwise [k0_pay5]
  refine Eq.trans ?_ e
  blk_ext

/-- The pooling branch's columns. -/
theorem up_at (i : Fin 256) (r : ℕ) (h : ∀ d : Fin 1024, a (ix2 i d) = X r d) (k : Fin 1024) :
    k0_pay6 (k0_pay1 p a n s u w) (ix2 i k) = lin X v W r (2336 + k) := by
  have e := mid_at (p := p) (n := n) hs hu hw i r h ⟨2560 + k.val, by omega⟩
  rw [linWide_hi] at e
  generalize k0_pay1 p a n s u w = z at e ⊢
  pointwise [k0_pay6]
  refine Eq.trans ?_ e
  blk_ext

end projections

section convolution
variable {bb c0 c1 c2 c3 c4 : Vec Ideal S1x1280 .f32} {t0 t1 t2 t3 t4 : Vec Ideal S256x1280 .f32}
  (hb : ∀ k : Fin 1280, bb (ix2 0 k) = b k) (h0 : ∀ k : Fin 1280, c0 (ix2 0 k) = C 0 k) (h1 : ∀ k : Fin 1280, c1 (ix2 0 k) = C 1 k)
  (h2 : ∀ k : Fin 1280, c2 (ix2 0 k) = C 2 k) (h3 : ∀ k : Fin 1280, c3 (ix2 0 k) = C 3 k) (h4 : ∀ k : Fin 1280, c4 (ix2 0 k) = C 4 k)
  (e0 : ∀ (i : Fin 256) (k : Fin 1280), t0 (ix2 i k) = padded X v W (o + i) k)
  (e1 : ∀ (i : Fin 256) (k : Fin 1280), t1 (ix2 i k) = padded X v W (o + i + 1) k)
  (e2 : ∀ (i : Fin 256) (k : Fin 1280), t2 (ix2 i k) = padded X v W (o + i + 2) k)
  (e3 : ∀ (i : Fin 256) (k : Fin 1280), t3 (ix2 i k) = padded X v W (o + i + 3) k)
  (e4 : ∀ (i : Fin 256) (k : Fin 1280), t4 (ix2 i k) = padded X v W (o + i + 4) k)
include hb h0 h1 h2 h3 h4 e0 e1 e2 e3 e4

/-- The convolution. -/
theorem conv_at (i : Fin 256) (k : Fin 1280) :
    k0_pay12 (k0_pay10 bb) (k0_pay11 c0 t0) c1 t1 c2 t2 c3 t3 c4 t4 (ix2 i k) = conv X v W C b (o + i) k := by
  pointwise [k0_pay12, k0_pay10, k0_pay11]
  rw [hb, h0, h1, h2, h3, h4, e0, e1, e2, e3, e4]
  rfl

/-- What it is passed through. -/
theorem silu_at (i : Fin 256) (k : Fin 1280) :
    k0_pay13 (k0_pay10 bb) (k0_pay11 c0 t0) c1 t1 c2 t2 c3 t3 c4 t4 (ix2 i k) = silu (conv X v W C b (o + i) k) := by
  have e := conv_at hb h0 h1 h2 h3 h4 e0 e1 e2 e3 e4 i k
  pointwise [k0_pay13]
  rw [zero_sub, e]
  rfl

end convolution

end Cert.Inp

end
-- ==== Proof.Inp.Final.lean ====
module

public import proofs.«01_k».proof.Proof.Inp.Rows
public import proofs.«01_k».proof.Proof.Inp.Tile

@[expose] public section

set_option maxRecDepth 16384

/-!
# What the call of the input projections leaves

Its seven results, element by element, from the call's arguments.
-/

noncomputable section

namespace Cert.Inp

open Idealize.ShloMosaic Idealize.ShloMosaic.TcCoe Idealize.SL.Sem
open Idealize.ShloMosaic.Pipeline (Dat)
open Cert.Kernel4Ideal Cert.Kernel4Ideal.Gen Cert.InpSpec

variable {m : (ℓ : Loc nD τ sig) → Buf (Elt Ideal) ℓ} {c : Dev nD} {X v W C : ℕ → ℕ → EReal} {b : ℕ → EReal}

/-- The call's arguments on device `c`. -/
abbrev Args (m : (ℓ : Loc nD τ sig) → Buf (Elt Ideal) ℓ) (c : Dev nD) (X v W C : ℕ → ℕ → EReal) (b : ℕ → EReal) : Prop :=
  Holds (m ((c : Thread nD τ).loc main_arg0)) (m ((c : Thread nD τ).loc main_arg1)) (m ((c : Thread nD τ).loc main_arg2)) (m ((c : Thread nD τ).loc main_arg3))
    (m ((c : Thread nD τ).loc main_arg4)) X v W C b

theorem idxA : ∀ t : Fin cfg0.N, win0_0.index t = ![t.val, 0] ∧ win0_1.index t = ![32 * t.val - 1, 0] ∧ win0_2.index t = ![min (32 * t.val + 32) 2047, 0]
    ∧ win0_3.index t = ![0, 0] ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ t.val < 64 :=
  (by decide +kernel : ∀ t : Fin grid0.N, _)

theorem lt64 (t : Fin cfg0.N) : t.val < 64 := by
  have h := idxA t
  exact h.2.2.2.2.2.2.2.2.2.2.2.2.2

theorem blk0 (H : Args m c X v W C b) (t : Fin cfg0.N) (i : Fin 256) (d : Fin 1024) : iblk m c 0 t (ix2 i d) = X (256 * t.val + i) d := by
  have ht := lt64 t
  refine Eq.trans ?_ (H.x ⟨256 * t.val + i.val, by omega⟩ d)
  blk_point [iblk, V, idxA t]

/-- The eight rows before the tile. -/
theorem blk1 (H : Args m c X v W C b) (t : Fin cfg0.N) (h : 0 < t.val) (i : Fin 8) (d : Fin 1024) : iblk m c 1 t (ix2 i d) = X (256 * t.val + i - 8) d := by
  have ht := lt64 t
  have e : 256 * t.val + i.val - 8 = (32 * t.val - 1) * 8 + i.val := by omega
  refine Eq.trans ?_ (H.x ⟨256 * t.val + i.val - 8, by omega⟩ d)
  blk_point [iblk, V, idxA t]

/-- The eight rows after the tile. -/
theorem blk2 (H : Args m c X v W C b) (t : Fin cfg0.N) (h : t.val < 63) (i : Fin 8) (d : Fin 1024) : iblk m c 2 t (ix2 i d) = X (256 * t.val + 256 + i) d := by
  have ht := lt64 t
  have e : min (32 * t.val + 32) 2047 = 32 * t.val + 32 := by omega
  refine Eq.trans ?_ (H.x ⟨256 * t.val + 256 + i.val, by omega⟩ d)
  blk_point [iblk, V, idxA t]

theorem blk3 (H : Args m c X v W C b) (t : Fin cfg0.N) (i : Fin 16) (d : Fin 1024) : iblk m c 3 t (ix2 i d) = v i d := by
  refine Eq.trans ?_ (H.v i d)
  blk_point [iblk, V, idxA t]

theorem w_at (H : Args m c X v W C b) (d : Fin 1024) (k : Fin 3584) : V m c main_v6 (ix2 d k) = wide W d k := by
  have e := fun k => H.w d k
  after_reads_simp
  pointwise
  after_reads_simp
  pointwise
  have hk := k.isLt
  have r : wide W d k = if k.val < 2320 then W d k else if k.val < 2432 then 0 else if k.val < 2448 then W d (k - 112)
      else if k.val < 2560 then 0 else W d (k - 224) := rfl
  refine Eq.trans ?_ r.symm
  clear r
  by_cases h1 : k.val < 2304
  · refine (dif_pos h1).trans ?_
    exact (e ⟨k.val, by omega⟩).trans (if_pos (by omega)).symm
  refine (dif_neg h1).trans ?_
  by_cases h2 : k.val < 2320
  · refine (dif_pos (by omega)).trans ?_
    exact ((e ⟨2304 + (k.val - 2304), by omega⟩).trans (congrArg (W d) (show 2304 + (k.val - 2304) = k.val by omega))).trans (if_pos h2).symm
  refine (dif_neg (by omega)).trans ?_
  refine Eq.trans ?_ (if_neg h2).symm
  by_cases h3 : k.val < 2432
  · exact (dif_pos (by omega)).trans (if_pos h3).symm
  refine (dif_neg (by omega)).trans ?_
  refine Eq.trans ?_ (if_neg h3).symm
  by_cases h4 : k.val < 2448
  · refine (dif_pos (by omega)).trans ?_
    exact ((e ⟨2320 + (k.val - 2304 - 16 - 112), by omega⟩).trans
      (congrArg (W d) (show 2320 + (k.val - 2304 - 16 - 112) = k.val - 112 by omega))).trans (if_pos h4).symm
  refine (dif_neg (by omega)).trans ?_
  refine Eq.trans ?_ (if_neg h4).symm
  by_cases h5 : k.val < 2560
  · exact (dif_pos (by omega)).trans (if_pos h5).symm
  refine (dif_neg (by omega)).trans ?_
  exact ((e ⟨2336 + (k.val - 2304 - 16 - 112 - 16 - 112), by omega⟩).trans
    (congrArg (W d) (show 2336 + (k.val - 2304 - 16 - 112 - 16 - 112) = k.val - 224 by omega))).trans (if_neg h5).symm

theorem taps_at (H : Args m c X v W C b) (i : Fin 8) (k : Fin 1280) : V m c main_v9 (ix2 i k) = if i.val < 5 then C i k else if i.val = 5 then b k else 0 := by
  after_reads_simp
  pointwise
  after_reads_simp
  pointwise
  by_cases h : i.val < 5
  · rw [dif_pos h, if_pos h]
    exact H.c ⟨i.val, h⟩ k
  by_cases h' : i.val = 5
  · rw [dif_neg h, if_neg h, dif_pos (by omega), if_pos h']
    exact H.b k
  · rw [dif_neg h, if_neg h, dif_neg (by omega), if_neg h']

theorem blk4 (H : Args m c X v W C b) (t : Fin cfg0.N) (d : Fin 1024) (k : Fin 3584) : iblk m c 4 t (ix2 d k) = wide W d k := by
  refine Eq.trans ?_ (w_at H d k)
  blk_ext [iblk, idxA t]

theorem blk5 (H : Args m c X v W C b) (t : Fin cfg0.N) (i : Fin 8) (k : Fin 1280) : iblk m c 5 t (ix2 i k) = if i.val < 5 then C i k else if i.val = 5 then b k else 0 := by
  refine Eq.trans ?_ (taps_at H i k)
  blk_ext [iblk, idxA t]

theorem gateBlock_at (H : Args m c X v W C b) (t : Fin cfg0.N) (i : Fin 256) (k : Fin 1024) :
    (outsAt0 m c t).2.1 (ix2 i k) = lin X v W (256 * t.val + i) k := by
  unfold outsAt0
  frame_out
  exact gate_at (fun d => by pointwise; exact blk3 H t 1 d) (fun d => by pointwise; exact blk3 H t 0 d) (fun d k => by pointwise; exact blk4 H t d k)
    i _ (fun d => by pointwise; exact blk0 H t i d) k

/-- The first eight rows are kept only after the first tile. -/
theorem keptLo_at (t : Fin cfg0.N) (x : Vec Ideal S8x1280 .f32) (j : Fin 8) (k : Fin 1280) :
    k0_pay8 (BitVec.ofNat 32 ↑(grid0.coords t 0)) x (ix2 j k) = if 0 < t.val then x (ix2 j k) else 0 := by
  have c : (Scalar.cmpi .sgt (BitVec.ofNat 32 ↑(grid0.coords t 0)) 0#32 : BitVec 1) = if 0 < t.val then 1#1 else 0#1 :=
    (by decide +kernel : ∀ t : Fin grid0.N, (Scalar.cmpi .sgt (BitVec.ofNat 32 ↑(grid0.coords t 0)) 0#32 : BitVec 1) = if 0 < t.val then 1#1 else 0#1) t
  unfold k0_pay8
  simp only [c]
  by_cases h : 0 < t.val
  · simp only [if_pos h]
    pointwise
  · simp only [if_neg h]
    pointwise

/-- The last eight rows are kept only before the last tile. -/
theorem keptHi_at (t : Fin cfg0.N) (x : Vec Ideal S8x1280 .f32) (j : Fin 8) (k : Fin 1280) :
    k0_pay9 (BitVec.ofNat 32 ↑(grid0.coords t 0)) x (ix2 j k) = if t.val < 63 then x (ix2 j k) else 0 := by
  have c : (Scalar.cmpi .slt (BitVec.ofNat 32 ↑(grid0.coords t 0)) 63#32 : BitVec 1) = if t.val < 63 then 1#1 else 0#1 :=
    (by decide +kernel : ∀ t : Fin grid0.N, (Scalar.cmpi .slt (BitVec.ofNat 32 ↑(grid0.coords t 0)) 63#32 : BitVec 1) = if t.val < 63 then 1#1 else 0#1) t
  unfold k0_pay9
  simp only [c]
  by_cases h : t.val < 63
  · simp only [if_pos h]
    pointwise
  · simp only [if_neg h]
    pointwise

/-- Row `j` of the scratch of the convolution's columns. -/
theorem ext_at (H : Args m c X v W C b) (t : Fin cfg0.N) (s : ℕ) (hs : s + 256 ≤ 272) (hs' : 6 ≤ s)
    (inb : ∀ a, (![s, 0] : Fin 2 → ℕ) a + S256x1280.size a ≤ S272x1280.size a) (i : Fin 256) (k : Fin 1280)
    (P : Vec Ideal S272x3584 .f32) (hP : P = k0_pay1 (iblk m c 1 t) (iblk m c 0 t) (iblk m c 2 t)
      (View.ld (iblk m c 3 t) (Rect.unit ![1, 0] ![1, 1024] inb_S16x1024_S1x1024_1_0))
      (View.ld (iblk m c 3 t) (Rect.unit ![0, 0] ![1, 1024] inb_S16x1024_S1x1024_0_0)) (iblk m c 4 t)) :
    (View.whole cc0_scratch0).readCov (Val := Elt Ideal)
      [⟨Rect.unit (s := S272x1280) ![264, 0] S8x1280.size inb_S272x1280_S8x1280_264_0,
          k0_pay9 (F := Ideal) (BitVec.ofNat 32 ↑(grid0.coords t 0))
            ((View.whole cc0_scratch0).readCov (Val := Elt Ideal)
              [⟨Rect.unit (s := S272x1280) ![0, 0] S8x1280.size inb_S272x1280_S8x1280_0_0,
                  k0_pay8 (F := Ideal) (BitVec.ofNat 32 ↑(grid0.coords t 0))
                    ((View.whole cc0_scratch0).readCov (Val := Elt Ideal)
                      [⟨Rect.unit (s := S272x1280) ![0, 0] S272x1280.size inb_S272x1280_S272x1280_0_0, k0_pay7 (F := Ideal) P⟩]
                      (Rect.unit (s := S272x1280) ![0, 0] S8x1280.size inb_S272x1280_S8x1280_0_0).toLoadRect)⟩,
                ⟨Rect.unit (s := S272x1280) ![0, 0] S272x1280.size inb_S272x1280_S272x1280_0_0, k0_pay7 (F := Ideal) P⟩]
              (Rect.unit (s := S272x1280) ![264, 0] S8x1280.size inb_S272x1280_S8x1280_264_0).toLoadRect)⟩,
        ⟨Rect.unit (s := S272x1280) ![0, 0] S8x1280.size inb_S272x1280_S8x1280_0_0,
          k0_pay8 (F := Ideal) (BitVec.ofNat 32 ↑(grid0.coords t 0))
            ((View.whole cc0_scratch0).readCov (Val := Elt Ideal)
              [⟨Rect.unit (s := S272x1280) ![0, 0] S272x1280.size inb_S272x1280_S272x1280_0_0, k0_pay7 (F := Ideal) P⟩]
              (Rect.unit (s := S272x1280) ![0, 0] S8x1280.size inb_S272x1280_S8x1280_0_0).toLoadRect)⟩,
        ⟨Rect.unit (s := S272x1280) ![0, 0] S272x1280.size inb_S272x1280_S272x1280_0_0, k0_pay7 (F := Ideal) P⟩]
      (Rect.unit (s := S272x1280) ![s, 0] S256x1280.size inb).toLoadRect (ix2 i k) = padded X v W (256 * t.val + i + (s - 6)) k := by
  have ht := lt64 t
  have hsl : ∀ d : Fin 1024, View.ld (iblk m c 3 t) (Rect.unit ![1, 0] ![1, 1024] inb_S16x1024_S1x1024_1_0) (ix2 (0 : Fin 1) d) = v 1 d :=
    fun d => by pointwise; exact blk3 H t 1 d
  have hul : ∀ d : Fin 1024, View.ld (iblk m c 3 t) (Rect.unit ![0, 0] ![1, 1024] inb_S16x1024_S1x1024_0_0) (ix2 (0 : Fin 1) d) = v 0 d :=
    fun d => by pointwise; exact blk3 H t 0 d
  have hw : ∀ (d : Fin 1024) (k : Fin 3584), iblk m c 4 t (ix2 d k) = wide W d k := blk4 H t
  refine (Cert.Rows.edges_at (View.whole cc0_scratch0) _ _ _ (fun j k => padded X v W (256 * t.val + j - 6) k) ?_ ?_ ?_ _ _ _ s hs inb i k).trans
    (congrArg (fun r => padded X v W r k) (by omega))
  · intro j k
    refine (keptHi_at t _ j k).trans ?_
    by_cases h : t.val < 63
    · refine (if_pos h).trans ((Cert.Rows.last_at _ _ _ _ _ _ j k).trans ?_)
      rw [hP]
      have e := hi_at (p := iblk m c 1 t) (a := iblk m c 0 t) hsl hul hw j _ (blk2 H t h j) ⟨1024 + k, by omega⟩
      pointwise [k0_pay7]
      refine Eq.trans ?_ (e.trans ?_)
      · blk_ext
      · refine (linWide_lo X v W _ _ (by dsimp only; omega)).trans ?_
        unfold padded
        rw [if_pos (by omega)]
        exact congrArg (fun r => lin X v W r (1024 + k)) (by omega)
    · refine (if_neg h).trans ?_
      unfold padded
      rw [if_neg (by omega)]
  · intro j k
    refine (keptLo_at t _ j k).trans ?_
    by_cases h : 0 < t.val
    · refine (if_pos h).trans ((Cert.Rows.first_at _ _ _ _ j k).trans ?_)
      rw [hP]
      have e := lo_at (a := iblk m c 0 t) (n := iblk m c 2 t) hsl hul hw j _ (blk1 H t h j) ⟨1024 + k, by omega⟩
      pointwise [k0_pay7]
      refine Eq.trans ?_ (e.trans ?_)
      · blk_ext
      · refine (linWide_lo X v W _ _ (by dsimp only; omega)).trans ?_
        unfold padded
        rw [if_pos (by omega)]
        exact congrArg (fun r => lin X v W r (1024 + k)) (by omega)
    · refine (if_neg h).trans ?_
      unfold padded
      rw [if_neg (by omega)]
  · intro j k
    rw [hP]
    have e := mid_at (p := iblk m c 1 t) (n := iblk m c 2 t) hsl hul hw j _ (blk0 H t j) ⟨1024 + k, by omega⟩
    pointwise [k0_pay7]
    refine Eq.trans ?_ (e.trans ?_)
    · blk_ext
    · refine (linWide_lo X v W _ _ (by dsimp only; omega)).trans ?_
      unfold padded
      rw [if_pos (by omega)]
      exact congrArg (fun r => lin X v W r (1024 + k)) (by omega)

theorem convBlock_at (H : Args m c X v W C b) (t : Fin cfg0.N) (i : Fin 256) (k : Fin 1280) :
    (outsAt0 m c t).2.2.2.1 (ix2 i k) = conv X v W C b (256 * t.val + i) k := by
  unfold outsAt0
  frame_out
  refine conv_at (X := X) (v := v) (W := W) (C := C) (b := b) (o := 256 * t.val) ?_ ?_ ?_ ?_ ?_ ?_ ?_ ?_ ?_ ?_ ?_ i k
  · exact fun k => by pointwise; exact blk5 H t 5 k
  · exact fun k => by pointwise; exact blk5 H t 0 k
  · exact fun k => by pointwise; exact blk5 H t 1 k
  · exact fun k => by pointwise; exact blk5 H t 2 k
  · exact fun k => by pointwise; exact blk5 H t 3 k
  · exact fun k => by pointwise; exact blk5 H t 4 k
  · exact fun i k => ext_at H t 6 (by omega) (by omega) _ i k _ rfl
  · exact fun i k => ext_at H t 7 (by omega) (by omega) _ i k _ rfl
  · exact fun i k => ext_at H t 8 (by omega) (by omega) _ i k _ rfl
  · exact fun i k => ext_at H t 9 (by omega) (by omega) _ i k _ rfl
  · exact fun i k => ext_at H t 10 (by omega) (by omega) _ i k _ rfl

theorem siluBlock_at (H : Args m c X v W C b) (t : Fin cfg0.N) (i : Fin 256) (k : Fin 1280) :
    (outsAt0 m c t).2.2.2.2.1 (ix2 i k) = silu (conv X v W C b (256 * t.val + i) k) := by
  unfold outsAt0
  frame_out
  refine silu_at (X := X) (v := v) (W := W) (C := C) (b := b) (o := 256 * t.val) ?_ ?_ ?_ ?_ ?_ ?_ ?_ ?_ ?_ ?_ ?_ i k
  · exact fun k => by pointwise; exact blk5 H t 5 k
  · exact fun k => by pointwise; exact blk5 H t 0 k
  · exact fun k => by pointwise; exact blk5 H t 1 k
  · exact fun k => by pointwise; exact blk5 H t 2 k
  · exact fun k => by pointwise; exact blk5 H t 3 k
  · exact fun k => by pointwise; exact blk5 H t 4 k
  · exact fun i k => ext_at H t 6 (by omega) (by omega) _ i k _ rfl
  · exact fun i k => ext_at H t 7 (by omega) (by omega) _ i k _ rfl
  · exact fun i k => ext_at H t 8 (by omega) (by omega) _ i k _ rfl
  · exact fun i k => ext_at H t 9 (by omega) (by omega) _ i k _ rfl
  · exact fun i k => ext_at H t 10 (by omega) (by omega) _ i k _ rfl

theorem hidBlock_at (H : Args m c X v W C b) (t : Fin cfg0.N) (i : Fin 256) (d : Fin 1024) :
    (outsAt0 m c t).1 (ix2 i d) = hid X v (256 * t.val + i) d := by
  unfold outsAt0
  frame_out
  exact hid_at (fun d => by pointwise; exact blk3 H t 1 d) (fun d => by pointwise; exact blk3 H t 0 d) i _ (fun d => by pointwise; exact blk0 H t i d) d

theorem colsBlock_at (H : Args m c X v W C b) (t : Fin cfg0.N) (i : Fin 256) (k : Fin 1280) :
    (outsAt0 m c t).2.2.1 (ix2 i k) = lin X v W (256 * t.val + i) (1024 + k) := by
  unfold outsAt0
  frame_out
  exact xbc_at (fun d => by pointwise; exact blk3 H t 1 d) (fun d => by pointwise; exact blk3 H t 0 d)
    (fun d k => by pointwise; exact blk4 H t d k) i _ (fun d => by pointwise; exact blk0 H t i d) k

theorem stepsBlock_at (H : Args m c X v W C b) (t : Fin cfg0.N) (i : Fin 256) (k : Fin 256) :
    (outsAt0 m c t).2.2.2.2.2.1 (ix2 i k) = steps X v W (256 * t.val + i) k := by
  unfold outsAt0
  frame_out
  exact steps_at (fun d => by pointwise; exact blk3 H t 1 d) (fun d => by pointwise; exact blk3 H t 0 d)
    (fun d k => by pointwise; exact blk4 H t d k) i _ (fun d => by pointwise; exact blk0 H t i d) k

theorem poolBlock_at (H : Args m c X v W C b) (t : Fin cfg0.N) (i : Fin 256) (k : Fin 1024) :
    (outsAt0 m c t).2.2.2.2.2.2 (ix2 i k) = lin X v W (256 * t.val + i) (2336 + k) := by
  unfold outsAt0
  frame_out
  exact up_at (fun d => by pointwise; exact blk3 H t 1 d) (fun d => by pointwise; exact blk3 H t 0 d)
    (fun d k => by pointwise; exact blk4 H t d k) i _ (fun d => by pointwise; exact blk0 H t i d) k

/-- The scaled and moved rows. -/
theorem final_hid (H : Args m c X v W C b) : (dats m 0 c).arrAt 6 cfg0.N = fun i => hid X v (i 0).val (i 1).val := by
  refine (dats m 0 c).arrAt_eq_of_covers 6 _ (by decide +kernel) fun t _ y => ?_
  blk_simp [idxA t]
  rw [after0_6]
  have e : y = (ix2 (y 0 : Fin 256) (y 1 : Fin 1024) : S256x1024.Idx) := by blk_ext
  rw [e]
  refine (hidBlock_at H t (y 0) (y 1)).trans ?_
  rw [Nat.mul_comm 256 t.val]
  rfl

/-- The gate. -/
theorem final_gate (H : Args m c X v W C b) : (dats m 0 c).arrAt 7 cfg0.N = fun i => lin X v W (i 0).val (i 1).val := by
  refine (dats m 0 c).arrAt_eq_of_covers 7 _ (by decide +kernel) fun t _ y => ?_
  blk_simp [idxA t]
  rw [after0_7]
  have e : y = (ix2 (y 0 : Fin 256) (y 1 : Fin 1024) : S256x1024.Idx) := by blk_ext
  rw [e]
  refine (gateBlock_at H t (y 0) (y 1)).trans ?_
  rw [Nat.mul_comm 256 t.val]
  rfl

/-- The convolution's columns. -/
theorem final_cols (H : Args m c X v W C b) : (dats m 0 c).arrAt 8 cfg0.N = fun i => lin X v W (i 0).val (1024 + (i 1).val) := by
  refine (dats m 0 c).arrAt_eq_of_covers 8 _ (by decide +kernel) fun t _ y => ?_
  blk_simp [idxA t]
  rw [after0_8]
  have e : y = (ix2 (y 0 : Fin 256) (y 1 : Fin 1280) : S256x1280.Idx) := by blk_ext
  rw [e]
  refine (colsBlock_at H t (y 0) (y 1)).trans ?_
  rw [Nat.mul_comm 256 t.val]
  rfl

/-- The convolution. -/
theorem final_conv (H : Args m c X v W C b) : (dats m 0 c).arrAt 9 cfg0.N = fun i => conv X v W C b (i 0).val (i 1).val := by
  refine (dats m 0 c).arrAt_eq_of_covers 9 _ (by decide +kernel) fun t _ y => ?_
  blk_simp [idxA t]
  rw [after0_9]
  have e : y = (ix2 (y 0 : Fin 256) (y 1 : Fin 1280) : S256x1280.Idx) := by blk_ext
  rw [e]
  refine (convBlock_at H t (y 0) (y 1)).trans ?_
  rw [Nat.mul_comm 256 t.val]
  rfl

/-- What the convolution is passed through. -/
theorem final_silu (H : Args m c X v W C b) : (dats m 0 c).arrAt 10 cfg0.N = fun i => silu (conv X v W C b (i 0).val (i 1).val) := by
  refine (dats m 0 c).arrAt_eq_of_covers 10 _ (by decide +kernel) fun t _ y => ?_
  blk_simp [idxA t]
  rw [after0_10]
  have e : y = (ix2 (y 0 : Fin 256) (y 1 : Fin 1280) : S256x1280.Idx) := by blk_ext
  rw [e]
  refine (siluBlock_at H t (y 0) (y 1)).trans ?_
  rw [Nat.mul_comm 256 t.val]
  rfl

/-- The columns of the step sizes. -/
theorem final_steps (H : Args m c X v W C b) : (dats m 0 c).arrAt 11 cfg0.N = fun i => steps X v W (i 0).val (i 1).val := by
  refine (dats m 0 c).arrAt_eq_of_covers 11 _ (by decide +kernel) fun t _ y => ?_
  blk_simp [idxA t]
  rw [after0_11]
  have e : y = (ix2 (y 0 : Fin 256) (y 1 : Fin 256) : S256x256.Idx) := by blk_ext
  rw [e]
  refine (stepsBlock_at H t (y 0) (y 1)).trans ?_
  rw [Nat.mul_comm 256 t.val]
  rfl

/-- The pooling branch. -/
theorem final_pool (H : Args m c X v W C b) : (dats m 0 c).arrAt 12 cfg0.N = fun i => lin X v W (i 0).val (2336 + (i 1).val) := by
  refine (dats m 0 c).arrAt_eq_of_covers 12 _ (by decide +kernel) fun t _ y => ?_
  blk_simp [idxA t]
  rw [after0_12]
  have e : y = (ix2 (y 0 : Fin 256) (y 1 : Fin 1024) : S256x1024.Idx) := by blk_ext
  rw [e]
  refine (poolBlock_at H t (y 0) (y 1)).trans ?_
  rw [Nat.mul_comm 256 t.val]
  rfl

end Cert.Inp

end
-- ==== Proof.Inp.RefRead.lean ====
module

public import proofs.«01_k».proof.Proof.Inp.Spec
public import proofs.«01_k».proof.Proof.Gen.Reference4Ideal.Run
public import Idealize.ShloMosaic.Lib.Pointwise

@[expose] public section

set_option maxRecDepth 16384

/-!
# The fourth reference's results, read at an index

The reference scales and moves the rows, multiplies with the matrix, cuts the product into its parts, and runs the
convolution as a sum of five shifted products over the padded rows.
-/

noncomputable section

namespace Cert.InpRef

open Idealize.ShloMosaic Idealize.ShloMosaic.TcCoe Idealize.SL.Sem Idealize.ShloMosaic.StableHlo
open Cert.Reference4Ideal Cert.Reference4Ideal.Gen Cert.Reference4Ideal.Value Cert.InpSpec

variable {a0 : FVec Ideal S16384x1024 .f32} {a1 : FVec Ideal S16x1024 .f32} {a2 : FVec Ideal S1024x3360 .f32} {a3 : FVec Ideal S5x1280 .f32}
  {a4 : FVec Ideal S1280 .f32} {X v W C : ℕ → ℕ → EReal} {b : ℕ → EReal}

/-- The scaled and moved rows. -/
def hidR (a0 : FVec Ideal S16384x1024 .f32) (a1 : FVec Ideal S16x1024 .f32) : FVec Ideal S16384x1024 .f32 :=
  (addf (mulf a0 (broadcastInDim S16384x1024 ![0, 1] bcast_S1x1024_S16384x1024_0_1 (broadcastInDim S1x1024 ![1] bcast_S1024_S1x1024_1 (addf (broadcastInDim S1024 ![] bcast_S_S1024 (constant S_ .f32 0x3F800000#32)) (shapeCast _ (extractStridedSlice S1x1024 ![1, 0] a1 slices_S16x1024_S1x1024_1_0) shapeCasts_S1x1024_S1024))))) (broadcastInDim S16384x1024 ![0, 1] bcast_S1x1024_S16384x1024_0_1 (broadcastInDim S1x1024 ![1] bcast_S1024_S1x1024_1 (shapeCast _ (extractStridedSlice S1x1024 ![0, 0] a1 slices_S16x1024_S1x1024_0_0) shapeCasts_S1x1024_S1024))))

/-- Their product with the matrix. -/
def linR (a0 : FVec Ideal S16384x1024 .f32) (a1 : FVec Ideal S16x1024 .f32) (a2 : FVec Ideal S1024x3360 .f32) : FVec Ideal S16384x3360 .f32 :=
  Host.dotGeneral (φ₁ := .f32) (φ₂ := .f32) dot_S16384x1024_S1024x3360_S16384x3360_1_0_0_1_n_n none (hidR a0 a1) a2

/-- The convolution's columns between two rows of zeros. -/
def padR (l : FVec Ideal S16384x3360 .f32) : FVec Ideal S16388x1280 .f32 :=
  pad S16388x1280 ![2, 0] ![2, 0] ![0, 0] (extractStridedSlice S16384x1280 ![0, 1024] l slices_S16384x3360_S16384x1280_0_1024) (sitofp .f32 (constantI S_ 32 0#32)) pads_S16384x1280_S16388x1280_220_000 h_S_

/-- The convolution. -/
def convR (a3 : FVec Ideal S5x1280 .f32) (a4 : FVec Ideal S1280 .f32) (p : FVec Ideal S16388x1280 .f32) : FVec Ideal S16384x1280 .f32 :=
  addf (addf (addf (addf (addf (addf (broadcastInDim S16384x1280 ![] bcast_S_S16384x1280 (constant S_ .f32 0x00000000#32)) (mulf (broadcastInDim S16384x1280 ![0, 1] bcast_S1x1280_S16384x1280_0_1 (broadcastInDim S1x1280 ![1] bcast_S1280_S1x1280_1 (shapeCast _ (extractStridedSlice S1x1280 ![0, 0] a3 slices_S5x1280_S1x1280_0_0) shapeCasts_S1x1280_S1280))) (extractStridedSlice S16384x1280 ![0, 0] p slices_S16388x1280_S16384x1280_0_0))) (mulf (broadcastInDim S16384x1280 ![0, 1] bcast_S1x1280_S16384x1280_0_1 (broadcastInDim S1x1280 ![1] bcast_S1280_S1x1280_1 (shapeCast _ (extractStridedSlice S1x1280 ![1, 0] a3 slices_S5x1280_S1x1280_1_0) shapeCasts_S1x1280_S1280))) (extractStridedSlice S16384x1280 ![1, 0] p slices_S16388x1280_S16384x1280_1_0))) (mulf (broadcastInDim S16384x1280 ![0, 1] bcast_S1x1280_S16384x1280_0_1 (broadcastInDim S1x1280 ![1] bcast_S1280_S1x1280_1 (shapeCast _ (extractStridedSlice S1x1280 ![2, 0] a3 slices_S5x1280_S1x1280_2_0) shapeCasts_S1x1280_S1280))) (extractStridedSlice S16384x1280 ![2, 0] p slices_S16388x1280_S16384x1280_2_0))) (mulf (broadcastInDim S16384x1280 ![0, 1] bcast_S1x1280_S16384x1280_0_1 (broadcastInDim S1x1280 ![1] bcast_S1280_S1x1280_1 (shapeCast _ (extractStridedSlice S1x1280 ![3, 0] a3 slices_S5x1280_S1x1280_3_0) shapeCasts_S1x1280_S1280))) (extractStridedSlice S16384x1280 ![3, 0] p slices_S16388x1280_S16384x1280_3_0))) (mulf (broadcastInDim S16384x1280 ![0, 1] bcast_S1x1280_S16384x1280_0_1 (broadcastInDim S1x1280 ![1] bcast_S1280_S1x1280_1 (shapeCast _ (extractStridedSlice S1x1280 ![4, 0] a3 slices_S5x1280_S1x1280_4_0) shapeCasts_S1x1280_S1280))) (extractStridedSlice S16384x1280 ![4, 0] p slices_S16388x1280_S16384x1280_4_0))) (broadcastInDim S16384x1280 ![0, 1] bcast_S1x1280_S16384x1280_0_1 (broadcastInDim S1x1280 ![1] bcast_S1280_S1x1280_1 a4))

theorem hidR_at (H : Holds a0 a1 a2 a3 a4 X v W C b) (r : Fin 16384) (d : Fin 1024) : hidR a0 a1 (ix2 r d) = hid X v r d := by
  pointwise [hidR]
  exact congrArg₂ (· + ·) (congrArg₂ (· * ·) (H.x r d) (congrArg (fun z : EReal => 1 + z) (H.v 1 d))) (H.v 0 d)

theorem linR_at (H : Holds a0 a1 a2 a3 a4 X v W C b) (r : Fin 16384) (k : Fin 3360) : linR a0 a1 a2 (ix2 r k) = lin X v W r k := by
  have e := fun d => hidR_at H r d
  have e' := fun d => H.w d k
  unfold linR
  generalize hidR a0 a1 = h at e ⊢
  pointwise
  exact Finset.sum_congr rfl fun d _ => by rw [e, e']

theorem gate_at (H : Holds a0 a1 a2 a3 a4 X v W C b) (r : Fin 16384) (k : Fin 1024) :
    extractStridedSlice S16384x1024 ![0, 0] (linR a0 a1 a2) slices_S16384x3360_S16384x1024_0_0 (ix2 r k) = lin X v W r k := by
  have e := fun k => linR_at H r k
  generalize linR a0 a1 a2 = l at e ⊢
  pointwise
  exact e ⟨k, by omega⟩

theorem cols_at (H : Holds a0 a1 a2 a3 a4 X v W C b) (r : Fin 16384) (k : Fin 1280) :
    extractStridedSlice S16384x1280 ![0, 1024] (linR a0 a1 a2) slices_S16384x3360_S16384x1280_0_1024 (ix2 r k) = lin X v W r (1024 + k) := by
  have e := fun k => linR_at H r k
  generalize linR a0 a1 a2 = l at e ⊢
  pointwise
  exact e ⟨1024 + k, by omega⟩

theorem pool_at (H : Holds a0 a1 a2 a3 a4 X v W C b) (r : Fin 16384) (k : Fin 1024) :
    extractStridedSlice S16384x1024 ![0, 2336] (linR a0 a1 a2) slices_S16384x3360_S16384x1024_0_2336 (ix2 r k) = lin X v W r (2336 + k) := by
  have e := fun k => linR_at H r k
  generalize linR a0 a1 a2 = l at e ⊢
  pointwise
  exact e ⟨2336 + k, by omega⟩

/-- The two halves of the step sizes' columns, each followed by zeros. -/
def stepsR (l : FVec Ideal S16384x3360 .f32) : FVec Ideal S16384x256 .f32 :=
  concatenate S16384x256 1 [⟨S16384x16, ((extractStridedSlice S16384x16 ![0, 0] (extractStridedSlice S16384x32 ![0, 2304] l slices_S16384x3360_S16384x32_0_2304) slices_S16384x32_S16384x16_0_0) : (⟨S16384x16, .f32⟩ : BufTy).Contents (Elt Ideal))⟩, ⟨S16384x112, ((broadcastInDim S16384x112 ![] bcast_S_S16384x112 (constant (F := Ideal) S_ .f32 0x00000000#32)) : (⟨S16384x112, .f32⟩ : BufTy).Contents (Elt Ideal))⟩, ⟨S16384x16, ((extractStridedSlice S16384x16 ![0, 16] (extractStridedSlice S16384x32 ![0, 2304] l slices_S16384x3360_S16384x32_0_2304) slices_S16384x32_S16384x16_0_16) : (⟨S16384x16, .f32⟩ : BufTy).Contents (Elt Ideal))⟩, ⟨S16384x112, ((broadcastInDim S16384x112 ![] bcast_S_S16384x112 (constant (F := Ideal) S_ .f32 0x00000000#32)) : (⟨S16384x112, .f32⟩ : BufTy).Contents (Elt Ideal))⟩] concatenates_S16384x16_S16384x112_S16384x16_S16384x112_S16384x256_d1

theorem steps_at (H : Holds a0 a1 a2 a3 a4 X v W C b) (r : Fin 16384) (k : Fin 256) : stepsR (linR a0 a1 a2) (ix2 r k) = steps X v W r k := by
  have e := fun k => linR_at H r k
  have s : steps X v W r k = if k.val < 16 then lin X v W r (2304 + k) else if k.val < 128 then 0 else if k.val < 144 then lin X v W r (2192 + k) else 0 := rfl
  refine Eq.trans ?_ s.symm
  clear s
  generalize linR a0 a1 a2 = l at e ⊢
  pointwise [stepsR]
  have hk := k.isLt
  by_cases h1 : k.val < 16
  · exact ((dif_pos h1).trans (e ⟨2304 + k.val, by omega⟩)).trans (if_pos h1).symm
  refine (dif_neg h1).trans (Eq.trans ?_ (if_neg h1).symm)
  by_cases h2 : k.val < 128
  · exact (dif_pos (by omega)).trans (if_pos h2).symm
  refine (dif_neg (by omega)).trans (Eq.trans ?_ (if_neg h2).symm)
  by_cases h3 : k.val < 144
  · refine (dif_pos (by omega)).trans (Eq.trans ?_ (if_pos h3).symm)
    exact (congrArg (fun k => l (ix2 r k)) (Fin.ext (by dsimp only; omega))).trans (e ⟨2192 + k.val, by omega⟩)
  · exact (dif_neg (by omega)).trans (if_neg h3).symm

theorem padR_at (H : Holds a0 a1 a2 a3 a4 X v W C b) (s : Fin 16388) (k : Fin 1280) : padR (linR a0 a1 a2) (ix2 s k) = padded X v W s k := by
  have e := fun r => cols_at H r k
  unfold padded padR
  generalize extractStridedSlice S16384x1280 ![0, 1024] (linR a0 a1 a2) slices_S16384x3360_S16384x1280_0_1024 = l at e ⊢
  pointwise
  by_cases h : 2 ≤ s.val ∧ s.val < 16386
  · rw [dif_pos (by omega), if_pos h]
    exact e ⟨s.val - 2, by omega⟩
  · rw [dif_neg (by omega), if_neg h]
    exact (congrArg (fun z : ℝ => (z : EReal)) (by norm_num : (((0#32 : BitVec 32).toInt : ℝ)) = 0)).trans EReal.coe_zero

theorem conv_at (H : Holds a0 a1 a2 a3 a4 X v W C b) (r : Fin 16384) (k : Fin 1280) :
    convR a3 a4 (padR (linR a0 a1 a2)) (ix2 r k) = conv X v W C b r k := by
  have e := fun s => padR_at H s k
  have c := fun i => H.c i k
  have eb := H.b k
  generalize padR (linR a0 a1 a2) = p at e ⊢
  pointwise [convR]
  rw [c, c, c, c, c, e, e, e, e, e, eb]
  show C 0 k * padded X v W r k + C 1 k * padded X v W (1 + r.val) k + C 2 k * padded X v W (2 + r.val) k + C 3 k * padded X v W (3 + r.val) k
    + C 4 k * padded X v W (4 + r.val) k + b k = conv X v W C b r k
  rw [add_comm 1 r.val, add_comm 2 r.val, add_comm 3 r.val, add_comm 4 r.val, add_comm _ (b k)]
  unfold conv
  rw [add_assoc, add_assoc, add_assoc, add_assoc, ← add_assoc (b k), ← add_assoc, ← add_assoc, ← add_assoc]

/-- What the convolution is passed through. -/
theorem silu_at (H : Holds a0 a1 a2 a3 a4 X v W C b) (r : Fin 16384) (k : Fin 1280) :
    mulf (convR a3 a4 (padR (linR a0 a1 a2))) (Host.divf (broadcastInDim S16384x1280 ![] bcast_S_S16384x1280 (constant S_ .f32 0x3F800000#32)) (addf (broadcastInDim S16384x1280 ![] bcast_S_S16384x1280 (constant S_ .f32 0x3F800000#32)) (Host.exp (Host.negf (convR a3 a4 (padR (linR a0 a1 a2))))))) (ix2 r k)
      = silu (conv X v W C b r k) := by
  have e := conv_at H r k
  generalize convR a3 a4 (padR (linR a0 a1 a2)) = p at e ⊢
  pointwise
  rw [e]
  rfl

end Cert.InpRef

end
-- ==== Proof.Inb.Spec.lean ====
module

public import proofs.«01_k».proof.Proof.Fwd.Spec

@[expose] public section

set_option maxRecDepth 16384

/-!
# The gradients of the input projection, over the real numbers

A row of `X` is normalised, scaled and moved twice, and multiplied with the matrix `W` of 3360 columns; 1280 of the columns
run through a convolution along the rows with five taps `C`.  `dproj` is the gradient in the product's columns: `Z` for the
gate, the convolution of `P` with the taps in reverse, `T` for the step sizes, and `U` for the pooling branch.  The kernel
lays the columns out in 3584 (`widen`): 112 columns of zeros after each 16 columns of the step sizes.
-/

noncomputable section

namespace Cert.InbSpec

open Idealize.ShloMosaic Finset
open Cert.FfnSpec (sum_coe)
open Cert.FwdSpec

/-- Columns laid out with zeros after each 16 of the step sizes. -/
def widen (f : ℕ → ℝ) (k : ℕ) : ℝ :=
  if k < 2320 then f k else if k < 2432 then 0 else if k < 2448 then f (k - 112) else if k < 2560 then 0 else f (k - 224)

/-- The zeros add nothing to a product. -/
theorem sum_widen (f g : ℕ → ℝ) : ∑ k ∈ range 3584, widen f k * widen g k = ∑ k ∈ range 3360, f k * g k := by
  have a : ∀ k ∈ range 2320, widen f k * widen g k = f k * g k := fun k h => by
    have h := mem_range.mp h
    unfold widen
    rw [if_pos h, if_pos h]
  have b : ∀ k ∈ range 112, widen f (2320 + k) * widen g (2320 + k) = 0 := fun k h => by
    have h := mem_range.mp h
    unfold widen
    rw [if_neg (by omega), if_pos (by omega), zero_mul]
  have c : ∀ k ∈ range 16, widen f (2432 + k) * widen g (2432 + k) = f (2320 + k) * g (2320 + k) := fun k h => by
    have h := mem_range.mp h
    unfold widen
    rw [if_neg (by omega), if_neg (by omega), if_pos (by omega), if_neg (by omega), if_neg (by omega), if_pos (by omega),
      show 2432 + k - 112 = 2320 + k by omega]
  have d : ∀ k ∈ range 112, widen f (2448 + k) * widen g (2448 + k) = 0 := fun k h => by
    have h := mem_range.mp h
    unfold widen
    rw [if_neg (by omega), if_neg (by omega), if_neg (by omega), if_pos (by omega), zero_mul]
  have e : ∀ k ∈ range 1024, widen f (2560 + k) * widen g (2560 + k) = f (2336 + k) * g (2336 + k) := fun k h => by
    have h := mem_range.mp h
    unfold widen
    rw [if_neg (by omega), if_neg (by omega), if_neg (by omega), if_neg (by omega), if_neg (by omega), if_neg (by omega),
      if_neg (by omega), if_neg (by omega), show 2560 + k - 224 = 2336 + k by omega]
  rw [show 3584 = 2320 + 112 + 16 + 112 + 1024 from rfl, show 3360 = 2320 + 16 + 1024 from rfl]
  simp only [Finset.sum_range_add]
  rw [Finset.sum_congr rfl a, Finset.sum_congr rfl b, Finset.sum_congr rfl c, Finset.sum_congr rfl d, Finset.sum_congr rfl e]
  simp

variable (P C Z T U E X v W : ℕ → ℕ → ℝ)

/-- The convolution's cotangent, two rows of zeros before the first row and after the last. -/
def edge (s k : ℕ) : ℝ := if 2 ≤ s ∧ s < 16386 then P (s - 2) k else 0

/-- The convolution with the taps in reverse. -/
def dconv (r k : ℕ) : ℝ :=
  C 0 k * edge P (r + 4) k + C 1 k * edge P (r + 3) k + C 2 k * edge P (r + 2) k + C 3 k * edge P (r + 1) k + C 4 k * edge P r k

/-- The gradient in the product's columns. -/
def dproj (r k : ℕ) : ℝ :=
  if k < 1024 then Z r k else if k < 2304 then dconv P C r (k - 1024) else if k < 2336 then T r (k - 2304) else U r (k - 2336)

/-- The gradient in the columns, as the kernel puts them together. -/
theorem widen_dproj (r k : ℕ) : widen (dproj P C Z T U r) k = if k < 1024 then Z r k else if k - 1024 < 1280 then dconv P C r (k - 1024)
    else if k - 1024 - 1280 < 128 then (if k - 1024 - 1280 < 16 then T r (k - 1024 - 1280) else 0)
    else if k - 1024 - 1280 - 128 < 128 then (if k - 1024 - 1280 - 128 < 16 then T r (16 + (k - 1024 - 1280 - 128)) else 0)
    else U r (k - 1024 - 1280 - 128 - 128) := by
  unfold widen dproj
  by_cases a1 : k < 1024
  · rw [if_pos (show k < 2320 by omega), if_pos a1, if_pos a1]
  rw [if_neg a1]
  by_cases a2 : k < 2304
  · rw [if_pos (show k < 2320 by omega), if_neg a1, if_pos a2, if_pos (show k - 1024 < 1280 by omega)]
  rw [if_neg (show ¬ k - 1024 < 1280 by omega)]
  by_cases a3 : k < 2320
  · rw [if_pos a3, if_neg a1, if_neg a2, if_pos (show k < 2336 by omega), if_pos (show k - 1024 - 1280 < 128 by omega),
      if_pos (show k - 1024 - 1280 < 16 by omega), show k - 1024 - 1280 = k - 2304 by omega]
  rw [if_neg a3, if_neg a1]
  by_cases a4 : k < 2432
  · rw [if_pos a4, if_pos (show k - 1024 - 1280 < 128 by omega), if_neg (show ¬ k - 1024 - 1280 < 16 by omega)]
  rw [if_neg a4, if_neg (show ¬ k - 1024 - 1280 < 128 by omega)]
  by_cases a5 : k < 2448
  · rw [if_pos a5, if_neg (show ¬ k - 112 < 1024 by omega), if_neg (show ¬ k - 112 < 2304 by omega), if_pos (show k - 112 < 2336 by omega),
      if_pos (show k - 1024 - 1280 - 128 < 128 by omega), if_pos (show k - 1024 - 1280 - 128 < 16 by omega),
      show 16 + (k - 1024 - 1280 - 128) = k - 112 - 2304 by omega]
  rw [if_neg a5]
  by_cases a6 : k < 2560
  · rw [if_pos a6, if_pos (show k - 1024 - 1280 - 128 < 128 by omega), if_neg (show ¬ k - 1024 - 1280 - 128 < 16 by omega)]
  rw [if_neg a6, if_neg (show ¬ k - 224 < 1024 by omega), if_neg (show ¬ k - 224 < 2304 by omega), if_neg (show ¬ k - 224 < 2336 by omega),
    if_neg (show ¬ k - 1024 - 1280 - 128 < 128 by omega), show k - 1024 - 1280 - 128 - 128 = k - 224 - 2336 by omega]

/-- The row that is multiplied with the matrix. -/
def hid (r d : ℕ) : ℝ := (nrm (X r) d * v 6 d + v 7 d) * (1 + v 1 d) + v 0 d

/-- The gradient in that row. -/
def dhid (r d : ℕ) : ℝ := ∑ k ∈ range 3360, dproj P C Z T U r k * W d k

/-- The gradient in the row before its scale and shift, times the gain of the normalisation. -/
def dgain (r d : ℕ) : ℝ := (E r d + dhid P C Z T U W r d * (1 + v 1 d)) * v 6 d

/-- The gradient through the normalisation of a row `p`, from `a`. -/
def through (p a : ℕ → ℝ) (d : ℕ) : ℝ := rs p * (a d - mean a - nrm p d * mean fun e => a e * nrm p e)

/-- The gradient in the matrix over the first `n` rows. -/
def dW (n d k : ℕ) : ℝ := ∑ r ∈ range n, hid X v r d * dproj P C Z T U r k

/-- The same in the kernel's layout. -/
theorem dW_widen (n d k : ℕ) : ∑ r ∈ range n, hid X v r d * widen (dproj P C Z T U r) k = widen (dW P C Z T U X v n d) k := by
  unfold widen
  by_cases h1 : k < 2320
  · simp only [if_pos h1]; rfl
  by_cases h2 : k < 2432
  · simp only [if_neg h1, if_pos h2, mul_zero, Finset.sum_const_zero]
  by_cases h3 : k < 2448
  · simp only [if_neg h1, if_neg h2, if_pos h3]; rfl
  by_cases h4 : k < 2560
  · simp only [if_neg h1, if_neg h2, if_neg h3, if_pos h4, mul_zero, Finset.sum_const_zero]
  · simp only [if_neg h1, if_neg h2, if_neg h3, if_neg h4]; rfl

/-- Any row is the loss's gradient in the normalised row, for some target. -/
theorem dn_any (p a : ℕ → ℝ) : dn p (fun _ => 1024) a (fun d => nrm p d * 1024) = a := by
  funext d
  unfold dn err
  ring

theorem dRow_any (p a : ℕ → ℝ) (d : ℕ) : dRow p (fun _ => 1024) a (fun d => nrm p d * 1024) d = through p a d := by
  unfold dRow through
  rw [dn_any]

/-- The arrays' elements, by plain numbers. -/
structure Holds (a0 : FVec Ideal ⟨2, ![16384, 1280]⟩ .f32) (a1 : FVec Ideal ⟨2, ![5, 1280]⟩ .f32) (a3 : FVec Ideal ⟨2, ![16384, 1024]⟩ .f32)
    (a4 : FVec Ideal ⟨2, ![16384, 32]⟩ .f32) (a5 a6 a7 : FVec Ideal ⟨2, ![16384, 1024]⟩ .f32) (a8 : FVec Ideal ⟨2, ![16, 1024]⟩ .f32)
    (a9 : FVec Ideal ⟨2, ![1024, 3360]⟩ .f32) : Prop where
  p : ∀ (r : Fin 16384) (k : Fin 1280), a0 (ix2 r k) = ((P r k : ℝ) : EReal)
  c : ∀ (i : Fin 5) (k : Fin 1280), a1 (ix2 i k) = ((C i k : ℝ) : EReal)
  z : ∀ (r : Fin 16384) (k : Fin 1024), a3 (ix2 r k) = ((Z r k : ℝ) : EReal)
  t : ∀ (r : Fin 16384) (k : Fin 32), a4 (ix2 r k) = ((T r k : ℝ) : EReal)
  u : ∀ (r : Fin 16384) (k : Fin 1024), a5 (ix2 r k) = ((U r k : ℝ) : EReal)
  e : ∀ (r : Fin 16384) (d : Fin 1024), a6 (ix2 r d) = ((E r d : ℝ) : EReal)
  x : ∀ (r : Fin 16384) (d : Fin 1024), a7 (ix2 r d) = ((X r d : ℝ) : EReal)
  v : ∀ (i : Fin 16) (d : Fin 1024), a8 (ix2 i d) = ((v i d : ℝ) : EReal)
  w : ∀ (d : Fin 1024) (k : Fin 3360), a9 (ix2 d k) = ((W d k : ℝ) : EReal)

/-- A matrix of real numbers, by plain numbers. -/
theorem exists_plain {m n : ℕ} (a : FVec Ideal ⟨2, ![m, n]⟩ .f32) (h : ∀ i, ∃ r : ℝ, a i = (r : EReal)) :
    ∃ f : ℕ → ℕ → ℝ, ∀ (i : Fin m) (j : Fin n), a (ix2 i j) = ((f i j : ℝ) : EReal) := by
  choose f hf using h
  have e : ∀ (i : Fin m) (j : Fin n), (if h : (i : ℕ) < m ∧ (j : ℕ) < n then f (ix2 ⟨i, h.1⟩ ⟨j, h.2⟩) else 0) = f (ix2 i j) :=
    fun i j => dif_pos ⟨i.isLt, j.isLt⟩
  exact ⟨fun i j => if h : i < m ∧ j < n then f (ix2 ⟨i, h.1⟩ ⟨j, h.2⟩) else 0, fun i j => (hf (ix2 i j)).trans (congrArg _ (e i j).symm)⟩

end Cert.InbSpec

end
-- ==== Proof.Inb.Tile.lean ====
module

public import proofs.«01_k».proof.Proof.Inb.Spec
public import proofs.«01_k».proof.Proof.Fwd.Tile
public import proofs.«01_k».proof.Proof.Gen.Kernel5Ideal.Frame.RunC
public import Idealize.ShloMosaic.Lib.Pointwise
public import Idealize.ShloMosaic.Lib.Claim

@[expose] public section

set_option maxRecDepth 16384

/-!
# One tile of the input projection's gradients

What the body makes of 256 rows, over the real numbers: the gradient in the product's columns, the gradient in the rows
through the normalisation, and the tile's part of the gradient in the matrix.
-/

noncomputable section

namespace Cert.Inb

open Idealize.ShloMosaic Idealize.ShloMosaic.TcCoe Idealize.SL.Sem
open Cert.Kernel5Ideal Cert.Kernel5Ideal.Gen Cert.FfnSpec Cert.FwdSpec Cert.InbSpec

variable {P C Z T U E X v W : ℕ → ℕ → ℝ} {o : ℕ}

/-- A row normalised, as it is computed. -/
theorem norm_coe {f : Fin 1024 → EReal} {p : ℕ → ℝ} (h : ∀ d : Fin 1024, f d = ((p d : ℝ) : EReal)) (d : Fin 1024) :
    (f d - Ideal.div (∑ x, f x) (Ideal.ofBits .f32 0x44800000#32)) * Ideal.rsqrt (Ideal.div (∑ x, (f x - Ideal.div (∑ y, f y) (Ideal.ofBits .f32 0x44800000#32))
      * (f x - Ideal.div (∑ y, f y) (Ideal.ofBits .f32 0x44800000#32))) (Ideal.ofBits .f32 0x44800000#32) + Ideal.ofBits .f32 0x3727C5AC#32) = ((nrm p d : ℝ) : EReal) := by
  have e : ∀ d : Fin 1024, f d - Ideal.div (∑ x, f x) (Ideal.ofBits .f32 0x44800000#32) = ((cen p d : ℝ) : EReal) := fun d => by
    rw [Cert.Fwd.mean_coe h, h, ← EReal.coe_sub]
    rfl
  simp only [e]
  rw [Cert.Fwd.mean_coe (p := fun d => cen p d * cen p d) fun d => (EReal.coe_mul _ _).symm, eps_bits, ← EReal.coe_add]
  refine (congrArg (_ * ·) (rs_coe p)).trans ?_
  rw [← EReal.coe_mul]
  rfl

section columns
variable {c0 c1 c2 c3 c4 : Vec Ideal S1x1280 .f32} {t0 t1 t2 t3 t4 : Vec Ideal S256x1280 .f32} {z u : Vec Ideal S256x1024 .f32} {p q : Vec Ideal S256x128 .f32}
  {w : Vec Ideal S1024x3584 .bf16}
  (h0 : ∀ k : Fin 1280, c0 (ix2 0 k) = ((C 0 k : ℝ) : EReal)) (h1 : ∀ k : Fin 1280, c1 (ix2 0 k) = ((C 1 k : ℝ) : EReal))
  (h2 : ∀ k : Fin 1280, c2 (ix2 0 k) = ((C 2 k : ℝ) : EReal)) (h3 : ∀ k : Fin 1280, c3 (ix2 0 k) = ((C 3 k : ℝ) : EReal))
  (h4 : ∀ k : Fin 1280, c4 (ix2 0 k) = ((C 4 k : ℝ) : EReal))
  (e0 : ∀ (i : Fin 256) (k : Fin 1280), t0 (ix2 i k) = ((edge P (o + i + 4) k : ℝ) : EReal))
  (e1 : ∀ (i : Fin 256) (k : Fin 1280), t1 (ix2 i k) = ((edge P (o + i + 3) k : ℝ) : EReal))
  (e2 : ∀ (i : Fin 256) (k : Fin 1280), t2 (ix2 i k) = ((edge P (o + i + 2) k : ℝ) : EReal))
  (e3 : ∀ (i : Fin 256) (k : Fin 1280), t3 (ix2 i k) = ((edge P (o + i + 1) k : ℝ) : EReal))
  (e4 : ∀ (i : Fin 256) (k : Fin 1280), t4 (ix2 i k) = ((edge P (o + i) k : ℝ) : EReal))
  (hz : ∀ (i : Fin 256) (k : Fin 1024), z (ix2 i k) = ((Z (o + i) k : ℝ) : EReal))
  (hp : ∀ (i : Fin 256) (k : Fin 128), p (ix2 i k) = (((if k.val < 16 then T (o + i) k else 0) : ℝ) : EReal))
  (hq : ∀ (i : Fin 256) (k : Fin 128), q (ix2 i k) = (((if k.val < 16 then T (o + i) (16 + k) else 0) : ℝ) : EReal))
  (hu : ∀ (i : Fin 256) (k : Fin 1024), u (ix2 i k) = ((U (o + i) k : ℝ) : EReal))
  (hw : ∀ (d : Fin 1024) (k : Fin 3584), w (ix2 d k) = ((widen (W d) k : ℝ) : EReal))
include h0 h1 h2 h3 h4 e0 e1 e2 e3 e4 hz hp hq hu

/-- The gradient in the product's columns, in the kernel's layout. -/
theorem dproj_at (i : Fin 256) (k : Fin 3584) :
    k0_pay9 (k0_pay7 c0 t0) (k0_pay8 c1) t1 c2 t2 c3 t3 c4 t4 z p q u (ix2 i k) = ((widen (dproj P C Z T U (o + i)) k : ℝ) : EReal) := by
  have hk := k.isLt
  rw [widen_dproj]
  pointwise [k0_pay9, k0_pay7, k0_pay8]
  by_cases a1 : k.val < 1024
  · rw [dif_pos a1, if_pos a1, hz]
  rw [dif_neg a1, if_neg a1]
  by_cases a2 : k.val - 1024 < 1280
  · rw [dif_pos a2, if_pos a2, h0, h1, h2, h3, h4, e0, e1, e2, e3, e4]
    simp only [← EReal.coe_mul, ← EReal.coe_add]
    rfl
  rw [dif_neg a2, if_neg a2]
  by_cases a3 : k.val - 1024 - 1280 < 128
  · rw [dif_pos a3, if_pos a3, hp]
  rw [dif_neg a3, if_neg a3]
  by_cases a4 : k.val - 1024 - 1280 - 128 < 128
  · rw [dif_pos a4, if_pos a4, hq]
  rw [dif_neg a4, if_neg a4, hu]

include hw

/-- The gradient in the row that is multiplied with the matrix. -/
theorem dhid_at (i : Fin 256) (d : Fin 1024) :
    k0_pay10 (k0_pay7 c0 t0) (k0_pay8 c1) t1 c2 t2 c3 t3 c4 t4 z p q u w (ix2 i d) = ((dhid P C Z T U W (o + i) d : ℝ) : EReal) := by
  have e := fun k => dproj_at h0 h1 h2 h3 h4 e0 e1 e2 e3 e4 hz hp hq hu i k
  pointwise [k0_pay10]
  refine (sum_coe _ (fun k => widen (dproj P C Z T U (o + i)) k * widen (W d) k) fun k => ?_).trans (congrArg _ (sum_widen _ _))
  rw [e, hw, ← EReal.coe_mul]

end columns

section normalisation
variable {x : Vec Ideal S256x1024 .f32} (hx : ∀ (i : Fin 256) (d : Fin 1024), x (ix2 i d) = ((X (o + i) d : ℝ) : EReal))
include hx

/-- The row without its mean. -/
theorem cen_at (i : Fin 256) (d : Fin 1024) : k0_pay20 x (ix2 i d) = ((cen (X (o + i)) d : ℝ) : EReal) := by
  have e := fun d => hx i d
  pointwise [k0_pay20]
  exact (congrArg₂ (· - ·) (e d) (Cert.Fwd.mean_coe e)).trans (EReal.coe_sub _ _).symm

/-- One over the root. -/
theorem rs_at (i : Fin 256) (j : Fin 1) : k0_pay21 x (ix2 i j) = ((rs (X (o + i)) : ℝ) : EReal) := by
  have e := fun d => cen_at hx i d
  pointwise [k0_pay21]
  refine (congrArg Ideal.rsqrt (congrArg₂ (· + ·) (Cert.Fwd.mean_coe (p := fun d => cen (X (o + i)) d * cen (X (o + i)) d) fun d => ?_) eps_bits)).trans ?_
  · rw [e, ← EReal.coe_mul]
  · rw [← EReal.coe_add]
    exact rs_coe _

/-- The normalised row. -/
theorem nrm_at (i : Fin 256) (d : Fin 1024) : k0_pay22 x (ix2 i d) = ((nrm (X (o + i)) d : ℝ) : EReal) := by
  have e := cen_at hx i d
  have e' := rs_at hx i 0
  pointwise [k0_pay22]
  rw [e, e', ← EReal.coe_mul]
  rfl

variable {h e : FVec Ideal S256x1024 .f32} {s g : Vec Ideal S1x1024 .f32}
  (hh : ∀ (i : Fin 256) (d : Fin 1024), h (ix2 i d) = ((dhid P C Z T U W (o + i) d : ℝ) : EReal))
  (he : ∀ (i : Fin 256) (d : Fin 1024), e (ix2 i d) = ((E (o + i) d : ℝ) : EReal))
  (hs : ∀ d : Fin 1024, s (ix2 0 d) = ((v 1 d : ℝ) : EReal)) (hg : ∀ d : Fin 1024, g (ix2 0 d) = ((v 6 d : ℝ) : EReal))
include hh he hs hg

/-- The gradient through the normalisation. -/
theorem gradX_at (i : Fin 256) (d : Fin 1024) :
    k0_pay2 (k0_pay21 x) (k0_pay22 x) (k0_pay23 h e s) g (ix2 i d) = ((through (X (o + i)) (dgain P C Z T U E v W (o + i)) d : ℝ) : EReal) := by
  have e1 := rs_at hx i 0
  have e2 := fun d => nrm_at hx i d
  have e3 : ∀ d : Fin 1024, k0_pay23 h e s (ix2 i d) * g (ix2 0 d) = ((dgain P C Z T U E v W (o + i) d : ℝ) : EReal) := by
    intro d
    have a := hh i d
    have b := he i d
    pointwise [k0_pay23]
    rw [a, b, hs, hg, ← EReal.coe_one]
    simp only [← EReal.coe_mul, ← EReal.coe_add]
    rfl
  have e4 := Cert.Fwd.mean_coe e3
  have e5 : Ideal.div (∑ d : Fin 1024, k0_pay23 h e s (ix2 i d) * g (ix2 0 d) * k0_pay22 x (ix2 i d)) (Ideal.ofBits .f32 0x44800000#32)
      = ((mean fun d => dgain P C Z T U E v W (o + i) d * nrm (X (o + i)) d : ℝ) : EReal) :=
    Cert.Fwd.mean_coe fun d => by rw [e2, e3, ← EReal.coe_mul]
  generalize k0_pay23 h e s = y at e3 e4 e5 ⊢
  pointwise [k0_pay2]
  refine (congrArg₂ (· * ·) e1 (congrArg₂ (· - ·) (congrArg₂ (· - ·) (e3 d) e4) (congrArg₂ (· * ·) (e2 d) e5))).trans ?_
  rw [← EReal.coe_sub, ← EReal.coe_mul, ← EReal.coe_sub, ← EReal.coe_mul]
  rfl

end normalisation

section matrix
variable {f : FVec Ideal S256x3584 .bf16} {h : FVec Ideal S256x1024 .bf16} {a : Vec Ideal S1024x512 .f32} {A B : ℕ → ℕ → ℝ}
  (hh : ∀ (i : Fin 256) (d : Fin 1024), h (ix2 i d) = ((A i d : ℝ) : EReal)) (hf : ∀ (i : Fin 256) (k : Fin 3584), f (ix2 i k) = ((B i k : ℝ) : EReal))
include hh hf

/-- The matrix's columns from 0 on gain the tile's product. -/
theorem chunk0_at (d : Fin 1024) (k : Fin 512) : k0_pay12 f h a (ix2 d k) = a (ix2 d k) + ((∑ i ∈ Finset.range 256, A i d * B i (k.val) : ℝ) : EReal) := by
  pointwise [k0_pay12]
  refine congrArg (a (ix2 d k) + ·) (sum_coe _ (fun i => A i d * B i (k.val)) fun i => ?_)
  exact (congrArg₂ (· * ·) (hh i d) (hf i ⟨k.val, by omega⟩)).trans (EReal.coe_mul _ _).symm

/-- The matrix's columns from 512 on gain the tile's product. -/
theorem chunk1_at (d : Fin 1024) (k : Fin 512) : k0_pay13 f h a (ix2 d k) = a (ix2 d k) + ((∑ i ∈ Finset.range 256, A i d * B i (512 + k.val) : ℝ) : EReal) := by
  pointwise [k0_pay13]
  refine congrArg (a (ix2 d k) + ·) (sum_coe _ (fun i => A i d * B i (512 + k.val)) fun i => ?_)
  exact (congrArg₂ (· * ·) (hh i d) (hf i ⟨512 + k.val, by omega⟩)).trans (EReal.coe_mul _ _).symm

/-- The matrix's columns from 1024 on gain the tile's product. -/
theorem chunk2_at (d : Fin 1024) (k : Fin 512) : k0_pay14 f h a (ix2 d k) = a (ix2 d k) + ((∑ i ∈ Finset.range 256, A i d * B i (1024 + k.val) : ℝ) : EReal) := by
  pointwise [k0_pay14]
  refine congrArg (a (ix2 d k) + ·) (sum_coe _ (fun i => A i d * B i (1024 + k.val)) fun i => ?_)
  exact (congrArg₂ (· * ·) (hh i d) (hf i ⟨1024 + k.val, by omega⟩)).trans (EReal.coe_mul _ _).symm

/-- The matrix's columns from 1536 on gain the tile's product. -/
theorem chunk3_at (d : Fin 1024) (k : Fin 512) : k0_pay15 f h a (ix2 d k) = a (ix2 d k) + ((∑ i ∈ Finset.range 256, A i d * B i (1536 + k.val) : ℝ) : EReal) := by
  pointwise [k0_pay15]
  refine congrArg (a (ix2 d k) + ·) (sum_coe _ (fun i => A i d * B i (1536 + k.val)) fun i => ?_)
  exact (congrArg₂ (· * ·) (hh i d) (hf i ⟨1536 + k.val, by omega⟩)).trans (EReal.coe_mul _ _).symm

/-- The matrix's columns from 2048 on gain the tile's product. -/
theorem chunk4_at (d : Fin 1024) (k : Fin 512) : k0_pay17 (k0_pay16 f h a) (ix2 d k) = a (ix2 d k) + ((∑ i ∈ Finset.range 256, A i d * B i (2048 + k.val) : ℝ) : EReal) := by
  pointwise [k0_pay17, k0_pay16]
  refine congrArg (a (ix2 d k) + ·) (sum_coe _ (fun i => A i d * B i (2048 + k.val)) fun i => ?_)
  exact (congrArg₂ (· * ·) (hh i d) (hf i ⟨2048 + k.val, by omega⟩)).trans (EReal.coe_mul _ _).symm

/-- The matrix's columns from 2560 on gain the tile's product. -/
theorem chunk5_at (d : Fin 1024) (k : Fin 512) : k0_pay18 f h a (ix2 d k) = a (ix2 d k) + ((∑ i ∈ Finset.range 256, A i d * B i (2560 + k.val) : ℝ) : EReal) := by
  pointwise [k0_pay18]
  refine congrArg (a (ix2 d k) + ·) (sum_coe _ (fun i => A i d * B i (2560 + k.val)) fun i => ?_)
  exact (congrArg₂ (· * ·) (hh i d) (hf i ⟨2560 + k.val, by omega⟩)).trans (EReal.coe_mul _ _).symm

/-- The matrix's columns from 3072 on gain the tile's product. -/
theorem chunk6_at (d : Fin 1024) (k : Fin 512) : k0_pay19 f h a (ix2 d k) = a (ix2 d k) + ((∑ i ∈ Finset.range 256, A i d * B i (3072 + k.val) : ℝ) : EReal) := by
  pointwise [k0_pay19]
  refine congrArg (a (ix2 d k) + ·) (sum_coe _ (fun i => A i d * B i (3072 + k.val)) fun i => ?_)
  exact (congrArg₂ (· * ·) (hh i d) (hf i ⟨3072 + k.val, by omega⟩)).trans (EReal.coe_mul _ _).symm

end matrix

end Cert.Inb

end
-- ==== Proof.Inb.Held.lean ====
/- The gradient of the input projection: what every point leaves (the output block, the sums, the accumulator and the result
   written by a copy), the proof data of the launch, the body obligation, and the run with that result at what the last point left. -/
module

public import proofs.«01_k».proof.Proof.Gen.Kernel5Ideal.Frame.RunC
public import Idealize.ShloMosaic.Lib.Claim

@[expose] public section

-- membership in a rectangle of production extents (`View.cover_of_tiled`): the elaborator's structural look
-- recurses once per coordinate of the long axes
set_option maxRecDepth 16384

noncomputable section

namespace Cert.Inb

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
variable (c : Dev nD) (i : grid0.Coords) (arg1 : Memref sig .tc .vmem S256x1280 .f32) (harg1 : arg1.IsWhole) (arg2 : Memref sig .tc .vmem S8x1280 .f32) (harg2 : arg2.IsWhole) (arg3 : Memref sig .tc .vmem S8x1280 .f32) (harg3 : arg3.IsWhole) (arg4 : Memref sig .tc .vmem S8x1280 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S16x1024 .f32) (harg12 : arg12.IsWhole) (arg13 : Memref sig .tc .vmem S1024x3584 .bf16) (harg13 : arg13.IsWhole) (arg15 : Memref sig .tc .vmem S256x1024 .f32) (harg15 : arg15.IsWhole) (arg16 : Memref sig .tc .vmem S16x1024 .f32) (harg16 : arg16.IsWhole) (arg18 : Memref sig .tc .vmem S1024x3584 .f32) (harg18 : arg18.IsWhole) (arg19 : Memref sig .tc .vmem S272x1280 .f32) (harg19 : arg19.IsWhole) (hc0 : cond0_0 i) (hc1 : ¬cond0_1 i)
  (x0 : Vec F S256x1280 .f32) (x1 : Vec F S8x1280 .f32) (x2 : Vec F S8x1280 .f32) (x3 : Vec F S8x1280 .f32) (x4 : Vec F S256x1024 .f32) (x5 : Vec F S256x128 .f32) (x6 : Vec F S256x128 .f32) (x7 : Vec F S256x1024 .f32) (x8 : Vec F S256x1024 .bf16) (x9 : Vec F S256x1024 .f32) (x10 : Vec F S256x1024 .f32) (x11 : Vec F S16x1024 .f32) (x12 : Vec F S1024x3584 .bf16) (fh0 : HbBuf0 (F := F) c hbM0_0) (fw1 : HbBuf0 (F := F) c hbM0_1)

/-- Case A's pieces for output 13 tile its block (1 store of `S256x1024`), so they cover it. -/
theorem cover0_A_13 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).1 S256x1024.size (by sl_kernel_rfl) y

/-- What case A leaves in output 13's staging buffer: its pieces read back over junk. -/
def out0_A_13 : Vec F S256x1024 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).1)

/-- Case A's pieces for output 14 are of SEVERAL sizes (5 stores of `S16x1024`, `S1x1024`): cut into blocks of `![1, 1024]` they tile its block, so they cover it. -/
theorem cover0_A_14 (y : S16x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).2.1 ![1, 1024] (by sl_kernel_rfl) y

/-- What case A leaves in output 14's staging buffer: its pieces read back over junk. -/
def out0_A_14 : Vec F S16x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).2.1)

/-- Case A's pieces for scratch `arg18`, which the kernel carries between points, cover it: one of them a store of the WHOLE buffer. -/
theorem scover0_A_0 (y : S1024x3584.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).2.2.1 (by sl_whole_mem) y

/-- What case A leaves in scratch `arg18`: its pieces read back over junk. -/
def sout0_A_0 : Vec F S1024x3584 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).2.2.1)

/-- Case A copies nothing into `main_v56_2`: it holds the contents it started from (`fw1`), as the run
    hands them back. -/
def hbw0_A_1 : HbBuf0 (F := F) c hbM0_1 := (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 fh0 fw1).2.2.2.2.1

end

section
variable (c : Dev nD) (i : grid0.Coords) (arg1 : Memref sig .tc .vmem S256x1280 .f32) (harg1 : arg1.IsWhole) (arg2 : Memref sig .tc .vmem S8x1280 .f32) (harg2 : arg2.IsWhole) (arg3 : Memref sig .tc .vmem S8x1280 .f32) (harg3 : arg3.IsWhole) (arg4 : Memref sig .tc .vmem S8x1280 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S16x1024 .f32) (harg12 : arg12.IsWhole) (arg13 : Memref sig .tc .vmem S1024x3584 .bf16) (harg13 : arg13.IsWhole) (arg15 : Memref sig .tc .vmem S256x1024 .f32) (harg15 : arg15.IsWhole) (arg16 : Memref sig .tc .vmem S16x1024 .f32) (harg16 : arg16.IsWhole) (arg18 : Memref sig .tc .vmem S1024x3584 .f32) (harg18 : arg18.IsWhole) (arg19 : Memref sig .tc .vmem S272x1280 .f32) (harg19 : arg19.IsWhole) (hc0 : ¬cond0_0 i) (hc1 : ¬cond0_1 i)
  (x0 : Vec F S256x1280 .f32) (x1 : Vec F S8x1280 .f32) (x2 : Vec F S8x1280 .f32) (x3 : Vec F S8x1280 .f32) (x4 : Vec F S256x1024 .f32) (x5 : Vec F S256x128 .f32) (x6 : Vec F S256x128 .f32) (x7 : Vec F S256x1024 .f32) (x8 : Vec F S256x1024 .bf16) (x9 : Vec F S256x1024 .f32) (x10 : Vec F S256x1024 .f32) (x11 : Vec F S16x1024 .f32) (x12 : Vec F S1024x3584 .bf16) (xo14 : Vec F S16x1024 .f32) (xs0 : Vec F S1024x3584 .f32) (fh0 : HbBuf0 (F := F) c hbM0_0) (fw1 : HbBuf0 (F := F) c hbM0_1)

/-- Case B's pieces for output 13 tile its block (1 store of `S256x1024`), so they cover it. -/
theorem cover0_B_13 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).1 S256x1024.size (by sl_kernel_rfl) y

/-- What case B leaves in output 13's staging buffer: its pieces read back over junk. -/
def out0_B_13 : Vec F S256x1024 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).1)

/-- What case B leaves in output 14's staging buffer: its stores read back over what the point before left there (they do not cover the block). -/
def out0_B_14 : Vec F S16x1024 .f32 :=
  arg16.view.read (Elt F) (arg16.view.writes (Elt F) (harg16.unread xo14) (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.1)

/-- Case B's pieces for scratch `arg18`, which the kernel carries between points, cover it: 7 pieces of `S1024x512` tiling it. -/
theorem scover0_B_0 (y : S1024x3584.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.2.1 S1024x512.size (by sl_kernel_rfl) y

/-- What case B leaves in scratch `arg18`: its pieces read back over junk. -/
def sout0_B_0 : Vec F S1024x3584 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.2.1)

/-- Case B copies nothing into `main_v56_2`: it holds the contents it started from (`fw1`), as the run
    hands them back. -/
def hbw0_B_1 : HbBuf0 (F := F) c hbM0_1 := (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.2.2.2.1

end

section
variable (c : Dev nD) (i : grid0.Coords) (arg1 : Memref sig .tc .vmem S256x1280 .f32) (harg1 : arg1.IsWhole) (arg2 : Memref sig .tc .vmem S8x1280 .f32) (harg2 : arg2.IsWhole) (arg3 : Memref sig .tc .vmem S8x1280 .f32) (harg3 : arg3.IsWhole) (arg4 : Memref sig .tc .vmem S8x1280 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S16x1024 .f32) (harg12 : arg12.IsWhole) (arg13 : Memref sig .tc .vmem S1024x3584 .bf16) (harg13 : arg13.IsWhole) (arg15 : Memref sig .tc .vmem S256x1024 .f32) (harg15 : arg15.IsWhole) (arg16 : Memref sig .tc .vmem S16x1024 .f32) (harg16 : arg16.IsWhole) (arg18 : Memref sig .tc .vmem S1024x3584 .f32) (harg18 : arg18.IsWhole) (arg19 : Memref sig .tc .vmem S272x1280 .f32) (harg19 : arg19.IsWhole) (hc0 : ¬cond0_0 i) (hc1 : cond0_1 i)
  (x0 : Vec F S256x1280 .f32) (x1 : Vec F S8x1280 .f32) (x2 : Vec F S8x1280 .f32) (x3 : Vec F S8x1280 .f32) (x4 : Vec F S256x1024 .f32) (x5 : Vec F S256x128 .f32) (x6 : Vec F S256x128 .f32) (x7 : Vec F S256x1024 .f32) (x8 : Vec F S256x1024 .bf16) (x9 : Vec F S256x1024 .f32) (x10 : Vec F S256x1024 .f32) (x11 : Vec F S16x1024 .f32) (x12 : Vec F S1024x3584 .bf16) (xo14 : Vec F S16x1024 .f32) (xs0 : Vec F S1024x3584 .f32) (fh0 : HbBuf0 (F := F) c hbM0_0) (fw1 : HbBuf0 (F := F) c hbM0_1)

/-- Case C's pieces for output 13 tile its block (1 store of `S256x1024`), so they cover it. -/
theorem cover0_C_13 (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).1 S256x1024.size (by sl_kernel_rfl) y

/-- What case C leaves in output 13's staging buffer: its pieces read back over junk. -/
def out0_C_13 : Vec F S256x1024 .f32 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).1)

/-- What case C leaves in output 14's staging buffer: its stores read back over what the point before left there (they do not cover the block). -/
def out0_C_14 : Vec F S16x1024 .f32 :=
  arg16.view.read (Elt F) (arg16.view.writes (Elt F) (harg16.unread xo14) (kernelRun0_C c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.1)

/-- Case C's pieces for scratch `arg18`, which the kernel carries between points, cover it: 7 pieces of `S1024x512` tiling it. -/
theorem scover0_C_0 (y : S1024x3584.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.2.1 S1024x512.size (by sl_kernel_rfl) y

/-- What case C leaves in scratch `arg18`: its pieces read back over junk. -/
def sout0_C_0 : Vec F S1024x3584 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.2.1)

/-- What case C leaves in `main_v56_2`, the result left in HBM its copies out of scratch write: the contents
    it started from (`fw1`: what the point before left there, at the first point the launch's) with those copies written over
    them — the contents term the run finds, its witness. -/
def hbw0_C_1 : HbBuf0 (F := F) c hbM0_1 := (kernelRun0_C c i arg1 harg1 arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 hc0 hc1 x0 x1 x2 x3 x4 x5 x6 x7 x8 x9 x10 x11 x12 xo14 xs0 fh0 fw1).2.2.2.2.1

/-! ## What the outputs hold after each point -/

end

/-- What the outputs, the carried scratch and the results held by value hold after a point of case A. -/
def pointA (c : Dev nD) (t : Fin cfg0.N) (h0 : t.val % 64 = 0) (h1 : ¬t.val % 64 = 63) :
    Vec F S256x1024 .f32 × Vec F S16x1024 .f32 × Vec F S1024x3584 .f32 × HbBuf0 (F := F) c hbM0_1 :=
  (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v55) (V m c main_v56_2), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v55) (V m c main_v56_2), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v55) (V m c main_v56_2), hbw0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v55) (V m c main_v56_2))

/-- What the outputs, the carried scratch and the results held by value hold after a point of case B, over what the point before left. -/
def pointB (c : Dev nD) (t : Fin cfg0.N) (h0 : ¬t.val % 64 = 0) (h1 : ¬t.val % 64 = 63) (p : Vec F S256x1024 .f32 × Vec F S16x1024 .f32 × Vec F S1024x3584 .f32 × HbBuf0 (F := F) c hbM0_1) :
    Vec F S256x1024 .f32 × Vec F S16x1024 .f32 × Vec F S1024x3584 .f32 × HbBuf0 (F := F) c hbM0_1 :=
  (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 (V m c main_v55) p.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 (V m c main_v55) p.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 (V m c main_v55) p.2.2.2, hbw0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 (V m c main_v55) p.2.2.2)

/-- What the outputs, the carried scratch and the results held by value hold after a point of case C, over what the point before left. -/
def pointC (c : Dev nD) (t : Fin cfg0.N) (h0 : ¬t.val % 64 = 0) (h1 : t.val % 64 = 63) (p : Vec F S256x1024 .f32 × Vec F S16x1024 .f32 × Vec F S1024x3584 .f32 × HbBuf0 (F := F) c hbM0_1) :
    Vec F S256x1024 .f32 × Vec F S16x1024 .f32 × Vec F S1024x3584 .f32 × HbBuf0 (F := F) c hbM0_1 :=
  (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 (V m c main_v55) p.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 (V m c main_v55) p.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 (V m c main_v55) p.2.2.2, hbw0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 (V m c main_v55) p.2.2.2)

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .f32 × Vec F S16x1024 .f32 × Vec F S1024x3584 .f32 × HbBuf0 (F := F) c hbM0_1
  | 0, hn => pointA m c ⟨0, hn⟩ (Nat.zero_mod _) (fun h => by (try dsimp only at h); omega)
  | n + 1, hn =>
    if h0 : (n + 1) % 64 = 0 then
      if h1 : (n + 1) % 64 = 63 then
        False.elim (by have hN : n + 1 < 64 := lt_of_lt_of_eq hn (show cfg0.N = 64 from N_0); omega)
      else
        pointA m c ⟨n + 1, hn⟩ h0 h1
    else
      if h1 : (n + 1) % 64 = 63 then
        pointC m c ⟨n + 1, hn⟩ h0 h1 (outsAt0 c n (Nat.lt_of_succ_lt hn))
      else
        pointB m c ⟨n + 1, hn⟩ h0 h1 (outsAt0 c n (Nat.lt_of_succ_lt hn))

/-- `outsAt0` at a point of case A: that case's contents. -/
theorem outsAt0_A (c : Dev nD) (t : Fin cfg0.N) (h0 : t.val % 64 = 0) (h1 : ¬t.val % 64 = 63) :
    outsAt0 m c t.val t.isLt = pointA m c t h0 h1 := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 m c t.val t.isLt = pointB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 m c t.val t.isLt = pointC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant; afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.1) ∗ (∃ d, owns (c : Thread nD τ) scM0_1 fullShare d)) ∗ (∃ r, prngReg c r) ∗ iprop(semVal ((c : Thread nD τ), SemLoc.dma 26) 0 ∗ semVal ((c : Thread nD τ), SemLoc.dma 27) 0) ∗ iprop(hbPt0 c hbM0_0 (V m c main_v55)) ∗ iprop(hbPt0 c hbM0_1 ((outsAt0 m c n hn).2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.2.1) ∗ (∃ d, owns (c : Thread nD τ) scM0_1 fullShare d)) ∗ (∃ r, prngReg c r) ∗ iprop(semVal ((c : Thread nD τ), SemLoc.dma 26) 0 ∗ semVal ((c : Thread nD τ), SemLoc.dma 27) 0) ∗ iprop(hbPt0 c hbM0_0 (V m c main_v55)) ∗ iprop(hbPt0 c hbM0_1 ((outsAt0 m c n hn).2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ (∃ d, owns (c : Thread nD τ) scM0_1 fullShare d)) ∗ (∃ r, prngReg c r) ∗ iprop(semVal ((c : Thread nD τ), SemLoc.dma 26) 0 ∗ semVal ((c : Thread nD τ), SemLoc.dma 27) 0) ∗ iprop(hbPt0 c hbM0_0 (V m c main_v55)) ∗ iprop(hbPt0 c hbM0_1 ((outsAt0 m c (n - 1) (by omega)).2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: `ΦDRG` before the first point — the scoped rest, the generator register, the own cells at zero,
    the HBM operands read and those written at their launch contents —, then the same with each written operand and each carried scratch
    at `outsAt0`'s component for the point before); nothing owed; each input's share of its array
    (`Pipeline.shareOf`: the full share of an array several windows stage, dealt among them). -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- At a point of case B output 14's current staging buffer holds what the body left at the point before: the point is
    not the first, the buffer was not written back between (`flush0_14`), the window is live and uncut. -/
theorem before0_14_B (c : Dev nD) (t : Fin cfg0.N) (h0 : ¬t.val % 64 = 0) (h1 : ¬t.val % 64 = 63) (d) :
    (dats m 0 c).before 14 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case C output 14's current staging buffer holds what the body left at the point before: the point is
    not the first, the buffer was not written back between (`flush0_14`), the window is live and uncut. -/
theorem before0_14_C (c : Dev nD) (t : Fin cfg0.N) (h0 : ¬t.val % 64 = 0) (h1 : t.val % 64 = 63) (d) :
    (dats m 0 c).before 14 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 14 rfl t (by omega) (Bool.eq_false_iff.mpr fun h => by have := (flush0_14 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 19200000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl, show (dats m 0 c).owed t.succ = 0 from rfl]
  have hN : t.val < 64 := lt_of_lt_of_eq t.isLt (show cfg0.N = 64 from N_0)
  by_cases h0 : t.val % 64 = 0
  · by_cases h1 : t.val % 64 = 63
    · exfalso; omega
    · by_cases hz : t.val = 0
      · rw [PhiS_castSucc m c t, PhiS_zero m c _ _ hz, PhiDRG0_in_eq]
        rw [outsAt0_A m c t h0 h1, pointA]
        unfold out0_A_13 out0_A_14 sout0_A_0 hbw0_A_1; (try dsimp only)
        iintro ⟨⟨⟨HS0, HS1⟩, Hg, ⟨Hq0, Hq1⟩, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v55) _).2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [HS0]; · iexact HS0
        isplitl [HS1]; · iexact HS1
        isplitl [Hq0]; · iexact Hq0
        isplitl [Hq1]; · iexact Hq1
        isplitl [Hh0]; · iexact Hh0
        isplitl [Hh1]; · iexact Hh1
        isplitl [HW]; · iexact HW
        iintro ⟨H0, H1, H2, H3, H4, H5, H6, H7, H8, H9, H10, H11, H12, ⟨%e13, H13⟩, ⟨%e14, H14⟩, ⟨%es0, HS0⟩, ⟨%fT1, HS1⟩, Hq0, Hq1, Hh0, Hh1, ⟨%W', HW'⟩⟩
        isplitl [HS0 HS1 Hg Hq0 Hq1 Hh0 Hh1]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS1
            ipureintro; rfl
          isplitl [Hg]
          · iexact Hg
          isplitl [Hq0 Hq1]
          · isplitl [Hq0]; · iexact Hq0
            iexact Hq1
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _)
      · exfalso; have hN : t.val < 64 := lt_of_lt_of_eq t.isLt (show cfg0.N = 64 from N_0); omega
  · by_cases h1 : t.val % 64 = 63
    · by_cases hz : t.val = 0
      · exfalso; have hN : t.val < 64 := lt_of_lt_of_eq t.isLt (show cfg0.N = 64 from N_0); omega
      · rw [PhiS_castSucc m c t, PhiS_pos m c _ _ hz]
        rw [outsAt0_C m c t h0 h1, pointC]
        simp only [before0_14_C m c t h0 h1]
        unfold out0_C_13 out0_C_14 sout0_C_0 hbw0_C_1; (try dsimp only)
        iintro ⟨⟨⟨HS0, HS1⟩, Hg, ⟨Hq0, Hq1⟩, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ (V m c main_v55) _).2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexact H14
        isplitl [HS0]; · iexact HS0
        isplitl [HS1]; · iexact HS1
        isplitl [Hq0]; · iexact Hq0
        isplitl [Hq1]; · iexact Hq1
        isplitl [Hh0]; · iexact Hh0
        isplitl [Hh1]; · iexact Hh1
        isplitl [HW]; · iexact HW
        iintro ⟨H0, H1, H2, H3, H4, H5, H6, H7, H8, H9, H10, H11, H12, ⟨%e13, H13⟩, H14, ⟨%es0, HS0⟩, ⟨%fT1, HS1⟩, Hq0, Hq1, Hh0, Hh1, ⟨%W', HW'⟩⟩
        isplitl [HS0 HS1 Hg Hq0 Hq1 Hh0 Hh1]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS1
            ipureintro; rfl
          isplitl [Hg]
          · iexact Hg
          isplitl [Hq0 Hq1]
          · isplitl [Hq0]; · iexact Hq0
            iexact Hq1
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H14
        ipureintro; rfl
    · by_cases hz : t.val = 0
      · exfalso; have hN : t.val < 64 := lt_of_lt_of_eq t.isLt (show cfg0.N = 64 from N_0); omega
      · rw [PhiS_castSucc m c t, PhiS_pos m c _ _ hz]
        rw [outsAt0_B m c t h0 h1, pointB]
        simp only [before0_14_B m c t h0 h1]
        unfold out0_B_13 out0_B_14 sout0_B_0 hbw0_B_1; (try dsimp only)
        iintro ⟨⟨⟨HS0, HS1⟩, Hg, ⟨Hq0, Hq1⟩, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ (V m c main_v55) _).2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexact H14
        isplitl [HS0]; · iexact HS0
        isplitl [HS1]; · iexact HS1
        isplitl [Hq0]; · iexact Hq0
        isplitl [Hq1]; · iexact Hq1
        isplitl [Hh0]; · iexact Hh0
        isplitl [Hh1]; · iexact Hh1
        isplitl [HW]; · iexact HW
        iintro ⟨H0, H1, H2, H3, H4, H5, H6, H7, H8, H9, H10, H11, H12, ⟨%e13, H13⟩, H14, ⟨%es0, HS0⟩, ⟨%fT1, HS1⟩, Hq0, Hq1, Hh0, Hh1, ⟨%W', HW'⟩⟩
        isplitl [HS0 HS1 Hg Hq0 Hq1 Hh0 Hh1]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS1
            ipureintro; rfl
          isplitl [Hg]
          · iexact Hg
          isplitl [Hq0 Hq1]
          · isplitl [Hq0]; · iexact Hq0
            iexact Hq1
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H14
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- There are 64 points. -/
theorem last_lt : 63 < cfg0.N := lt_of_lt_of_eq (by decide) N_0.symm

/-- The results the body's copies out write, AFTER THE LAST POINT, as a valuation of the unscoped buffers: the launch contents,
    updated at each written operand with `outsAt0`'s component for the last point — what the launch takes back from the region
    and its post states of them. -/
def hbG0 (n : ℕ) (hn : n < cfg0.N) (c : Dev nD) : (b : Ref sig .tc) → Buf (Elt F) ((c : Thread nD τ).loc b) :=
  Function.update ((V m) c) main_v56_2 (outsAt0 m c n hn).2.2.2
/-- `hbG0` at `main_v56_2`: `outsAt0`'s component. -/
theorem hbG0_1 (n : ℕ) (hn : n < cfg0.N) (c : Dev nD) : hbG0 m n hn c main_v56_2 = (outsAt0 m c n hn).2.2.2 := by
  unfold hbG0; simp only [Function.update_self]
/-- The written operands' points-tos after the last point (`Pipeline.routed` at `hbG`), listed: how the launch takes them back. -/
theorem heldG0_eq (n : ℕ) (hn : n < cfg0.N) (c : Dev nD) :
    (Pipeline.routed R0 c (hbG0 m n hn c) : sProp 𝕄) = iprop(hbPt0 c hbM0_1 ((outsAt0 m c n hn).2.2.2)) := by
  unfold Pipeline.routed; rw [BI.bigSep_eq_bigSepL_of_eq [main_v56_2] (by decide) (by decide)]
  simp only [BI.bigSepL_singleton, hbG0_1]; try rfl
/-- The invariant AFTER THE LAST POINT, `Pipeline.ΦDRG` at the launch contents and `hbG0`, conjunct by conjunct: what the launch takes back. -/
theorem PhiDRG0_out_eq (n : ℕ) (hn : n < cfg0.N) (c : Dev nD) :
    (Pipeline.ΦDRG osem0 spec0 H0 R0 (V m) (hbG0 m n hn) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 26) 0 ∗ semVal ((c : Thread nD τ), SemLoc.dma 27) 0) ∗ iprop(hbPt0 c hbM0_0 (V m c main_v55)) ∗ iprop(hbPt0 c hbM0_1 ((outsAt0 m c n hn).2.2.2))) := by
  rw [Pipeline.ΦDRG_eq, scopedRest0_eq, ownSems00_eq, hbmPts0_eq, heldG0_eq]; simp only [scM0_0, scM0_1, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After point `n` the invariant gives `ΦDRG` back with the result the copy out writes at what that point left in it (`hbG0`);
    the carried scratch's named contents are forgotten. -/
theorem hout_at (n : ℕ) (hn : n < cfg0.N) (c : Dev nD) :
    PhiS m c (n + 1) hn ⊢ Pipeline.ΦDRG osem0 spec0 H0 R0 (V m) (hbG0 m n hn) c := by
  rw [PhiS_succ, PhiDRG0_out_eq]
  iintro ⟨⟨HS0, HS1⟩, Hg, ⟨Hq0, Hq1⟩, Hh0, Hh1⟩
  isplitl [HS0 HS1]
  · isplitl [HS0]
    · iexists _; iexact HS0
    iexact HS1
  isplitl [Hg]; · iexact Hg
  isplitl [Hq0 Hq1]
  · isplitl [Hq0]; · iexact Hq0
    iexact Hq1
  isplitl [Hh0]
  · iexact Hh0
  iexact Hh1

/-- The invariant at a number. -/
theorem Phi_num (c : Dev nD) (k : Fin (cfg0.N + 1)) (n : ℕ) (hn : n < cfg0.N) (hk : k.val = n + 1) :
    (dats m 0 c).Φ k = PhiS m c (n + 1) hn := by
  obtain ⟨k, hlt⟩ := k
  subst hk
  rfl

/-- What the launch takes back after the last point. -/
theorem hout (c : Dev nD) : (dats m 0 c).Φ (Fin.last cfg0.N) ⊢ Pipeline.ΦDRG osem0 spec0 H0 R0 (V m) (hbG0 m 63 last_lt) c :=
  (BI.BIBase.Entails.of_eq (Phi_num m c (Fin.last cfg0.N) 63 last_lt ((Fin.val_last _).trans N_0))).trans (hout_at m 63 last_lt c)

/-! ## The run and the frame -/

-- `θ_run_frame_dmaRG_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m 63 last_lt)) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := A_eq m) (G := hbG0 m 63 last_lt)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents. -/
theorem run_main : θ_run defs (onTc (τ := τ) (main (F := F))) (s₀ m ρ) (Pipeline.FramePostRG cfgs (dats m) 0 R0 (V m) (hbG0 m 63 last_lt)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) ((θ_run defs _ _).mono (fun _ h => h.toR) (run_main m ρ))

/-- The arguments end unchanged, and every semaphore counter of the machine ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Inb

end
-- ==== Proof.Inb.Block.lean ====
module

public import proofs.«01_k».proof.Proof.Inb.Tile
public import proofs.«01_k».proof.Proof.Inp.Rows
public import proofs.«01_k».proof.Proof.Inb.Held
public import Idealize.ShloMosaic.Lib.Pipeline.ValueKit
public import Idealize.ShloMosaic.Lib.StableHlo.RunRead

@[expose] public section

set_option maxRecDepth 16384

/-!
# What a grid point reads

The blocks of a grid point's windows, from the call's arguments, and the convolution's rows read from the scratch that joins
a tile with the rows before and after it.
-/

noncomputable section

namespace Cert.Inb

open Idealize.ShloMosaic Idealize.ShloMosaic.TcCoe Idealize.SL.Sem
open Idealize.ShloMosaic.Pipeline (Dat)
open Cert.Kernel5Ideal Cert.Kernel5Ideal.Gen Cert.FwdSpec Cert.InbSpec
open Cert.FfnSpec (sum_coe sum_tile)

variable {m : (ℓ : Loc nD τ sig) → Buf (Elt Ideal) ℓ} {c : Dev nD} {P C Z T U E X v W : ℕ → ℕ → ℝ}

/-- The call's arguments on device `c`. -/
abbrev Args (m : (ℓ : Loc nD τ sig) → Buf (Elt Ideal) ℓ) (c : Dev nD) (P C Z T U E X v W : ℕ → ℕ → ℝ) : Prop :=
  Holds P C Z T U E X v W (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

theorem idxA : ∀ t : Fin cfg0.N, win0_0.index t = ![t.val, 0] ∧ win0_1.index t = ![32 * t.val - 1, 0] ∧ win0_2.index t = ![min (32 * t.val + 32) 2047, 0]
    ∧ win0_3.index t = ![0, 0] ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![0, 0]
    ∧ win0_12.index t = ![0, 0] ∧ win0_13.index t = ![t.val, 0] :=
  (by decide +kernel : ∀ t : Fin grid0.N, _)

theorem lt64 (t : Fin cfg0.N) : t.val < 64 := lt_of_lt_of_eq t.isLt (show cfg0.N = 64 from N_0)

theorem blk0 (H : Args m c P C Z T U E X v W) (t : Fin cfg0.N) (i : Fin 256) (k : Fin 1280) : iblk m c 0 t (ix2 i k) = ((P (256 * t.val + i) k : ℝ) : EReal) := by
  have ht := lt64 t
  refine Eq.trans ?_ (H.p ⟨256 * t.val + i.val, by omega⟩ k)
  blk_point [iblk, V, idxA t]

/-- The eight rows before the tile. -/
theorem blk1 (H : Args m c P C Z T U E X v W) (t : Fin cfg0.N) (h : 0 < t.val) (i : Fin 8) (k : Fin 1280) :
    iblk m c 1 t (ix2 i k) = ((P (256 * t.val + i - 8) k : ℝ) : EReal) := by
  have ht := lt64 t
  have e : 256 * t.val + i.val - 8 = (32 * t.val - 1) * 8 + i.val := by omega
  refine Eq.trans ?_ (H.p ⟨256 * t.val + i.val - 8, by omega⟩ k)
  blk_point [iblk, V, idxA t]

/-- The eight rows after the tile. -/
theorem blk2 (H : Args m c P C Z T U E X v W) (t : Fin cfg0.N) (h : t.val < 63) (i : Fin 8) (k : Fin 1280) :
    iblk m c 2 t (ix2 i k) = ((P (256 * t.val + 256 + i) k : ℝ) : EReal) := by
  have ht := lt64 t
  have e : min (32 * t.val + 32) 2047 = 32 * t.val + 32 := by omega
  refine Eq.trans ?_ (H.p ⟨256 * t.val + 256 + i.val, by omega⟩ k)
  blk_point [iblk, V, idxA t]

theorem blk4 (H : Args m c P C Z T U E X v W) (t : Fin cfg0.N) (i : Fin 256) (k : Fin 1024) : iblk m c 4 t (ix2 i k) = ((Z (256 * t.val + i) k : ℝ) : EReal) := by
  have ht := lt64 t
  refine Eq.trans ?_ (H.z ⟨256 * t.val + i.val, by omega⟩ k)
  blk_point [iblk, V, idxA t]

theorem blk7 (H : Args m c P C Z T U E X v W) (t : Fin cfg0.N) (i : Fin 256) (k : Fin 1024) : iblk m c 7 t (ix2 i k) = ((U (256 * t.val + i) k : ℝ) : EReal) := by
  have ht := lt64 t
  refine Eq.trans ?_ (H.u ⟨256 * t.val + i.val, by omega⟩ k)
  blk_point [iblk, V, idxA t]

theorem blk9 (H : Args m c P C Z T U E X v W) (t : Fin cfg0.N) (i : Fin 256) (d : Fin 1024) : iblk m c 9 t (ix2 i d) = ((E (256 * t.val + i) d : ℝ) : EReal) := by
  have ht := lt64 t
  refine Eq.trans ?_ (H.e ⟨256 * t.val + i.val, by omega⟩ d)
  blk_point [iblk, V, idxA t]

theorem blk10 (H : Args m c P C Z T U E X v W) (t : Fin cfg0.N) (i : Fin 256) (d : Fin 1024) : iblk m c 10 t (ix2 i d) = ((X (256 * t.val + i) d : ℝ) : EReal) := by
  have ht := lt64 t
  refine Eq.trans ?_ (H.x ⟨256 * t.val + i.val, by omega⟩ d)
  blk_point [iblk, V, idxA t]

theorem blk11 (H : Args m c P C Z T U E X v W) (t : Fin cfg0.N) (i : Fin 16) (d : Fin 1024) : iblk m c 11 t (ix2 i d) = ((v i d : ℝ) : EReal) := by
  refine Eq.trans ?_ (H.v i d)
  blk_point [iblk, V, idxA t]

set_option maxHeartbeats 1000000 in
theorem w_at (H : Args m c P C Z T U E X v W) (d : Fin 1024) (k : Fin 3584) : V m c main_v6 (ix2 d k) = ((widen (W d) k : ℝ) : EReal) := by
  have e := fun k => H.w d k
  after_reads_simp
  pointwise
  after_reads_simp
  pointwise
  have hk := k.isLt
  unfold widen
  by_cases h1 : k.val < 2304
  · refine (dif_pos h1).trans ?_
    exact (e ⟨k.val, by omega⟩).trans (congrArg Real.toEReal (if_pos (by omega)).symm)
  refine (dif_neg h1).trans ?_
  by_cases h2 : k.val < 2320
  · refine (dif_pos (by omega)).trans ?_
    exact ((e ⟨2304 + (k.val - 2304), by omega⟩).trans (congrArg (fun k => ((W d k : ℝ) : EReal)) (show 2304 + (k.val - 2304) = k.val by omega))).trans (congrArg Real.toEReal (if_pos h2).symm)
  refine (dif_neg (by omega)).trans ?_
  rw [if_neg h2]
  by_cases h3 : k.val < 2432
  · exact (dif_pos (by omega)).trans (EReal.coe_zero.symm.trans (congrArg Real.toEReal (if_pos h3).symm))
  refine (dif_neg (by omega)).trans ?_
  rw [if_neg h3]
  by_cases h4 : k.val < 2448
  · refine (dif_pos (by omega)).trans ?_
    exact ((e ⟨2320 + (k.val - 2304 - 16 - 112), by omega⟩).trans
      (congrArg (fun k => ((W d k : ℝ) : EReal)) (show 2320 + (k.val - 2304 - 16 - 112) = k.val - 112 by omega))).trans (congrArg Real.toEReal (if_pos h4).symm)
  refine (dif_neg (by omega)).trans ?_
  rw [if_neg h4]
  by_cases h5 : k.val < 2560
  · exact (dif_pos (by omega)).trans (EReal.coe_zero.symm.trans (congrArg Real.toEReal (if_pos h5).symm))
  refine (dif_neg (by omega)).trans ?_
  exact ((e ⟨2336 + (k.val - 2304 - 16 - 112 - 16 - 112), by omega⟩).trans
    (congrArg (fun k => ((W d k : ℝ) : EReal)) (show 2336 + (k.val - 2304 - 16 - 112 - 16 - 112) = k.val - 224 by omega))).trans (congrArg Real.toEReal (if_neg h5).symm)

theorem taps_at (H : Args m c P C Z T U E X v W) (i : Fin 8) (hi : i.val < 5) (k : Fin 1280) : V m c main_v9 (ix2 i k) = ((C i k : ℝ) : EReal) := by
  after_reads_simp
  pointwise
  after_reads_simp
  pointwise
  exact (dif_pos hi).trans (H.c ⟨i.val, hi⟩ k)

/-- The first sixteen step sizes, with zeros after them. -/
theorem lo_at (H : Args m c P C Z T U E X v W) (r : Fin 16384) (k : Fin 128) : V m c main_v52 (ix2 r k) = (((if k.val < 16 then T r k else 0) : ℝ) : EReal) := by
  after_reads_simp
  change pad S16384x128 ![0, 0] ![0, 112] ![0, 0] (extractStridedSlice S16384x16 ![0, 0] (m ((c : Thread nD τ).loc main_arg4)) slices_S16384x32_S16384x16_0_0)
    (sitofp (F := Ideal) .f32 (constantI S_ 32 0#32)) pads_S16384x16_S16384x128_000_01120 h_S_ (ix2 r k) = _
  pointwise
  by_cases h : k.val < 16
  · rw [dif_pos h, if_pos h]
    exact H.t r ⟨k.val, by omega⟩
  · rw [dif_neg h, if_neg h, EReal.coe_zero]
    show ((((0#32 : BitVec 32).toInt : ℤ) : ℝ) : EReal) = 0
    simp

/-- The last sixteen step sizes, with zeros after them. -/
theorem hi_at (H : Args m c P C Z T U E X v W) (r : Fin 16384) (k : Fin 128) : V m c main_v54 (ix2 r k) = (((if k.val < 16 then T r (16 + k) else 0) : ℝ) : EReal) := by
  after_reads_simp
  change pad S16384x128 ![0, 0] ![0, 112] ![0, 0] (extractStridedSlice S16384x16 ![0, 16] (m ((c : Thread nD τ).loc main_arg4)) slices_S16384x32_S16384x16_0_16)
    (sitofp (F := Ideal) .f32 (constantI S_ 32 0#32)) pads_S16384x16_S16384x128_000_01120 h_S_ (ix2 r k) = _
  pointwise
  by_cases h : k.val < 16
  · rw [dif_pos h, if_pos h]
    exact H.t r ⟨16 + k.val, by omega⟩
  · rw [dif_neg h, if_neg h, EReal.coe_zero]
    show ((((0#32 : BitVec 32).toInt : ℤ) : ℝ) : EReal) = 0
    simp

/-- The rows that are multiplied with the matrix. -/
theorem h1_at (H : Args m c P C Z T U E X v W) (r : Fin 16384) (d : Fin 1024) : V m c main_v50 (ix2 r d) = ((hid X v r d : ℝ) : EReal) := by
  after_reads_simp
  pointwise
  refine (congrArg₂ (· + ·) (congrArg₂ (· * ·) (congrArg₂ (· + ·) (congrArg₂ (· * ·) (norm_coe (fun d => H.x r d) d) (H.v 6 d)) (H.v 7 d))
    (congrArg (fun z : EReal => 1 + z) (H.v 1 d))) (H.v 0 d)).trans ?_
  rw [← EReal.coe_one]
  simp only [← EReal.coe_mul, ← EReal.coe_add]
  rfl

/-- The result is cleared before the call. -/
theorem zero_at (d : Fin 1024) (k : Fin 3584) : V m c main_v55 (ix2 d k) = ((0 : ℝ) : EReal) := by
  rw [EReal.coe_zero]
  after_reads_simp
  pointwise

theorem blk3 (H : Args m c P C Z T U E X v W) (t : Fin cfg0.N) (i : Fin 8) (hi : i.val < 5) (k : Fin 1280) : iblk m c 3 t (ix2 i k) = ((C i k : ℝ) : EReal) := by
  refine Eq.trans ?_ (taps_at H i hi k)
  blk_ext [iblk, idxA t]

theorem blk5 (H : Args m c P C Z T U E X v W) (t : Fin cfg0.N) (i : Fin 256) (k : Fin 128) :
    iblk m c 5 t (ix2 i k) = (((if k.val < 16 then T (256 * t.val + i) k else 0) : ℝ) : EReal) := by
  have ht := lt64 t
  refine Eq.trans ?_ (lo_at H ⟨256 * t.val + i.val, by omega⟩ k)
  blk_ext [iblk, idxA t]

theorem blk6 (H : Args m c P C Z T U E X v W) (t : Fin cfg0.N) (i : Fin 256) (k : Fin 128) :
    iblk m c 6 t (ix2 i k) = (((if k.val < 16 then T (256 * t.val + i) (16 + k) else 0) : ℝ) : EReal) := by
  have ht := lt64 t
  refine Eq.trans ?_ (hi_at H ⟨256 * t.val + i.val, by omega⟩ k)
  blk_ext [iblk, idxA t]

theorem blk8 (H : Args m c P C Z T U E X v W) (t : Fin cfg0.N) (i : Fin 256) (d : Fin 1024) : iblk m c 8 t (ix2 i d) = ((hid X v (256 * t.val + i) d : ℝ) : EReal) := by
  have ht := lt64 t
  refine Eq.trans ?_ (h1_at H ⟨256 * t.val + i.val, by omega⟩ d)
  blk_ext [iblk, idxA t]

theorem blk12 (H : Args m c P C Z T U E X v W) (t : Fin cfg0.N) (d : Fin 1024) (k : Fin 3584) : iblk m c 12 t (ix2 d k) = ((widen (W d) k : ℝ) : EReal) := by
  refine Eq.trans ?_ (w_at H d k)
  blk_ext [iblk, idxA t]

/-- The first eight rows are kept only after the first tile. -/
theorem keptLo_at (t : Fin cfg0.N) (x : Vec Ideal S8x1280 .f32) (j : Fin 8) (k : Fin 1280) :
    k0_pay4 (grid0.coords t) x (ix2 j k) = if 0 < t.val then x (ix2 j k) else 0 := by
  have c : (Scalar.cmpi .sgt (BitVec.ofNat 32 ↑(grid0.coords t 0)) 0#32 : BitVec 1) = if 0 < t.val then 1#1 else 0#1 :=
    (by decide +kernel : ∀ t : Fin grid0.N, (Scalar.cmpi .sgt (BitVec.ofNat 32 ↑(grid0.coords t 0)) 0#32 : BitVec 1) = if 0 < t.val then 1#1 else 0#1) t
  unfold k0_pay4
  simp only [c]
  by_cases h : 0 < t.val
  · simp only [if_pos h]
    pointwise
  · simp only [if_neg h]
    pointwise

/-- The last eight rows are kept only before the last tile. -/
theorem keptHi_at (t : Fin cfg0.N) (x : Vec Ideal S8x1280 .f32) (j : Fin 8) (k : Fin 1280) :
    k0_pay6 (grid0.coords t) x (ix2 j k) = if t.val < 63 then x (ix2 j k) else 0 := by
  have c : (Scalar.cmpi .slt (BitVec.ofNat 32 ↑(grid0.coords t 0)) 63#32 : BitVec 1) = if t.val < 63 then 1#1 else 0#1 :=
    (by decide +kernel : ∀ t : Fin grid0.N, (Scalar.cmpi .slt (BitVec.ofNat 32 ↑(grid0.coords t 0)) 63#32 : BitVec 1) = if t.val < 63 then 1#1 else 0#1) t
  unfold k0_pay6
  simp only [c]
  by_cases h : t.val < 63
  · simp only [if_pos h]
    pointwise
  · simp only [if_neg h]
    pointwise

/-- What the scratch of the convolution's rows was stored with. -/
abbrev joined (m : (ℓ : Loc nD τ sig) → Buf (Elt Ideal) ℓ) (c : Dev nD) (t : Fin cfg0.N) : List (View.Piece (Elt Ideal) S272x1280 .f32) :=
  [⟨Rect.unit (s := S272x1280) ![264, 0] S8x1280.size inb_S272x1280_S8x1280_264_0, k0_pay6 (F := Ideal) (grid0.coords t) (iblk m c 2 t)⟩,
    ⟨Rect.unit (s := S272x1280) ![8, 0] S256x1280.size inb_S272x1280_S256x1280_8_0, k0_pay5 (F := Ideal) (iblk m c 0 t)⟩,
    ⟨Rect.unit (s := S272x1280) ![0, 0] S8x1280.size inb_S272x1280_S8x1280_0_0, k0_pay4 (F := Ideal) (grid0.coords t) (iblk m c 1 t)⟩]

/-- The load of 256 rows of that scratch. -/
theorem ext_at (H : Args m c P C Z T U E X v W) (t : Fin cfg0.N) (s : ℕ) (hs : s + 256 ≤ 272) (hs' : 6 ≤ s)
    (inb : ∀ a, (![s, 0] : Fin 2 → ℕ) a + S256x1280.size a ≤ S272x1280.size a) (i : Fin 256) (k : Fin 1280) :
    (View.whole cc0_scratch1).readCov (Val := Elt Ideal) (joined m c t)
      (Rect.unit (s := S272x1280) ![s, 0] S256x1280.size inb).toLoadRect (ix2 i k) = ((edge P (256 * t.val + i + (s - 6)) k : ℝ) : EReal) := by
  have ht := lt64 t
  have hi := i.isLt
  refine (Cert.Rows.load_at _ _ s inb i k (by omega)).trans ?_
  unfold joined
  by_cases hh : 264 ≤ s + i.val
  · refine (Cert.Rows.canon_in 264 _ _ _ _ k ⟨s + i.val - 264, by omega⟩ (by dsimp only; omega)).trans ((keptHi_at t _ _ k).trans ?_)
    unfold edge
    by_cases h : t.val < 63
    · rw [if_pos h, blk2 H t h, if_pos (by omega)]
      exact congrArg (fun r => ((P r k : ℝ) : EReal)) (by dsimp only; omega)
    · rw [if_neg h, if_neg (by omega), EReal.coe_zero]
  refine (Cert.Rows.canon_out 264 _ _ _ _ k (Or.inl (by dsimp only; omega))).trans ?_
  by_cases hm : 8 ≤ s + i.val
  · refine (Cert.Rows.canon_in 8 _ _ _ _ k ⟨s + i.val - 8, by omega⟩ (by dsimp only; omega)).trans ?_
    have e := blk0 H t ⟨s + i.val - 8, by omega⟩ k
    unfold edge
    rw [if_pos (by omega)]
    refine Eq.trans ?_ (e.trans (congrArg (fun r => ((P r k : ℝ) : EReal)) (by dsimp only; omega)))
    pointwise [k0_pay5]
  refine (Cert.Rows.canon_out 8 _ _ _ _ k (Or.inl (by dsimp only; omega))).trans ?_
  refine (Cert.Rows.canon_in 0 _ _ _ _ k ⟨s + i.val, by omega⟩ (by dsimp only; omega)).trans ((keptLo_at t _ _ k).trans ?_)
  unfold edge
  by_cases h : 0 < t.val
  · rw [if_pos h, blk1 H t h, if_pos (by omega)]
    exact congrArg (fun r => ((P r k : ℝ) : EReal)) (by dsimp only; omega)
  · rw [if_neg h, if_neg (by omega), EReal.coe_zero]

end Cert.Inb

end
-- ==== Proof.Inb.Acc.lean ====
module

public import proofs.«01_k».proof.Proof.Inb.Block

@[expose] public section

set_option maxRecDepth 16384

/-!
# The matrix's gradient, point by point

The accumulator of the matrix's gradient is cleared at the first point and stored in seven groups of 512 columns at every
point.  After point `n` it holds the sum over the first `256 (n + 1)` rows.
-/

noncomputable section

namespace Cert.Inb

open Idealize.ShloMosaic Idealize.ShloMosaic.TcCoe Idealize.SL.Sem
open Idealize.ShloMosaic.Pipeline (Dat)
open Cert.Kernel5Ideal Cert.Kernel5Ideal.Gen Cert.FwdSpec Cert.InbSpec
open Cert.FfnSpec (sum_coe sum_tile)

section layout
variable {f : ℕ → ℕ → EReal} (L : List (View.Piece (Elt Ideal) S1024x3584 .f32))

/-- A load of 512 columns from column `s`. -/
theorem col_load (s : ℕ) (inb : ∀ a, (![0, s] : Fin 2 → ℕ) a + S1024x512.size a ≤ S1024x3584.size a) (d : Fin 1024) (k : Fin 512) (h : s + k < 3584) :
    (View.whole cc0_scratch0).readCov (Val := Elt Ideal) L (Rect.unit (s := S1024x3584) ![0, s] S1024x512.size inb).toLoadRect (ix2 d k) = View.canon L (ix2 d ⟨s + k, h⟩) := by
  rw [View.readCov_eq_canon']
  refine congrArg (View.canon L) ?_
  funext a; apply Fin.ext
  fin_cases a
  · show 0 + 1 * d.val = d.val; omega
  · show s + 1 * k.val = s + k.val; omega

/-- A column of the last store. -/
theorem col_in (o : ℕ) (inb : ∀ a, (![0, o] : Fin 2 → ℕ) a + S1024x512.size a ≤ S1024x3584.size a) (x : S1024x512.Idx → Elt Ideal .f32)
    (d : Fin 1024) (r : Fin 3584) (k : Fin 512) (h : r.val = o + k) :
    View.canon ((⟨Rect.unit (s := S1024x3584) ![0, o] S1024x512.size inb, x⟩ : View.Piece (Elt Ideal) S1024x3584 .f32) :: L) (ix2 d r) = x (ix2 d k) := by
  refine Eq.trans (congrArg _ ?_) (View.canon_cons_emb (Rect.unit (s := S1024x3584) ![0, o] S1024x512.size inb) x L (ix2 d k))
  funext a; apply Fin.ext
  fin_cases a
  · show d.val = 0 + 1 * d.val; omega
  · show r.val = o + 1 * k.val; omega

/-- A column the last store does not touch. -/
theorem col_out (o : ℕ) (inb : ∀ a, (![0, o] : Fin 2 → ℕ) a + S1024x512.size a ≤ S1024x3584.size a) (x : S1024x512.Idx → Elt Ideal .f32)
    (d : Fin 1024) (r : Fin 3584) (h : r.val < o ∨ o + 512 ≤ r.val) :
    View.canon ((⟨Rect.unit (s := S1024x3584) ![0, o] S1024x512.size inb, x⟩ : View.Piece (Elt Ideal) S1024x3584 .f32) :: L) (ix2 d r) = View.canon L (ix2 d r) := by
  refine View.canon_cons_of_not_mem _ _ fun hm => ?_
  obtain ⟨i, hi⟩ := LoadRect.exists_idx_of_mem _ hm
  have h0 : o + 1 * (i 1).val = r.val := congrArg (fun y : S1024x3584.Idx => (y 1).val) hi
  have h1 : (i 1).val < 512 := (i 1).isLt
  omega

/-- A store of the whole. -/
theorem all_in (x : S1024x3584.Idx → Elt Ideal .f32) (d : Fin 1024) (r : Fin 3584) :
    View.canon ((⟨Rect.whole S1024x3584, x⟩ : View.Piece (Elt Ideal) S1024x3584 .f32) :: L) (ix2 d r) = x (ix2 d r) := by
  refine Eq.trans (congrArg _ ?_) (View.canon_cons_emb (Rect.whole S1024x3584) x L (ix2 d r))
  funext a; apply Fin.ext
  fin_cases a
  · show d.val = 0 + 1 * d.val; omega
  · show r.val = 0 + 1 * r.val; omega

/-- Stored in seven groups of columns, the accumulator holds each group's values. -/
theorem canon_cols (A0 A1 A2 A3 A4 A5 A6 : S1024x512.Idx → Elt Ideal .f32)
    (h0 : ∀ (d : Fin 1024) (k : Fin 512), A0 (ix2 d k) = f d (k.val))
    (h1 : ∀ (d : Fin 1024) (k : Fin 512), A1 (ix2 d k) = f d (512 + k.val))
    (h2 : ∀ (d : Fin 1024) (k : Fin 512), A2 (ix2 d k) = f d (1024 + k.val))
    (h3 : ∀ (d : Fin 1024) (k : Fin 512), A3 (ix2 d k) = f d (1536 + k.val))
    (h4 : ∀ (d : Fin 1024) (k : Fin 512), A4 (ix2 d k) = f d (2048 + k.val))
    (h5 : ∀ (d : Fin 1024) (k : Fin 512), A5 (ix2 d k) = f d (2560 + k.val))
    (h6 : ∀ (d : Fin 1024) (k : Fin 512), A6 (ix2 d k) = f d (3072 + k.val))
    (d : Fin 1024) (k : Fin 3584) :
    View.canon ((⟨Rect.unit (s := S1024x3584) ![0, 3072] S1024x512.size inb_S1024x3584_S1024x512_0_3072, A6⟩ : View.Piece (Elt Ideal) S1024x3584 .f32)
      :: (⟨Rect.unit (s := S1024x3584) ![0, 2560] S1024x512.size inb_S1024x3584_S1024x512_0_2560, A5⟩ : View.Piece (Elt Ideal) S1024x3584 .f32)
      :: (⟨Rect.unit (s := S1024x3584) ![0, 2048] S1024x512.size inb_S1024x3584_S1024x512_0_2048, A4⟩ : View.Piece (Elt Ideal) S1024x3584 .f32)
      :: (⟨Rect.unit (s := S1024x3584) ![0, 1536] S1024x512.size inb_S1024x3584_S1024x512_0_1536, A3⟩ : View.Piece (Elt Ideal) S1024x3584 .f32)
      :: (⟨Rect.unit (s := S1024x3584) ![0, 1024] S1024x512.size inb_S1024x3584_S1024x512_0_1024, A2⟩ : View.Piece (Elt Ideal) S1024x3584 .f32)
      :: (⟨Rect.unit (s := S1024x3584) ![0, 512] S1024x512.size inb_S1024x3584_S1024x512_0_512, A1⟩ : View.Piece (Elt Ideal) S1024x3584 .f32)
      :: (⟨Rect.unit (s := S1024x3584) ![0, 0] S1024x512.size inb_S1024x3584_S1024x512_0_0, A0⟩ : View.Piece (Elt Ideal) S1024x3584 .f32) :: L) (ix2 d k) = f d k := by
  have hk := k.isLt
  by_cases c6 : 3072 ≤ k.val
  · exact (col_in _ 3072 _ _ d k ⟨k.val - 3072, by omega⟩ (by dsimp only; omega)).trans ((h6 d _).trans (congrArg (f d) (by dsimp only; omega)))
  refine (col_out _ 3072 _ _ d k (Or.inl (by omega))).trans ?_
  by_cases c5 : 2560 ≤ k.val
  · exact (col_in _ 2560 _ _ d k ⟨k.val - 2560, by omega⟩ (by dsimp only; omega)).trans ((h5 d _).trans (congrArg (f d) (by dsimp only; omega)))
  refine (col_out _ 2560 _ _ d k (Or.inl (by omega))).trans ?_
  by_cases c4 : 2048 ≤ k.val
  · exact (col_in _ 2048 _ _ d k ⟨k.val - 2048, by omega⟩ (by dsimp only; omega)).trans ((h4 d _).trans (congrArg (f d) (by dsimp only; omega)))
  refine (col_out _ 2048 _ _ d k (Or.inl (by omega))).trans ?_
  by_cases c3 : 1536 ≤ k.val
  · exact (col_in _ 1536 _ _ d k ⟨k.val - 1536, by omega⟩ (by dsimp only; omega)).trans ((h3 d _).trans (congrArg (f d) (by dsimp only; omega)))
  refine (col_out _ 1536 _ _ d k (Or.inl (by omega))).trans ?_
  by_cases c2 : 1024 ≤ k.val
  · exact (col_in _ 1024 _ _ d k ⟨k.val - 1024, by omega⟩ (by dsimp only; omega)).trans ((h2 d _).trans (congrArg (f d) (by dsimp only; omega)))
  refine (col_out _ 1024 _ _ d k (Or.inl (by omega))).trans ?_
  by_cases c1 : 512 ≤ k.val
  · exact (col_in _ 512 _ _ d k ⟨k.val - 512, by omega⟩ (by dsimp only; omega)).trans ((h1 d _).trans (congrArg (f d) (by dsimp only; omega)))
  refine (col_out _ 512 _ _ d k (Or.inl (by omega))).trans ?_
  exact (col_in _ 0 _ _ d k ⟨k.val - 0, by omega⟩ (by dsimp only; omega)).trans (h0 d _)

end layout

variable {m : (ℓ : Loc nD τ sig) → Buf (Elt Ideal) ℓ} {c : Dev nD} {P C Z T U E X v W : ℕ → ℕ → ℝ}

/-- A load of 256 of the convolution's rows. -/
abbrev rowsT (m : (ℓ : Loc nD τ sig) → Buf (Elt Ideal) ℓ) (c : Dev nD) (t : Fin cfg0.N) (s : ℕ)
    (inb : ∀ a, (![s, 0] : Fin 2 → ℕ) a + S256x1280.size a ≤ S272x1280.size a) : Vec Ideal S256x1280 .f32 :=
  (View.whole cc0_scratch1).readCov (Val := Elt Ideal) (joined m c t) (Rect.unit (s := S272x1280) ![s, 0] S256x1280.size inb).toLoadRect

/-- A row of the convolution's weight. -/
abbrev tapT (m : (ℓ : Loc nD τ sig) → Buf (Elt Ideal) ℓ) (c : Dev nD) (t : Fin cfg0.N) (s : ℕ)
    (inb : ∀ a, (![s, 0] : Fin 2 → ℕ) a + S1x1280.size a ≤ S8x1280.size a) : Vec Ideal S1x1280 .f32 :=
  View.ld (iblk m c 3 t) (Rect.unit (s := S8x1280) ![s, 0] S1x1280.size inb)

/-- A row of the modulation. -/
abbrev modT (m : (ℓ : Loc nD τ sig) → Buf (Elt Ideal) ℓ) (c : Dev nD) (t : Fin cfg0.N) (s : ℕ)
    (inb : ∀ a, (![s, 0] : Fin 2 → ℕ) a + S1x1024.size a ≤ S16x1024.size a) : Vec Ideal S1x1024 .f32 :=
  View.ld (iblk m c 11 t) (Rect.unit (s := S16x1024) ![s, 0] S1x1024.size inb)

theorem tap_at (H : Args m c P C Z T U E X v W) (t : Fin cfg0.N) (s : ℕ) (hs : s < 5)
    (inb : ∀ a, (![s, 0] : Fin 2 → ℕ) a + S1x1280.size a ≤ S8x1280.size a) (k : Fin 1280) : tapT m c t s inb (ix2 0 k) = ((C s k : ℝ) : EReal) := by
  refine Eq.trans ?_ (blk3 H t ⟨s, by omega⟩ hs k)
  refine congrArg (iblk m c 3 t) ?_
  funext a; apply Fin.ext
  fin_cases a
  · show s + 1 * 0 = s; omega
  · show 0 + 1 * k.val = k.val; omega

theorem mod_at (H : Args m c P C Z T U E X v W) (t : Fin cfg0.N) (s : ℕ) (hs : s < 16)
    (inb : ∀ a, (![s, 0] : Fin 2 → ℕ) a + S1x1024.size a ≤ S16x1024.size a) (d : Fin 1024) : modT m c t s inb (ix2 0 d) = ((v s d : ℝ) : EReal) := by
  refine Eq.trans ?_ (blk11 H t ⟨s, hs⟩ d)
  refine congrArg (iblk m c 11 t) ?_
  funext a; apply Fin.ext
  fin_cases a
  · show s + 1 * 0 = s; omega
  · show 0 + 1 * d.val = d.val; omega

/-- The gradient in the product's columns, at a grid point. -/
abbrev projT (m : (ℓ : Loc nD τ sig) → Buf (Elt Ideal) ℓ) (c : Dev nD) (t : Fin cfg0.N) : FVec Ideal S256x3584 .bf16 :=
  k0_pay9 (k0_pay7 (tapT m c t 0 inb_S8x1280_S1x1280_0_0) (rowsT m c t 10 inb_S272x1280_S256x1280_10_0)) (k0_pay8 (tapT m c t 1 inb_S8x1280_S1x1280_1_0))
    (rowsT m c t 9 inb_S272x1280_S256x1280_9_0) (tapT m c t 2 inb_S8x1280_S1x1280_2_0) (rowsT m c t 8 inb_S272x1280_S256x1280_8_0) (tapT m c t 3 inb_S8x1280_S1x1280_3_0)
    (rowsT m c t 7 inb_S272x1280_S256x1280_7_0) (tapT m c t 4 inb_S8x1280_S1x1280_4_0) (rowsT m c t 6 inb_S272x1280_S256x1280_6_0)
    (iblk m c 4 t) (iblk m c 5 t) (iblk m c 6 t) (iblk m c 7 t)

/-- The gradient in the rows that are multiplied with the matrix, at a grid point. -/
abbrev dhidT (m : (ℓ : Loc nD τ sig) → Buf (Elt Ideal) ℓ) (c : Dev nD) (t : Fin cfg0.N) : FVec Ideal S256x1024 .f32 :=
  k0_pay10 (k0_pay7 (tapT m c t 0 inb_S8x1280_S1x1280_0_0) (rowsT m c t 10 inb_S272x1280_S256x1280_10_0)) (k0_pay8 (tapT m c t 1 inb_S8x1280_S1x1280_1_0))
    (rowsT m c t 9 inb_S272x1280_S256x1280_9_0) (tapT m c t 2 inb_S8x1280_S1x1280_2_0) (rowsT m c t 8 inb_S272x1280_S256x1280_8_0) (tapT m c t 3 inb_S8x1280_S1x1280_3_0)
    (rowsT m c t 7 inb_S272x1280_S256x1280_7_0) (tapT m c t 4 inb_S8x1280_S1x1280_4_0) (rowsT m c t 6 inb_S272x1280_S256x1280_6_0)
    (iblk m c 4 t) (iblk m c 5 t) (iblk m c 6 t) (iblk m c 7 t) (iblk m c 12 t)

theorem projT_at (H : Args m c P C Z T U E X v W) (t : Fin cfg0.N) (i : Fin 256) (k : Fin 3584) :
    projT m c t (ix2 i k) = ((widen (dproj P C Z T U (256 * t.val + i)) k : ℝ) : EReal) :=
  dproj_at (tap_at H t 0 (by decide) _) (tap_at H t 1 (by decide) _) (tap_at H t 2 (by decide) _) (tap_at H t 3 (by decide) _) (tap_at H t 4 (by decide) _)
    (ext_at H t 10 (by decide) (by decide) _) (ext_at H t 9 (by decide) (by decide) _) (ext_at H t 8 (by decide) (by decide) _) (ext_at H t 7 (by decide) (by decide) _) (ext_at H t 6 (by decide) (by decide) _)
    (blk4 H t) (blk5 H t) (blk6 H t) (blk7 H t) i k

theorem dhidT_at (H : Args m c P C Z T U E X v W) (t : Fin cfg0.N) (i : Fin 256) (d : Fin 1024) :
    dhidT m c t (ix2 i d) = ((dhid P C Z T U W (256 * t.val + i) d : ℝ) : EReal) :=
  dhid_at (tap_at H t 0 (by decide) _) (tap_at H t 1 (by decide) _) (tap_at H t 2 (by decide) _) (tap_at H t 3 (by decide) _) (tap_at H t 4 (by decide) _)
    (ext_at H t 10 (by decide) (by decide) _) (ext_at H t 9 (by decide) (by decide) _) (ext_at H t 8 (by decide) (by decide) _) (ext_at H t 7 (by decide) (by decide) _) (ext_at H t 6 (by decide) (by decide) _)
    (blk4 H t) (blk5 H t) (blk6 H t) (blk7 H t) (blk12 H t) i d

/-- The rows that are multiplied with the matrix, at a grid point. -/
theorem hidT_at (H : Args m c P C Z T U E X v W) (t : Fin cfg0.N) (i : Fin 256) (d : Fin 1024) :
    k0_pay11 (F := Ideal) (iblk m c 8 t) (ix2 i d) = ((hid X v (256 * t.val + i) d : ℝ) : EReal) := by
  have e := blk8 H t i d
  pointwise [k0_pay11]
  exact e

/-- The gradient in the rows, at a grid point. -/
theorem gradT_at (H : Args m c P C Z T U E X v W) (t : Fin cfg0.N) (i : Fin 256) (d : Fin 1024) :
    k0_pay2 (k0_pay21 (iblk m c 10 t)) (k0_pay22 (iblk m c 10 t)) (k0_pay23 (dhidT m c t) (iblk m c 9 t) (modT m c t 1 inb_S16x1024_S1x1024_1_0))
      (modT m c t 6 inb_S16x1024_S1x1024_6_0) (ix2 i d) = ((through (X (256 * t.val + i)) (dgain P C Z T U E v W (256 * t.val + i)) d : ℝ) : EReal) :=
  gradX_at (blk10 H t) (dhidT_at H t) (blk9 H t) (mod_at H t 1 (by decide) _) (mod_at H t 6 (by decide) _) i d

variable {R : ℕ → ℕ → ℝ}

/-- The accumulator gains the tile's product. -/
theorem dw_step (H : Args m c P C Z T U E X v W) (t : Fin cfg0.N) {a0 a1 a2 a3 a4 a5 a6 : Vec Ideal S1024x512 .f32}
    (h0 : ∀ (d : Fin 1024) (k : Fin 512), a0 (ix2 d k) = ((R d (k.val) : ℝ) : EReal))
    (h1 : ∀ (d : Fin 1024) (k : Fin 512), a1 (ix2 d k) = ((R d (512 + k.val) : ℝ) : EReal))
    (h2 : ∀ (d : Fin 1024) (k : Fin 512), a2 (ix2 d k) = ((R d (1024 + k.val) : ℝ) : EReal))
    (h3 : ∀ (d : Fin 1024) (k : Fin 512), a3 (ix2 d k) = ((R d (1536 + k.val) : ℝ) : EReal))
    (h4 : ∀ (d : Fin 1024) (k : Fin 512), a4 (ix2 d k) = ((R d (2048 + k.val) : ℝ) : EReal))
    (h5 : ∀ (d : Fin 1024) (k : Fin 512), a5 (ix2 d k) = ((R d (2560 + k.val) : ℝ) : EReal))
    (h6 : ∀ (d : Fin 1024) (k : Fin 512), a6 (ix2 d k) = ((R d (3072 + k.val) : ℝ) : EReal))
    (L : List (View.Piece (Elt Ideal) S1024x3584 .f32)) (d : Fin 1024) (k : Fin 3584) :
    View.canon ((⟨Rect.unit (s := S1024x3584) ![0, 3072] S1024x512.size inb_S1024x3584_S1024x512_0_3072, k0_pay19 (projT m c t) (k0_pay11 (iblk m c 8 t)) a6⟩ : View.Piece (Elt Ideal) S1024x3584 .f32)
      :: (⟨Rect.unit (s := S1024x3584) ![0, 2560] S1024x512.size inb_S1024x3584_S1024x512_0_2560, k0_pay18 (projT m c t) (k0_pay11 (iblk m c 8 t)) a5⟩ : View.Piece (Elt Ideal) S1024x3584 .f32)
      :: (⟨Rect.unit (s := S1024x3584) ![0, 2048] S1024x512.size inb_S1024x3584_S1024x512_0_2048, k0_pay17 (k0_pay16 (projT m c t) (k0_pay11 (iblk m c 8 t)) a4)⟩ : View.Piece (Elt Ideal) S1024x3584 .f32)
      :: (⟨Rect.unit (s := S1024x3584) ![0, 1536] S1024x512.size inb_S1024x3584_S1024x512_0_1536, k0_pay15 (projT m c t) (k0_pay11 (iblk m c 8 t)) a3⟩ : View.Piece (Elt Ideal) S1024x3584 .f32)
      :: (⟨Rect.unit (s := S1024x3584) ![0, 1024] S1024x512.size inb_S1024x3584_S1024x512_0_1024, k0_pay14 (projT m c t) (k0_pay11 (iblk m c 8 t)) a2⟩ : View.Piece (Elt Ideal) S1024x3584 .f32)
      :: (⟨Rect.unit (s := S1024x3584) ![0, 512] S1024x512.size inb_S1024x3584_S1024x512_0_512, k0_pay13 (projT m c t) (k0_pay11 (iblk m c 8 t)) a1⟩ : View.Piece (Elt Ideal) S1024x3584 .f32)
      :: (⟨Rect.unit (s := S1024x3584) ![0, 0] S1024x512.size inb_S1024x3584_S1024x512_0_0, k0_pay12 (projT m c t) (k0_pay11 (iblk m c 8 t)) a0⟩ : View.Piece (Elt Ideal) S1024x3584 .f32) :: L) (ix2 d k)
      = ((R d k + ∑ i ∈ Finset.range 256, hid X v (256 * t.val + i) d * widen (dproj P C Z T U (256 * t.val + i)) k : ℝ) : EReal) :=
  canon_cols (f := fun d k => ((R d k + ∑ i ∈ Finset.range 256, hid X v (256 * t.val + i) d * widen (dproj P C Z T U (256 * t.val + i)) k : ℝ) : EReal)) L _ _ _ _ _ _ _
    (fun d k => (chunk0_at (A := fun i d => hid X v (256 * t.val + i) d) (B := fun i k => widen (dproj P C Z T U (256 * t.val + i)) k)
      (hidT_at H t) (projT_at H t) d k).trans ((congrArg (· + _) (h0 d k)).trans (EReal.coe_add _ _).symm))
    (fun d k => (chunk1_at (A := fun i d => hid X v (256 * t.val + i) d) (B := fun i k => widen (dproj P C Z T U (256 * t.val + i)) k)
      (hidT_at H t) (projT_at H t) d k).trans ((congrArg (· + _) (h1 d k)).trans (EReal.coe_add _ _).symm))
    (fun d k => (chunk2_at (A := fun i d => hid X v (256 * t.val + i) d) (B := fun i k => widen (dproj P C Z T U (256 * t.val + i)) k)
      (hidT_at H t) (projT_at H t) d k).trans ((congrArg (· + _) (h2 d k)).trans (EReal.coe_add _ _).symm))
    (fun d k => (chunk3_at (A := fun i d => hid X v (256 * t.val + i) d) (B := fun i k => widen (dproj P C Z T U (256 * t.val + i)) k)
      (hidT_at H t) (projT_at H t) d k).trans ((congrArg (· + _) (h3 d k)).trans (EReal.coe_add _ _).symm))
    (fun d k => (chunk4_at (A := fun i d => hid X v (256 * t.val + i) d) (B := fun i k => widen (dproj P C Z T U (256 * t.val + i)) k)
      (hidT_at H t) (projT_at H t) d k).trans ((congrArg (· + _) (h4 d k)).trans (EReal.coe_add _ _).symm))
    (fun d k => (chunk5_at (A := fun i d => hid X v (256 * t.val + i) d) (B := fun i k => widen (dproj P C Z T U (256 * t.val + i)) k)
      (hidT_at H t) (projT_at H t) d k).trans ((congrArg (· + _) (h5 d k)).trans (EReal.coe_add _ _).symm))
    (fun d k => (chunk6_at (A := fun i d => hid X v (256 * t.val + i) d) (B := fun i k => widen (dproj P C Z T U (256 * t.val + i)) k)
      (hidT_at H t) (projT_at H t) d k).trans ((congrArg (· + _) (h6 d k)).trans (EReal.coe_add _ _).symm))
    d k

/-- The point before. -/
abbrev prev (t : Fin cfg0.N) : t.val - 1 < cfg0.N := Nat.lt_of_le_of_lt (Nat.sub_le _ _) t.isLt

/-- The accumulator's sums after point `n`. -/
abbrev accSum (P C Z T U X v : ℕ → ℕ → ℝ) (n : ℕ) (d k : ℕ) : ℝ := ∑ r ∈ Finset.range (256 * n), hid X v r d * widen (dproj P C Z T U r) k

/-- The copied zeros. -/
theorem cleared_at (d : Fin 1024) (k : Fin 3584) :
    (ReadAs.same.apply (View.read (Elt Ideal) (View.whole main_v55) (V m c main_v55)) : S1024x3584.Idx → Elt Ideal .f32) (ix2 d k) = ((0 : ℝ) : EReal) :=
  zero_at d k

/-- The accumulator after the first point, which clears it. -/
theorem dw_first (H : Args m c P C Z T U E X v W) (t : Fin cfg0.N) (h0 : t.val % 64 = 0) (d : Fin 1024) (k : Fin 3584) :
    (outsAt0 m c t.val t.isLt).2.2.1 (ix2 d k) = ((accSum P C Z T U X v (t.val + 1) d k : ℝ) : EReal) := by
  have h1 : ¬ t.val % 64 = 63 := by omega
  have ht := lt64 t
  have hz : t.val = 0 := by omega
  rw [outsAt0_A m c t h0 h1, pointA]
  frame_out
  refine (dw_step H t (R := fun _ _ => 0) ?_ ?_ ?_ ?_ ?_ ?_ ?_ _ d k).trans (congrArg Real.toEReal ?_)
  · intro d k
    refine (col_load _ 0 _ d k (by omega)).trans ?_
    exact (all_in _ _ d _).trans (cleared_at d _)
  · intro d k
    refine (col_load _ 512 _ d k (by omega)).trans ?_
    refine (col_out _ 0 _ _ d _ (Or.inr (by dsimp only; omega))).trans ?_
    exact (all_in _ _ d _).trans (cleared_at d _)
  · intro d k
    refine (col_load _ 1024 _ d k (by omega)).trans ?_
    refine (col_out _ 512 _ _ d _ (Or.inr (by dsimp only; omega))).trans ?_
    refine (col_out _ 0 _ _ d _ (Or.inr (by dsimp only; omega))).trans ?_
    exact (all_in _ _ d _).trans (cleared_at d _)
  · intro d k
    refine (col_load _ 1536 _ d k (by omega)).trans ?_
    refine (col_out _ 1024 _ _ d _ (Or.inr (by dsimp only; omega))).trans ?_
    refine (col_out _ 512 _ _ d _ (Or.inr (by dsimp only; omega))).trans ?_
    refine (col_out _ 0 _ _ d _ (Or.inr (by dsimp only; omega))).trans ?_
    exact (all_in _ _ d _).trans (cleared_at d _)
  · intro d k
    refine (col_load _ 2048 _ d k (by omega)).trans ?_
    refine (col_out _ 1536 _ _ d _ (Or.inr (by dsimp only; omega))).trans ?_
    refine (col_out _ 1024 _ _ d _ (Or.inr (by dsimp only; omega))).trans ?_
    refine (col_out _ 512 _ _ d _ (Or.inr (by dsimp only; omega))).trans ?_
    refine (col_out _ 0 _ _ d _ (Or.inr (by dsimp only; omega))).trans ?_
    exact (all_in _ _ d _).trans (cleared_at d _)
  · intro d k
    refine (col_load _ 2560 _ d k (by omega)).trans ?_
    refine (col_out _ 2048 _ _ d _ (Or.inr (by dsimp only; omega))).trans ?_
    refine (col_out _ 1536 _ _ d _ (Or.inr (by dsimp only; omega))).trans ?_
    refine (col_out _ 1024 _ _ d _ (Or.inr (by dsimp only; omega))).trans ?_
    refine (col_out _ 512 _ _ d _ (Or.inr (by dsimp only; omega))).trans ?_
    refine (col_out _ 0 _ _ d _ (Or.inr (by dsimp only; omega))).trans ?_
    exact (all_in _ _ d _).trans (cleared_at d _)
  · intro d k
    refine (col_load _ 3072 _ d k (by omega)).trans ?_
    refine (col_out _ 2560 _ _ d _ (Or.inr (by dsimp only; omega))).trans ?_
    refine (col_out _ 2048 _ _ d _ (Or.inr (by dsimp only; omega))).trans ?_
    refine (col_out _ 1536 _ _ d _ (Or.inr (by dsimp only; omega))).trans ?_
    refine (col_out _ 1024 _ _ d _ (Or.inr (by dsimp only; omega))).trans ?_
    refine (col_out _ 512 _ _ d _ (Or.inr (by dsimp only; omega))).trans ?_
    refine (col_out _ 0 _ _ d _ (Or.inr (by dsimp only; omega))).trans ?_
    exact (all_in _ _ d _).trans (cleared_at d _)
  · unfold accSum
    rw [hz, Nat.mul_zero, Nat.mul_one, zero_add]
    exact Finset.sum_congr rfl fun i _ => by rw [Nat.zero_add]

/-- The accumulator after a later point. -/
theorem dw_next (H : Args m c P C Z T U E X v W) (t : Fin cfg0.N) (h0 : ¬ t.val % 64 = 0)
    (hg : ∀ (d : Fin 1024) (k : Fin 3584), (outsAt0 m c (t.val - 1) (prev t)).2.2.1 (ix2 d k) = ((accSum P C Z T U X v t.val d k : ℝ) : EReal)) (d : Fin 1024) (k : Fin 3584) :
    (outsAt0 m c t.val t.isLt).2.2.1 (ix2 d k) = ((accSum P C Z T U X v (t.val + 1) d k : ℝ) : EReal) := by
  by_cases h1 : t.val % 64 = 63
  · rw [outsAt0_C m c t h0 h1, pointC]
    frame_out
    generalize outsAt0 m c (t.val - 1) (prev t) = O at hg ⊢
    refine (dw_step H t (R := fun d k => accSum P C Z T U X v t.val d k) ?_ ?_ ?_ ?_ ?_ ?_ ?_ _ d k).trans
      (congrArg Real.toEReal (sum_tile (fun r => hid X v r d * widen (dproj P C Z T U r) k) _))
    · intro d k
      pointwise
      exact (congrFun (Memref.IsWhole.read_unread _ _) (ix2 d _)).trans (hg d ⟨k.val, by omega⟩)
    · intro d k
      pointwise
      exact (congrFun (Memref.IsWhole.read_unread _ _) (ix2 d _)).trans (hg d ⟨512 + k.val, by omega⟩)
    · intro d k
      pointwise
      exact (congrFun (Memref.IsWhole.read_unread _ _) (ix2 d _)).trans (hg d ⟨1024 + k.val, by omega⟩)
    · intro d k
      pointwise
      exact (congrFun (Memref.IsWhole.read_unread _ _) (ix2 d _)).trans (hg d ⟨1536 + k.val, by omega⟩)
    · intro d k
      pointwise
      exact (congrFun (Memref.IsWhole.read_unread _ _) (ix2 d _)).trans (hg d ⟨2048 + k.val, by omega⟩)
    · intro d k
      pointwise
      exact (congrFun (Memref.IsWhole.read_unread _ _) (ix2 d _)).trans (hg d ⟨2560 + k.val, by omega⟩)
    · intro d k
      pointwise
      exact (congrFun (Memref.IsWhole.read_unread _ _) (ix2 d _)).trans (hg d ⟨3072 + k.val, by omega⟩)
  · rw [outsAt0_B m c t h0 h1, pointB]
    frame_out
    generalize outsAt0 m c (t.val - 1) (prev t) = O at hg ⊢
    refine (dw_step H t (R := fun d k => accSum P C Z T U X v t.val d k) ?_ ?_ ?_ ?_ ?_ ?_ ?_ _ d k).trans
      (congrArg Real.toEReal (sum_tile (fun r => hid X v r d * widen (dproj P C Z T U r) k) _))
    · intro d k
      pointwise
      exact (congrFun (Memref.IsWhole.read_unread _ _) (ix2 d _)).trans (hg d ⟨k.val, by omega⟩)
    · intro d k
      pointwise
      exact (congrFun (Memref.IsWhole.read_unread _ _) (ix2 d _)).trans (hg d ⟨512 + k.val, by omega⟩)
    · intro d k
      pointwise
      exact (congrFun (Memref.IsWhole.read_unread _ _) (ix2 d _)).trans (hg d ⟨1024 + k.val, by omega⟩)
    · intro d k
      pointwise
      exact (congrFun (Memref.IsWhole.read_unread _ _) (ix2 d _)).trans (hg d ⟨1536 + k.val, by omega⟩)
    · intro d k
      pointwise
      exact (congrFun (Memref.IsWhole.read_unread _ _) (ix2 d _)).trans (hg d ⟨2048 + k.val, by omega⟩)
    · intro d k
      pointwise
      exact (congrFun (Memref.IsWhole.read_unread _ _) (ix2 d _)).trans (hg d ⟨2560 + k.val, by omega⟩)
    · intro d k
      pointwise
      exact (congrFun (Memref.IsWhole.read_unread _ _) (ix2 d _)).trans (hg d ⟨3072 + k.val, by omega⟩)

/-- The accumulator after every point. -/
theorem dw_sums (H : Args m c P C Z T U E X v W) : ∀ (n : ℕ) (hn : n < cfg0.N) (d : Fin 1024) (k : Fin 3584),
    (outsAt0 m c n hn).2.2.1 (ix2 d k) = ((accSum P C Z T U X v (n + 1) d k : ℝ) : EReal)
  | n, hn => by
    have ht := lt64 ⟨n, hn⟩
    by_cases h0 : n % 64 = 0
    · exact dw_first H ⟨n, hn⟩ h0
    · have hp : n - 1 < n := by omega
      have ih := dw_sums H (n - 1) (Nat.lt_of_le_of_lt (Nat.sub_le _ _) hn)
      rw [show n - 1 + 1 = n by omega] at ih
      exact dw_next H ⟨n, hn⟩ h0 ih

/-- The block of the gradient in the rows, at every point. -/
theorem block_at (H : Args m c P C Z T U E X v W) (t : Fin cfg0.N) (i : Fin 256) (d : Fin 1024) :
    (outsAt0 m c t.val t.isLt).1 (ix2 i d) = ((through (X (256 * t.val + i)) (dgain P C Z T U E v W (256 * t.val + i)) d : ℝ) : EReal) := by
  by_cases h0 : t.val % 64 = 0
  · have h1 : ¬ t.val % 64 = 63 := by omega
    rw [outsAt0_A m c t h0 h1, pointA]
    frame_out
    exact gradT_at H t i d
  · by_cases h1 : t.val % 64 = 63
    · rw [outsAt0_C m c t h0 h1, pointC]
      frame_out
      exact gradT_at H t i d
    · rw [outsAt0_B m c t h0 h1, pointB]
      frame_out
      exact gradT_at H t i d

end Cert.Inb

end
-- ==== Proof.Inb.Final.lean ====
module

public import proofs.«01_k».proof.Proof.Inb.Acc
public import Idealize.ShloMosaic.Lib.Claim

@[expose] public section

set_option maxRecDepth 16384

/-!
# The two results of the call

The gradient in the rows, block by block, and the gradient in the matrix, which the last point copies out of the
accumulator.
-/

noncomputable section

namespace Cert.Inb

open Idealize.ShloMosaic Idealize.ShloMosaic.TcCoe Idealize.SL.Sem
open Idealize.ShloMosaic.Pipeline (Dat)
open Cert.Kernel5Ideal Cert.Kernel5Ideal.Gen Cert.FwdSpec Cert.InbSpec

variable {m : (ℓ : Loc nD τ sig) → Buf (Elt Ideal) ℓ} {c : Dev nD} {P C Z T U E X v W : ℕ → ℕ → ℝ}

/-- **The first result**: the gradient in the rows. -/
theorem final_gradx (H : Args m c P C Z T U E X v W) :
    (dats m 0 c).arrAt 13 cfg0.N = fun i => ((through (X (i 0).val) (dgain P C Z T U E v W (i 0).val) (i 1).val : ℝ) : EReal) := by
  refine (dats m 0 c).arrAt_eq_of_covers 13 _ (by decide +kernel) fun t _ y => ?_
  have ht := lt64 t
  blk_simp [idxA t]
  rw [after0_13]
  have e : y = (ix2 (y 0 : Fin 256) (y 1 : Fin 1024) : S256x1024.Idx) := by blk_ext
  rw [e]
  refine (block_at H t (y 0) (y 1)).trans ?_
  rw [Nat.mul_comm 256 t.val]
  rfl

set_option maxHeartbeats 2000000 in
/-- The last point copies the accumulator into the result. -/
theorem dw_copied (t : Fin cfg0.N) (h1 : t.val % 64 = 63) (d : Fin 1024) (k : Fin 3584) :
    ((outsAt0 m c t.val t.isLt).2.2.2 : S1024x3584.Idx → EReal) (ix2 d k) = (outsAt0 m c t.val t.isLt).2.2.1 (ix2 d k) := by
  have h0 : ¬ t.val % 64 = 0 := by omega
  have hc := scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (V m c main_v55) (outsAt0 m c (t.val - 1) (Nat.lt_of_le_of_lt (Nat.sub_le _ _) t.isLt)).2.2.2 (ix2 d k)
  rw [outsAt0_C m c t h0 h1, pointC]
  dsimp only
  unfold hbw0_C_1 sout0_C_0 kernelRun0_C
  dsimp only
  unfold kernelRun0_C.sl.dma66
  refine (congrFun (View.write_whole_univ main_v56_2 _ _) (ix2 d k)).trans ?_
  refine Eq.trans ?_ (View.read_writes_apply_eq_canon _ _ _ _ hc).symm
  exact View.read_writes_apply_eq_canon _ _ _ _ hc

/-- The result after the last point. -/
theorem dw_at (H : Args m c P C Z T U E X v W) (n : ℕ) (hn : n < cfg0.N) (h : n = 63) (d : Fin 1024) (k : Fin 3584) :
    ((outsAt0 m c n hn).2.2.2 : S1024x3584.Idx → EReal) (ix2 d k) = ((widen (dW P C Z T U X v 16384 d) k : ℝ) : EReal) := by
  have e : 256 * (n + 1) = 16384 := by omega
  refine (dw_copied ⟨n, hn⟩ (by dsimp only; omega) d k).trans ((dw_sums H n hn d k).trans (congrArg Real.toEReal ?_))
  rw [accSum, dW_widen, e]

/-- **The second result**: the gradient in the matrix, with its zero columns. -/
theorem final_dw (H : Args m c P C Z T U E X v W) (d : Fin 1024) (k : Fin 3584) :
    ((outsAt0 m c 63 last_lt).2.2.2 : S1024x3584.Idx → EReal) (ix2 d k) = ((widen (dW P C Z T U X v 16384 d) k : ℝ) : EReal) :=
  dw_at H 63 last_lt rfl d k

variable (m) in
/-- The run of the call with its two results named, the arguments unchanged. -/
theorem run_blocks (ρ : Dev nD → PrngReg) : θ_run (defs (F := Ideal)) (onTc (τ := τ) (main (F := Ideal))) ⟨m, fun _ => 0, ρ⟩ fun r =>
    (∀ c : Dev nD, r.2.mem ((c : Thread nD τ).loc main_v56_0) = (dats m 0 c).arrAt 13 cfg0.N
      ∧ r.2.mem ((c : Thread nD τ).loc main_v56_2) = (outsAt0 m c 63 last_lt).2.2.2)
    ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  θ_run_and ((θ_run defs _ _).mono (fun r h c => ⟨(h.toR c).1 13, (h.written c (by decide : main_v56_2 ∈ R0)).trans (hbG0_1 m 63 last_lt c)⟩)
    (run_main m ρ)) (unchanged m ρ)

end Cert.Inb

end
-- ==== Proof.Inb.Printed.lean ====
/-
  The frame of the printed program at the bit-exact floats. The idealized program has the same text, so that the two programs are
  equal, and the run proved of the one is a run of the other.
-/
module

public import proofs.«01_k».proof.Defs
public import proofs.«01_k».proof.Proof.Inb.Held
public import proofs.«01_k».proof.Proof.Gen.Kernel5

@[expose] public section

set_option maxRecDepth 65536
set_option maxHeartbeats 4000000

noncomputable section

namespace Cert.Inb

open Idealize.ShloMosaic Idealize.ShloMosaic.TcCoe Idealize.SL.Sem

/-- The two programs' host code is the same. -/
theorem main_same : Cert.Kernel5.main (F := Bits) = Cert.Kernel5Ideal.main (F := Bits) := rfl

/-- The two programs' kernels are the same. -/
theorem bodies_same : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | 0, (t, s) =>
    unfold Cert.Kernel5.cc0_inproj_bwd Cert.Kernel5Ideal.cc0_inproj_bwd
    with_unfolding_all rfl
  | ⟨_ + 1, h⟩, _ => exact absurd h (by omega)

/-- The two programs' launches are the same. -/
theorem defs_same : Cert.Kernel5.defs (F := Bits) = Cert.Kernel5Ideal.defs (F := Bits) :=
  congrArg (Idealize.ShloMosaic.Pipeline.defs Cert.Kernel5Ideal.pcfgs) bodies_same

/-- The printed program runs to the end, leaves its arguments as they were, and every counter at zero. -/
theorem frame_printed : Cert.quiescent_Kernel5 := by
  intro m ρ _
  rw [defs_same, main_same]
  exact frame (F := Bits) m ρ

end Cert.Inb

end
-- ==== Proof.Inb.RefRead.lean ====
module

public import proofs.«01_k».proof.Proof.Inb.Spec
public import proofs.«01_k».proof.Proof.Fwd.RefRead
public import proofs.«01_k».proof.Proof.Gen.Reference5Ideal.Run
public import Idealize.ShloMosaic.Lib.Pointwise

@[expose] public section

set_option maxRecDepth 16384

/-!
# The input projection's reference, read at an index

The reference differentiates the normalisation, the modulation, the product with the matrix and the convolution.  Each
pad's rows or columns add up to the gradient in the product's columns, and the chain rule leaves three terms of the
gradient in the rows: directly, through the mean square, and through the mean.
-/

noncomputable section

namespace Cert.InbRef

open Idealize.ShloMosaic Idealize.ShloMosaic.TcCoe Idealize.SL.Sem Idealize.ShloMosaic.StableHlo
open Cert.Reference5Ideal Cert.Reference5Ideal.Gen Cert.Reference5Ideal.Value Cert.FwdSpec Cert.InbSpec
open Cert.FfnSpec (sum_coe)
open Cert.FwdRef (mean_coe viaVar_coe dRow_coe)

variable {V0 : Valuation τ sig (Elt Ideal)} {P C Z T U E X v W : ℕ → ℕ → ℝ}

/-- The reference's arguments are real arrays. -/
abbrev Args (V0 : Valuation τ sig (Elt Ideal)) (P C Z T U E X v W : ℕ → ℕ → ℝ) : Prop :=
  Holds P C Z T U E X v W (V0 (Proc.devRef .tc main_arg0)) (V0 (Proc.devRef .tc main_arg1)) (V0 (Proc.devRef .tc main_arg3)) (V0 (Proc.devRef .tc main_arg4))
    (V0 (Proc.devRef .tc main_arg5)) (V0 (Proc.devRef .tc main_arg6)) (V0 (Proc.devRef .tc main_arg7)) (V0 (Proc.devRef .tc main_arg8)) (V0 (Proc.devRef .tc main_arg9))

theorem mean_at (H : Args V0 P C Z T U E X v W) (r : Fin 16384) (j : Fin 1) : res_main_v7 V0 (ix2 r j) = ((mean (X r) : ℝ) : EReal) := by
  have e := fun d => H.x r d
  pointwise [res_main_v7]
  exact mean_coe e

theorem cen_at (H : Args V0 P C Z T U E X v W) (r : Fin 16384) (d : Fin 1024) : res_main_v9 V0 (ix2 r d) = ((cen (X r) d : ℝ) : EReal) := by
  have e' := mean_at H r 0
  pointwise [res_main_v9]
  exact (congrArg₂ (· - ·) (H.x r d) e').trans (EReal.coe_sub _ _).symm

theorem cen_at' (H : Args V0 P C Z T U E X v W) (r : Fin 16384) (d : Fin 1024) : res_main_v18 V0 (ix2 r d) = ((cen (X r) d : ℝ) : EReal) :=
  cen_at H r d

theorem vare_at (H : Args V0 P C Z T U E X v W) (r : Fin 16384) (j : Fin 1) : res_main_v20 V0 (ix2 r j) = ((vare (X r) : ℝ) : EReal) := by
  have e := fun d => cen_at H r d
  pointwise [res_main_v20]
  refine (congrArg₂ (· + ·) (mean_coe (p := fun d => cen (X r) d * cen (X r) d) fun d => ?_) eps_bits).trans (EReal.coe_add _ _).symm
  rw [e, ← EReal.coe_mul]

theorem rs_at (H : Args V0 P C Z T U E X v W) (r : Fin 16384) (j : Fin 1) : res_main_v21 V0 (ix2 r j) = ((rs (X r) : ℝ) : EReal) := by
  have e := vare_at H r j
  pointwise [res_main_v21]
  rw [e]
  exact rs_coe _

theorem gain_at (H : Args V0 P C Z T U E X v W) (j : Fin 1) (d : Fin 1024) : res_main_v27 V0 (ix2 j d) = ((v 6 d : ℝ) : EReal) := by
  pointwise [res_main_v27]
  exact H.v 6 d

theorem scale_at (H : Args V0 P C Z T U E X v W) (j : Fin 1) (d : Fin 1024) : res_main_v39 V0 (ix2 j d) = ((1 + v 1 d : ℝ) : EReal) := by
  pointwise [res_main_v39]
  refine (congrArg (fun z : EReal => 1 + z) (H.v 1 d)).trans ?_
  rw [← EReal.coe_one, ← EReal.coe_add]
  rfl

/-- The row that is multiplied with the matrix. -/
theorem hid_at (H : Args V0 P C Z T U E X v W) (r : Fin 16384) (d : Fin 1024) : res_main_v44 V0 (ix2 r d) = ((hid X v r d : ℝ) : EReal) := by
  have e1 := cen_at' H r d
  have e2 := rs_at H r 0
  have e3 := gain_at H 0 d
  have e4 := scale_at H 0 d
  pointwise [res_main_v44]
  rw [e1, e2, e3, e4]
  refine (congrArg₂ (· + ·) (congrArg (fun z : EReal => (_ + z) * _) (H.v 7 d)) (H.v 0 d)).trans ?_
  simp only [← EReal.coe_mul, ← EReal.coe_add]
  rfl

theorem tap0_at (H : Args V0 P C Z T U E X v W) (j : Fin 1) (k : Fin 1280) : res_main_v57 V0 (ix2 j k) = ((C 0 k : ℝ) : EReal) := by
  pointwise [res_main_v57]
  exact H.c 0 k

theorem tap1_at (H : Args V0 P C Z T U E X v W) (j : Fin 1) (k : Fin 1280) : res_main_v65 V0 (ix2 j k) = ((C 1 k : ℝ) : EReal) := by
  pointwise [res_main_v65]
  exact H.c 1 k

theorem tap2_at (H : Args V0 P C Z T U E X v W) (j : Fin 1) (k : Fin 1280) : res_main_v72 V0 (ix2 j k) = ((C 2 k : ℝ) : EReal) := by
  pointwise [res_main_v72]
  exact H.c 2 k

theorem tap3_at (H : Args V0 P C Z T U E X v W) (j : Fin 1) (k : Fin 1280) : res_main_v79 V0 (ix2 j k) = ((C 3 k : ℝ) : EReal) := by
  pointwise [res_main_v79]
  exact H.c 3 k

theorem tap4_at (H : Args V0 P C Z T U E X v W) (j : Fin 1) (k : Fin 1280) : res_main_v86 V0 (ix2 j k) = ((C 4 k : ℝ) : EReal) := by
  pointwise [res_main_v86]
  exact H.c 4 k

/-- One tap's rows, moved by 4. -/
theorem pad4_at (x : FVec Ideal S16384x1280 .f32) (c : ℕ → ℝ) (hx : ∀ (r : Fin 16384) (k : Fin 1280), x (ix2 r k) = ((c k * P r k : ℝ) : EReal))
    (r : Fin 16384) (s : Fin 16388) (hs : s.val = r + 2) (k : Fin 1280) :
    pad S16388x1280 ![4, 0] ![0, 0] ![0, 0] x (constant S_ .f32 0x00000000#32) pads_S16384x1280_S16388x1280_400_000 h_S_ (ix2 s k)
      = ((c k * edge P (r) k : ℝ) : EReal) := by
  have hr := r.isLt
  pointwise
  unfold edge
  by_cases h : 4 ≤ s.val ∧ s.val - 4 < 16384
  · rw [dif_pos h, hx, if_pos (by omega)]
    exact congrArg (fun r => ((c k * P r k : ℝ) : EReal)) (by dsimp only; omega)
  · rw [dif_neg h, if_neg (by omega), mul_zero, EReal.coe_zero]

/-- One tap times the cotangent. -/
theorem rows4_at (H : Args V0 P C Z T U E X v W) (r : Fin 16384) (k : Fin 1280) :
    mulf (broadcastInDim S16384x1280 ![0, 1] bcast_S1x1280_S16384x1280_0_1 (res_main_v86 V0)) (res_main_v93 V0) (ix2 r k) = ((C 4 k * P r k : ℝ) : EReal) := by
  have e := tap4_at H 0 k
  have p : res_main_v93 V0 (ix2 r k) = ((P r k : ℝ) : EReal) := by
    pointwise [res_main_v93]
    exact H.p r k
  generalize res_main_v93 V0 = A at p ⊢
  pointwise
  rw [e, p, ← EReal.coe_mul]

/-- One tap's rows, moved by 3. -/
theorem pad3_at (x : FVec Ideal S16384x1280 .f32) (c : ℕ → ℝ) (hx : ∀ (r : Fin 16384) (k : Fin 1280), x (ix2 r k) = ((c k * P r k : ℝ) : EReal))
    (r : Fin 16384) (s : Fin 16388) (hs : s.val = r + 2) (k : Fin 1280) :
    pad S16388x1280 ![3, 0] ![1, 0] ![0, 0] x (constant S_ .f32 0x00000000#32) pads_S16384x1280_S16388x1280_310_000 h_S_ (ix2 s k)
      = ((c k * edge P (r + 1) k : ℝ) : EReal) := by
  have hr := r.isLt
  pointwise
  unfold edge
  by_cases h : 3 ≤ s.val ∧ s.val - 3 < 16384
  · rw [dif_pos h, hx, if_pos (by omega)]
    exact congrArg (fun r => ((c k * P r k : ℝ) : EReal)) (by dsimp only; omega)
  · rw [dif_neg h, if_neg (by omega), mul_zero, EReal.coe_zero]

/-- One tap times the cotangent. -/
theorem rows3_at (H : Args V0 P C Z T U E X v W) (r : Fin 16384) (k : Fin 1280) :
    mulf (broadcastInDim S16384x1280 ![0, 1] bcast_S1x1280_S16384x1280_0_1 (res_main_v79 V0)) (res_main_v93 V0) (ix2 r k) = ((C 3 k * P r k : ℝ) : EReal) := by
  have e := tap3_at H 0 k
  have p : res_main_v93 V0 (ix2 r k) = ((P r k : ℝ) : EReal) := by
    pointwise [res_main_v93]
    exact H.p r k
  generalize res_main_v93 V0 = A at p ⊢
  pointwise
  rw [e, p, ← EReal.coe_mul]

/-- One tap's rows, moved by 2. -/
theorem pad2_at (x : FVec Ideal S16384x1280 .f32) (c : ℕ → ℝ) (hx : ∀ (r : Fin 16384) (k : Fin 1280), x (ix2 r k) = ((c k * P r k : ℝ) : EReal))
    (r : Fin 16384) (s : Fin 16388) (hs : s.val = r + 2) (k : Fin 1280) :
    pad S16388x1280 ![2, 0] ![2, 0] ![0, 0] x (constant S_ .f32 0x00000000#32) pads_S16384x1280_S16388x1280_220_000 h_S_ (ix2 s k)
      = ((c k * edge P (r + 2) k : ℝ) : EReal) := by
  have hr := r.isLt
  pointwise
  unfold edge
  by_cases h : 2 ≤ s.val ∧ s.val - 2 < 16384
  · rw [dif_pos h, hx, if_pos (by omega)]
    exact congrArg (fun r => ((c k * P r k : ℝ) : EReal)) (by dsimp only; omega)
  · rw [dif_neg h, if_neg (by omega), mul_zero, EReal.coe_zero]

/-- One tap times the cotangent. -/
theorem rows2_at (H : Args V0 P C Z T U E X v W) (r : Fin 16384) (k : Fin 1280) :
    mulf (broadcastInDim S16384x1280 ![0, 1] bcast_S1x1280_S16384x1280_0_1 (res_main_v72 V0)) (res_main_v93 V0) (ix2 r k) = ((C 2 k * P r k : ℝ) : EReal) := by
  have e := tap2_at H 0 k
  have p : res_main_v93 V0 (ix2 r k) = ((P r k : ℝ) : EReal) := by
    pointwise [res_main_v93]
    exact H.p r k
  generalize res_main_v93 V0 = A at p ⊢
  pointwise
  rw [e, p, ← EReal.coe_mul]

/-- One tap's rows, moved by 1. -/
theorem pad1_at (x : FVec Ideal S16384x1280 .f32) (c : ℕ → ℝ) (hx : ∀ (r : Fin 16384) (k : Fin 1280), x (ix2 r k) = ((c k * P r k : ℝ) : EReal))
    (r : Fin 16384) (s : Fin 16388) (hs : s.val = r + 2) (k : Fin 1280) :
    pad S16388x1280 ![1, 0] ![3, 0] ![0, 0] x (constant S_ .f32 0x00000000#32) pads_S16384x1280_S16388x1280_130_000 h_S_ (ix2 s k)
      = ((c k * edge P (r + 3) k : ℝ) : EReal) := by
  have hr := r.isLt
  pointwise
  unfold edge
  by_cases h : 1 ≤ s.val ∧ s.val - 1 < 16384
  · rw [dif_pos h, hx, if_pos (by omega)]
    exact congrArg (fun r => ((c k * P r k : ℝ) : EReal)) (by dsimp only; omega)
  · rw [dif_neg h, if_neg (by omega), mul_zero, EReal.coe_zero]

/-- One tap times the cotangent. -/
theorem rows1_at (H : Args V0 P C Z T U E X v W) (r : Fin 16384) (k : Fin 1280) :
    mulf (broadcastInDim S16384x1280 ![0, 1] bcast_S1x1280_S16384x1280_0_1 (res_main_v65 V0)) (res_main_v93 V0) (ix2 r k) = ((C 1 k * P r k : ℝ) : EReal) := by
  have e := tap1_at H 0 k
  have p : res_main_v93 V0 (ix2 r k) = ((P r k : ℝ) : EReal) := by
    pointwise [res_main_v93]
    exact H.p r k
  generalize res_main_v93 V0 = A at p ⊢
  pointwise
  rw [e, p, ← EReal.coe_mul]

/-- One tap's rows, moved by 0. -/
theorem pad0_at (x : FVec Ideal S16384x1280 .f32) (c : ℕ → ℝ) (hx : ∀ (r : Fin 16384) (k : Fin 1280), x (ix2 r k) = ((c k * P r k : ℝ) : EReal))
    (r : Fin 16384) (s : Fin 16388) (hs : s.val = r + 2) (k : Fin 1280) :
    pad S16388x1280 ![0, 0] ![4, 0] ![0, 0] x (constant S_ .f32 0x00000000#32) pads_S16384x1280_S16388x1280_040_000 h_S_ (ix2 s k)
      = ((c k * edge P (r + 4) k : ℝ) : EReal) := by
  have hr := r.isLt
  pointwise
  unfold edge
  by_cases h : s.val < 16384
  · rw [dif_pos h, hx, if_pos (by omega)]
    exact congrArg (fun r => ((c k * P r k : ℝ) : EReal)) (by dsimp only; omega)
  · rw [dif_neg h, if_neg (by omega), mul_zero, EReal.coe_zero]

/-- One tap times the cotangent. -/
theorem rows0_at (H : Args V0 P C Z T U E X v W) (r : Fin 16384) (k : Fin 1280) :
    mulf (broadcastInDim S16384x1280 ![0, 1] bcast_S1x1280_S16384x1280_0_1 (res_main_v57 V0)) (res_main_v93 V0) (ix2 r k) = ((C 0 k * P r k : ℝ) : EReal) := by
  have e := tap0_at H 0 k
  have p : res_main_v93 V0 (ix2 r k) = ((P r k : ℝ) : EReal) := by
    pointwise [res_main_v93]
    exact H.p r k
  generalize res_main_v93 V0 = A at p ⊢
  pointwise
  rw [e, p, ← EReal.coe_mul]

/-- The convolution with the taps in reverse, at the rows it is sliced from. -/
theorem conv_at (H : Args V0 P C Z T U E X v W) (r : Fin 16384) (s : Fin 16388) (hs : s.val = r + 2) (k : Fin 1280) :
    res_main_v113 V0 (ix2 s k) = ((dconv P C r k : ℝ) : EReal) := by
  refine (congrArg₂ (· + ·) (congrArg₂ (· + ·) (congrArg₂ (· + ·) (congrArg₂ (· + ·) (pad4_at _ (C 4) (rows4_at H) r s hs k) (pad3_at _ (C 3) (rows3_at H) r s hs k))
    (pad2_at _ (C 2) (rows2_at H) r s hs k)) (pad1_at _ (C 1) (rows1_at H) r s hs k)) (pad0_at _ (C 0) (rows0_at H) r s hs k)).trans ?_
  simp only [← EReal.coe_add]
  refine congrArg Real.toEReal ?_
  unfold dconv
  ring

/-- Those rows. -/
theorem slice_at (H : Args V0 P C Z T U E X v W) (r : Fin 16384) (k : Fin 1280) :
    extractStridedSlice S16384x1280 ![2, 0] (res_main_v113 V0) slices_S16388x1280_S16384x1280_2_0 (ix2 r k) = ((dconv P C r k : ℝ) : EReal) := by
  have e := fun (s : Fin 16388) (hs : s.val = r + 2) => conv_at H r s hs k
  generalize res_main_v113 V0 = A at e ⊢
  pointwise
  exact e _ (by dsimp only; omega)

/-- The last columns. -/
theorem colsU_at (x : FVec Ideal S16384x1024 .f32) (hx : ∀ (r : Fin 16384) (k : Fin 1024), x (ix2 r k) = ((U r k : ℝ) : EReal)) (r : Fin 16384) (k : Fin 3360) :
    pad S16384x3360 ![0, 2336] ![0, 0] ![0, 0] x (constant S_ .f32 0x00000000#32) pads_S16384x1024_S16384x3360_000_233600 h_S_ (ix2 r k)
      = (((if 2336 ≤ k.val then U r (k - 2336) else 0) : ℝ) : EReal) := by
  have hk := k.isLt
  pointwise
  by_cases h : 2336 ≤ k.val
  · exact (dif_pos (by omega)).trans ((hx r ⟨k.val - 2336, by omega⟩).trans (congrArg Real.toEReal (if_pos h).symm))
  · exact (dif_neg (by omega)).trans (EReal.coe_zero.symm.trans (congrArg Real.toEReal (if_neg h).symm))

/-- The step sizes' columns. -/
theorem colsT_at (x : FVec Ideal S16384x32 .f32) (hx : ∀ (r : Fin 16384) (k : Fin 32), x (ix2 r k) = ((T r k : ℝ) : EReal)) (r : Fin 16384) (k : Fin 3360) :
    pad S16384x3360 ![0, 2304] ![0, 1024] ![0, 0] x (constant S_ .f32 0x00000000#32) pads_S16384x32_S16384x3360_000_230410240 h_S_ (ix2 r k)
      = (((if 2304 ≤ k.val ∧ k.val < 2336 then T r (k - 2304) else 0) : ℝ) : EReal) := by
  have hk := k.isLt
  pointwise
  by_cases h : 2304 ≤ k.val ∧ k.val < 2336
  · exact (dif_pos (by omega)).trans ((hx r ⟨k.val - 2304, by omega⟩).trans (congrArg Real.toEReal (if_pos h).symm))
  · exact (dif_neg (by omega)).trans (EReal.coe_zero.symm.trans (congrArg Real.toEReal (if_neg h).symm))

/-- The convolution's columns. -/
theorem colsP_at (x : FVec Ideal S16384x1280 .f32) (hx : ∀ (r : Fin 16384) (k : Fin 1280), x (ix2 r k) = ((dconv P C r k : ℝ) : EReal)) (r : Fin 16384) (k : Fin 3360) :
    pad S16384x3360 ![0, 1024] ![0, 1056] ![0, 0] x (constant S_ .f32 0x00000000#32)
        pads_S16384x1280_S16384x3360_000_102410560 h_S_ (ix2 r k)
      = (((if 1024 ≤ k.val ∧ k.val < 2304 then dconv P C r (k - 1024) else 0) : ℝ) : EReal) := by
  have hk := k.isLt
  pointwise
  by_cases h : 1024 ≤ k.val ∧ k.val < 2304
  · exact (dif_pos (by omega)).trans ((hx r ⟨k.val - 1024, by omega⟩).trans (congrArg Real.toEReal (if_pos h).symm))
  · exact (dif_neg (by omega)).trans (EReal.coe_zero.symm.trans (congrArg Real.toEReal (if_neg h).symm))

/-- The first columns. -/
theorem colsZ_at (x : FVec Ideal S16384x1024 .f32) (hx : ∀ (r : Fin 16384) (k : Fin 1024), x (ix2 r k) = ((Z r k : ℝ) : EReal)) (r : Fin 16384) (k : Fin 3360) :
    pad S16384x3360 ![0, 0] ![0, 2336] ![0, 0] x (constant S_ .f32 0x00000000#32) pads_S16384x1024_S16384x3360_000_023360 h_S_ (ix2 r k)
      = (((if k.val < 1024 then Z r k else 0) : ℝ) : EReal) := by
  have hk := k.isLt
  pointwise
  by_cases h : k.val < 1024
  · exact (dif_pos (by omega)).trans ((hx r ⟨k.val, by omega⟩).trans (congrArg Real.toEReal (if_pos h).symm))
  · exact (dif_neg (by omega)).trans (EReal.coe_zero.symm.trans (congrArg Real.toEReal (if_neg h).symm))

/-- The gradient in the product's columns. -/
theorem proj_at (H : Args V0 P C Z T U E X v W) (r : Fin 16384) (k : Fin 3360) : res_main_v123 V0 (ix2 r k) = ((dproj P C Z T U r k : ℝ) : EReal) := by
  refine (congrArg₂ (· + ·) (congrArg₂ (· + ·) (congrArg₂ (· + ·) (colsU_at _ H.u r k) (colsT_at _ H.t r k)) (colsP_at _ (slice_at H) r k)) (colsZ_at _ H.z r k)).trans ?_
  simp only [← EReal.coe_add]
  refine congrArg Real.toEReal ?_
  unfold dproj
  by_cases h1 : k.val < 1024
  · rw [if_pos h1, if_pos h1, if_neg (by omega), if_neg (by omega), if_neg (by omega)]
    ring
  by_cases h2 : k.val < 2304
  · rw [if_neg h1, if_neg h1, if_neg (by omega), if_neg (by omega), if_pos (by omega), if_pos h2]
    ring
  by_cases h3 : k.val < 2336
  · rw [if_neg h1, if_neg h1, if_neg (by omega), if_pos (by omega), if_neg (by omega), if_neg h2, if_pos h3]
    ring
  · rw [if_neg h1, if_neg h1, if_pos (by omega), if_neg (by omega), if_neg (by omega), if_neg h2, if_neg h3]
    ring

/-- The gradient in the matrix. -/
theorem mat_at (H : Args V0 P C Z T U E X v W) (d : Fin 1024) (k : Fin 3360) : res_main_v125 V0 (ix2 d k) = ((dW P C Z T U X v 16384 d k : ℝ) : EReal) := by
  have e1 := fun r => proj_at H r k
  have e2 := fun r => hid_at H r d
  pointwise [res_main_v125]
  refine sum_coe _ (fun r => hid X v r d * dproj P C Z T U r k) fun r => ?_
  rw [e1, e2, ← EReal.coe_mul, mul_comm]

/-- A row of the product's gradient times a row of the matrix. -/
theorem dot_coe {f g : Fin 3360 → EReal} {p q : ℕ → ℝ} (hf : ∀ k : Fin 3360, f k = ((p k : ℝ) : EReal)) (hg : ∀ k : Fin 3360, g k = ((q k : ℝ) : EReal)) :
    ∑ k, f k * g k = ((∑ k ∈ Finset.range 3360, p k * q k : ℝ) : EReal) :=
  sum_coe _ (fun k => p k * q k) fun k => (congrArg₂ (· * ·) (hf k) (hg k)).trans (EReal.coe_mul _ _).symm

/-- The gradient in the row before its scale and shift, times the gain. -/
theorem dgain_at (H : Args V0 P C Z T U E X v W) (r : Fin 16384) (d : Fin 1024) : res_main_v131 V0 (ix2 r d) = ((dgain P C Z T U E v W r d : ℝ) : EReal) := by
  have e1 := fun k => proj_at H r k
  have e2 := gain_at H 0 d
  have e3 := scale_at H 0 d
  pointwise [res_main_v131]
  rw [e2, e3]
  refine (congrArg (fun z : EReal => z * _) (congrArg₂ (· + ·) (H.e r d) (congrArg (fun z : EReal => z * _)
    (dot_coe (f := fun k => res_main_v123 V0 (ix2 r k)) (g := fun k => V0 (Proc.devRef .tc main_arg9) (ix2 d k)) e1 (H.w d))))).trans ?_
  simp only [← EReal.coe_mul, ← EReal.coe_add]
  rfl

/-- The term that goes directly. -/
theorem direct_at (H : Args V0 P C Z T U E X v W) (r : Fin 16384) (d : Fin 1024) :
    res_main_v136 V0 (ix2 r d) = ((dgain P C Z T U E v W r d * rs (X r) : ℝ) : EReal) := by
  have e1 := dgain_at H r d
  have e3 := rs_at H r 0
  pointwise [res_main_v136]
  rw [e1, e3, ← EReal.coe_mul]

/-- The term through the mean square. -/
theorem viaVar_at (H : Args V0 P C Z T U E X v W) (r : Fin 16384) (d : Fin 1024) :
    res_main_v145 V0 (ix2 r d) = ((viaVar (X r) (fun _ => 1024) (dgain P C Z T U E v W r) (fun d => nrm (X r) d * 1024) d : ℝ) : EReal) := by
  have e1 := fun d => cen_at' H r d
  have e2 : ∀ d : Fin 1024, res_main_v131 V0 (ix2 r d) = ((dn (X r) (fun _ => 1024) (dgain P C Z T U E v W r) (fun d => nrm (X r) d * 1024) d : ℝ) : EReal) :=
    fun d => (dgain_at H r d).trans (congrArg Real.toEReal (congrFun (dn_any (X r) (dgain P C Z T U E v W r)) d).symm)
  have e3 := rs_at H r 0
  have e4 := vare_at H r 0
  have e5 := cen_at H r d
  pointwise [res_main_v145]
  exact viaVar_coe (s := fun x => res_main_v21 V0 (ix2 r x)) (w := fun x => res_main_v20 V0 (ix2 r x)) e1 e2 e3 e4 e5

/-- **The first result**: the gradient in the rows. -/
theorem grad_at (H : Args V0 P C Z T U E X v W) (r : Fin 16384) (d : Fin 1024) :
    (addf (addf (res_main_v136 V0) (res_main_v145 V0)) (broadcastInDim S16384x1024 ![0] bcast_S16384_S16384x1024_0 (Host.reduceAdd (Host.divf (addf (shapeCast _ (Host.reduceAdd (Host.negf (res_main_v136 V0)) (constant S_ .f32 0x00000000#32) reducesTo_S16384x1024_S16384_d1 h_S_) shapeCasts_S16384_S16384x1) (shapeCast _ (Host.reduceAdd (Host.negf (res_main_v145 V0)) (constant S_ .f32 0x00000000#32) reducesTo_S16384x1024_S16384_d1 h_S_) shapeCasts_S16384_S16384x1)) (broadcastInDim S16384x1 ![] bcast_S_S16384x1 (constant S_ .f32 0x44800000#32))) (constant S_ .f32 0x00000000#32) reducesTo_S16384x1_S16384_d1 h_S_)) : FVec Ideal S16384x1024 .f32) (ix2 r d)
      = ((through (X r) (dgain P C Z T U E v W r) d : ℝ) : EReal) := by
  have e1 : ∀ d : Fin 1024, res_main_v136 V0 (ix2 r d) = ((dn (X r) (fun _ => 1024) (dgain P C Z T U E v W r) (fun d => nrm (X r) d * 1024) d * rs (X r) : ℝ) : EReal) :=
    fun d => (direct_at H r d).trans (by rw [dn_any])
  have e2 := fun d => viaVar_at H r d
  generalize res_main_v136 V0 = a at e1 ⊢
  generalize res_main_v145 V0 = b at e2 ⊢
  pointwise
  exact (dRow_coe e1 e2 d).trans (congrArg Real.toEReal (dRow_any _ _ _))

set_option maxHeartbeats 1000000 in
/-- **The second result**: the gradient in the matrix, with its zero columns. -/
theorem dw_at (H : Args V0 P C Z T U E X v W) (d : Fin 1024) (k : Fin 3584) :
    (concatenate S1024x3584 1 [⟨S1024x2320, ((extractStridedSlice S1024x2320 ![0, 0] (res_main_v125 V0) slices_S1024x3360_S1024x2320_0_0) : (⟨S1024x2320, .f32⟩ : BufTy).Contents (Elt Ideal))⟩, ⟨S1024x112, ((res_main_v156 V0) : (⟨S1024x112, .f32⟩ : BufTy).Contents (Elt Ideal))⟩, ⟨S1024x16, ((extractStridedSlice S1024x16 ![0, 2320] (res_main_v125 V0) slices_S1024x3360_S1024x16_0_2320) : (⟨S1024x16, .f32⟩ : BufTy).Contents (Elt Ideal))⟩, ⟨S1024x112, ((res_main_v156 V0) : (⟨S1024x112, .f32⟩ : BufTy).Contents (Elt Ideal))⟩, ⟨S1024x1024, ((extractStridedSlice S1024x1024 ![0, 2336] (res_main_v125 V0) slices_S1024x3360_S1024x1024_0_2336) : (⟨S1024x1024, .f32⟩ : BufTy).Contents (Elt Ideal))⟩] concatenates_S1024x2320_S1024x112_S1024x16_S1024x112_S1024x1024_S1024x3584_d1 : (⟨S1024x3584, .f32⟩ : BufTy).Contents (Elt Ideal)) (ix2 d k)
      = ((widen (dW P C Z T U X v 16384 d) k : ℝ) : EReal) := by
  have e := fun k => mat_at H d k
  generalize res_main_v125 V0 = A at e ⊢
  have hk := k.isLt
  pointwise [res_main_v156]
  unfold widen
  by_cases h2 : k.val < 2320
  · refine (dif_pos (by omega)).trans ?_
    exact (e ⟨k.val, by omega⟩).trans (congrArg Real.toEReal (if_pos h2).symm)
  refine (dif_neg (by omega)).trans ?_
  rw [if_neg h2]
  by_cases h3 : k.val < 2432
  · exact (dif_pos (by omega)).trans (EReal.coe_zero.symm.trans (congrArg Real.toEReal (if_pos h3).symm))
  refine (dif_neg (by omega)).trans ?_
  rw [if_neg h3]
  by_cases h4 : k.val < 2448
  · refine (dif_pos (by omega)).trans ?_
    exact ((e ⟨2320 + (k.val - 2320 - 112), by omega⟩).trans
      (congrArg (fun k => ((dW P C Z T U X v 16384 d k : ℝ) : EReal)) (show 2320 + (k.val - 2320 - 112) = k.val - 112 by omega))).trans (congrArg Real.toEReal (if_pos h4).symm)
  refine (dif_neg (by omega)).trans ?_
  rw [if_neg h4]
  by_cases h5 : k.val < 2560
  · exact (dif_pos (by omega)).trans (EReal.coe_zero.symm.trans (congrArg Real.toEReal (if_pos h5).symm))
  refine (dif_neg (by omega)).trans ?_
  exact ((e ⟨2336 + (k.val - 2320 - 112 - 16 - 112), by omega⟩).trans
    (congrArg (fun k => ((dW P C Z T U X v 16384 d k : ℝ) : EReal)) (show 2336 + (k.val - 2320 - 112 - 16 - 112) = k.val - 224 by omega))).trans (congrArg Real.toEReal (if_neg h5).symm)

end Cert.InbRef

end
-- ==== Proof.Inb.Finite.lean ====
/-
  What the fifth precondition says of the arguments: every element of nine of the ten arrays is a real number.
-/
module

public import proofs.«01_k».proof.Defs
public import proofs.«01_k».proof.Proof.Gen.Pre_finite5
public import proofs.«01_k».proof.Proof.Finite
public import proofs.«01_k».proof.Proof.Inb.Final

@[expose] public section

noncomputable section

namespace Cert.InbFinite

open Idealize.ShloMosaic Idealize.ShloMosaic.TcCoe Idealize.SL.Sem Cert.Finite Cert.InbSpec

/-- Under the precondition each of the nine arguments is an array of real numbers. -/
theorem args_of_pre (m : (ℓ : Loc Cert.Kernel5Ideal.nD Cert.Kernel5Ideal.τ Cert.Kernel5Ideal.sig) → Buf (Elt Ideal) ℓ)
    (hpre : Cert.Pre_Kernel5Ideal_finite5 m) (c : Dev Cert.Kernel5Ideal.nD) :
    ∃ P C Z T U E X v W, Cert.Inb.Args m c P C Z T U E X v W := by
  have h := congrFun (hpre c) i0
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  obtain ⟨P, p⟩ := exists_plain _ (real_of_all _ _ (fun _ => rfl) _ _ _ i0 h0)
  obtain ⟨C, c'⟩ := exists_plain _ (real_of_all _ _ (fun _ => rfl) _ _ _ i0 h1)
  obtain ⟨Z, z⟩ := exists_plain _ (real_of_all _ _ (fun _ => rfl) _ _ _ i0 h2)
  obtain ⟨T, t⟩ := exists_plain _ (real_of_all _ _ (fun _ => rfl) _ _ _ i0 h3)
  obtain ⟨U, u⟩ := exists_plain _ (real_of_all _ _ (fun _ => rfl) _ _ _ i0 h4)
  obtain ⟨E, e⟩ := exists_plain _ (real_of_all _ _ (fun _ => rfl) _ _ _ i0 h5)
  obtain ⟨X, x⟩ := exists_plain _ (real_of_all _ _ (fun _ => rfl) _ _ _ i0 h6)
  obtain ⟨v, v'⟩ := exists_plain _ (real_of_all _ _ (fun _ => rfl) _ _ _ i0 h7)
  obtain ⟨W, w⟩ := exists_plain _ (real_of_all _ _ (fun _ => rfl) _ _ _ i0 h8)
  exact ⟨P, C, Z, T, U, E, X, v, W, p, c', z, t, u, e, x, v', w⟩

end Cert.InbFinite

end
-- ==== Proof.lean ====
/-
  The certificate, for three calls of the backward pass and two of the forward pass. Of each: the kernel's frame at the bit-exact
  floats and at the ideal values, the reference's frame, and that the two ideal programs return the same results. The first call
  returns the gradient of the scan's initial states; the second returns the four gradients of the gated feed-forward layer; the
  third runs that layer forward with the loss behind it and returns the loss's gradient and the layer's two products; the fourth
  is the input projection with its convolution, and the fifth returns its two gradients. The fourth is compared on every memory,
  the others on the memories whose arguments are finite.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2.Frame
public import proofs.«01_k».proof.Proof.Gen.Reference2Ideal.Run
public import proofs.«01_k».proof.Proof.Gen.Pre_finite2
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Pre_finite3
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Reference5Ideal.Run
public import proofs.«01_k».proof.Proof.Gen.Pre_finite5
public import proofs.«01_k».proof.Proof.Final
public import proofs.«01_k».proof.Proof.RefRead
public import proofs.«01_k».proof.Proof.Finite
public import proofs.«01_k».proof.Proof.Ffn.Final
public import proofs.«01_k».proof.Proof.Ffn.RefResult
public import proofs.«01_k».proof.Proof.Ffn.Finite
public import proofs.«01_k».proof.Proof.Fwd.Final
public import proofs.«01_k».proof.Proof.Fwd.RefRead
public import proofs.«01_k».proof.Proof.Fwd.Finite
public import proofs.«01_k».proof.Proof.Inp.Final
public import proofs.«01_k».proof.Proof.Inp.RefRead
public import proofs.«01_k».proof.Proof.Inb.Final
public import proofs.«01_k».proof.Proof.Inb.Printed
public import proofs.«01_k».proof.Proof.Inb.RefRead
public import proofs.«01_k».proof.Proof.Inb.Finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference's frame: its run read at its arguments, and it declares no counter. -/
theorem frame_reference : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The two programs return the same gradient of the initial states. -/
theorem algebraic : Cert.algebraic_KernelIdeal_ReferenceIdeal_pre_finite := by
  intro m g m' g' hpre hagree
  refine ⟨fun c => (Cert.KernelIdeal.Gen.dats m 0 c).arrAt 18 (Cert.KernelIdeal.cfgs 0).N, ?_, ?_⟩
  · exact (θ_run (Cert.KernelIdeal.defs (F := Ideal)) _ _).mono (fun r h c => (h c).2.2.2.2.2)
      (Cert.KernelIdeal.Value.run_blocks m g)
  · refine (θ_run (Cert.ReferenceIdeal.defs (F := Ideal)) _ _).mono (fun r h c => ⟨(h c).1.trans ?_, (h c).2⟩)
      (Cert.ReferenceIdeal.Value.run (F := Ideal) m' g')
    obtain ⟨y, w, x, b, al, g0, H⟩ := Cert.Finite.args_of_pre m hpre c
    obtain ⟨a0, a1, a2, a3, a4, -, -, -, -, -, a10, a11⟩ := hagree c
    have H' : Cert.ReferenceIdeal.Read.Args (Idealize.ShloMosaic.StableHlo.launchContents m' c) y w x b al g0 := by
      unfold Cert.KernelIdeal.Scan.Args at H
      rw [← a0, ← a1, ← a2, ← a3, ← a4, ← a10, ← a11] at H
      exact H
    refine Eq.trans (funext fun i => ?_) (Cert.KernelIdeal.Scan.final H).symm
    exact Cert.ReferenceIdeal.Read.result_at H' (i 0) (i 1) (i 2)

/-- The second reference's frame. -/
theorem frame_reference2 : Cert.quiescent_Reference2Ideal := by
  intro m g _
  exact (θ_run Cert.Reference2Ideal.defs _ _).mono
    (fun r h => ⟨fun c => (h c).2.2.2.2, Idealize.ShloMosaic.sem_eq_zero_of_no_sems (by decide) r.2⟩)
    (Cert.Reference2Ideal.Value.run (F := Ideal) m g)

/-- The two programs return the same four gradients of the feed-forward layer. -/
theorem algebraic2 : Cert.algebraic_Kernel2Ideal_Reference2Ideal_pre_finite2 := by
  intro m g m' g' hpre hagree
  refine ⟨fun c => (Cert.Ffn.dats m 0 c).arrAt 8 Cert.Kernel2Ideal.cfg0.N, fun c => Cert.Ffn.gateRes m c 127 Cert.Ffn.last_lt,
    fun c => Cert.Ffn.valueRes m c 127 Cert.Ffn.last_lt, fun c => Cert.Ffn.downRes m c 127 Cert.Ffn.last_lt, ?_, ?_⟩
  · refine (θ_run (Cert.Kernel2Ideal.defs (F := Ideal)) _ _).mono (fun r h c => ?_) (Cert.Ffn.run_blocks m g)
    obtain ⟨h0, k0, k1, k2, k3, k4, k5, h1, h2, h3⟩ := h c
    exact ⟨h0, h1, h2, h3, k0, k1, k2, k3, k4, k5⟩
  · refine (θ_run (Cert.Reference2Ideal.defs (F := Ideal)) _ _).mono
      (fun r h c => ⟨(h c).1.trans ?_, (h c).2.1.trans ?_, (h c).2.2.1.trans ?_, (h c).2.2.2.1.trans ?_, (h c).2.2.2.2⟩)
      (Cert.Reference2Ideal.Value.run (F := Ideal) m' g')
    all_goals
      obtain ⟨X, P, v, G, U, D, H⟩ := Cert.FfnFinite.args_of_pre m hpre c
      obtain ⟨a0, a1, a2, a3, a4, a5⟩ := hagree c
      have H' : Cert.FfnRef.Args m' c X P v G U D := by
        unfold Cert.Ffn.Args at H
        rw [← a0, ← a1, ← a2, ← a3, ← a4, ← a5] at H
        exact H
    · refine Eq.trans (funext fun i => ?_) (Cert.Ffn.final_hidden H).symm
      exact (congrArg _ (ix3_eta i).symm).trans (Cert.FfnRef.hidden_at H' (i 0) (i 1) (i 2))
    · refine funext fun i => ((congrArg _ (ix3_eta i).symm).trans (Cert.FfnRef.gate_at H' (i 0) (i 1) (i 2))).trans (Cert.Ffn.final_gate H i).symm
    · refine funext fun i => ((congrArg _ (ix3_eta i).symm).trans (Cert.FfnRef.value_at H' (i 0) (i 1) (i 2))).trans (Cert.Ffn.final_value H i).symm
    · refine funext fun i => ((congrArg _ (ix3_eta i).symm).trans (Cert.FfnRef.down_at H' (i 0) (i 1) (i 2))).trans (Cert.Ffn.final_down H i).symm

/-- The third reference's frame. -/
theorem frame_reference3 : Cert.quiescent_Reference3Ideal := by
  intro m g _
  exact (θ_run Cert.Reference3Ideal.defs _ _).mono
    (fun r h => ⟨fun c => (h c).2.2.2, Idealize.ShloMosaic.sem_eq_zero_of_no_sems (by decide) r.2⟩)
    (Cert.Reference3Ideal.Value.run (F := Ideal) m g)

/-- The two programs return the same gradient of the loss and the same two products. -/
theorem algebraic3 : Cert.algebraic_Kernel3Ideal_Reference3Ideal_pre_finite3 := by
  intro m g m' g' hpre hagree
  refine ⟨fun c => (Cert.Kernel3Ideal.Gen.dats m 0 c).arrAt 6 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N, ?_, ?_⟩
  · refine (θ_run (Cert.Kernel3Ideal.defs (F := Ideal)) _ _).mono (fun r h c => ?_) (Cert.Kernel3Ideal.Value.run_blocks m g)
    obtain ⟨h0, -, h2, h3, k⟩ := h c
    exact ⟨h0, h2, h3, k⟩
  · refine (θ_run (Cert.Reference3Ideal.defs (F := Ideal)) _ _).mono
      (fun r h c => ⟨(h c).1.trans ?_, (h c).2.1.trans ?_, (h c).2.2.1.trans ?_, (h c).2.2.2⟩)
      (Cert.Reference3Ideal.Value.run (F := Ideal) m' g')
    all_goals
      obtain ⟨X, T, v, G, U, D, H⟩ := Cert.FwdFinite.args_of_pre m hpre c
      obtain ⟨a0, a1, a2, a3, a4, a5⟩ := hagree c
      have H' : Cert.FwdRef.Args (Idealize.ShloMosaic.StableHlo.launchContents m' c) X T v G U D := by
        unfold Cert.Fwd.Args at H
        rw [← a0, ← a1, ← a2, ← a3, ← a4, ← a5] at H
        exact H
    · refine Eq.trans (funext fun i => ?_) (Cert.Fwd.final_grad H).symm
      exact (congrArg _ (ix2_eta i).symm).trans (Cert.FwdRef.grad_at H' (i 0) (i 1))
    · refine Eq.trans (funext fun i => ?_) (Cert.Fwd.final_gate H).symm
      exact (congrArg _ (ix2_eta i).symm).trans (Cert.FwdRef.wide_at H' H'.g (i 0) (i 1))
    · refine Eq.trans (funext fun i => ?_) (Cert.Fwd.final_value H).symm
      exact (congrArg _ (ix2_eta i).symm).trans (Cert.FwdRef.wide_at H' H'.u (i 0) (i 1))

/-- The fourth reference's frame. -/
theorem frame_reference4 : Cert.quiescent_Reference4Ideal := by
  intro m g _
  exact (θ_run Cert.Reference4Ideal.defs _ _).mono
    (fun r h => ⟨fun c => (h c).2.2.2.2.2.2.2, Idealize.ShloMosaic.sem_eq_zero_of_no_sems (by decide) r.2⟩)
    (Cert.Reference4Ideal.Value.run (F := Ideal) m g)

/-- The two programs return the same seven results of the input projection. -/
theorem algebraic4 : Cert.algebraic_Kernel4Ideal_Reference4Ideal := by
  intro m g m' g' _ hagree
  refine ⟨fun c => (Cert.Kernel4Ideal.Gen.dats m 0 c).arrAt 6 Cert.Kernel4Ideal.cfg0.N,
    fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N, ?_, ?_⟩
  · exact (θ_run (Cert.Kernel4Ideal.defs (F := Ideal)) _ _).mono (fun r h c => h c) (Cert.Kernel4Ideal.Value.run_blocks m g)
  · refine (θ_run (Cert.Reference4Ideal.defs (F := Ideal)) _ _).mono
      (fun r h c => ⟨(h c).1.trans ?_, (h c).2.1.trans ?_, (h c).2.2.1.trans ?_, (h c).2.2.2.1.trans ?_, (h c).2.2.2.2.1.trans ?_,
        (h c).2.2.2.2.2.1.trans ?_, (h c).2.2.2.2.2.2.1.trans ?_, (h c).2.2.2.2.2.2.2⟩)
      (Cert.Reference4Ideal.Value.run (F := Ideal) m' g')
    all_goals
      obtain ⟨X, v, W, C, b, H⟩ : ∃ X v W C b, Cert.Inp.Args m c X v W C b := Cert.InpSpec.exists_holds _ _ _ _ _
      obtain ⟨a0, a1, a2, a3, a4⟩ := hagree c
      have H' := H
      unfold Cert.Inp.Args at H'
      rw [← a0, ← a1, ← a2, ← a3, ← a4] at H'
    · refine Eq.trans (funext fun i => ?_) (Cert.Inp.final_hid H).symm
      exact (congrArg _ (ix2_eta i).symm).trans (Cert.InpRef.hidR_at H' (i 0) (i 1))
    · refine Eq.trans (funext fun i => ?_) (Cert.Inp.final_gate H).symm
      exact (congrArg _ (ix2_eta i).symm).trans (Cert.InpRef.gate_at H' (i 0) (i 1))
    · refine Eq.trans (funext fun i => ?_) (Cert.Inp.final_cols H).symm
      exact (congrArg _ (ix2_eta i).symm).trans (Cert.InpRef.cols_at H' (i 0) (i 1))
    · refine Eq.trans (funext fun i => ?_) (Cert.Inp.final_conv H).symm
      exact (congrArg _ (ix2_eta i).symm).trans (Cert.InpRef.conv_at H' (i 0) (i 1))
    · refine Eq.trans (funext fun i => ?_) (Cert.Inp.final_silu H).symm
      exact (congrArg _ (ix2_eta i).symm).trans (Cert.InpRef.silu_at H' (i 0) (i 1))
    · refine Eq.trans (funext fun i => ?_) (Cert.Inp.final_steps H).symm
      exact (congrArg _ (ix2_eta i).symm).trans (Cert.InpRef.steps_at H' (i 0) (i 1))
    · refine Eq.trans (funext fun i => ?_) (Cert.Inp.final_pool H).symm
      exact (congrArg _ (ix2_eta i).symm).trans (Cert.InpRef.pool_at H' (i 0) (i 1))

/-- The fifth reference's frame. -/
theorem frame_reference5 : Cert.quiescent_Reference5Ideal := by
  intro m g _
  exact (θ_run Cert.Reference5Ideal.defs _ _).mono
    (fun r h => ⟨fun c => (h c).2.2, Idealize.ShloMosaic.sem_eq_zero_of_no_sems (by decide) r.2⟩)
    (Cert.Reference5Ideal.Value.run (F := Ideal) m g)

/-- The two programs return the same gradients of the input projection, in its rows and in its matrix. -/
theorem algebraic5 : Cert.algebraic_Kernel5Ideal_Reference5Ideal_pre_finite5 := by
  intro m g m' g' hpre hagree
  refine ⟨fun c => (Cert.Inb.dats m 0 c).arrAt 13 Cert.Kernel5Ideal.cfg0.N,
    fun c => (Cert.Inb.outsAt0 m c 63 Cert.Inb.last_lt).2.2.2, ?_, ?_⟩
  · exact (θ_run (Cert.Kernel5Ideal.defs (F := Ideal)) _ _).mono (fun r h c => ⟨(h.1 c).1, (h.1 c).2, h.2 c⟩)
      (Cert.Inb.run_blocks m g)
  · refine (θ_run (Cert.Reference5Ideal.defs (F := Ideal)) _ _).mono
      (fun r h c => ⟨(h c).1.trans ?_, (h c).2.1.trans ?_, (h c).2.2⟩)
      (Cert.Reference5Ideal.Value.run (F := Ideal) m' g')
    all_goals
      obtain ⟨P, C, Z, T, U, E, X, v, W, H⟩ := Cert.InbFinite.args_of_pre m hpre c
      obtain ⟨a0, a1, a2, a3, a4, a5, a6, a7, a8, a9⟩ := hagree c
      have H' : Cert.InbRef.Args (Idealize.ShloMosaic.StableHlo.launchContents m' c) P C Z T U E X v W := by
        have H := H
        unfold Cert.Inb.Args at H
        rw [← a0, ← a1, ← a3, ← a4, ← a5, ← a6, ← a7, ← a8, ← a9] at H
        exact H
    · refine Eq.trans (funext fun i => ?_) (Cert.Inb.final_gradx H).symm
      exact (congrArg _ (ix2_eta i).symm).trans (Cert.InbRef.grad_at H' (i 0) (i 1))
    · refine funext fun i => ((congrArg _ (ix2_eta i).symm).trans (Cert.InbRef.dw_at H' (i 0) (i 1))).trans ?_
      exact ((congrArg _ (ix2_eta i).symm).trans (Cert.Inb.final_dw H (i 0) (i 1))).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_finite2.Gen.facts, Cert.Pre_finite3.Gen.facts, Cert.Pre_finite5.Gen.facts,
    fun m ρ _ => Cert.Kernel.Gen.frame m ρ, fun m ρ _ => Cert.KernelIdeal.Gen.frame m ρ, fun m ρ _ => Cert.KernelIdeal.Gen.frame m ρ,
    fun m ρ _ => frame_reference m ρ trivial, fun m ρ _ => frame_reference m ρ trivial,
    fun m ρ _ => Cert.Kernel2.Gen.frame m ρ, fun m ρ _ => Cert.Ffn.frame m ρ, fun m ρ _ => Cert.Ffn.frame m ρ,
    fun m ρ _ => frame_reference2 m ρ trivial, fun m ρ _ => frame_reference2 m ρ trivial,
    fun m ρ _ => Cert.Kernel3.Gen.frame m ρ, fun m ρ _ => Cert.Kernel3Ideal.Gen.frame m ρ, fun m ρ _ => Cert.Kernel3Ideal.Gen.frame m ρ,
    fun m ρ _ => frame_reference3 m ρ trivial, fun m ρ _ => frame_reference3 m ρ trivial,
    fun m ρ _ => Cert.Kernel4.Gen.frame m ρ, fun m ρ _ => Cert.Kernel4Ideal.Gen.frame m ρ, fun m ρ _ => frame_reference4 m ρ trivial,
    fun m ρ _ => Cert.Inb.frame_printed m ρ trivial, fun m ρ _ => Cert.Inb.frame m ρ, fun m ρ _ => Cert.Inb.frame m ρ,
    fun m ρ _ => frame_reference5 m ρ trivial, fun m ρ _ => frame_reference5 m ρ trivial,
    trivial, algebraic, trivial, algebraic2, trivial, algebraic3, trivial, algebraic4, trivial, algebraic5⟩

end Cert.Proof

end
